-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_xattn_finite [hPre_xattn_finite : Cert.Pre_xattn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_xattn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_xattn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_xattn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_xattn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_xattn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_xattn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_xattn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_xattn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_xattn_finite [hPre_xattn_finite : Cert.Pre_xattn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_xattn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_xattn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_xattn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_xattn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_xattn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_xattn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_xattn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_xattn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_ffn_finite [hPre_ffn_finite : Cert.Pre_ffn_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_ffn_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_ffn_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_ffn_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_ffn_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_ffn_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_ffn_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_ffn_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_ffn_finite [hPre_ffn_finite : Cert.Pre_ffn_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_ffn_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_ffn_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_ffn_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_ffn_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_ffn_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_ffn_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_ffn_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_xattn_finite [hKernel2Ideal : Cert.Kernel2Ideal.Facts] [hPre_xattn_finite : Cert.Pre_xattn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_xattn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_xattn_finite [hReference2Ideal : Cert.Reference2Ideal.Facts] [hPre_xattn_finite : Cert.Pre_xattn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_xattn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_ffn_finite [hKernel4Ideal : Cert.Kernel4Ideal.Facts] [hPre_ffn_finite : Cert.Pre_ffn_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_ffn_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_ffn_finite [hReference4Ideal : Cert.Reference4Ideal.Facts] [hPre_ffn_finite : Cert.Pre_ffn_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_ffn_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_xattn_finite [hKernel2Ideal : Cert.Kernel2Ideal.Facts] [hReference2Ideal : Cert.Reference2Ideal.Facts] [hPre_xattn_finite : Cert.Pre_xattn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_xattn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)) (v2 : (c : Dev Cert.Kernel2Ideal.nD) → Buf (Elt Ideal) ((c.tc : Thread Cert.Kernel2Ideal.nD Cert.Kernel2Ideal.τ).loc Cert.Kernel2Ideal.main_v47_2)) (v3 : (c : Dev Cert.Kernel2Ideal.nD) → Buf (Elt Ideal) ((c.tc : Thread Cert.Kernel2Ideal.nD Cert.Kernel2Ideal.τ).loc Cert.Kernel2Ideal.main_v47_3)) (v4 : (c : Dev Cert.Kernel2Ideal.nD) → Buf (Elt Ideal) ((c.tc : Thread Cert.Kernel2Ideal.nD Cert.Kernel2Ideal.τ).loc Cert.Kernel2Ideal.main_v47_4)) (v5 : (c : Dev Cert.Kernel2Ideal.nD) → Buf (Elt Ideal) ((c.tc : Thread Cert.Kernel2Ideal.nD Cert.Kernel2Ideal.τ).loc Cert.Kernel2Ideal.main_v47_5)) (v6 : (c : Dev Cert.Kernel2Ideal.nD) → Buf (Elt Ideal) ((c.tc : Thread Cert.Kernel2Ideal.nD Cert.Kernel2Ideal.τ).loc Cert.Kernel2Ideal.main_v47_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_v47_2) = v2 c
          ∧ r.2.mem ((c.tc : Thread Cert.Kernel2Ideal.nD Cert.Kernel2Ideal.τ).loc Cert.Kernel2Ideal.main_v47_3) = v3 c
          ∧ r.2.mem ((c.tc : Thread Cert.Kernel2Ideal.nD Cert.Kernel2Ideal.τ).loc Cert.Kernel2Ideal.main_v47_4) = v4 c
          ∧ r.2.mem ((c.tc : Thread Cert.Kernel2Ideal.nD Cert.Kernel2Ideal.τ).loc Cert.Kernel2Ideal.main_v47_5) = v5 c
          ∧ r.2.mem ((c.tc : Thread Cert.Kernel2Ideal.nD Cert.Kernel2Ideal.τ).loc Cert.Kernel2Ideal.main_v47_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v145) = v0 c
          ∧ r.2.mem ((c.tc : Thread Cert.Reference2Ideal.nD Cert.Reference2Ideal.τ).loc Cert.Reference2Ideal.main_v146) = v1 c
          ∧ r.2.mem ((c.tc : Thread Cert.Reference2Ideal.nD Cert.Reference2Ideal.τ).loc Cert.Reference2Ideal.main_v147) = v2 c
          ∧ r.2.mem ((c.tc : Thread Cert.Reference2Ideal.nD Cert.Reference2Ideal.τ).loc Cert.Reference2Ideal.main_v120) = v3 c
          ∧ r.2.mem ((c.tc : Thread Cert.Reference2Ideal.nD Cert.Reference2Ideal.τ).loc Cert.Reference2Ideal.main_v119) = v4 c
          ∧ r.2.mem ((c.tc : Thread Cert.Reference2Ideal.nD Cert.Reference2Ideal.τ).loc Cert.Reference2Ideal.main_v148) = v5 c
          ∧ r.2.mem ((c.tc : Thread Cert.Reference2Ideal.nD Cert.Reference2Ideal.τ).loc Cert.Reference2Ideal.main_v149) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_ffn_finite [hKernel4Ideal : Cert.Kernel4Ideal.Facts] [hReference4Ideal : Cert.Reference4Ideal.Facts] [hPre_ffn_finite : Cert.Pre_ffn_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_ffn_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v51_0)) (v1 : (c : Dev Cert.Kernel4Ideal.nD) → Buf (Elt Ideal) ((c.tc : Thread Cert.Kernel4Ideal.nD Cert.Kernel4Ideal.τ).loc Cert.Kernel4Ideal.main_v51_1)) (v2 : (c : Dev Cert.Kernel4Ideal.nD) → Buf (Elt Ideal) ((c.tc : Thread Cert.Kernel4Ideal.nD Cert.Kernel4Ideal.τ).loc Cert.Kernel4Ideal.main_v51_2)) (v3 : (c : Dev Cert.Kernel4Ideal.nD) → Buf (Elt Ideal) ((c.tc : Thread Cert.Kernel4Ideal.nD Cert.Kernel4Ideal.τ).loc Cert.Kernel4Ideal.main_v51_3)) (v4 : (c : Dev Cert.Kernel4Ideal.nD) → Buf (Elt Ideal) ((c.tc : Thread Cert.Kernel4Ideal.nD Cert.Kernel4Ideal.τ).loc Cert.Kernel4Ideal.main_v51_4)) (v5 : (c : Dev Cert.Kernel4Ideal.nD) → Buf (Elt Ideal) ((c.tc : Thread Cert.Kernel4Ideal.nD Cert.Kernel4Ideal.τ).loc Cert.Kernel4Ideal.main_v51_5)) (v6 : (c : Dev Cert.Kernel4Ideal.nD) → Buf (Elt Ideal) ((c.tc : Thread Cert.Kernel4Ideal.nD Cert.Kernel4Ideal.τ).loc Cert.Kernel4Ideal.main_v51_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v51_0) = v0 c
          ∧ r.2.mem ((c.tc : Thread Cert.Kernel4Ideal.nD Cert.Kernel4Ideal.τ).loc Cert.Kernel4Ideal.main_v51_1) = v1 c
          ∧ r.2.mem ((c.tc : Thread Cert.Kernel4Ideal.nD Cert.Kernel4Ideal.τ).loc Cert.Kernel4Ideal.main_v51_2) = v2 c
          ∧ r.2.mem ((c.tc : Thread Cert.Kernel4Ideal.nD Cert.Kernel4Ideal.τ).loc Cert.Kernel4Ideal.main_v51_3) = v3 c
          ∧ r.2.mem ((c.tc : Thread Cert.Kernel4Ideal.nD Cert.Kernel4Ideal.τ).loc Cert.Kernel4Ideal.main_v51_4) = v4 c
          ∧ r.2.mem ((c.tc : Thread Cert.Kernel4Ideal.nD Cert.Kernel4Ideal.τ).loc Cert.Kernel4Ideal.main_v51_5) = v5 c
          ∧ r.2.mem ((c.tc : Thread Cert.Kernel4Ideal.nD Cert.Kernel4Ideal.τ).loc Cert.Kernel4Ideal.main_v51_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v144) = v0 c
          ∧ r.2.mem ((c.tc : Thread Cert.Reference4Ideal.nD Cert.Reference4Ideal.τ).loc Cert.Reference4Ideal.main_v145) = v1 c
          ∧ r.2.mem ((c.tc : Thread Cert.Reference4Ideal.nD Cert.Reference4Ideal.τ).loc Cert.Reference4Ideal.main_v146) = v2 c
          ∧ r.2.mem ((c.tc : Thread Cert.Reference4Ideal.nD Cert.Reference4Ideal.τ).loc Cert.Reference4Ideal.main_v147) = v3 c
          ∧ r.2.mem ((c.tc : Thread Cert.Reference4Ideal.nD Cert.Reference4Ideal.τ).loc Cert.Reference4Ideal.main_v148) = v4 c
          ∧ r.2.mem ((c.tc : Thread Cert.Reference4Ideal.nD Cert.Reference4Ideal.τ).loc Cert.Reference4Ideal.main_v149) = v5 c
          ∧ r.2.mem ((c.tc : Thread Cert.Reference4Ideal.nD Cert.Reference4Ideal.τ).loc Cert.Reference4Ideal.main_v151) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_v46) = v3 c
          ∧ r.2.mem ((c.tc : Thread Cert.Reference6Ideal.nD Cert.Reference6Ideal.τ).loc Cert.Reference6Ideal.main_v60) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)) (v3 : (c : Dev Cert.Kernel7Ideal.nD) → Buf (Elt Ideal) ((c.tc : Thread Cert.Kernel7Ideal.nD Cert.Kernel7Ideal.τ).loc Cert.Kernel7Ideal.main_v5_3)) (v4 : (c : Dev Cert.Kernel7Ideal.nD) → Buf (Elt Ideal) ((c.tc : Thread Cert.Kernel7Ideal.nD Cert.Kernel7Ideal.τ).loc Cert.Kernel7Ideal.main_v5_4)) (v5 : (c : Dev Cert.Kernel7Ideal.nD) → Buf (Elt Ideal) ((c.tc : Thread Cert.Kernel7Ideal.nD Cert.Kernel7Ideal.τ).loc Cert.Kernel7Ideal.main_v5_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_v5_3) = v3 c
          ∧ r.2.mem ((c.tc : Thread Cert.Kernel7Ideal.nD Cert.Kernel7Ideal.τ).loc Cert.Kernel7Ideal.main_v5_4) = v4 c
          ∧ r.2.mem ((c.tc : Thread Cert.Kernel7Ideal.nD Cert.Kernel7Ideal.τ).loc Cert.Kernel7Ideal.main_v5_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_v67) = v1 c
          ∧ r.2.mem ((c.tc : Thread Cert.Reference7Ideal.nD Cert.Reference7Ideal.τ).loc Cert.Reference7Ideal.main_v68) = v2 c
          ∧ r.2.mem ((c.tc : Thread Cert.Reference7Ideal.nD Cert.Reference7Ideal.τ).loc Cert.Reference7Ideal.main_v69) = v3 c
          ∧ r.2.mem ((c.tc : Thread Cert.Reference7Ideal.nD Cert.Reference7Ideal.τ).loc Cert.Reference7Ideal.main_v75) = v4 c
          ∧ r.2.mem ((c.tc : Thread Cert.Reference7Ideal.nD Cert.Reference7Ideal.τ).loc Cert.Reference7Ideal.main_v76) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v23_0)) (v1 : (c : Dev Cert.Kernel8Ideal.nD) → Buf (Elt Ideal) ((c.tc : Thread Cert.Kernel8Ideal.nD Cert.Kernel8Ideal.τ).loc Cert.Kernel8Ideal.main_v23_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23_0) = v0 c
          ∧ r.2.mem ((c.tc : Thread Cert.Kernel8Ideal.nD Cert.Kernel8Ideal.τ).loc Cert.Kernel8Ideal.main_v23_5) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_xattn_finite : Cert.Pre_xattn_finite.Facts) (hPre_ffn_finite : Cert.Pre_ffn_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_xattn_finite (hKernel2Ideal := hKernel2Ideal) (hPre_xattn_finite := hPre_xattn_finite)
    ∧ quiescent_Reference2Ideal (hReference2Ideal := hReference2Ideal)
    ∧ quiescent_Reference2Ideal_pre_xattn_finite (hReference2Ideal := hReference2Ideal) (hPre_xattn_finite := hPre_xattn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_ffn_finite (hKernel4Ideal := hKernel4Ideal) (hPre_ffn_finite := hPre_ffn_finite)
    ∧ quiescent_Reference4Ideal (hReference4Ideal := hReference4Ideal)
    ∧ quiescent_Reference4Ideal_pre_ffn_finite (hReference4Ideal := hReference4Ideal) (hPre_ffn_finite := hPre_ffn_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_xattn_finite (hKernel2Ideal := hKernel2Ideal) (hReference2Ideal := hReference2Ideal) (hPre_xattn_finite := hPre_xattn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_ffn_finite (hKernel4Ideal := hKernel4Ideal) (hReference4Ideal := hReference4Ideal) (hPre_ffn_finite := hPre_ffn_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_ffn_finite.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn_part1 {F : FTy → Type} [FloatOps F] (main_arg6 : FVec F S8192x1024 .f32) (main_v2 : IVec S8192x1024 1) (main_v5 : IVec S1024 1) (main_v8 : IVec S1024x5632 1) (main_v11 : IVec S3x5632 1) (main_v14 : IVec S2816x1024 1) (main_v17 : IVec S1024 1) : IVec S8192x1024 1 × IVec S1024 1 × IVec S1024x5632 1 × IVec S3x5632 1 × IVec S2816x1024 1 × IVec S1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024x5632 .f32) (main_arg3 : FVec F S3x5632 .f32) (main_arg4 : FVec F S2816x1024 .f32) (main_arg5 : FVec F S1024 .f32) (main_arg6 : FVec F S8192x1024 .f32) : IVec S8192x1024 1 × IVec S1024 1 × IVec S1024x5632 1 × IVec S3x5632 1 × IVec S2816x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_xattn_finite.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S1024 .f32) (main_arg7 : FVec F S8192x1024 .f32) (main_v2 : IVec S8192x1024 1) (main_v5 : IVec S1024 1) (main_v8 : IVec S1024x1024 1) (main_v11 : IVec S256x1024 1) (main_v14 : IVec S256x1024 1) (main_v17 : IVec S1024x1024 1) : IVec S8192x1024 1 × IVec S1024 1 × IVec S1024x1024 1 × IVec S256x1024 1 × IVec S256x1024 1 × IVec S1024x1024 1 × IVec S1024 1 × IVec S8192x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x1024 .f32) (main_arg1 : FVec F S1024 .f32) (main_arg2 : FVec F S1024x1024 .f32) (main_arg3 : FVec F S256x1024 .f32) (main_arg4 : FVec F S256x1024 .f32) (main_arg5 : FVec F S1024x1024 .f32) (main_arg6 : FVec F S1024 .f32) (main_arg7 : FVec F S8192x1024 .f32) : IVec S8192x1024 1 × IVec S1024 1 × IVec S1024x1024 1 × IVec S256x1024 1 × IVec S256x1024 1 × IVec S1024x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_v2 main_v5 main_v8 main_v11 main_v14 main_v17
-- ==== Kernel.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S1024x1024, .f32⟩
  | .hbm, ⟨25, _⟩ => ⟨S1024x1024, .f32⟩
  | .hbm, ⟨26, _⟩ => ⟨S256x1024, .f32⟩
  | .hbm, ⟨27, _⟩ => ⟨S1024x1024, .f32⟩
  | .hbm, ⟨28, _⟩ => ⟨S1024x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S_, .f32⟩
  | .hbm, ⟨36, _⟩ => ⟨S1024, .f32⟩
  | .hbm, ⟨37, _⟩ => ⟨S1024x1024, .bf16⟩
  | .hbm, ⟨38, _⟩ => ⟨S1024x1024, .bf16⟩
  | .hbm, ⟨39, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 69
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S256x1024, .bf16⟩
  | .hbm, ⟨13, _⟩ => ⟨S256x1024, .bf16⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x4x256, .f32⟩
  | .hbm, ⟨32, _⟩ => ⟨S256x4x256, .f32⟩
  | .hbm, ⟨33, _⟩ => ⟨S256x4x256, .f32⟩
  | .hbm, ⟨34, _⟩ => ⟨S4x8192x256, .f32⟩
  | .hbm, ⟨35, _⟩ => ⟨S_, .f32⟩
  | .hbm, ⟨36, _⟩ => ⟨S4x8192x256, .f32⟩
  | .hbm, ⟨37, _⟩ => ⟨S4x8192x256, .f32⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S4x8192, .f32⟩
  | .hbm, ⟨43, _⟩ => ⟨S4x8192x1, .f32⟩
  | .hbm, ⟨44, _⟩ => ⟨S4x8192x256, .f32⟩
  | .hbm, ⟨45, _⟩ => ⟨S4x8192x256, .f32⟩
  | .hbm, ⟨46, _⟩ => ⟨S4x8192x256, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S4x8192x256, .f32⟩
  | .hbm, ⟨51, _⟩ => ⟨S4x8192x256, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x4x256, .f32⟩
  | .hbm, ⟨58, _⟩ => ⟨S8192x1024, .f32⟩
  | .hbm, ⟨59, _⟩ => ⟨S8192x1024, .bf16⟩
  | .hbm, ⟨60, _⟩ => ⟨S8192x1024, .bf16⟩
  | .hbm, ⟨61, _⟩ => ⟨S8192x1024, .bf16⟩
  | .hbm, ⟨62, _⟩ => ⟨S8192x1024, .f32⟩
  | .hbm, ⟨63, _⟩ => ⟨S1024x1024, .bf16⟩
  | .hbm, ⟨64, _⟩ => ⟨S1024x1024, .bf16⟩
  | .hbm, ⟨65, _⟩ => ⟨S256x1024, .f32⟩
  | .hbm, ⟨66, _⟩ => ⟨S256x1024, .f32⟩
  | .hbm, ⟨67, _⟩ => ⟨S1x1024, .f32⟩
  | .hbm, ⟨68, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .bf16⟩
  | .local _ .vmem, ⟨27, _⟩ => ⟨S1024x1024, .f32⟩
  | .local _ .vmem, ⟨28, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v47_3 : Ref sig .tc := ⟨.hbm, 65, rfl⟩
abbrev main_v47_4 : Ref sig .tc := ⟨.hbm, 66, rfl⟩
abbrev main_v47_5 : Ref sig .tc := ⟨.hbm, 67, rfl⟩
abbrev main_v47_6 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v242 : BitVec 1 := Scalar.cmpi .eq arg0 c15_i32
  let v243 : BitVec 32 := Scalar.extui v242
  let c0_i32_142 : BitVec 32 := 0#32
  let v244 : BitVec 1 := Scalar.cmpi .ne v243 c0_i32_142
  v244

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 190
  | .vmem => 0
  | .smem => 0
  | _ => 0

abbrev hbmTy0_0 (i : Nat) : BufTy := match i % 128 with
  | 0 => ⟨S8192x1024, .f32⟩
  | 1 => ⟨S1024, .f32⟩
  | 2 => ⟨S1024x1024, .f32⟩
  | 3 => ⟨S256x1024, .f32⟩
  | 4 => ⟨S256x1024, .f32⟩
  | 5 => ⟨S1024x1024, .f32⟩
  | 6 => ⟨S1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x4x256, .f32⟩
  | 30 => ⟨S256x4x256, .f32⟩
  | 31 => ⟨S256x4x256, .f32⟩
  | 32 => ⟨S4x8192x256, .f32⟩
  | 33 => ⟨S_, .f32⟩
  | 34 => ⟨S4x8192x256, .f32⟩
  | 35 => ⟨S4x8192x256, .f32⟩
  | 36 => ⟨S_, .f32⟩
  | 37 => ⟨S4x8192, .f32⟩
  | 38 => ⟨S4x8192x1, .f32⟩
  | 39 => ⟨S4x8192x256, .f32⟩
  | 40 => ⟨S4x8192x256, .i1⟩
  | 41 => ⟨S4x8192x256, .f32⟩
  | 42 => ⟨S_, .f32⟩
  | 43 => ⟨S4x8192, .f32⟩
  | 44 => ⟨S_, .f32⟩
  | 45 => ⟨S4x8192, .f32⟩
  | 46 => ⟨S4x8192, .f32⟩
  | 47 => ⟨S_, .f32⟩
  | 48 => ⟨S4x8192, .f32⟩
  | 49 => ⟨S4x8192, .i1⟩
  | 50 => ⟨S_, .f32⟩
  | 51 => ⟨S4x8192, .f32⟩
  | 52 => ⟨S4x8192, .i1⟩
  | 53 => ⟨S_, .f32⟩
  | 54 => ⟨S4x8192, .f32⟩
  | 55 => ⟨S_, .f32⟩
  | 56 => ⟨S4x8192, .f32⟩
  | 57 => ⟨S_, .f32⟩
  | 58 => ⟨S4x8192, .f32⟩
  | 59 => ⟨S4x8192, .f32⟩
  | 60 => ⟨S4x8192, .f32⟩
  | 61 => ⟨S4x8192x1, .f32⟩
  | 62 => ⟨S4x8192x256, .f32⟩
  | 63 => ⟨S4x8192x256, .f32⟩
  | 64 => ⟨S4x8192x256, .f32⟩
  | 65 => ⟨S_, .f32⟩
  | 66 => ⟨S4x8192, .f32⟩
  | 67 => ⟨S4x8192x1, .f32⟩
  | 68 => ⟨S4x8192x256, .f32⟩
  | 69 => ⟨S4x8192x256, .f32⟩
  | 70 => ⟨S4x8192x1, .f32⟩
  | 71 => ⟨S_, .f32⟩
  | 72 => ⟨S4x8192x1, .f32⟩
  | 73 => ⟨S4x8192x1, .f32⟩
  | 74 => ⟨S4x256x8192, .f32⟩
  | 75 => ⟨S8192x4x256, .f32⟩
  | 76 => ⟨S8192x1024, .f32⟩
  | 77 => ⟨S8192x1024, .f32⟩
  | 78 => ⟨S8192x1024, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1024, .f32⟩
  | 94 => ⟨S8192x1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S_, .f32⟩
  | 107 => ⟨S1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S1024x1024, .f32⟩
  | 126 => ⟨S1024x1024, .f32⟩
  | 127 => ⟨S8192x1024, .f32⟩
  | _ => ⟨S8192x1024, .f32⟩

abbrev hbmTy0_1 (i : Nat) : BufTy := match i % 128 with
  | 0 => ⟨S8192x4x256, .f32⟩
  | 1 => ⟨S4x256x8192, .f32⟩
  | 2 => ⟨S4x8192x256, .f32⟩
  | 3 => ⟨S4x256x256, .f32⟩
  | 4 => ⟨S256x4x256, .f32⟩
  | 5 => ⟨S4x8192x256, .f32⟩
  | 6 => ⟨S4x8192x256, .f32⟩
  | 7 => ⟨S4x8192x256, .f32⟩
  | 8 => ⟨S_, .f32⟩
  | 9 => ⟨S4x8192, .f32⟩
  | 10 => ⟨S4x8192x1, .f32⟩
  | 11 => ⟨S4x8192x1, .f32⟩
  | 12 => ⟨S4x8192x256, .f32⟩
  | 13 => ⟨S4x8192x256, .f32⟩
  | 14 => ⟨S_, .f32⟩
  | 15 => ⟨S4x8192, .f32⟩
  | 16 => ⟨S4x8192x256, .f32⟩
  | 17 => ⟨S4x8192x256, .f32⟩
  | 18 => ⟨S4x8192x256, .f32⟩
  | 19 => ⟨S_, .f32⟩
  | 20 => ⟨S4x8192x256, .f32⟩
  | 21 => ⟨S4x8192x256, .f32⟩
  | 22 => ⟨S4x256x256, .f32⟩
  | 23 => ⟨S256x4x256, .f32⟩
  | 24 => ⟨S4x8192x256, .f32⟩
  | 25 => ⟨S8192x4x256, .f32⟩
  | 26 => ⟨S256x1024, .f32⟩
  | 27 => ⟨S256x1024, .f32⟩
  | 28 => ⟨S8192x1024, .f32⟩
  | 29 => ⟨S1024x1024, .f32⟩
  | 30 => ⟨S1024x1024, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S8192x1024, .f32⟩
  | 41 => ⟨S_, .f32⟩
  | 42 => ⟨S8192, .f32⟩
  | 43 => ⟨S8192x1, .f32⟩
  | 44 => ⟨S8192x1024, .f32⟩
  | 45 => ⟨S8192x1024, .f32⟩
  | 46 => ⟨S8192x1024, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S1024x1024, .bf16⟩
  | 59 => ⟨S1024x1024, .bf16⟩
  | 60 => ⟨S1x1024, .f32⟩
  | 61 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_18 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_19 : Ref sig .tc := ⟨.hbm, 106, rfl⟩
abbrev main_v78 : Ref sig .tc := ⟨.hbm, 107, rfl⟩
abbrev main_v79 : Ref sig .tc := ⟨.hbm, 108, rfl⟩
abbrev main_cst_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_21 : Ref sig .tc := ⟨.hbm, 115, rfl⟩
abbrev main_v85 : Ref sig .tc := ⟨.hbm, 116, rfl⟩
abbrev main_v86 : Ref sig .tc := ⟨.hbm, 117, rfl⟩
abbrev main_cst_22 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_23 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_24 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_25 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_26 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_27 : Ref sig .tc := ⟨.hbm, 166, rfl⟩
abbrev main_v130 : Ref sig .tc := ⟨.hbm, 167, rfl⟩
abbrev main_v131 : Ref sig .tc := ⟨.hbm, 168, rfl⟩
abbrev main_cst_28 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_29 : Ref sig .tc := ⟨.hbm, 176, rfl⟩
abbrev main_v138 : Ref sig .tc := ⟨.hbm, 177, rfl⟩
abbrev main_v139 : Ref sig .tc := ⟨.hbm, 178, rfl⟩
abbrev main_cst_30 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 18
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1024x1024, .bf16⟩
  | .hbm, ⟨11, _⟩ => ⟨S256x1024, .bf16⟩
  | .hbm, ⟨12, _⟩ => ⟨S256x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4x256, .f32⟩
  | .hbm, ⟨25, _⟩ => ⟨S256x4x256, .f32⟩
  | .hbm, ⟨26, _⟩ => ⟨S256x4x256, .f32⟩
  | .hbm, ⟨27, _⟩ => ⟨S4x8192x256, .f32⟩
  | .hbm, ⟨28, _⟩ => ⟨S_, .f32⟩
  | .hbm, ⟨29, _⟩ => ⟨S4x8192x256, .f32⟩
  | .hbm, ⟨30, _⟩ => ⟨S4x8192x256, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x256x8192, .f32⟩
  | .hbm, ⟨46, _⟩ => ⟨S8192x4x256, .f32⟩
  | .hbm, ⟨47, _⟩ => ⟨S8192x1024, .f32⟩
  | .hbm, ⟨48, _⟩ => ⟨S8192x1024, .f32⟩
  | .hbm, ⟨49, _⟩ => ⟨S8192x4x256, .f32⟩
  | .hbm, ⟨50, _⟩ => ⟨S8192x1024, .f32⟩
  | .hbm, ⟨51, _⟩ => ⟨S8192x1024, .bf16⟩
  | .hbm, ⟨52, _⟩ => ⟨S8192x1024, .bf16⟩
  | .hbm, ⟨53, _⟩ => ⟨S8192x1024, .bf16⟩
  | .hbm, ⟨54, _⟩ => ⟨S8192x1024, .bf16⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S8x5632 : Shape := ⟨2, ![8, 5632]⟩
abbrev S256x1024 : Shape := ⟨2, ![256, 1024]⟩
abbrev S256x5632 : Shape := ⟨2, ![256, 5632]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1x1408 : Shape := ⟨2, ![1, 1408]⟩
abbrev S512x1408 : Shape := ⟨2, ![512, 1408]⟩
abbrev S16x1408 : Shape := ⟨2, ![16, 1408]⟩
abbrev S8x1408 : Shape := ⟨2, ![8, 1408]⟩
abbrev S1408 : Shape := ⟨1, ![1408]⟩

abbrev nBuf : Space → Nat
  | .hbm => 78
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S5632x1024, .bf16⟩
  | .hbm, ⟨11, _⟩ => ⟨S2816x1024, .bf16⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S_, .f32⟩
  | .hbm, ⟨30, _⟩ => ⟨S2x5632, .f32⟩
  | .hbm, ⟨31, _⟩ => ⟨S8194x5632, .f32⟩
  | .hbm, ⟨32, _⟩ => ⟨S1x5632, .f32⟩
  | .hbm, ⟨33, _⟩ => ⟨S5632, .f32⟩
  | .hbm, ⟨34, _⟩ => ⟨S8192x5632, .f32⟩
  | .hbm, ⟨35, _⟩ => ⟨S1x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S1x5632, .f32⟩
  | .hbm, ⟨42, _⟩ => ⟨S5632, .f32⟩
  | .hbm, ⟨43, _⟩ => ⟨S8192x5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S5632, .f32⟩
  | .hbm, ⟨50, _⟩ => ⟨S8192x5632, .f32⟩
  | .hbm, ⟨51, _⟩ => ⟨S1x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x1024, .f32⟩
  | .hbm, ⟨68, _⟩ => ⟨S8192x1024, .bf16⟩
  | .hbm, ⟨69, _⟩ => ⟨S8192x5632, .bf16⟩
  | .hbm, ⟨70, _⟩ => ⟨S8192x5632, .bf16⟩
  | .hbm, ⟨71, _⟩ => ⟨S8192x1024, .f32⟩
  | .hbm, ⟨72, _⟩ => ⟨S8192x5632, .bf16⟩
  | .hbm, ⟨73, _⟩ => ⟨S8192x1024, .bf16⟩
  | .hbm, ⟨74, _⟩ => ⟨S8192x1024, .bf16⟩
  | .hbm, ⟨75, _⟩ => ⟨S1x1024, .f32⟩
  | .hbm, ⟨76, _⟩ => ⟨S1x1024, .f32⟩
  | .hbm, ⟨77, _⟩ => ⟨S8x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S256x5632, .bf16⟩
  | .local _ .vmem, ⟨9, _⟩ => ⟨S256x5632, .bf16⟩
  | .local _ .vmem, ⟨10, _⟩ => ⟨S1x1024, .f32⟩
  | .local _ .vmem, ⟨11, _⟩ => ⟨S5632x1024, .bf16⟩
  | .local _ .vmem, ⟨12, _⟩ => ⟨S3x5632, .f32⟩
  | .local _ .vmem, ⟨13, _⟩ => ⟨S2816x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x5632, .bf16⟩
  | .local _ .vmem, ⟨18, _⟩ => ⟨S256x5632, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | .local _ .vmem, ⟨25, _⟩ => ⟨S8x5632, .f32⟩
  | .local _ .vmem, ⟨26, _⟩ => ⟨S8x5632, .f32⟩
  | .local _ .vmem, ⟨27, _⟩ => ⟨S512x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51_0 : Ref sig .tc := ⟨.hbm, 71, rfl⟩
abbrev main_v51_1 : Ref sig .tc := ⟨.hbm, 72, rfl⟩
abbrev main_v51_2 : Ref sig .tc := ⟨.hbm, 73, rfl⟩
abbrev main_v51_3 : Ref sig .tc := ⟨.hbm, 74, rfl⟩
abbrev main_v51_4 : Ref sig .tc := ⟨.hbm, 75, rfl⟩
abbrev main_v51_5 : Ref sig .tc := ⟨.hbm, 76, rfl⟩
abbrev main_v51_6 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5632x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference4Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S5x5632 : Shape := ⟨2, ![5, 5632]⟩
abbrev S8x5632 : Shape := ⟨2, ![8, 5632]⟩

abbrev nBuf : Space → Nat
  | .hbm => 208
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x5632, .f32⟩
  | 4 => ⟨S2816x1024, .f32⟩
  | 5 => ⟨S1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x5632, .f32⟩
  | 28 => ⟨S_, .f32⟩
  | 29 => ⟨S2x5632, .f32⟩
  | 30 => ⟨S8194x5632, .f32⟩
  | 31 => ⟨S_, .f32⟩
  | 32 => ⟨S2x5632, .f32⟩
  | 33 => ⟨S1x5632, .f32⟩
  | 34 => ⟨S5632, .f32⟩
  | 35 => ⟨S8192x5632, .f32⟩
  | 36 => ⟨S1x5632, .f32⟩
  | 37 => ⟨S8192x5632, .f32⟩
  | 38 => ⟨S8192x5632, .f32⟩
  | 39 => ⟨S_, .f32⟩
  | 40 => ⟨S8192x5632, .f32⟩
  | 41 => ⟨S8192x5632, .f32⟩
  | 42 => ⟨S1x5632, .f32⟩
  | 43 => ⟨S5632, .f32⟩
  | 44 => ⟨S8192x5632, .f32⟩
  | 45 => ⟨S1x5632, .f32⟩
  | 46 => ⟨S8192x5632, .f32⟩
  | 47 => ⟨S8192x5632, .f32⟩
  | 48 => ⟨S8192x5632, .f32⟩
  | 49 => ⟨S1x5632, .f32⟩
  | 50 => ⟨S5632, .f32⟩
  | 51 => ⟨S8192x5632, .f32⟩
  | 52 => ⟨S1x5632, .f32⟩
  | 53 => ⟨S8192x5632, .f32⟩
  | 54 => ⟨S8192x5632, .f32⟩
  | 55 => ⟨S8192x5632, .f32⟩
  | 56 => ⟨S8192x2816, .f32⟩
  | 57 => ⟨S8192x2816, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S_, .f32⟩
  | 67 => ⟨S8192x2816, .f32⟩
  | 68 => ⟨S8192x2816, .f32⟩
  | 69 => ⟨S8192x2816, .f32⟩
  | 70 => ⟨S8192x2816, .f32⟩
  | 71 => ⟨S8192x2816, .f32⟩
  | 72 => ⟨S8192x1024, .f32⟩
  | 73 => ⟨S8192x1024, .f32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1024, .f32⟩
  | 89 => ⟨S8192x1024, .f32⟩
  | 90 => ⟨S1x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1024, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x2816, .f32⟩
  | 121 => ⟨S8192x2816, .f32⟩
  | 122 => ⟨S8192x2816, .f32⟩
  | 123 => ⟨S8192x2816, .f32⟩
  | 124 => ⟨S8192x2816, .f32⟩
  | 125 => ⟨S8192x2816, .f32⟩
  | 126 => ⟨S8192x2816, .f32⟩
  | 127 => ⟨S8192x5632, .f32⟩
  | _ => ⟨S8192x1024, .f32⟩

abbrev hbmTy0_1 (i : Nat) : BufTy := match i % 128 with
  | 0 => ⟨S8192x5632, .f32⟩
  | 1 => ⟨S8192x5632, .f32⟩
  | 2 => ⟨S8192x5632, .f32⟩
  | 3 => ⟨S_, .f32⟩
  | 4 => ⟨S5632, .f32⟩
  | 5 => ⟨S1x5632, .f32⟩
  | 6 => ⟨S_, .f32⟩
  | 7 => ⟨S5632, .f32⟩
  | 8 => ⟨S_, .f32⟩
  | 9 => ⟨S8194x5632, .f32⟩
  | 10 => ⟨S1x5632, .f32⟩
  | 11 => ⟨S_, .f32⟩
  | 12 => ⟨S3x5632, .f32⟩
  | 13 => ⟨S8192x5632, .f32⟩
  | 14 => ⟨S8192x5632, .f32⟩
  | 15 => ⟨S8192x5632, .f32⟩
  | 16 => ⟨S_, .f32⟩
  | 17 => ⟨S5632, .f32⟩
  | 18 => ⟨S1x5632, .f32⟩
  | 19 => ⟨S_, .f32⟩
  | 20 => ⟨S5632, .f32⟩
  | 21 => ⟨S_, .f32⟩
  | 22 => ⟨S8194x5632, .f32⟩
  | 23 => ⟨S8194x5632, .f32⟩
  | 24 => ⟨S1x5632, .f32⟩
  | 25 => ⟨S_, .f32⟩
  | 26 => ⟨S3x5632, .f32⟩
  | 27 => ⟨S3x5632, .f32⟩
  | 28 => ⟨S8192x5632, .f32⟩
  | 29 => ⟨S8192x5632, .f32⟩
  | 30 => ⟨S8192x5632, .f32⟩
  | 31 => ⟨S_, .f32⟩
  | 32 => ⟨S5632, .f32⟩
  | 33 => ⟨S1x5632, .f32⟩
  | 34 => ⟨S_, .f32⟩
  | 35 => ⟨S5632, .f32⟩
  | 36 => ⟨S_, .f32⟩
  | 37 => ⟨S8194x5632, .f32⟩
  | 38 => ⟨S8194x5632, .f32⟩
  | 39 => ⟨S1x5632, .f32⟩
  | 40 => ⟨S_, .f32⟩
  | 41 => ⟨S3x5632, .f32⟩
  | 42 => ⟨S3x5632, .f32⟩
  | 43 => ⟨S2x5632, .f32⟩
  | 44 => ⟨S8192x5632, .f32⟩
  | 45 => ⟨S8192x1024, .f32⟩
  | 46 => ⟨S8192x1024, .f32⟩
  | 47 => ⟨S_, .f32⟩
  | 48 => ⟨S1024, .f32⟩
  | 49 => ⟨S1x1024, .f32⟩
  | 50 => ⟨S8192x1024, .f32⟩
  | 51 => ⟨S8192x1024, .f32⟩
  | 52 => ⟨S_, .f32⟩
  | 53 => ⟨S1024, .f32⟩
  | 54 => ⟨S8192x1024, .f32⟩
  | 55 => ⟨S_, .f32⟩
  | 56 => ⟨S8192, .f32⟩
  | 57 => ⟨S8192x1, .f32⟩
  | 58 => ⟨S8192x1024, .f32⟩
  | 59 => ⟨S8192x1024, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x5632, .bf16⟩
  | 73 => ⟨S8192x1024, .bf16⟩
  | 74 => ⟨S8192x1024, .bf16⟩
  | 75 => ⟨S1x1024, .f32⟩
  | 76 => ⟨S1x1024, .f32⟩
  | 77 => ⟨S_, .f32⟩
  | 78 => ⟨S5x5632, .f32⟩
  | 79 => ⟨S8x5632, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v44_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v44_1 : Ref sig .tc := ⟨.hbm, 69, rfl⟩
abbrev main_v44_0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_13 : Ref sig .tc := ⟨.hbm, 110, rfl⟩
abbrev main_v77 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_15 : Ref sig .tc := ⟨.hbm, 131, rfl⟩
abbrev main_v93 : Ref sig .tc := ⟨.hbm, 132, rfl⟩
abbrev main_v94 : Ref sig .tc := ⟨.hbm, 133, rfl⟩
abbrev main_cst_16 : Ref sig .tc := ⟨.hbm, 134, rfl⟩
abbrev main_v95 : Ref sig .tc := ⟨.hbm, 135, rfl⟩
abbrev main_cst_17 : Ref sig .tc := ⟨.hbm, 136, rfl⟩
abbrev main_v96 : Ref sig .tc := ⟨.hbm, 137, rfl⟩
abbrev main_v97 : Ref sig .tc := ⟨.hbm, 138, rfl⟩
abbrev main_cst_18 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_19 : Ref sig .tc := ⟨.hbm, 144, rfl⟩
abbrev main_v102 : Ref sig .tc := ⟨.hbm, 145, rfl⟩
abbrev main_v103 : Ref sig .tc := ⟨.hbm, 146, rfl⟩
abbrev main_cst_20 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_22 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_23 : Ref sig .tc := ⟨.hbm, 159, rfl⟩
abbrev main_v113 : Ref sig .tc := ⟨.hbm, 160, rfl⟩
abbrev main_v114 : Ref sig .tc := ⟨.hbm, 161, rfl⟩
abbrev main_cst_24 : Ref sig .tc := ⟨.hbm, 162, rfl⟩
abbrev main_v115 : Ref sig .tc := ⟨.hbm, 163, rfl⟩
abbrev main_cst_25 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_26 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_27 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_28 : Ref sig .tc := ⟨.hbm, 180, rfl⟩
abbrev main_v129 : Ref sig .tc := ⟨.hbm, 181, rfl⟩
abbrev main_v130 : Ref sig .tc := ⟨.hbm, 182, rfl⟩
abbrev main_cst_29 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_30 : Ref sig .tc := ⟨.hbm, 189, rfl⟩
abbrev main_v136 : Ref sig .tc := ⟨.hbm, 190, rfl⟩
abbrev main_v137 : Ref sig .tc := ⟨.hbm, 191, rfl⟩
abbrev main_cst_31 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_32 : Ref sig .tc := ⟨.hbm, 205, rfl⟩
abbrev main_v150 : Ref sig .tc := ⟨.hbm, 206, rfl⟩
abbrev main_v151 : Ref sig .tc := ⟨.hbm, 207, rfl⟩

abbrev nD : Nat := 1
abbrev τ : Topo := Topo.v7x

variable {F : FTy → Type} [FloatOps F]
-- ==== Kernel5.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S256x1024, .bf16⟩
  | .hbm, ⟨8, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference5Ideal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S5632x1024 : Shape := ⟨2, ![5632, 1024]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1x1408 : Shape := ⟨2, ![1, 1408]⟩
abbrev S1408x1024 : Shape := ⟨2, ![1408, 1024]⟩
abbrev S256x1408 : Shape := ⟨2, ![256, 1408]⟩
abbrev S512x1408 : Shape := ⟨2, ![512, 1408]⟩
abbrev S16x1408 : Shape := ⟨2, ![16, 1408]⟩
abbrev S8x1408 : Shape := ⟨2, ![8, 1408]⟩

abbrev nBuf : Space → Nat
  | .hbm => 16
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x5632, .bf16⟩
  | .hbm, ⟨9, _⟩ => ⟨S5632x1024, .bf16⟩
  | .hbm, ⟨10, _⟩ => ⟨S2816x1024, .bf16⟩
  | .hbm, ⟨11, _⟩ => ⟨S8192x5632, .bf16⟩
  | .hbm, ⟨12, _⟩ => ⟨S8192x5632, .bf16⟩
  | .hbm, ⟨13, _⟩ => ⟨S8192x2816, .bf16⟩
  | .hbm, ⟨14, _⟩ => ⟨S8192x1024, .bf16⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S3x5632, .f32⟩
  | .local _ .vmem, ⟨5, _⟩ => ⟨S2816x1024, .bf16⟩
  | .local _ .vmem, ⟨6, _⟩ => ⟨S1x1024, .f32⟩
  | .local _ .vmem, ⟨7, _⟩ => ⟨S256x5632, .bf16⟩
  | .local _ .vmem, ⟨8, _⟩ => ⟨S256x5632, .bf16⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S8x5632, .f32⟩
  | .local _ .vmem, ⟨18, _⟩ => ⟨S512x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S_, .f32⟩
  | .hbm, ⟨24, _⟩ => ⟨S2x5632, .f32⟩
  | .hbm, ⟨25, _⟩ => ⟨S8194x5632, .f32⟩
  | .hbm, ⟨26, _⟩ => ⟨S1x5632, .f32⟩
  | .hbm, ⟨27, _⟩ => ⟨S5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S1x5632, .f32⟩
  | .hbm, ⟨36, _⟩ => ⟨S5632, .f32⟩
  | .hbm, ⟨37, _⟩ => ⟨S8192x5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S1x5632, .f32⟩
  | .hbm, ⟨43, _⟩ => ⟨S5632, .f32⟩
  | .hbm, ⟨44, _⟩ => ⟨S8192x5632, .f32⟩
  | .hbm, ⟨45, _⟩ => ⟨S1x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x1024, .f32⟩
  | .hbm, ⟨62, _⟩ => ⟨S8192x5632, .bf16⟩
  | .hbm, ⟨63, _⟩ => ⟨S8192x5632, .bf16⟩
  | .hbm, ⟨64, _⟩ => ⟨S8192x2816, .bf16⟩
  | .hbm, ⟨65, _⟩ => ⟨S8192x1024, .bf16⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S5632x1024 : Shape := ⟨2, ![5632, 1024]⟩
abbrev S8192x5632 : Shape := ⟨2, ![8192, 5632]⟩
abbrev S8192x2816 : Shape := ⟨2, ![8192, 2816]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1x1408 : Shape := ⟨2, ![1, 1408]⟩
abbrev S1408x1024 : Shape := ⟨2, ![1408, 1024]⟩
abbrev S256x1408 : Shape := ⟨2, ![256, 1408]⟩
abbrev S512x1408 : Shape := ⟨2, ![512, 1408]⟩
abbrev S16x1408 : Shape := ⟨2, ![16, 1408]⟩
abbrev S8x1408 : Shape := ⟨2, ![8, 1408]⟩
abbrev S1 : Shape := ⟨1, ![1]⟩
abbrev S1x1 : Shape := ⟨2, ![1, 1]⟩

abbrev nBuf : Space → Nat
  | .hbm => 18
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S5632x1024, .bf16⟩
  | .hbm, ⟨11, _⟩ => ⟨S2816x1024, .bf16⟩
  | .hbm, ⟨12, _⟩ => ⟨S8192x5632, .bf16⟩
  | .hbm, ⟨13, _⟩ => ⟨S8192x5632, .bf16⟩
  | .hbm, ⟨14, _⟩ => ⟨S8192x2816, .bf16⟩
  | .hbm, ⟨15, _⟩ => ⟨S8192x1024, .bf16⟩
  | .hbm, ⟨16, _⟩ => ⟨S8192x1024, .f32⟩
  | .hbm, ⟨17, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S3x5632, .f32⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S8x128, .f32⟩
  | .local _ .vmem, ⟨20, _⟩ => ⟨S8x5632, .f32⟩
  | .local _ .vmem, ⟨21, _⟩ => ⟨S512x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference7Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S8x128 : Shape := ⟨2, ![8, 128]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S_, .f32⟩
  | .hbm, ⟨25, _⟩ => ⟨S2x5632, .f32⟩
  | .hbm, ⟨26, _⟩ => ⟨S8194x5632, .f32⟩
  | .hbm, ⟨27, _⟩ => ⟨S1x5632, .f32⟩
  | .hbm, ⟨28, _⟩ => ⟨S5632, .f32⟩
  | .hbm, ⟨29, _⟩ => ⟨S8192x5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S1x5632, .f32⟩
  | .hbm, ⟨37, _⟩ => ⟨S5632, .f32⟩
  | .hbm, ⟨38, _⟩ => ⟨S8192x5632, .f32⟩
  | .hbm, ⟨39, _⟩ => ⟨S1x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S1x5632, .f32⟩
  | .hbm, ⟨44, _⟩ => ⟨S5632, .f32⟩
  | .hbm, ⟨45, _⟩ => ⟨S8192x5632, .f32⟩
  | .hbm, ⟨46, _⟩ => ⟨S1x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S8192x5632, .bf16⟩
  | .hbm, ⟨95, _⟩ => ⟨S8192x5632, .bf16⟩
  | .hbm, ⟨96, _⟩ => ⟨S8192x2816, .bf16⟩
  | .hbm, ⟨97, _⟩ => ⟨S8192x1024, .bf16⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8192, .f32⟩
  | .hbm, ⟨102, _⟩ => ⟨S_, .f32⟩
  | .hbm, ⟨103, _⟩ => ⟨S8192, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_cst_13 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x2176 : Shape := ⟨2, ![1024, 2176]⟩
abbrev S4x64x64 : Shape := ⟨3, ![4, 64, 64]⟩
abbrev S256 : Shape := ⟨1, ![256]⟩
abbrev S31x384 : Shape := ⟨2, ![31, 384]⟩
abbrev S384 : Shape := ⟨1, ![384]⟩
abbrev S3x384 : Shape := ⟨2, ![3, 384]⟩
abbrev S1024x1024 : Shape := ⟨2, ![1024, 1024]⟩
abbrev S1x1024 : Shape := ⟨2, ![1, 1024]⟩
abbrev S2176x1024 : Shape := ⟨2, ![2176, 1024]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S1x384 : Shape := ⟨2, ![1, 384]⟩
abbrev S8192x2176 : Shape := ⟨2, ![8192, 2176]⟩
abbrev S8192x384 : Shape := ⟨2, ![8192, 384]⟩
abbrev S8192x256 : Shape := ⟨2, ![8192, 256]⟩
abbrev S512x1024 : Shape := ⟨2, ![512, 1024]⟩
abbrev S512x2176 : Shape := ⟨2, ![512, 2176]⟩
abbrev S512x384 : Shape := ⟨2, ![512, 384]⟩
abbrev S512x256 : Shape := ⟨2, ![512, 256]⟩
abbrev S544x256 : Shape := ⟨2, ![544, 256]⟩
abbrev S544x384 : Shape := ⟨2, ![544, 384]⟩
abbrev S7x536x384 : Shape := ⟨3, ![7, 536, 384]⟩
abbrev S4x512x544 : Shape := ⟨3, ![4, 512, 544]⟩
abbrev S32x256 : Shape := ⟨2, ![32, 256]⟩
abbrev S32x384 : Shape := ⟨2, ![32, 384]⟩
abbrev S512x544 : Shape := ⟨2, ![512, 544]⟩
abbrev S1x512x544 : Shape := ⟨3, ![1, 512, 544]⟩
abbrev S512 : Shape := ⟨1, ![512]⟩
abbrev S512x1 : Shape := ⟨2, ![512, 1]⟩
abbrev S544x512 : Shape := ⟨2, ![544, 512]⟩
abbrev S512x512 : Shape := ⟨2, ![512, 512]⟩
abbrev S536x384 : Shape := ⟨2, ![536, 384]⟩
abbrev S1x536x384 : Shape := ⟨3, ![1, 536, 384]⟩
abbrev S1x64x384 : Shape := ⟨3, ![1, 64, 384]⟩
abbrev S64x384 : Shape := ⟨2, ![64, 384]⟩
abbrev S64 : Shape := ⟨1, ![64]⟩
abbrev S64x1 : Shape := ⟨2, ![64, 1]⟩

abbrev nBuf : Space → Nat
  | .hbm => 51
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2176, .f32⟩
  | .hbm, ⟨3, _⟩ => ⟨S4x64x64, .f32⟩
  | .hbm, ⟨4, _⟩ => ⟨S256, .f32⟩
  | .hbm, ⟨5, _⟩ => ⟨S31x384, .f32⟩
  | .hbm, ⟨6, _⟩ => ⟨S384, .f32⟩
  | .hbm, ⟨7, _⟩ => ⟨S384, .f32⟩
  | .hbm, ⟨8, _⟩ => ⟨S384, .f32⟩
  | .hbm, ⟨9, _⟩ => ⟨S3x384, .f32⟩
  | .hbm, ⟨10, _⟩ => ⟨S1024x1024, .f32⟩
  | .hbm, ⟨11, _⟩ => ⟨S1024, .f32⟩
  | .hbm, ⟨12, _⟩ => ⟨S1x1024, .f32⟩
  | .hbm, ⟨13, _⟩ => ⟨S1024x2176, .bf16⟩
  | .hbm, ⟨14, _⟩ => ⟨S2176x1024, .bf16⟩
  | .hbm, ⟨15, _⟩ => ⟨S_, .f32⟩
  | .hbm, ⟨16, _⟩ => ⟨S256x256, .f32⟩
  | .hbm, ⟨17, _⟩ => ⟨S1x64x64, .f32⟩
  | .hbm, ⟨18, _⟩ => ⟨S64x64, .f32⟩
  | .hbm, ⟨19, _⟩ => ⟨S_, .i32⟩
  | .hbm, ⟨20, _⟩ => ⟨S_, .i32⟩
  | .hbm, ⟨21, _⟩ => ⟨S256x256, .f32⟩
  | .hbm, ⟨22, _⟩ => ⟨S1x64x64, .f32⟩
  | .hbm, ⟨23, _⟩ => ⟨S64x64, .f32⟩
  | .hbm, ⟨24, _⟩ => ⟨S_, .i32⟩
  | .hbm, ⟨25, _⟩ => ⟨S_, .i32⟩
  | .hbm, ⟨26, _⟩ => ⟨S256x256, .f32⟩
  | .hbm, ⟨27, _⟩ => ⟨S1x64x64, .f32⟩
  | .hbm, ⟨28, _⟩ => ⟨S64x64, .f32⟩
  | .hbm, ⟨29, _⟩ => ⟨S_, .i32⟩
  | .hbm, ⟨30, _⟩ => ⟨S_, .i32⟩
  | .hbm, ⟨31, _⟩ => ⟨S256x256, .f32⟩
  | .hbm, ⟨32, _⟩ => ⟨S1x64x64, .f32⟩
  | .hbm, ⟨33, _⟩ => ⟨S64x64, .f32⟩
  | .hbm, ⟨34, _⟩ => ⟨S_, .i32⟩
  | .hbm, ⟨35, _⟩ => ⟨S_, .i32⟩
  | .hbm, ⟨36, _⟩ => ⟨S256x256, .f32⟩
  | .hbm, ⟨37, _⟩ => ⟨S256x256, .bf16⟩
  | .hbm, ⟨38, _⟩ => ⟨S1x256, .f32⟩
  | .hbm, ⟨39, _⟩ => ⟨S1x384, .f32⟩
  | .hbm, ⟨40, _⟩ => ⟨S1x384, .f32⟩
  | .hbm, ⟨41, _⟩ => ⟨S1x384, .f32⟩
  | .hbm, ⟨42, _⟩ => ⟨S1024x1024, .bf16⟩
  | .hbm, ⟨43, _⟩ => ⟨S1x1024, .f32⟩
  | .hbm, ⟨44, _⟩ => ⟨S8192x2176, .bf16⟩
  | .hbm, ⟨45, _⟩ => ⟨S8192x1024, .bf16⟩
  | .hbm, ⟨46, _⟩ => ⟨S8192x1024, .bf16⟩
  | .hbm, ⟨47, _⟩ => ⟨S8192x1024, .f32⟩
  | .hbm, ⟨48, _⟩ => ⟨S8192x384, .f32⟩
  | .hbm, ⟨49, _⟩ => ⟨S8192x384, .f32⟩
  | .hbm, ⟨50, _⟩ => ⟨S8192x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2176x1024, .bf16⟩
  | .local _ .vmem, ⟨4, _⟩ => ⟨S256x256, .bf16⟩
  | .local _ .vmem, ⟨5, _⟩ => ⟨S1x256, .f32⟩
  | .local _ .vmem, ⟨6, _⟩ => ⟨S31x384, .f32⟩
  | .local _ .vmem, ⟨7, _⟩ => ⟨S1x384, .f32⟩
  | .local _ .vmem, ⟨8, _⟩ => ⟨S1x384, .f32⟩
  | .local _ .vmem, ⟨9, _⟩ => ⟨S1x384, .f32⟩
  | .local _ .vmem, ⟨10, _⟩ => ⟨S3x384, .f32⟩
  | .local _ .vmem, ⟨11, _⟩ => ⟨S1024x1024, .bf16⟩
  | .local _ .vmem, ⟨12, _⟩ => ⟨S1x1024, .f32⟩
  | .local _ .vmem, ⟨13, _⟩ => ⟨S512x2176, .bf16⟩
  | .local _ .vmem, ⟨14, _⟩ => ⟨S512x2176, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x384, .f32⟩
  | .local _ .vmem, ⟨22, _⟩ => ⟨S512x384, .f32⟩
  | .local _ .vmem, ⟨23, _⟩ => ⟨S512x384, .f32⟩
  | .local _ .vmem, ⟨24, _⟩ => ⟨S512x384, .f32⟩
  | .local _ .vmem, ⟨25, _⟩ => ⟨S512x256, .bf16⟩
  | .local _ .vmem, ⟨26, _⟩ => ⟨S512x256, .bf16⟩
  | .local _ .vmem, ⟨27, _⟩ => ⟨S544x256, .f32⟩
  | .local _ .vmem, ⟨28, _⟩ => ⟨S544x384, .f32⟩
  | .local _ .vmem, ⟨29, _⟩ => ⟨S544x384, .f32⟩
  | .local _ .vmem, ⟨30, _⟩ => ⟨S7x536x384, .f32⟩
  | .local _ .vmem, ⟨31, _⟩ => ⟨S4x512x544, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_5 : Ref sig .tc := ⟨.hbm, 34, rfl⟩
abbrev main_c_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v23_3 : Ref sig .tc := ⟨.hbm, 47, rfl⟩
abbrev main_v23_4 : Ref sig .tc := ⟨.hbm, 48, rfl⟩
abbrev main_v23_5 : Ref sig .tc := ⟨.hbm, 49, rfl⟩
abbrev main_v23_6 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S31x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2176 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference8Ideal.lean ====
abbrev S8192x1024 : Shape := ⟨2, ![8192, 1024]⟩
abbrev S1024 : Shape := ⟨1, ![1024]⟩
abbrev S1024x2176 : Shape := ⟨2, ![1024, 2176]⟩
abbrev S4x64x64 : Shape := ⟨3, ![4, 64, 64]⟩
abbrev S256 : Shape := ⟨1, ![256]⟩
abbrev S31x384 : Shape := ⟨2, ![31, 384]⟩
abbrev S384 : Shape := ⟨1, ![384]⟩
abbrev S3x384 : Shape := ⟨2, ![3, 384]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2176 : Shape := ⟨2, ![8192, 2176]⟩
abbrev S8192x384 : Shape := ⟨2, ![8192, 384]⟩
abbrev S2x384 : Shape := ⟨2, ![2, 384]⟩
abbrev S8194x384 : Shape := ⟨2, ![8194, 384]⟩
abbrev S1x384 : Shape := ⟨2, ![1, 384]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2176, .f32⟩
  | .hbm, ⟨3, _⟩ => ⟨S4x64x64, .f32⟩
  | .hbm, ⟨4, _⟩ => ⟨S256, .f32⟩
  | .hbm, ⟨5, _⟩ => ⟨S31x384, .f32⟩
  | .hbm, ⟨6, _⟩ => ⟨S384, .f32⟩
  | .hbm, ⟨7, _⟩ => ⟨S384, .f32⟩
  | .hbm, ⟨8, _⟩ => ⟨S384, .f32⟩
  | .hbm, ⟨9, _⟩ => ⟨S3x384, .f32⟩
  | .hbm, ⟨10, _⟩ => ⟨S1024x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2176, .f32⟩
  | .hbm, ⟨29, _⟩ => ⟨S8192x384, .f32⟩
  | .hbm, ⟨30, _⟩ => ⟨S8192x384, .f32⟩
  | .hbm, ⟨31, _⟩ => ⟨S8192x2176, .bf16⟩
  | .hbm, ⟨32, _⟩ => ⟨S8192x384, .f32⟩
  | .hbm, ⟨33, _⟩ => ⟨S_, .f32⟩
  | .hbm, ⟨34, _⟩ => ⟨S2x384, .f32⟩
  | .hbm, ⟨35, _⟩ => ⟨S8194x384, .f32⟩
  | .hbm, ⟨36, _⟩ => ⟨S1x384, .f32⟩
  | .hbm, ⟨37, _⟩ => ⟨S384, .f32⟩
  | .hbm, ⟨38, _⟩ => ⟨S8192x384, .f32⟩
  | .hbm, ⟨39, _⟩ => ⟨S1x384, .f32⟩
  | .hbm, ⟨40, _⟩ => ⟨S8192x384, .f32⟩
  | .hbm, ⟨41, _⟩ => ⟨S8192x384, .f32⟩
  | .hbm, ⟨42, _⟩ => ⟨S_, .f32⟩
  | .hbm, ⟨43, _⟩ => ⟨S8192x384, .f32⟩
  | .hbm, ⟨44, _⟩ => ⟨S8192x384, .f32⟩
  | .hbm, ⟨45, _⟩ => ⟨S1x384, .f32⟩
  | .hbm, ⟨46, _⟩ => ⟨S384, .f32⟩
  | .hbm, ⟨47, _⟩ => ⟨S8192x384, .f32⟩
  | .hbm, ⟨48, _⟩ => ⟨S1x384, .f32⟩
  | .hbm, ⟨49, _⟩ => ⟨S8192x384, .f32⟩
  | .hbm, ⟨50, _⟩ => ⟨S8192x384, .f32⟩
  | .hbm, ⟨51, _⟩ => ⟨S8192x384, .f32⟩
  | .hbm, ⟨52, _⟩ => ⟨S1x384, .f32⟩
  | .hbm, ⟨53, _⟩ => ⟨S384, .f32⟩
  | .hbm, ⟨54, _⟩ => ⟨S8192x384, .f32⟩
  | .hbm, ⟨55, _⟩ => ⟨S1x384, .f32⟩
  | .hbm, ⟨56, _⟩ => ⟨S8192x384, .f32⟩
  | .hbm, ⟨57, _⟩ => ⟨S8192x384, .f32⟩
  | .hbm, ⟨58, _⟩ => ⟨S8192x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.KvValue.lean ====
/- The value of the memory branch's backward call: each of its three result arrays, as the composed term
   of the reference. -/
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Kv

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem final6 (c : Dev nD) : (dats m 0 c).arrAt 6 (cfgs 0).N
    = k0_pay6 (m ((c : Thread nD τ).loc main_arg0)) (shapeCast _ (m ((c : Thread nD τ).loc main_arg1)) shapeCasts_S1024_S1x1024)
        (m ((c : Thread nD τ).loc main_arg4)) := by
  refine (dats m 0 c).arrAt_eq_of_after_last 6 t0_0 (by decide +kernel) _ fun j => ?_
  blk_simp
  rw [after0_6]
  frame_out
  blk_point [iblk, V, idx t0_0]

theorem final7 (c : Dev nD) : (dats m 0 c).arrAt 7 (cfgs 0).N
    = k0_pay7 (m ((c : Thread nD τ).loc main_arg0)) (shapeCast _ (m ((c : Thread nD τ).loc main_arg1)) shapeCasts_S1024_S1x1024)
        (m ((c : Thread nD τ).loc main_arg5)) := by
  refine (dats m 0 c).arrAt_eq_of_after_last 7 t0_0 (by decide +kernel) _ fun j => ?_
  blk_simp
  rw [after0_7]
  frame_out
  blk_point [iblk, V, idx t0_0]

theorem final8 (c : Dev nD) : (dats m 0 c).arrAt 8 (cfgs 0).N
    = k0_pay1 (k0_pay8 (m ((c : Thread nD τ).loc main_arg0)) (m ((c : Thread nD τ).loc main_arg4)) (m ((c : Thread nD τ).loc main_arg5))
        (m ((c : Thread nD τ).loc main_arg2)) (m ((c : Thread nD τ).loc main_arg3))) := by
  refine (dats m 0 c).arrAt_eq_of_after_last 8 t0_0 (by decide +kernel) _ fun j => ?_
  blk_simp
  rw [after0_8]
  frame_out
  blk_point [iblk, V, idx t0_0]

end Cert.KernelIdeal.Kv

namespace Cert.Proof

open Idealize.ShloMosaic Idealize.ShloMosaic.TcCoe Idealize.SL.Sem
open Cert.KernelIdeal.Gen

set_option maxHeartbeats 1600000 in
theorem kv_algebraic : Cert.algebraic_KernelIdeal_ReferenceIdeal := by
  pair_intro
  · run_from Cert.KernelIdeal.Gen.run_main m g
  · run_from Cert.ReferenceIdeal.Value.run m' g'
    · rw [Cert.KernelIdeal.Kv.final6 m c]
      funext j
      pointwise! [k0_pay6, k0_pay3, k0_pay2, k0_pay4, k0_pay5]
    · rw [Cert.KernelIdeal.Kv.final7 m c]
      funext j
      pointwise! [k0_pay7, k0_pay3, k0_pay2, k0_pay4, k0_pay5]
    · rw [Cert.KernelIdeal.Kv.final8 m c]
      funext j
      pointwise [k0_pay8, k0_pay1, k0_pay3, k0_pay2, k0_pay4, k0_pay5]
      rw [Fin.sum_univ_one]
      refine Finset.sum_congr rfl fun x _ => ?_
      rw [mul_comm]
      congr 1
      exact add_comm _ _

/-- The reference of the memory branch runs and leaves its arguments and its counters alone. -/
theorem kv_reference_frame : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

end Cert.Proof

end
-- ==== Proof.Reals.lean ====
/- Finite arithmetic on the extended reals: every operation of the step's gradients, at real operands, is the real
   operation; and the real identities the gradients rest on. -/
module

public import Idealize.ShloMosaic.PureOps.Ideal
public import Idealize.ShloMosaic.Lib.IdealHost
public import Mathlib.Tactic.FieldSimp
public import Mathlib.Tactic.Ring
public import Mathlib.Tactic.Positivity
public import Mathlib.Tactic.LinearCombination

@[expose] public section

noncomputable section

namespace Cert.Reals

open Idealize.ShloMosaic

/-- A sum of reals. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A quotient of reals by a real that is not zero. -/
theorem div_coe (a b : ℝ) (h : b ≠ 0) : Ideal.div (a : EReal) (b : EReal) = ((a / b : ℝ) : EReal) := by
  rw [Ideal.div_coe h, ← EReal.coe_mul]
  congr 1
  ring

/-- The reciprocal square root of a positive real. -/
theorem rsqrt_coe (a : ℝ) (h : 0 < a) : Ideal.rsqrt (a : EReal) = (((Real.sqrt a)⁻¹ : ℝ) : EReal) := by
  rw [Ideal.rsqrt_coe, if_neg (not_lt.2 h.le), if_neg h.ne']

/-- The word of 1024. -/
theorem word_1024 : Ideal.ofBits .f32 0x44800000#32 = ((1024 : ℝ) : EReal) := by
  simp [Ideal.ofBits, Ideal.ieee, -EReal.coe_mul]; norm_num

/-- The word of 384. -/
theorem word_384 : Ideal.ofBits .f32 0x43C00000#32 = ((384 : ℝ) : EReal) := by
  simp [Ideal.ofBits, Ideal.ieee, -EReal.coe_mul]; norm_num

/-- The word of 1. -/
theorem word_1 : Ideal.ofBits .f32 0x3F800000#32 = ((1 : ℝ) : EReal) := by
  rw [Ideal.ofBits_one_f32, EReal.coe_one]

/-- The word of 2. -/
theorem word_2 : Ideal.ofBits .f32 0x40000000#32 = ((2 : ℝ) : EReal) := by
  simp [Ideal.ofBits, Ideal.ieee, -EReal.coe_mul]; norm_num

/-- The word of -1/2. -/
theorem word_neg_half : Ideal.ofBits .f32 0xBF000000#32 = ((-(1 / 2) : ℝ) : EReal) := by
  simp [Ideal.ofBits, Ideal.ieee, -EReal.coe_mul, -EReal.coe_neg]; norm_num

/-- The word of 1/16. -/
theorem word_sixteenth : Ideal.ofBits .f32 0x3D800000#32 = ((1 / 16 : ℝ) : EReal) := by
  simp [Ideal.ofBits, Ideal.ieee, -EReal.coe_mul]; norm_num

/-- The word of -∞. -/
theorem word_neg_inf : Ideal.ofBits .f32 0xFF800000#32 = ⊥ := by
  simp [Ideal.ofBits, Ideal.ieee]

/-- The real the step's epsilon is. -/
def eps : ℝ := 8796093 / 8796093022208

/-- The word of the step's epsilon. -/
theorem word_eps : Ideal.ofBits .f32 0x358637BD#32 = ((eps : ℝ) : EReal) := by
  simp [Ideal.ofBits, Ideal.ieee, -EReal.coe_mul, eps]; norm_num

theorem eps_pos : 0 < eps := by norm_num [eps]

/-- An extended real that is a real. -/
def IsReal (x : EReal) : Prop := ∃ a : ℝ, x = a

namespace IsReal

theorem coe (a : ℝ) : IsReal a := ⟨a, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem sum {ι : Type} {s : Finset ι} {f : ι → EReal} (h : ∀ i, IsReal (f i)) : IsReal (∑ i ∈ s, f i) := by
  choose g hg using h
  exact ⟨∑ i ∈ s, g i, by rw [← sum_coe]; exact Finset.sum_congr rfl fun i _ => hg i⟩

theorem max {x y : EReal} (hx : IsReal x) (hy : IsReal y) : IsReal (x ⊔ y) := by
  obtain ⟨a, rfl⟩ := hx; obtain ⟨b, rfl⟩ := hy; exact ⟨a ⊔ b, (EReal.coe_strictMono.monotone.map_max).symm⟩

/-- The exponential of a real is a positive real. -/
theorem exp {x : EReal} (hx : IsReal x) : ∃ a : ℝ, 0 < a ∧ Ideal.exp x = a := by
  obtain ⟨a, rfl⟩ := hx; exact ⟨Real.exp a, Real.exp_pos a, Ideal.exp_coe a⟩

/-- A quotient of reals by a real that is not zero. -/
theorem div {x : EReal} (hx : IsReal x) {b : ℝ} (h : b ≠ 0) : IsReal (Ideal.div x b) := by
  obtain ⟨a, rfl⟩ := hx; exact ⟨a / b, div_coe a b h⟩

theorem rsqrt {a : ℝ} (h : 0 < a) : IsReal (Ideal.rsqrt a) := ⟨_, rsqrt_coe a h⟩

end IsReal

/-- What a root mean square normalization divides by, squared: positive. -/
theorem ms_coe {n : ℕ} (x : Fin n → ℝ) {N : ℝ} (hN : 0 < N) :
    ∃ m : ℝ, 0 < m ∧ Ideal.div (∑ k, (x k : EReal) * (x k : EReal)) (N : EReal) + (eps : EReal) = (m : EReal) := by
  refine ⟨(∑ k, x k * x k) / N + eps, ?_, ?_⟩
  · have h : 0 ≤ (∑ k, x k * x k) / N := div_nonneg (Finset.sum_nonneg fun k _ => mul_self_nonneg (x k)) hN.le
    linarith [eps_pos]
  · simp only [← EReal.coe_mul, sum_coe]
    rw [div_coe _ _ hN.ne', EReal.coe_add]

/-- The root mean square's reciprocal is real. -/
theorem rms_isReal {n : ℕ} {x : Fin n → EReal} (hx : ∀ k, IsReal (x k)) {N : ℝ} (hN : 0 < N) :
    IsReal (Ideal.rsqrt (Ideal.div (∑ k, x k * x k) (N : EReal) + (eps : EReal))) := by
  choose a ha using hx
  obtain ⟨m, hm, e⟩ := ms_coe a hN
  simp only [ha, e]
  exact IsReal.rsqrt hm

/-- The backward of a root mean square normalization over the reals: with the normalized row factored out, and as the
    chain rule writes it. -/
theorem rms_bwd_real {n : ℕ} (x d : Fin n → ℝ) {N m r : ℝ} (hN : N ≠ 0) (hm : m ≠ 0) (h : r * r * m = 1) (j : Fin n) :
    r * (d j - x j * r * ((∑ k, d k * (x k * r)) / N))
      = d j * r + x j * ((∑ k, x k * d k) * (-(1 / 2) * (r / m)) / N) + (∑ k, x k * d k) * (-(1 / 2) * (r / m)) / N * x j := by
  have hs : ∑ k, d k * (x k * r) = (∑ k, x k * d k) * r := by
    rw [Finset.sum_mul]; exact Finset.sum_congr rfl fun k _ => by ring
  have hr : r / m = r * r * r := by
    rw [div_eq_iff hm]; linear_combination (-r) * h
  rw [hs, hr]
  field_simp
  ring

/-- The same of extended reals that are reals. -/
theorem rms_bwd {n : ℕ} (x d : Fin n → EReal) (hx : ∀ k, IsReal (x k)) (hd : ∀ k, IsReal (d k)) {N : ℝ} (hN : 0 < N)
    (j : Fin n) {m r s : EReal} (hm : m = Ideal.div (∑ k, x k * x k) (N : EReal) + (eps : EReal)) (hr : r = Ideal.rsqrt m)
    (hs : s = Ideal.div ((∑ k, x k * d k) * (((-(1 / 2) : ℝ) : EReal) * Ideal.div r m)) (N : EReal)) :
    r * (d j - x j * r * Ideal.div (∑ k, d k * (x k * r)) (N : EReal)) = d j * r + x j * s + s * x j := by
  choose a ha using hx
  choose b hb using hd
  obtain ⟨w, hw, e⟩ := ms_coe a hN
  have hm' : m = (w : EReal) := by rw [hm, ← e]; simp only [ha]
  have hq : (Real.sqrt w)⁻¹ * (Real.sqrt w)⁻¹ * w = 1 := by
    rw [← mul_inv, Real.mul_self_sqrt hw.le, inv_mul_cancel₀ hw.ne']
  rw [hs, hr, hm', rsqrt_coe w hw, div_coe _ _ hw.ne']
  simp only [ha, hb, ← EReal.coe_mul, sum_coe]
  rw [div_coe _ _ hN.ne', div_coe _ _ hN.ne']
  simp only [← EReal.coe_mul, ← EReal.coe_sub, ← EReal.coe_add]
  exact congrArg _ (rms_bwd_real a b hN.ne' hw.ne' hq j)

/-- The backward of a softmax over the reals: over the probabilities, and as the chain rule writes it over the
    exponentials and their sum. -/
theorem softmax_bwd_real {n : ℕ} (e d : Fin n → ℝ) {S c : ℝ} (hS : S ≠ 0) (j : Fin n) :
    e j / S * (d j - ∑ k, d k * (e k / S)) * c = (d j / S + -(∑ k, d k * (1 / (S * S)) * e k)) * e j * c := by
  have h1 : ∑ k, d k * (e k / S) = (∑ k, d k * e k) / S := by
    rw [Finset.sum_div]; exact Finset.sum_congr rfl fun k _ => by ring
  have h2 : ∑ k, d k * (1 / (S * S)) * e k = (∑ k, d k * e k) / (S * S) := by
    rw [Finset.sum_div]; exact Finset.sum_congr rfl fun k _ => by ring
  rw [h1, h2]
  field_simp
  ring

/-- The same of extended reals that are reals. -/
theorem softmax_bwd {n : ℕ} [NeZero n] (e d : Fin n → EReal) (he : ∀ k, ∃ a : ℝ, 0 < a ∧ e k = a) (hd : ∀ k, IsReal (d k))
    (c : ℝ) (j : Fin n) {S : EReal} (hS : S = ∑ k, e k) :
    Ideal.div (e j) S * (d j - ∑ k, d k * Ideal.div (e k) S) * (c : EReal)
      = (Ideal.div (d j) S + -(∑ k, d k * Ideal.div ((1 : ℝ) : EReal) (S * S) * e k)) * e j * (c : EReal) := by
  choose a ha h using he
  choose b hb using hd
  have hpos : 0 < ∑ k, a k := Finset.sum_pos (fun k _ => ha k) ⟨0, Finset.mem_univ _⟩
  have hS' : S = ((∑ k, a k : ℝ) : EReal) := by rw [hS]; simp only [h, sum_coe]
  rw [hS', ← EReal.coe_mul]
  simp only [h, hb, div_coe _ _ hpos.ne', div_coe _ _ (mul_pos hpos hpos).ne', ← EReal.coe_mul, sum_coe, ← EReal.coe_sub,
    ← EReal.coe_add, ← EReal.coe_neg]
  exact congrArg _ (softmax_bwd_real a b hpos.ne' j)

end Cert.Reals
-- ==== Proof.XattnRef.lean ====
/- The reference of the cross attention's backward call: every stage is real at real arguments, and its three gradients
   through a normalization or a softmax in the form a hand-written backward has. -/
module

public import proofs.«01_k».proof.Proof.Gen.Reference2Ideal.Read
public import proofs.«01_k».proof.Proof.Reals
public import Idealize.ShloMosaic.Lib.Pipeline.ValueKit
public import Idealize.ShloMosaic.Lib.Pointwise

@[expose] public section

set_option maxRecDepth 16384

noncomputable section

namespace Cert.Reference2Ideal.Xattn

open Cert.Reference2Ideal Cert.Reference2Ideal.Gen Cert.Reference2Ideal.Read Cert.Reals
open Idealize.ShloMosaic Idealize.ShloMosaic.TcCoe Idealize.SL.Sem

/-- The largest of finitely many reals, at least one, is a real. -/
theorem fold_max_isReal {n : ℕ} [NeZero n] (f : Fin n → EReal) (hf : ∀ k, IsReal (f k)) :
    IsReal (Finset.fold max ⊥ f Finset.univ) := by
  choose a ha using hf
  have h1 : Finset.fold max ⊥ f Finset.univ ≠ ⊤ := by
    refine ne_of_lt ((Finset.fold_max_lt (c := ⊤)).2 ⟨bot_lt_top, fun k _ => ?_⟩)
    rw [ha]; exact EReal.coe_lt_top _
  have h2 : Finset.fold max ⊥ f Finset.univ ≠ ⊥ := by
    refine ne_of_gt ((Finset.lt_fold_max (c := ⊥)).2 (Or.inr ⟨0, Finset.mem_univ _, ?_⟩))
    rw [ha]; exact EReal.bot_lt_coe _
  exact ⟨_, (EReal.coe_toReal h1 h2).symm⟩

variable {x0 : FVec Ideal S8192x1024 .f32} {x1 : FVec Ideal S1024 .f32} {x2 : FVec Ideal S1024x1024 .f32}
  {x3 x4 : FVec Ideal S256x1024 .f32} {x5 : FVec Ideal S1024x1024 .f32} {x6 : FVec Ideal S1024 .f32}
  {x7 : FVec Ideal S8192x1024 .f32}

section Real
variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i)) (h7 : ∀ i, IsReal (x7 i))

include h0 in
theorem v7_real (i : Fin 8192) : IsReal (val_main_v7 (F := Ideal) x0 (ix2 i 0)) := by
  pointwise [val_main_v7, val_main_v6, val_main_v5, val_main_v4, val_main_v3, val_main_v2, val_main_v1, val_main_v0, val_main_cst,
    val_main_cst_0, val_main_cst_1]
  rw [word_1024, word_eps]
  exact rms_isReal (fun k => h0 _) (by norm_num)

include h0 h1 h2 in
theorem v16_real (i : Fin 8192) (j : Fin 1024) : IsReal (val_main_v16 (F := Ideal) x0 x1 x2 (ix2 i j)) := by
  pointwise [val_main_v16, val_main_v15, val_main_v14, val_main_v13, val_main_v12, val_main_v11]
  exact IsReal.sum fun k => (((h0 _).mul (v7_real h0 i)).mul (h1 _)).mul (h2 _)

include h0 h1 h2 h3 in
theorem v22_real (h : Fin 4) (i : Fin 8192) (j : Fin 256) : IsReal (val_main_v22 (F := Ideal) x0 x1 x2 x3 (ix3 h i j)) := by
  pointwise [val_main_v22, val_main_v20, val_main_v21, val_main_cst_3, val_main_v17, val_main_v18]
  rw [word_sixteenth]
  exact (IsReal.sum fun k => (v16_real h0 h1 h2 i _).mul (h3 _)).mul (IsReal.coe _)

include h0 h1 h2 h3 in
theorem v23_real (h : Fin 4) (i : Fin 8192) : IsReal (val_main_v23 (F := Ideal) x0 x1 x2 x3 (ix2 h i)) := by
  pointwise [val_main_v23]
  have e : val_main_cst_4 (F := Ideal) (Shape.Idx.first h_S_) = (⊥ : EReal) := by
    pointwise [val_main_cst_4]
    exact word_neg_inf
  rw [e]
  exact fold_max_isReal _ fun k => v22_real h0 h1 h2 h3 h i k

theorem v30_at (h : Fin 4) (i : Fin 8192) : val_main_v30 (F := Ideal) x0 x1 x2 x3 (ix2 h i)
    = max (Ideal.ofBits .f32 0xFF800000#32) (val_main_v23 (F := Ideal) x0 x1 x2 x3 (ix2 h i)) := by
  rw [val_main_v30_apply]
  generalize val_main_v23 (F := Ideal) x0 x1 x2 x3 (ix2 h i) = b
  pointwise [val_main_v29, val_main_cst_6]

theorem v41_at (h : Fin 4) (i : Fin 8192) (j : Fin 256) : val_main_v41 (F := Ideal) x0 x1 x2 x3 (ix3 h i j)
    = val_main_v30 (F := Ideal) x0 x1 x2 x3 (ix2 h i) := by
  pointwise [val_main_v41, val_main_v40]

/-- An exponential of the softmax, of the score less the row's largest. -/
theorem v43_at (h : Fin 4) (i : Fin 8192) (j : Fin 256) : val_main_v43 (F := Ideal) x0 x1 x2 x3 (ix3 h i j)
    = Ideal.exp (val_main_v22 (F := Ideal) x0 x1 x2 x3 (ix3 h i j)
        - max (Ideal.ofBits .f32 0xFF800000#32) (val_main_v23 (F := Ideal) x0 x1 x2 x3 (ix2 h i))) := by
  rw [val_main_v43_apply, val_main_v42_apply, v41_at, v30_at]
  generalize val_main_v22 (F := Ideal) x0 x1 x2 x3 (ix3 h i j) = a
  generalize max (Ideal.ofBits .f32 0xFF800000#32) (val_main_v23 (F := Ideal) x0 x1 x2 x3 (ix2 h i)) = b
  rfl

include h0 h1 h2 h3 in
theorem v43_pos (h : Fin 4) (i : Fin 8192) (j : Fin 256) :
    ∃ a : ℝ, 0 < a ∧ val_main_v43 (F := Ideal) x0 x1 x2 x3 (ix3 h i j) = (a : EReal) := by
  obtain ⟨a, ha⟩ := v22_real h0 h1 h2 h3 h i j
  obtain ⟨b, hb⟩ := v23_real h0 h1 h2 h3 h i
  rw [v43_at, ha, hb, word_neg_inf, max_eq_right bot_le]
  exact ((IsReal.coe a).sub (IsReal.coe b)).exp

/-- The sum of a row's exponentials. -/
theorem v45_at (h : Fin 4) (i : Fin 8192) :
    val_main_v45 (F := Ideal) x0 x1 x2 x3 (ix3 h i 0) = ∑ k : Fin 256, val_main_v43 (F := Ideal) x0 x1 x2 x3 (ix3 h i k) := by
  pointwise [val_main_v45, val_main_v44, val_main_cst_12]

/-- A probability: the exponential over the row's sum. -/
theorem v47_at (h : Fin 4) (i : Fin 8192) (j : Fin 256) : val_main_v47 (F := Ideal) x0 x1 x2 x3 (ix3 h i j)
    = Ideal.div (val_main_v43 (F := Ideal) x0 x1 x2 x3 (ix3 h i j)) (∑ k : Fin 256, val_main_v43 (F := Ideal) x0 x1 x2 x3 (ix3 h i k)) := by
  pointwise [val_main_v47, val_main_v46, val_main_v45, val_main_v44, val_main_cst_12]

include h0 h1 h2 h3 in
theorem v47_real (h : Fin 4) (i : Fin 8192) (j : Fin 256) : IsReal (val_main_v47 (F := Ideal) x0 x1 x2 x3 (ix3 h i j)) := by
  rw [v47_at]
  choose a ha e using fun k => v43_pos h0 h1 h2 h3 h i k
  simp only [e, sum_coe]
  exact (IsReal.coe _).div (ne_of_gt (Finset.sum_pos (fun k _ => ha k) ⟨0, Finset.mem_univ _⟩))

include h0 h1 h2 h3 h4 h5 in
theorem v54_real (i : Fin 8192) (j : Fin 1024) : IsReal (val_main_v54 (F := Ideal) x0 x1 x2 x3 x4 x5 (ix2 i j)) := by
  pointwise [val_main_v54, val_main_v53, val_main_v52, val_main_v51, val_main_v19]
  exact IsReal.sum fun k => (IsReal.sum fun l => (h4 _).mul (v47_real h0 h1 h2 h3 _ i l)).mul (h5 _)

/-- The gradient at the attention's output projection, with the normalized row factored out. -/
theorem v92_at (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (i : Fin 8192) (j : Fin 1024) (y : Fin 1024 → EReal) (hy : ∀ k, y k = val_main_v54 (F := Ideal) x0 x1 x2 x3 x4 x5 (ix2 i k))
    {r : EReal} (hr : r = Ideal.rsqrt (Ideal.div (∑ x, y x * y x) (Ideal.ofBits .f32 0x44800000#32) + Ideal.ofBits .f32 0x358637BD#32)) :
    r * (x7 (ix2 i j) * x6 (ix1 j) - y j * r * Ideal.div (∑ k, x7 (ix2 i k) * x6 (ix1 k) * (y k * r)) (Ideal.ofBits .f32 0x44800000#32))
      = val_main_v92 (F := Ideal) x0 x1 x2 x3 x4 x5 x6 x7 (ix2 i j) := by
  obtain rfl : y = fun k => val_main_v54 (F := Ideal) x0 x1 x2 x3 x4 x5 (ix2 i k) := funext hy
  pointwise [val_main_v92, val_main_v91, val_main_v90, val_main_v89, val_main_v88, val_main_v87, val_main_v86, val_main_v85,
    val_main_v84, val_main_v83, val_main_v82,val_main_v81, val_main_v80, val_main_v79, val_main_v77, val_main_v76, val_main_v72,
    val_main_v68, val_main_v65, val_main_v64, val_main_v63, val_main_cst_22, val_main_cst_20, val_main_cst_21, val_main_cst_17,
    val_main_v62, val_main_v61, val_main_v60, val_main_v59, val_main_v58, val_main_v57, val_main_v56, val_main_v55, val_main_cst_14,
    val_main_cst_15, val_main_cst_16]
  rw [Fin.sum_univ_one, word_1024, word_neg_half]
  rw [word_1024, word_eps] at hr
  rw [word_eps]
  have hy := fun k => v54_real h0 h1 h2 h3 h4 h5 i k
  have e := rms_bwd (fun k => val_main_v54 (F := Ideal) x0 x1 x2 x3 x4 x5 (ix2 i k)) (fun k => x7 (ix2 i k) * x6 (ix1 k))
    hy (fun k => (h7 _).mul (h6 _)) (N := 1024) (by norm_num) j rfl hr rfl
  rw [e, hr]

include h0 h1 h2 h3 h4 h5 h6 h7 in
theorem v92_real (i : Fin 8192) (j : Fin 1024) : IsReal (val_main_v92 (F := Ideal) x0 x1 x2 x3 x4 x5 x6 x7 (ix2 i j)) := by
  rw [← v92_at h0 h1 h2 h3 h4 h5 h6 h7 i j _ (fun k => rfl) rfl, word_1024, word_eps]
  have hy := fun k => v54_real h0 h1 h2 h3 h4 h5 i k
  have hr := rms_isReal hy (N := 1024) (by norm_num)
  exact hr.mul (((h7 _).mul (h6 _)).sub (((hy j).mul hr).mul
    (IsReal.div (IsReal.sum fun k => ((h7 _).mul (h6 _)).mul ((hy k).mul hr)) (by norm_num))))

include h0 h1 h2 h3 h4 h5 h6 h7 in
theorem v98_real (h : Fin 4) (i : Fin 8192) (j : Fin 256) : IsReal (val_main_v98 (F := Ideal) x0 x1 x2 x3 x4 x5 x6 x7 (ix3 h i j)) := by
  pointwise [val_main_v98, val_main_v97, val_main_v96, val_main_v95, val_main_v19]
  exact IsReal.sum fun k => (IsReal.sum fun l => (v92_real h0 h1 h2 h3 h4 h5 h6 h7 i l).mul (h5 _)).mul (h4 _)

include h0 h1 h2 h3 h4 h5 h6 h7 in
/-- The gradient at the scores, over the probabilities. -/
theorem v114_at (h : Fin 4) (i : Fin 8192) (j : Fin 256) :
    val_main_v47 (F := Ideal) x0 x1 x2 x3 (ix3 h i j) * (val_main_v98 (F := Ideal) x0 x1 x2 x3 x4 x5 x6 x7 (ix3 h i j)
        - ∑ k : Fin 256, val_main_v98 (F := Ideal) x0 x1 x2 x3 x4 x5 x6 x7 (ix3 h i k) * val_main_v47 (F := Ideal) x0 x1 x2 x3 (ix3 h i k))
        * Ideal.ofBits .f32 0x3D800000#32
      = val_main_v114 (F := Ideal) x0 x1 x2 x3 x4 x5 x6 x7 (ix3 h i j) := by
  pointwise [val_main_v114, val_main_v113, val_main_v112, val_main_v111, val_main_v110, val_main_v109, val_main_v108, val_main_v107,
    val_main_v106, val_main_v105, val_main_v104,val_main_v103, val_main_v102, val_main_v101, val_main_v50, val_main_v49, val_main_v48,
    val_main_cst_13, val_main_cst_23, val_main_cst_24, val_main_cst_25]
  rw [Fin.sum_univ_one, word_sixteenth]
  simp only [v47_at, v45_at]
  exact softmax_bwd _ _ (fun k => v43_pos h0 h1 h2 h3 h i k) (fun k => v98_real h0 h1 h2 h3 h4 h5 h6 h7 h i k) _ j rfl

include h0 h1 h2 h3 h4 h5 h6 h7 in
theorem v114_real (h : Fin 4) (i : Fin 8192) (j : Fin 256) :
    IsReal (val_main_v114 (F := Ideal) x0 x1 x2 x3 x4 x5 x6 x7 (ix3 h i j)) := by
  rw [← v114_at h0 h1 h2 h3 h4 h5 h6 h7 h i j, word_sixteenth]
  have hp := fun k => v47_real h0 h1 h2 h3 h i k
  have hd := fun k => v98_real h0 h1 h2 h3 h4 h5 h6 h7 h i k
  exact ((hp j).mul ((hd j).sub (IsReal.sum fun k => (hd k).mul (hp k)))).mul (IsReal.coe _)

include h0 h1 h2 h3 h4 h5 h6 h7 in
theorem v124_real (i : Fin 8192) (j : Fin 1024) : IsReal (val_main_v124 (F := Ideal) x0 x1 x2 x3 x4 x5 x6 x7 (ix2 i j)) := by
  pointwise [val_main_v124, val_main_v121, val_main_v118, val_main_v117, val_main_v18]
  exact IsReal.sum fun k => (IsReal.sum fun l => (v114_real h0 h1 h2 h3 h4 h5 h6 h7 _ i l).mul (h3 _)).mul (h2 _)

include h0 h1 h2 h3 h4 h5 h6 h7 in
/-- The gradient at the call's input, with the normalized row factored out. -/
theorem v145_at (i : Fin 8192) (j : Fin 1024) (d : Fin 1024 → EReal)
    (hd : ∀ k, d k = val_main_v124 (F := Ideal) x0 x1 x2 x3 x4 x5 x6 x7 (ix2 i k)) {r : EReal}
    (hr : r = Ideal.rsqrt (Ideal.div (∑ k, x0 (ix2 i k) * x0 (ix2 i k)) (Ideal.ofBits .f32 0x44800000#32) + Ideal.ofBits .f32 0x358637BD#32)) :
    x7 (ix2 i j) + r * (d j * x1 (ix1 j) - x0 (ix2 i j) * r
        * Ideal.div (∑ k, d k * x1 (ix1 k) * (x0 (ix2 i k) * r)) (Ideal.ofBits .f32 0x44800000#32))
      = val_main_v145 (F := Ideal) x0 x1 x2 x3 x4 x5 x6 x7 (ix2 i j) := by
  obtain rfl : d = fun k => val_main_v124 (F := Ideal) x0 x1 x2 x3 x4 x5 x6 x7 (ix2 i k) := funext hd
  pointwise [val_main_v145, val_main_v144, val_main_v143, val_main_v142, val_main_v141, val_main_v140, val_main_v139, val_main_v138,
    val_main_v137, val_main_v136, val_main_v135, val_main_v134, val_main_v133, val_main_v132, val_main_v131, val_main_v129,
    val_main_v128, val_main_v13, val_main_v10, val_main_v9, val_main_v8, val_main_cst_2, val_main_cst_28, val_main_cst_29, val_main_cst_30,
    val_main_v7, val_main_v6, val_main_v5, val_main_v4, val_main_v3, val_main_v2, val_main_v1, val_main_v0, val_main_cst,
    val_main_cst_0, val_main_cst_1]
  rw [Fin.sum_univ_one, word_1024, word_neg_half]
  rw [word_1024, word_eps] at hr
  rw [word_eps]
  have e := rms_bwd (fun k => x0 (ix2 i k)) (fun k => val_main_v124 (F := Ideal) x0 x1 x2 x3 x4 x5 x6 x7 (ix2 i k) * x1 (ix1 k))
    (fun k => h0 _) (fun k => (v124_real h0 h1 h2 h3 h4 h5 h6 h7 i k).mul (h1 _)) (N := 1024) (by norm_num) j rfl hr rfl
  rw [e, hr, add_assoc, add_assoc, add_assoc]

end Real

end Cert.Reference2Ideal.Xattn

end
-- ==== Proof.XaBlock.lean ====
/- The cross-attention's backward call at one block of rows: its operands. -/
module

public import proofs.«01_k».proof.Proof.Gen.Kernel2Ideal.Frame.Runs
public import proofs.«01_k».proof.Proof.Gen.Reference2Ideal.Read
public import proofs.«01_k».proof.Proof.XattnRef
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel2Ideal.Xa

open Cert.Kernel2Ideal Cert.Kernel2Ideal.Gen Idealize.ShloMosaic Idealize.ShloMosaic.TcCoe Idealize.SL.Sem
open Cert.Reference2Ideal.Read
open Cert.Reals (IsReal)

variable (m : (ℓ : Loc nD τ sig) → Buf (Elt Ideal) ℓ) (c : Dev nD)

/-! ## The arguments and the reference's stages -/

abbrev x0 : FVec Ideal S8192x1024 .f32 := m ((c : Thread nD τ).loc main_arg0)
abbrev x1 : FVec Ideal S1024 .f32 := m ((c : Thread nD τ).loc main_arg1)
abbrev x2 : FVec Ideal S1024x1024 .f32 := m ((c : Thread nD τ).loc main_arg2)
abbrev x3 : FVec Ideal S256x1024 .f32 := m ((c : Thread nD τ).loc main_arg3)
abbrev x4 : FVec Ideal S256x1024 .f32 := m ((c : Thread nD τ).loc main_arg4)
abbrev x5 : FVec Ideal S1024x1024 .f32 := m ((c : Thread nD τ).loc main_arg5)
abbrev x6 : FVec Ideal S1024 .f32 := m ((c : Thread nD τ).loc main_arg6)
abbrev x7 : FVec Ideal S8192x1024 .f32 := m ((c : Thread nD τ).loc main_arg7)
/-- The queries. -/
def rq : FVec Ideal S8192x1024 .f32 := val_main_v16 (F := Ideal) (x0 m c) (x1 m c) (x2 m c)
/-- The probabilities. -/
def rp : FVec Ideal S4x8192x256 .f32 := val_main_v47 (F := Ideal) (x0 m c) (x1 m c) (x2 m c) (x3 m c)
/-- The heads' outputs, side by side. -/
def ro : FVec Ideal S8192x1024 .f32 := val_main_v53 (F := Ideal) (x0 m c) (x1 m c) (x2 m c) (x3 m c) (x4 m c)
/-- The output projection. -/
def ry : FVec Ideal S8192x1024 .f32 := val_main_v54 (F := Ideal) (x0 m c) (x1 m c) (x2 m c) (x3 m c) (x4 m c) (x5 m c)
/-- The gradient at the output projection. -/
def rdy : FVec Ideal S8192x1024 .f32 := val_main_v92 (F := Ideal) (x0 m c) (x1 m c) (x2 m c) (x3 m c) (x4 m c) (x5 m c) (x6 m c) (x7 m c)
/-- The gradient at the heads' outputs. -/
def rdo : FVec Ideal S8192x1024 .f32 := val_main_v95 (F := Ideal) (x0 m c) (x1 m c) (x2 m c) (x3 m c) (x4 m c) (x5 m c) (x6 m c) (x7 m c)
/-- The gradient at the scores. -/
def rds : FVec Ideal S4x8192x256 .f32 := val_main_v114 (F := Ideal) (x0 m c) (x1 m c) (x2 m c) (x3 m c) (x4 m c) (x5 m c) (x6 m c) (x7 m c)
/-- The gradient at the queries. -/
def rdq : FVec Ideal S8192x1024 .f32 := val_main_v121 (F := Ideal) (x0 m c) (x1 m c) (x2 m c) (x3 m c) (x4 m c) (x5 m c) (x6 m c) (x7 m c)
/-- The gradient at the normalized rows. -/
def rdh : FVec Ideal S8192x1024 .f32 := val_main_v124 (F := Ideal) (x0 m c) (x1 m c) (x2 m c) (x3 m c) (x4 m c) (x5 m c) (x6 m c) (x7 m c)

/-- Every argument is finite. -/
structure Finite : Prop where
  h0 : ∀ i, IsReal (x0 m c i)
  h1 : ∀ i, IsReal (x1 m c i)
  h2 : ∀ i, IsReal (x2 m c i)
  h3 : ∀ i, IsReal (x3 m c i)
  h4 : ∀ i, IsReal (x4 m c i)
  h5 : ∀ i, IsReal (x5 m c i)
  h6 : ∀ i, IsReal (x6 m c i)
  h7 : ∀ i, IsReal (x7 m c i)

/-- The row of the whole array that row `r` of block `t` is. -/
def row (t : Fin cfg0.N) (r : Fin 512) : Fin 8192 := ⟨t.val * 512 + r, by have := lt_of_lt_of_eq t.isLt N_0; omega⟩

/-- The head a column belongs to. -/
def head (q : Fin 1024) : Fin 4 := ⟨q / 256, by omega⟩

/-- Which block each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] ∧ win0_13.index t = ![0, 0] ∧ win0_14.index t = ![0, 0]
    ∧ win0_15.index t = ![0, 0] ∧ win0_16.index t = ![0, 0] ∧ win0_17.index t = ![0, 0] ∧ win0_18.index t = ![0, 0] :=
  (by decide +kernel : ∀ t : Fin grid0.N, _)

theorem eq2 {n0 n1 : ℕ} (j : (⟨2, ![n0, n1]⟩ : Shape).Idx) (a : Fin n0) (b : Fin n1) (ha : (j 0 : ℕ) = a) (hb : (j 1 : ℕ) = b) :
    j = ix2 a b :=
  funext fun k => match k with
    | ⟨0, _⟩ => Fin.ext ha
    | ⟨1, _⟩ => Fin.ext hb

/-! ## What the host hands the call -/

theorem host_q : V m c main_v45 = rq m c := by
  unfold V
  after_reads_simp
  rfl

theorem host_o : V m c main_v46 = ro m c := by
  unfold V
  after_reads_simp
  rfl

theorem host_y : V m c main_v41 = ry m c := by
  unfold V
  after_reads_simp
  rfl

theorem host_p (i : Fin 8192) (h : Fin 4) (j : Fin 256) : (V m c main_v44 : FVec Ideal S8192x1024 .bf16) (ix2 i ⟨h * 256 + j, by omega⟩) = rp m c (ix3 h i j) := by
  have e : (V m c main_v44 : FVec Ideal S8192x1024 .bf16) = truncf (F := Ideal) .bf16 (shapeCast S8192x1024
      (transpose S8192x4x256 [1, 0, 2] (rp m c) transposes_S4x8192x256_S8192x4x256_1_0_2) shapeCasts_S8192x4x256_S8192x1024) bitsLt_bf16_f32 := by
    unfold V
    after_reads_simp
    rfl
  rw [e]
  pointwise []

/-! ## The blocks -/

section Block
variable (t : Fin cfg0.N)

theorem y_blk (r : Fin 512) (k : Fin 1024) : iblk m c 1 t (ix2 r k) = ry m c (ix2 (row t r) k) := by
  rw [← host_y]
  blk_point [iblk, idx t, row]

theorem q_blk (r : Fin 512) (k : Fin 1024) : iblk m c 3 t (ix2 r k) = rq m c (ix2 (row t r) k) := by
  rw [← host_q]
  blk_point [iblk, idx t, row]

theorem o_blk (r : Fin 512) (k : Fin 1024) : iblk m c 5 t (ix2 r k) = ro m c (ix2 (row t r) k) := by
  rw [← host_o]
  blk_point [iblk, idx t, row]

theorem p_blk (G : FVec Ideal S8192x1024 .bf16) (hG : (V m c main_v44 : FVec Ideal S8192x1024 .bf16) = G) (r : Fin 512) (k : Fin 1024) :
    iblk m c 4 t (ix2 r k) = G (ix2 (row t r) k) := by
  rw [← hG]
  blk_point [iblk, idx t, row]

theorem p_blk0 (r : Fin 512) (j : Fin 256) :
    View.ld (iblk m c 4 t) (Rect.unit ![0, 0] ![512, 256] inb_S512x1024_S512x256_0_0) (ix2 r j) = rp m c (ix3 0 (row t r) j) := by
  have e : (Rect.unit ![0, 0] ![512, 256] inb_S512x1024_S512x256_0_0).idx (ix2 r j) = ix2 r ⟨0 * 256 + j, by omega⟩ :=
    eq2 _ _ _ (by show 0 + 1 * (r : ℕ) = r; omega) (by show 0 + 1 * (j : ℕ) = 0 * 256 + j; omega)
  exact (congrArg (iblk m c 4 t) e).trans ((p_blk m c t _ rfl r _).trans (host_p m c (row t r) 0 j))

theorem p_blk1 (r : Fin 512) (j : Fin 256) :
    View.ld (iblk m c 4 t) (Rect.unit ![0, 256] ![512, 256] inb_S512x1024_S512x256_0_256) (ix2 r j) = rp m c (ix3 1 (row t r) j) := by
  have e : (Rect.unit ![0, 256] ![512, 256] inb_S512x1024_S512x256_0_256).idx (ix2 r j) = ix2 r ⟨1 * 256 + j, by omega⟩ :=
    eq2 _ _ _ (by show 0 + 1 * (r : ℕ) = r; omega) (by show 256 + 1 * (j : ℕ) = 1 * 256 + j; omega)
  exact (congrArg (iblk m c 4 t) e).trans ((p_blk m c t _ rfl r _).trans (host_p m c (row t r) 1 j))

theorem p_blk2 (r : Fin 512) (j : Fin 256) :
    View.ld (iblk m c 4 t) (Rect.unit ![0, 512] ![512, 256] inb_S512x1024_S512x256_0_512) (ix2 r j) = rp m c (ix3 2 (row t r) j) := by
  have e : (Rect.unit ![0, 512] ![512, 256] inb_S512x1024_S512x256_0_512).idx (ix2 r j) = ix2 r ⟨2 * 256 + j, by omega⟩ :=
    eq2 _ _ _ (by show 0 + 1 * (r : ℕ) = r; omega) (by show 512 + 1 * (j : ℕ) = 2 * 256 + j; omega)
  exact (congrArg (iblk m c 4 t) e).trans ((p_blk m c t _ rfl r _).trans (host_p m c (row t r) 2 j))

theorem p_blk3 (r : Fin 512) (j : Fin 256) :
    View.ld (iblk m c 4 t) (Rect.unit ![0, 768] ![512, 256] inb_S512x1024_S512x256_0_768) (ix2 r j) = rp m c (ix3 3 (row t r) j) := by
  have e : (Rect.unit ![0, 768] ![512, 256] inb_S512x1024_S512x256_0_768).idx (ix2 r j) = ix2 r ⟨3 * 256 + j, by omega⟩ :=
    eq2 _ _ _ (by show 0 + 1 * (r : ℕ) = r; omega) (by show 768 + 1 * (j : ℕ) = 3 * 256 + j; omega)
  exact (congrArg (iblk m c 4 t) e).trans ((p_blk m c t _ rfl r _).trans (host_p m c (row t r) 3 j))

theorem dx2_blk (r : Fin 512) (k : Fin 1024) : iblk m c 0 t (ix2 r k) = x7 m c (ix2 (row t r) k) := by
  blk_point [iblk, V, idx t, row]

theorem x_blk (r : Fin 512) (k : Fin 1024) : iblk m c 2 t (ix2 r k) = x0 m c (ix2 (row t r) k) := by
  blk_point [iblk, V, idx t, row]

theorem g3_blk (k : Fin 1024) : iblk m c 6 t (ix2 0 k) = x1 m c (ix1 k) := by
  blk_point [iblk, idx t]

theorem g4_blk (k : Fin 1024) : iblk m c 11 t (ix2 0 k) = x6 m c (ix1 k) := by
  blk_point [iblk, idx t]

theorem wq_blk (i j : Fin 1024) : iblk m c 7 t (ix2 i j) = x2 m c (ix2 i j) := by
  blk_point [iblk, idx t]

theorem wo_blk (i j : Fin 1024) : iblk m c 10 t (ix2 i j) = x5 m c (ix2 i j) := by
  blk_point [iblk, idx t]

theorem k_blk (i : Fin 256) (j : Fin 1024) : iblk m c 8 t (ix2 i j) = x3 m c (ix2 i j) := by
  blk_point [iblk, idx t]

theorem k_blk0 (n j : Fin 256) :
    View.ld (iblk m c 8 t) (Rect.unit (s := S256x1024) ![0, 0] ![256, 256] inb_S256x1024_S256x256_0_0) (ix2 n j) = x3 m c (ix2 n ⟨0 + j, by omega⟩) := by
  have e : (Rect.unit (s := S256x1024) ![0, 0] ![256, 256] inb_S256x1024_S256x256_0_0).idx (ix2 n j) = ix2 n ⟨0 + j, by omega⟩ :=
    eq2 _ _ _ (by show 0 + 1 * (n : ℕ) = n; omega) (by show 0 + 1 * (j : ℕ) = 0 + j; omega)
  exact (congrArg (iblk m c 8 t) e).trans (k_blk m c t n _)

theorem k_blk1 (n j : Fin 256) :
    View.ld (iblk m c 8 t) (Rect.unit (s := S256x1024) ![0, 256] ![256, 256] inb_S256x1024_S256x256_0_256) (ix2 n j) = x3 m c (ix2 n ⟨256 + j, by omega⟩) := by
  have e : (Rect.unit (s := S256x1024) ![0, 256] ![256, 256] inb_S256x1024_S256x256_0_256).idx (ix2 n j) = ix2 n ⟨256 + j, by omega⟩ :=
    eq2 _ _ _ (by show 0 + 1 * (n : ℕ) = n; omega) (by show 256 + 1 * (j : ℕ) = 256 + j; omega)
  exact (congrArg (iblk m c 8 t) e).trans (k_blk m c t n _)

theorem k_blk2 (n j : Fin 256) :
    View.ld (iblk m c 8 t) (Rect.unit (s := S256x1024) ![0, 512] ![256, 256] inb_S256x1024_S256x256_0_512) (ix2 n j) = x3 m c (ix2 n ⟨512 + j, by omega⟩) := by
  have e : (Rect.unit (s := S256x1024) ![0, 512] ![256, 256] inb_S256x1024_S256x256_0_512).idx (ix2 n j) = ix2 n ⟨512 + j, by omega⟩ :=
    eq2 _ _ _ (by show 0 + 1 * (n : ℕ) = n; omega) (by show 512 + 1 * (j : ℕ) = 512 + j; omega)
  exact (congrArg (iblk m c 8 t) e).trans (k_blk m c t n _)

theorem k_blk3 (n j : Fin 256) :
    View.ld (iblk m c 8 t) (Rect.unit (s := S256x1024) ![0, 768] ![256, 256] inb_S256x1024_S256x256_0_768) (ix2 n j) = x3 m c (ix2 n ⟨768 + j, by omega⟩) := by
  have e : (Rect.unit (s := S256x1024) ![0, 768] ![256, 256] inb_S256x1024_S256x256_0_768).idx (ix2 n j) = ix2 n ⟨768 + j, by omega⟩ :=
    eq2 _ _ _ (by show 0 + 1 * (n : ℕ) = n; omega) (by show 768 + 1 * (j : ℕ) = 768 + j; omega)
  exact (congrArg (iblk m c 8 t) e).trans (k_blk m c t n _)

theorem v_blk (i : Fin 256) (j : Fin 1024) : iblk m c 9 t (ix2 i j) = x4 m c (ix2 i j) := by
  blk_point [iblk, idx t]

theorem v_blk0 (n j : Fin 256) :
    View.ld (iblk m c 9 t) (Rect.unit (s := S256x1024) ![0, 0] ![256, 256] inb_S256x1024_S256x256_0_0) (ix2 n j) = x4 m c (ix2 n ⟨0 + j, by omega⟩) := by
  have e : (Rect.unit (s := S256x1024) ![0, 0] ![256, 256] inb_S256x1024_S256x256_0_0).idx (ix2 n j) = ix2 n ⟨0 + j, by omega⟩ :=
    eq2 _ _ _ (by show 0 + 1 * (n : ℕ) = n; omega) (by show 0 + 1 * (j : ℕ) = 0 + j; omega)
  exact (congrArg (iblk m c 9 t) e).trans (v_blk m c t n _)

theorem v_blk1 (n j : Fin 256) :
    View.ld (iblk m c 9 t) (Rect.unit (s := S256x1024) ![0, 256] ![256, 256] inb_S256x1024_S256x256_0_256) (ix2 n j) = x4 m c (ix2 n ⟨256 + j, by omega⟩) := by
  have e : (Rect.unit (s := S256x1024) ![0, 256] ![256, 256] inb_S256x1024_S256x256_0_256).idx (ix2 n j) = ix2 n ⟨256 + j, by omega⟩ :=
    eq2 _ _ _ (by show 0 + 1 * (n : ℕ) = n; omega) (by show 256 + 1 * (j : ℕ) = 256 + j; omega)
  exact (congrArg (iblk m c 9 t) e).trans (v_blk m c t n _)

theorem v_blk2 (n j : Fin 256) :
    View.ld (iblk m c 9 t) (Rect.unit (s := S256x1024) ![0, 512] ![256, 256] inb_S256x1024_S256x256_0_512) (ix2 n j) = x4 m c (ix2 n ⟨512 + j, by omega⟩) := by
  have e : (Rect.unit (s := S256x1024) ![0, 512] ![256, 256] inb_S256x1024_S256x256_0_512).idx (ix2 n j) = ix2 n ⟨512 + j, by omega⟩ :=
    eq2 _ _ _ (by show 0 + 1 * (n : ℕ) = n; omega) (by show 512 + 1 * (j : ℕ) = 512 + j; omega)
  exact (congrArg (iblk m c 9 t) e).trans (v_blk m c t n _)

theorem v_blk3 (n j : Fin 256) :
    View.ld (iblk m c 9 t) (Rect.unit (s := S256x1024) ![0, 768] ![256, 256] inb_S256x1024_S256x256_0_768) (ix2 n j) = x4 m c (ix2 n ⟨768 + j, by omega⟩) := by
  have e : (Rect.unit (s := S256x1024) ![0, 768] ![256, 256] inb_S256x1024_S256x256_0_768).idx (ix2 n j) = ix2 n ⟨768 + j, by omega⟩ :=
    eq2 _ _ _ (by show 0 + 1 * (n : ℕ) = n; omega) (by show 768 + 1 * (j : ℕ) = 768 + j; omega)
  exact (congrArg (iblk m c 9 t) e).trans (v_blk m c t n _)

end Block

end Cert.Kernel2Ideal.Xa

end
-- ==== Proof.XattnSum.lean ====
/- The gradients of the cross attention, each as one sum over its contracted dimension. -/
module

public import proofs.«01_k».proof.Proof.XattnRef
public import Idealize.ShloMosaic.Lib.Pipeline.ValueKit
public import Idealize.ShloMosaic.Lib.Pointwise

@[expose] public section

set_option maxRecDepth 16384

noncomputable section

namespace Cert.Reference2Ideal.Xattn

open Cert.Reference2Ideal Cert.Reference2Ideal.Gen Cert.Reference2Ideal.Read Cert.Reals
open Idealize.ShloMosaic Idealize.ShloMosaic.TcCoe Idealize.SL.Sem

variable (x0 : FVec Ideal S8192x1024 .f32) (x1 : FVec Ideal S1024 .f32) (x2 : FVec Ideal S1024x1024 .f32)
  (x3 x4 : FVec Ideal S256x1024 .f32) (x5 : FVec Ideal S1024x1024 .f32) (x6 : FVec Ideal S1024 .f32)
  (x7 : FVec Ideal S8192x1024 .f32)

theorem v95_at (i : Fin 8192) (k : Fin 1024) : val_main_v95 (F := Ideal) x0 x1 x2 x3 x4 x5 x6 x7 (ix2 i k)
    = ∑ l : Fin 1024, val_main_v92 (F := Ideal) x0 x1 x2 x3 x4 x5 x6 x7 (ix2 i l) * x5 (ix2 k l) := by
  rw [val_main_v95]
  generalize val_main_v92 (F := Ideal) x0 x1 x2 x3 x4 x5 x6 x7 = z
  pointwise []

theorem v98_at (h : Fin 4) (i : Fin 8192) (j : Fin 256) : val_main_v98 (F := Ideal) x0 x1 x2 x3 x4 x5 x6 x7 (ix3 h i j)
    = ∑ d : Fin 256, val_main_v95 (F := Ideal) x0 x1 x2 x3 x4 x5 x6 x7 (ix2 i ⟨h * 256 + d, by omega⟩) * x4 (ix2 j ⟨h * 256 + d, by omega⟩) := by
  rw [val_main_v98, val_main_v97, val_main_v96]
  generalize val_main_v95 (F := Ideal) x0 x1 x2 x3 x4 x5 x6 x7 = z
  pointwise [val_main_v19]

theorem v119_at (n : Fin 256) (q : Fin 1024) : val_main_v119 (F := Ideal) x0 x1 x2 x3 x4 x5 x6 x7 (ix2 n q)
    = ∑ i : Fin 8192, val_main_v47 (F := Ideal) x0 x1 x2 x3 (ix3 ⟨q / 256, by omega⟩ i n) * val_main_v95 (F := Ideal) x0 x1 x2 x3 x4 x5 x6 x7 (ix2 i q) := by
  rw [val_main_v119, val_main_v100, val_main_v99, val_main_v97, val_main_v96]
  generalize val_main_v95 (F := Ideal) x0 x1 x2 x3 x4 x5 x6 x7 = z
  generalize val_main_v47 (F := Ideal) x0 x1 x2 x3 = p
  pointwise []
  exact Finset.sum_congr rfl fun _ _ => mul_comm _ _

theorem v120_at (n : Fin 256) (q : Fin 1024) : val_main_v120 (F := Ideal) x0 x1 x2 x3 x4 x5 x6 x7 (ix2 n q)
    = ∑ i : Fin 8192, val_main_v114 (F := Ideal) x0 x1 x2 x3 x4 x5 x6 x7 (ix3 ⟨q / 256, by omega⟩ i n) * val_main_v16 (F := Ideal) x0 x1 x2 (ix2 i q) := by
  rw [val_main_v120, val_main_v116, val_main_v115, val_main_v17]
  generalize val_main_v114 (F := Ideal) x0 x1 x2 x3 x4 x5 x6 x7 = z
  generalize val_main_v16 (F := Ideal) x0 x1 x2 = p
  pointwise []

theorem v121_at (i : Fin 8192) (q : Fin 1024) : val_main_v121 (F := Ideal) x0 x1 x2 x3 x4 x5 x6 x7 (ix2 i q)
    = ∑ n : Fin 256, val_main_v114 (F := Ideal) x0 x1 x2 x3 x4 x5 x6 x7 (ix3 ⟨q / 256, by omega⟩ i n) * x3 (ix2 n q) := by
  rw [val_main_v121, val_main_v118, val_main_v117]
  generalize val_main_v114 (F := Ideal) x0 x1 x2 x3 x4 x5 x6 x7 = z
  pointwise [val_main_v18]

theorem v124_at (i : Fin 8192) (j : Fin 1024) : val_main_v124 (F := Ideal) x0 x1 x2 x3 x4 x5 x6 x7 (ix2 i j)
    = ∑ k : Fin 1024, val_main_v121 (F := Ideal) x0 x1 x2 x3 x4 x5 x6 x7 (ix2 i k) * x2 (ix2 j k) := by
  rw [val_main_v124]
  generalize val_main_v121 (F := Ideal) x0 x1 x2 x3 x4 x5 x6 x7 = z
  pointwise []

theorem v146_at (a b : Fin 1024) : val_main_v146 (F := Ideal) x0 x1 x2 x3 x4 x5 x6 x7 (ix2 a b)
    = ∑ i : Fin 8192, val_main_v15 (F := Ideal) x0 x1 (ix2 i a) * val_main_v121 (F := Ideal) x0 x1 x2 x3 x4 x5 x6 x7 (ix2 i b) := by
  rw [val_main_v146, val_main_v123, val_main_v122]
  generalize val_main_v121 (F := Ideal) x0 x1 x2 x3 x4 x5 x6 x7 = z
  generalize val_main_v15 (F := Ideal) x0 x1 = p
  pointwise []
  exact Finset.sum_congr rfl fun _ _ => mul_comm _ _

theorem v147_at (a b : Fin 1024) : val_main_v147 (F := Ideal) x0 x1 x2 x3 x4 x5 x6 x7 (ix2 a b)
    = ∑ i : Fin 8192, val_main_v53 (F := Ideal) x0 x1 x2 x3 x4 (ix2 i a) * val_main_v92 (F := Ideal) x0 x1 x2 x3 x4 x5 x6 x7 (ix2 i b) := by
  rw [val_main_v147, val_main_v94, val_main_v93]
  generalize val_main_v92 (F := Ideal) x0 x1 x2 x3 x4 x5 x6 x7 = z
  generalize val_main_v53 (F := Ideal) x0 x1 x2 x3 x4 = p
  pointwise []
  exact Finset.sum_congr rfl fun _ _ => mul_comm _ _

theorem v130_at (j : Fin 1024) : val_main_v130 (F := Ideal) x0 x1 x2 x3 x4 x5 x6 x7 (ix1 j)
    = ∑ i : Fin 8192, val_main_v12 (F := Ideal) x0 (ix2 i j) * val_main_v124 (F := Ideal) x0 x1 x2 x3 x4 x5 x6 x7 (ix2 i j) := by
  rw [val_main_v130, val_main_v127, val_main_v126, val_main_v125]
  generalize val_main_v124 (F := Ideal) x0 x1 x2 x3 x4 x5 x6 x7 = z
  generalize val_main_v12 (F := Ideal) x0 = p
  pointwise [val_main_cst_27, val_main_cst_26]
  rw [Fin.sum_univ_one]

theorem v148_at (j : Fin 1024) : val_main_v148 (F := Ideal) x0 x1 x2 x3 x4 x5 x6 x7 (ix2 0 j)
    = ∑ i : Fin 8192, val_main_v12 (F := Ideal) x0 (ix2 i j) * val_main_v124 (F := Ideal) x0 x1 x2 x3 x4 x5 x6 x7 (ix2 i j) := by
  rw [← v130_at, val_main_v148]
  generalize val_main_v130 (F := Ideal) x0 x1 x2 x3 x4 x5 x6 x7 = z
  pointwise []

theorem v149_at (j : Fin 1024) : val_main_v149 (F := Ideal) x0 x1 x2 x3 x4 x5 x7 (ix2 0 j)
    = ∑ i : Fin 8192, val_main_v67 (F := Ideal) x0 x1 x2 x3 x4 x5 (ix2 i j) * x7 (ix2 i j) := by
  rw [val_main_v149, val_main_v78, val_main_v75, val_main_v74, val_main_v73]
  generalize val_main_v67 (F := Ideal) x0 x1 x2 x3 x4 x5 = z
  pointwise [val_main_cst_18, val_main_cst_19, val_main_v72]
  rw [Fin.sum_univ_one]

theorem v12_at (i : Fin 8192) (j : Fin 1024) : val_main_v12 (F := Ideal) x0 (ix2 i j) = x0 (ix2 i j)
    * Ideal.rsqrt (Ideal.div (∑ k, x0 (ix2 i k) * x0 (ix2 i k)) (Ideal.ofBits .f32 0x44800000#32) + Ideal.ofBits .f32 0x358637BD#32) := by
  pointwise [val_main_v12, val_main_v11, val_main_v7, val_main_v6, val_main_v5, val_main_v4, val_main_v3, val_main_v2, val_main_v1, val_main_v0, val_main_cst,
    val_main_cst_0, val_main_cst_1]

theorem v15_at (i : Fin 8192) (j : Fin 1024) : val_main_v15 (F := Ideal) x0 x1 (ix2 i j) = val_main_v12 (F := Ideal) x0 (ix2 i j) * x1 (ix1 j) := by
  rw [val_main_v15]
  generalize val_main_v12 (F := Ideal) x0 = z
  pointwise [val_main_v14, val_main_v13]

theorem v67_at (i : Fin 8192) (j : Fin 1024) (y : Fin 1024 → EReal) (hy : ∀ k, y k = val_main_v54 (F := Ideal) x0 x1 x2 x3 x4 x5 (ix2 i k)) :
    val_main_v67 (F := Ideal) x0 x1 x2 x3 x4 x5 (ix2 i j) = y j
    * Ideal.rsqrt (Ideal.div (∑ k, y k * y k) (Ideal.ofBits .f32 0x44800000#32) + Ideal.ofBits .f32 0x358637BD#32) := by
  obtain rfl : y = fun k => val_main_v54 (F := Ideal) x0 x1 x2 x3 x4 x5 (ix2 i k) := funext hy
  pointwise [val_main_v67, val_main_v66, val_main_v62, val_main_v61, val_main_v60, val_main_v59, val_main_v58, val_main_v57, val_main_v56, val_main_v55, val_main_cst_14,
    val_main_cst_15, val_main_cst_16]

/-! ## Over one head's columns -/

theorem v119_col (h : Fin 4) (n d : Fin 256) : val_main_v119 (F := Ideal) x0 x1 x2 x3 x4 x5 x6 x7 (ix2 n ⟨h * 256 + d, by omega⟩)
    = ∑ i : Fin 8192, val_main_v47 (F := Ideal) x0 x1 x2 x3 (ix3 h i n) * val_main_v95 (F := Ideal) x0 x1 x2 x3 x4 x5 x6 x7 (ix2 i ⟨h * 256 + d, by omega⟩) := by
  have e : (⟨(h * 256 + d) / 256, by omega⟩ : Fin 4) = h := Fin.ext (by show ((h : ℕ) * 256 + d) / 256 = (h : ℕ); omega)
  rw [v119_at]
  simp only [e]

theorem v120_col (h : Fin 4) (n d : Fin 256) : val_main_v120 (F := Ideal) x0 x1 x2 x3 x4 x5 x6 x7 (ix2 n ⟨h * 256 + d, by omega⟩)
    = ∑ i : Fin 8192, val_main_v114 (F := Ideal) x0 x1 x2 x3 x4 x5 x6 x7 (ix3 h i n) * val_main_v16 (F := Ideal) x0 x1 x2 (ix2 i ⟨h * 256 + d, by omega⟩) := by
  have e : (⟨(h * 256 + d) / 256, by omega⟩ : Fin 4) = h := Fin.ext (by show ((h : ℕ) * 256 + d) / 256 = (h : ℕ); omega)
  rw [v120_at]
  simp only [e]

theorem v121_col (h : Fin 4) (i : Fin 8192) (d : Fin 256) : val_main_v121 (F := Ideal) x0 x1 x2 x3 x4 x5 x6 x7 (ix2 i ⟨h * 256 + d, by omega⟩)
    = ∑ n : Fin 256, val_main_v114 (F := Ideal) x0 x1 x2 x3 x4 x5 x6 x7 (ix3 h i n) * x3 (ix2 n ⟨h * 256 + d, by omega⟩) := by
  have e : (⟨(h * 256 + d) / 256, by omega⟩ : Fin 4) = h := Fin.ext (by show ((h : ℕ) * 256 + d) / 256 = (h : ℕ); omega)
  rw [v121_at]
  simp only [e]

end Cert.Reference2Ideal.Xattn

end
-- ==== Proof.XaRunA.lean ====
/- The first point of the cross-attention's backward call: what its stores leave. -/
module

public import proofs.«01_k».proof.Proof.Gen.Kernel2Ideal.Frame.Runs

@[expose] public section

set_option maxRecDepth 16384

noncomputable section

namespace Cert.Kernel2Ideal.Xa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the body works on: twelve inputs, seven outputs and three scratch buffers, each whole. -/
structure Refs where
  dx2 : Memref sig .tc .vmem S512x1024 .f32
  hdx2 : dx2.IsWhole
  y : Memref sig .tc .vmem S512x1024 .bf16
  hy : y.IsWhole
  x1 : Memref sig .tc .vmem S512x1024 .f32
  hx1 : x1.IsWhole
  q : Memref sig .tc .vmem S512x1024 .bf16
  hq : q.IsWhole
  p : Memref sig .tc .vmem S512x1024 .bf16
  hp : p.IsWhole
  o : Memref sig .tc .vmem S512x1024 .bf16
  ho : o.IsWhole
  g3 : Memref sig .tc .vmem S1x1024 .f32
  hg3 : g3.IsWhole
  wq : Memref sig .tc .vmem S1024x1024 .bf16
  hwq : wq.IsWhole
  k : Memref sig .tc .vmem S256x1024 .bf16
  hk : k.IsWhole
  v : Memref sig .tc .vmem S256x1024 .bf16
  hv : v.IsWhole
  wo : Memref sig .tc .vmem S1024x1024 .bf16
  hwo : wo.IsWhole
  g4 : Memref sig .tc .vmem S1x1024 .f32
  hg4 : g4.IsWhole
  dx : Memref sig .tc .vmem S512x1024 .f32
  hdx : dx.IsWhole
  dwq : Memref sig .tc .vmem S1024x1024 .bf16
  hdwq : dwq.IsWhole
  dwo : Memref sig .tc .vmem S1024x1024 .bf16
  hdwo : dwo.IsWhole
  dk : Memref sig .tc .vmem S256x1024 .f32
  hdk : dk.IsWhole
  dv : Memref sig .tc .vmem S256x1024 .f32
  hdv : dv.IsWhole
  dg3 : Memref sig .tc .vmem S1x1024 .f32
  hdg3 : dg3.IsWhole
  dg4 : Memref sig .tc .vmem S1x1024 .f32
  hdg4 : dg4.IsWhole
  dqb : Memref sig .tc .vmem S512x1024 .bf16
  hdqb : dqb.IsWhole
  aq : Memref sig .tc .vmem S1024x1024 .f32
  haq : aq.IsWhole
  ao : Memref sig .tc .vmem S1024x1024 .f32
  hao : ao.IsWhole

/-- The blocks of the twelve inputs at a point. -/
structure Ins (F : FTy → Type) where
  dx2 : Vec F S512x1024 .f32
  y : Vec F S512x1024 .bf16
  x1 : Vec F S512x1024 .f32
  q : Vec F S512x1024 .bf16
  p : Vec F S512x1024 .bf16
  o : Vec F S512x1024 .bf16
  g3 : Vec F S1x1024 .f32
  wq : Vec F S1024x1024 .bf16
  k : Vec F S256x1024 .bf16
  v : Vec F S256x1024 .bf16
  wo : Vec F S1024x1024 .bf16
  g4 : Vec F S1x1024 .f32

/-- The body on the buffers `A`, at a point's coordinates. -/
abbrev body (i : grid0.Coords) (A : Refs) : Prog (TpuEff nD τ sig (Elt F) Λ₀ .tc) PUnit :=
  cc0_xattn_bwd i A.dx2 A.hdx2 A.y A.hy A.x1 A.hx1 A.q A.hq A.p A.hp A.o A.ho A.g3 A.hg3 A.wq A.hwq A.k A.hk A.v A.hv A.wo A.hwo A.g4 A.hg4 A.dx A.hdx A.dwq A.hdwq A.dwo A.hdwo A.dk A.hdk A.dv A.hdv A.dg3 A.hdg3 A.dg4 A.hdg4 A.dqb A.hdqb A.aq A.haq A.ao A.hao

/-- The input buffers hold the blocks `x`. -/
def holds (c : Dev nD) (A : Refs) (x : Ins F) : sProp 𝕄 :=
  iprop(owns (c : Thread nD τ) A.dx2 fullShare x.dx2 ∗ owns (c : Thread nD τ) A.y fullShare x.y ∗ owns (c : Thread nD τ) A.x1 fullShare x.x1 ∗ owns (c : Thread nD τ) A.q fullShare x.q ∗ owns (c : Thread nD τ) A.p fullShare x.p ∗ owns (c : Thread nD τ) A.o fullShare x.o ∗ owns (c : Thread nD τ) A.g3 fullShare x.g3 ∗ owns (c : Thread nD τ) A.wq fullShare x.wq ∗ owns (c : Thread nD τ) A.k fullShare x.k ∗ owns (c : Thread nD τ) A.v fullShare x.v ∗ owns (c : Thread nD τ) A.wo fullShare x.wo ∗ owns (c : Thread nD τ) A.g4 fullShare x.g4)

/-- A buffer at some contents. -/
def some_ (c : Dev nD) {s : Shape} {e : EltTy} (a : Memref sig .tc .vmem s e) : sProp 𝕄 :=
  iprop(∃ d, owns (c : Thread nD τ) a fullShare d)

/-- A buffer with the stores `L` made over some contents. -/
def stored (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- The stores found for the ten buffers the body writes: the seven outputs, then the scratch. -/
abbrev Found (F : FTy → Type) [FloatOps F] : Type :=
  List (View.Piece (Elt F) S512x1024 .f32) × List (View.Piece (Elt F) S1024x1024 .bf16) × List (View.Piece (Elt F) S1024x1024 .bf16) × List (View.Piece (Elt F) S256x1024 .f32) × List (View.Piece (Elt F) S256x1024 .f32) × List (View.Piece (Elt F) S1x1024 .f32) × List (View.Piece (Elt F) S1x1024 .f32) × List (View.Piece (Elt F) S512x1024 .bf16) × List (View.Piece (Elt F) S1024x1024 .f32) × List (View.Piece (Elt F) S1024x1024 .f32)

set_option maxHeartbeats 2000000 in
/-- The first point: the accumulators are filled before they are read, the two outputs written at the last point are handed back as they were. -/
def runA (c : Dev nD) (i : grid0.Coords) (A : Refs) (hc0 : cond0_0 i) (hc1 : ¬cond0_1 i) (x : Ins F) :
    { L : Found F // ∀ (xi13 xi14 : Vec F S1024x1024 .bf16) (E : Set ℕ) (K : PUnit → sProp 𝕄),
        iprop(holds c A x ∗ some_ (F := F) c A.dx ∗ owns (c : Thread nD τ) A.dwq fullShare xi13 ∗ owns (c : Thread nD τ) A.dwo fullShare xi14 ∗ some_ (F := F) c A.dk ∗ some_ (F := F) c A.dv ∗ some_ (F := F) c A.dg3 ∗ some_ (F := F) c A.dg4 ∗ some_ (F := F) c A.dqb ∗ some_ (F := F) c A.aq ∗ some_ (F := F) c A.ao ∗ (iprop(holds c A x ∗ stored c A.dx L.1 ∗ owns (c : Thread nD τ) A.dwq fullShare xi13 ∗ owns (c : Thread nD τ) A.dwo fullShare xi14 ∗ stored c A.dk L.2.2.2.1 ∗ stored c A.dv L.2.2.2.2.1 ∗ stored c A.dg3 L.2.2.2.2.2.1 ∗ stored c A.dg4 L.2.2.2.2.2.2.1 ∗ stored c A.dqb L.2.2.2.2.2.2.2.1 ∗ stored c A.aq L.2.2.2.2.2.2.2.2.1 ∗ stored c A.ao L.2.2.2.2.2.2.2.2.2) -∗ K ⟨⟩))
          ⊢ wp frame (wpE (defs₀ (F := F)) Variants.none c none) E (body i A) K } := by
  refine ⟨(?_, [], [], ?_, ?_, ?_, ?_, ?_, ?_, ?_), fun xi13 xi14 E K => ?run⟩
  case run =>
    dsimp only
    unfold body
    simp only [cc0_xattn_bwd_eq_skeleton]; unfold cc0_xattn_bwd_skel
    simp only [k0_part7_eq_skeleton, k0_part1_eq_skeleton, k0_part2_eq_skeleton, k0_part3_eq_skeleton, k0_part4_eq_skeleton, k0_part5_eq_skeleton, k0_part6_eq_skeleton]
    unfold holds some_ stored owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := A.hdx2.eq_unread hf0; obtain rfl := A.hy.eq_unread hf1; obtain rfl := A.hx1.eq_unread hf2; obtain rfl := A.hq.eq_unread hf3; obtain rfl := A.hp.eq_unread hf4; obtain rfl := A.ho.eq_unread hf5; obtain rfl := A.hg3.eq_unread hf6; obtain rfl := A.hwq.eq_unread hf7; obtain rfl := A.hk.eq_unread hf8; obtain rfl := A.hv.eq_unread hf9; obtain rfl := A.hwo.eq_unread hf10; obtain rfl := A.hg4.eq_unread hf11
    obtain rfl := A.hdwq.eq_unread hf13; obtain rfl := A.hdwo.eq_unread hf14
    sl_exec (disch := first | sl_exact hc0 | sl_exact hc1)
    sl_step
    iapply Hk
    isplitl [H0 H1 H2 H3 H4 H5 H6 H7 H8 H9 H10 H11]
    · isplitl [H0]
      · iexists _; isplitr; · ipureintro; exact A.hdx2.read_unread _
        iexact H0
      isplitl [H1]
      · iexists _; isplitr; · ipureintro; exact A.hy.read_unread _
        iexact H1
      isplitl [H2]
      · iexists _; isplitr; · ipureintro; exact A.hx1.read_unread _
        iexact H2
      isplitl [H3]
      · iexists _; isplitr; · ipureintro; exact A.hq.read_unread _
        iexact H3
      isplitl [H4]
      · iexists _; isplitr; · ipureintro; exact A.hp.read_unread _
        iexact H4
      isplitl [H5]
      · iexists _; isplitr; · ipureintro; exact A.ho.read_unread _
        iexact H5
      isplitl [H6]
      · iexists _; isplitr; · ipureintro; exact A.hg3.read_unread _
        iexact H6
      isplitl [H7]
      · iexists _; isplitr; · ipureintro; exact A.hwq.read_unread _
        iexact H7
      isplitl [H8]
      · iexists _; isplitr; · ipureintro; exact A.hk.read_unread _
        iexact H8
      isplitl [H9]
      · iexists _; isplitr; · ipureintro; exact A.hv.read_unread _
        iexact H9
      isplitl [H10]
      · iexists _; isplitr; · ipureintro; exact A.hwo.read_unread _
        iexact H10
      iexists _; isplitr; · ipureintro; exact A.hg4.read_unread _
      iexact H11
    isplitl [H12]
    · iexists _; iexact H12
    isplitl [H13]
    · iexists _; isplitr; · ipureintro; exact A.hdwq.read_unread _
      iexact H13
    isplitl [H14]
    · iexists _; isplitr; · ipureintro; exact A.hdwo.read_unread _
      iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    iexists _; iexact H21

end Cert.Kernel2Ideal.Xa

end
-- ==== Proof.XaRunB.lean ====
/- A point between the first and the last of the cross-attention's backward call. -/
module

public import proofs.«01_k».proof.Proof.XaRunA

@[expose] public section

set_option maxRecDepth 16384

noncomputable section

namespace Cert.Kernel2Ideal.Xa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A point in between: the accumulators hold what the point before left. -/
def runB (c : Dev nD) (i : grid0.Coords) (A : Refs) (hc0 : ¬cond0_0 i) (hc1 : ¬cond0_1 i) (x : Ins F) (dk dv : Vec F S256x1024 .f32) (dg3 dg4 : Vec F S1x1024 .f32) (aq ao : Vec F S1024x1024 .f32) :
    { L : Found F // ∀ (xi13 xi14 : Vec F S1024x1024 .bf16) (E : Set ℕ) (K : PUnit → sProp 𝕄),
        iprop(holds c A x ∗ some_ (F := F) c A.dx ∗ owns (c : Thread nD τ) A.dwq fullShare xi13 ∗ owns (c : Thread nD τ) A.dwo fullShare xi14 ∗ owns (c : Thread nD τ) A.dk fullShare dk ∗ owns (c : Thread nD τ) A.dv fullShare dv ∗ owns (c : Thread nD τ) A.dg3 fullShare dg3 ∗ owns (c : Thread nD τ) A.dg4 fullShare dg4 ∗ some_ (F := F) c A.dqb ∗ owns (c : Thread nD τ) A.aq fullShare aq ∗ owns (c : Thread nD τ) A.ao fullShare ao ∗ (iprop(holds c A x ∗ stored c A.dx L.1 ∗ owns (c : Thread nD τ) A.dwq fullShare xi13 ∗ owns (c : Thread nD τ) A.dwo fullShare xi14 ∗ stored c A.dk L.2.2.2.1 ∗ stored c A.dv L.2.2.2.2.1 ∗ stored c A.dg3 L.2.2.2.2.2.1 ∗ stored c A.dg4 L.2.2.2.2.2.2.1 ∗ stored c A.dqb L.2.2.2.2.2.2.2.1 ∗ stored c A.aq L.2.2.2.2.2.2.2.2.1 ∗ stored c A.ao L.2.2.2.2.2.2.2.2.2) -∗ K ⟨⟩))
          ⊢ wp frame (wpE (defs₀ (F := F)) Variants.none c none) E (body i A) K } := by
  refine ⟨(?_, [], [], ?_, ?_, ?_, ?_, ?_, ?_, ?_), fun xi13 xi14 E K => ?run⟩
  case run =>
    dsimp only
    unfold body
    simp only [cc0_xattn_bwd_eq_skeleton]; unfold cc0_xattn_bwd_skel
    simp only [k0_part7_eq_skeleton, k0_part1_eq_skeleton, k0_part2_eq_skeleton, k0_part3_eq_skeleton, k0_part4_eq_skeleton, k0_part5_eq_skeleton, k0_part6_eq_skeleton]
    unfold holds some_ stored owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, Hk⟩
    obtain rfl := A.hdx2.eq_unread hf0; obtain rfl := A.hy.eq_unread hf1; obtain rfl := A.hx1.eq_unread hf2; obtain rfl := A.hq.eq_unread hf3; obtain rfl := A.hp.eq_unread hf4; obtain rfl := A.ho.eq_unread hf5; obtain rfl := A.hg3.eq_unread hf6; obtain rfl := A.hwq.eq_unread hf7; obtain rfl := A.hk.eq_unread hf8; obtain rfl := A.hv.eq_unread hf9; obtain rfl := A.hwo.eq_unread hf10; obtain rfl := A.hg4.eq_unread hf11
    obtain rfl := A.hdwq.eq_unread hf13; obtain rfl := A.hdwo.eq_unread hf14; obtain rfl := A.hdk.eq_unread hf15; obtain rfl := A.hdv.eq_unread hf16; obtain rfl := A.hdg3.eq_unread hf17; obtain rfl := A.hdg4.eq_unread hf18; obtain rfl := A.haq.eq_unread hf20; obtain rfl := A.hao.eq_unread hf21
    sl_exec (disch := first | sl_exact hc0 | sl_exact hc1)
    sl_step
    iapply Hk
    isplitl [H0 H1 H2 H3 H4 H5 H6 H7 H8 H9 H10 H11]
    · isplitl [H0]
      · iexists _; isplitr; · ipureintro; exact A.hdx2.read_unread _
        iexact H0
      isplitl [H1]
      · iexists _; isplitr; · ipureintro; exact A.hy.read_unread _
        iexact H1
      isplitl [H2]
      · iexists _; isplitr; · ipureintro; exact A.hx1.read_unread _
        iexact H2
      isplitl [H3]
      · iexists _; isplitr; · ipureintro; exact A.hq.read_unread _
        iexact H3
      isplitl [H4]
      · iexists _; isplitr; · ipureintro; exact A.hp.read_unread _
        iexact H4
      isplitl [H5]
      · iexists _; isplitr; · ipureintro; exact A.ho.read_unread _
        iexact H5
      isplitl [H6]
      · iexists _; isplitr; · ipureintro; exact A.hg3.read_unread _
        iexact H6
      isplitl [H7]
      · iexists _; isplitr; · ipureintro; exact A.hwq.read_unread _
        iexact H7
      isplitl [H8]
      · iexists _; isplitr; · ipureintro; exact A.hk.read_unread _
        iexact H8
      isplitl [H9]
      · iexists _; isplitr; · ipureintro; exact A.hv.read_unread _
        iexact H9
      isplitl [H10]
      · iexists _; isplitr; · ipureintro; exact A.hwo.read_unread _
        iexact H10
      iexists _; isplitr; · ipureintro; exact A.hg4.read_unread _
      iexact H11
    isplitl [H12]
    · iexists _; iexact H12
    isplitl [H13]
    · iexists _; isplitr; · ipureintro; exact A.hdwq.read_unread _
      iexact H13
    isplitl [H14]
    · iexists _; isplitr; · ipureintro; exact A.hdwo.read_unread _
      iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    iexists _; iexact H21

end Cert.Kernel2Ideal.Xa

end
-- ==== Proof.XaRunC.lean ====
/- The last point of the cross-attention's backward call. -/
module

public import proofs.«01_k».proof.Proof.XaRunB

@[expose] public section

set_option maxRecDepth 16384

noncomputable section

namespace Cert.Kernel2Ideal.Xa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The last point: besides, the two accumulated weight gradients are written out. -/
def runC (c : Dev nD) (i : grid0.Coords) (A : Refs) (hc0 : ¬cond0_0 i) (hc1 : cond0_1 i) (x : Ins F) (dk dv : Vec F S256x1024 .f32) (dg3 dg4 : Vec F S1x1024 .f32) (aq ao : Vec F S1024x1024 .f32) :
    { L : Found F // ∀ (xi13 xi14 : Vec F S1024x1024 .bf16) (E : Set ℕ) (K : PUnit → sProp 𝕄),
        iprop(holds c A x ∗ some_ (F := F) c A.dx ∗ some_ (F := F) c A.dwq ∗ some_ (F := F) c A.dwo ∗ owns (c : Thread nD τ) A.dk fullShare dk ∗ owns (c : Thread nD τ) A.dv fullShare dv ∗ owns (c : Thread nD τ) A.dg3 fullShare dg3 ∗ owns (c : Thread nD τ) A.dg4 fullShare dg4 ∗ some_ (F := F) c A.dqb ∗ owns (c : Thread nD τ) A.aq fullShare aq ∗ owns (c : Thread nD τ) A.ao fullShare ao ∗ (iprop(holds c A x ∗ stored c A.dx L.1 ∗ stored c A.dwq L.2.1 ∗ stored c A.dwo L.2.2.1 ∗ stored c A.dk L.2.2.2.1 ∗ stored c A.dv L.2.2.2.2.1 ∗ stored c A.dg3 L.2.2.2.2.2.1 ∗ stored c A.dg4 L.2.2.2.2.2.2.1 ∗ stored c A.dqb L.2.2.2.2.2.2.2.1 ∗ stored c A.aq L.2.2.2.2.2.2.2.2.1 ∗ stored c A.ao L.2.2.2.2.2.2.2.2.2) -∗ K ⟨⟩))
          ⊢ wp frame (wpE (defs₀ (F := F)) Variants.none c none) E (body i A) K } := by
  refine ⟨(?_, ?_, ?_, ?_, ?_, ?_, ?_, ?_, ?_, ?_), fun xi13 xi14 E K => ?run⟩
  case run =>
    dsimp only
    unfold body
    simp only [cc0_xattn_bwd_eq_skeleton]; unfold cc0_xattn_bwd_skel
    simp only [k0_part7_eq_skeleton, k0_part1_eq_skeleton, k0_part2_eq_skeleton, k0_part3_eq_skeleton, k0_part4_eq_skeleton, k0_part5_eq_skeleton, k0_part6_eq_skeleton]
    unfold holds some_ stored owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, Hk⟩
    obtain rfl := A.hdx2.eq_unread hf0; obtain rfl := A.hy.eq_unread hf1; obtain rfl := A.hx1.eq_unread hf2; obtain rfl := A.hq.eq_unread hf3; obtain rfl := A.hp.eq_unread hf4; obtain rfl := A.ho.eq_unread hf5; obtain rfl := A.hg3.eq_unread hf6; obtain rfl := A.hwq.eq_unread hf7; obtain rfl := A.hk.eq_unread hf8; obtain rfl := A.hv.eq_unread hf9; obtain rfl := A.hwo.eq_unread hf10; obtain rfl := A.hg4.eq_unread hf11
    obtain rfl := A.hdk.eq_unread hf15; obtain rfl := A.hdv.eq_unread hf16; obtain rfl := A.hdg3.eq_unread hf17; obtain rfl := A.hdg4.eq_unread hf18; obtain rfl := A.haq.eq_unread hf20; obtain rfl := A.hao.eq_unread hf21
    sl_exec (disch := first | sl_exact hc0 | sl_exact hc1)
    sl_step
    iapply Hk
    isplitl [H0 H1 H2 H3 H4 H5 H6 H7 H8 H9 H10 H11]
    · isplitl [H0]
      · iexists _; isplitr; · ipureintro; exact A.hdx2.read_unread _
        iexact H0
      isplitl [H1]
      · iexists _; isplitr; · ipureintro; exact A.hy.read_unread _
        iexact H1
      isplitl [H2]
      · iexists _; isplitr; · ipureintro; exact A.hx1.read_unread _
        iexact H2
      isplitl [H3]
      · iexists _; isplitr; · ipureintro; exact A.hq.read_unread _
        iexact H3
      isplitl [H4]
      · iexists _; isplitr; · ipureintro; exact A.hp.read_unread _
        iexact H4
      isplitl [H5]
      · iexists _; isplitr; · ipureintro; exact A.ho.read_unread _
        iexact H5
      isplitl [H6]
      · iexists _; isplitr; · ipureintro; exact A.hg3.read_unread _
        iexact H6
      isplitl [H7]
      · iexists _; isplitr; · ipureintro; exact A.hwq.read_unread _
        iexact H7
      isplitl [H8]
      · iexists _; isplitr; · ipureintro; exact A.hk.read_unread _
        iexact H8
      isplitl [H9]
      · iexists _; isplitr; · ipureintro; exact A.hv.read_unread _
        iexact H9
      isplitl [H10]
      · iexists _; isplitr; · ipureintro; exact A.hwo.read_unread _
        iexact H10
      iexists _; isplitr; · ipureintro; exact A.hg4.read_unread _
      iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    iexists _; iexact H21

end Cert.Kernel2Ideal.Xa

end
-- ==== Proof.XaOuts.lean ====
/- The cross-attention's backward call, point after point: what it leaves. -/
module

public import proofs.«01_k».proof.Proof.XaRunC
public import Idealize.ShloMosaic.Lib.Claim
public import Idealize.ShloMosaic.Lib.Pipeline.FrameBody

@[expose] public section

set_option maxRecDepth 16384

noncomputable section

namespace Cert.Kernel2Ideal.Xa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is given at a point. -/
noncomputable def refs (t : Fin cfg0.N) : Refs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, scM0_0, Memref.isWhole_whole _, scM0_1, Memref.isWhole_whole _, scM0_2, Memref.isWhole_whole _⟩

/-- The blocks the body is given at a point. -/
noncomputable def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- The contents of the seven outputs, then of the two carried accumulators. -/
abbrev Outs (F : FTy → Type) [FloatOps F] : Type :=
  Vec F S512x1024 .f32 × Vec F S1024x1024 .bf16 × Vec F S1024x1024 .bf16 × Vec F S256x1024 .f32 × Vec F S256x1024 .f32 × Vec F S1x1024 .f32 × Vec F S1x1024 .f32 × Vec F S1024x1024 .f32 × Vec F S1024x1024 .f32

/-- What stores that cover leave. -/
noncomputable def contents (L : Found F) : Outs F :=
  (View.canon L.1, View.canon L.2.1, View.canon L.2.2.1, View.canon L.2.2.2.1, View.canon L.2.2.2.2.1, View.canon L.2.2.2.2.2.1, View.canon L.2.2.2.2.2.2.1, View.canon L.2.2.2.2.2.2.2.2.1, View.canon L.2.2.2.2.2.2.2.2.2)

theorem first (t : Fin cfg0.N) (h : t.val = 0) : cond0_0 (grid0.coords t) ∧ ¬cond0_1 (grid0.coords t) :=
  ⟨(hcond0_0 t).mpr (by omega), fun h1 => by have := (hcond0_1 t).mp h1; omega⟩

theorem inner (t : Fin cfg0.N) (h0 : t.val ≠ 0) (h1 : t.val ≠ 15) : ¬cond0_0 (grid0.coords t) ∧ ¬cond0_1 (grid0.coords t) := by
  have hN : t.val < 16 := lt_of_lt_of_eq t.isLt (show cfg0.N = 16 from N_0)
  exact ⟨fun h => by have := (hcond0_0 t).mp h; omega, fun h => by have := (hcond0_1 t).mp h; omega⟩

theorem last (t : Fin cfg0.N) (h : t.val = 15) : ¬cond0_0 (grid0.coords t) ∧ cond0_1 (grid0.coords t) :=
  ⟨fun h0 => by have := (hcond0_0 t).mp h0; omega, (hcond0_1 t).mpr (by omega)⟩

/-- What each kind of point leaves, over what the point before left. -/
noncomputable def outA (c : Dev nD) (t : Fin cfg0.N) (h : t.val = 0) : Outs F :=
  contents (runA c (grid0.coords t) (refs t) (first t h).1 (first t h).2 (ins m c t)).1

noncomputable def outB (c : Dev nD) (t : Fin cfg0.N) (h0 : t.val ≠ 0) (h1 : t.val ≠ 15) (o : Outs F) : Outs F :=
  contents (runB c (grid0.coords t) (refs t) (inner t h0 h1).1 (inner t h0 h1).2 (ins m c t) o.2.2.2.1 o.2.2.2.2.1 o.2.2.2.2.2.1 o.2.2.2.2.2.2.1 o.2.2.2.2.2.2.2.1 o.2.2.2.2.2.2.2.2).1

noncomputable def outC (c : Dev nD) (t : Fin cfg0.N) (h : t.val = 15) (o : Outs F) : Outs F :=
  contents (runC c (grid0.coords t) (refs t) (last t h).1 (last t h).2 (ins m c t) o.2.2.2.1 o.2.2.2.2.1 o.2.2.2.2.2.1 o.2.2.2.2.2.2.1 o.2.2.2.2.2.2.2.1 o.2.2.2.2.2.2.2.2).1

/-- What the outputs' buffers and the accumulators hold after point `n`. -/
noncomputable def outsAt (c : Dev nD) : (n : ℕ) → n < cfg0.N → Outs F
  | 0, hn => outA m c ⟨0, hn⟩ rfl
  | n + 1, hn =>
    if h : n + 1 = 15 then outC m c ⟨n + 1, hn⟩ h (outsAt c n (Nat.lt_of_succ_lt hn))
    else outB m c ⟨n + 1, hn⟩ (Nat.succ_ne_zero n) h (outsAt c n (Nat.lt_of_succ_lt hn))

/-- What the point before left. -/
abbrev before (c : Dev nD) (t : Fin cfg0.N) : Outs F := outsAt m c (t.val - 1) (Nat.lt_of_le_of_lt (Nat.sub_le _ _) t.isLt)

theorem outsAt_A (c : Dev nD) (t : Fin cfg0.N) (h : t.val = 0) : outsAt m c t.val t.isLt = outA m c t h := by
  obtain ⟨n, hn⟩ := t
  dsimp only at h
  subst h
  rfl

theorem outsAt_B (c : Dev nD) (t : Fin cfg0.N) (h0 : t.val ≠ 0) (h1 : t.val ≠ 15) :
    outsAt m c t.val t.isLt = outB m c t h0 h1 (before m c t) := by
  obtain ⟨n, hn⟩ := t
  cases n with
  | zero => exact absurd rfl h0
  | succ n => exact dif_neg h1

theorem outsAt_C (c : Dev nD) (t : Fin cfg0.N) (h : t.val = 15) : outsAt m c t.val t.isLt = outC m c t h (before m c t) := by
  obtain ⟨n, hn⟩ := t
  cases n with
  | zero => exact absurd (show 0 = 15 from h) (by decide)
  | succ n => exact dif_pos h

/-! ## The points in order -/

/-- What is known of the scratch before point `n`. -/
noncomputable def Phi (c : Dev nD) : (n : ℕ) → n ≤ cfg0.N → sProp 𝕄
  | 0, _ => Pipeline.ΦA spec0 c
  | n + 1, hn => iprop(iprop(some_ (F := F) c scM0_0 ∗ owns (c : Thread nD τ) scM0_1 fullShare (outsAt m c n hn).2.2.2.2.2.2.2.1
      ∗ owns (c : Thread nD τ) scM0_2 fullShare (outsAt m c n hn).2.2.2.2.2.2.2.2) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(some_ (F := F) c scM0_0
      ∗ owns (c : Thread nD τ) scM0_1 fullShare (outsAt m c (n - 1) (by omega)).2.2.2.2.2.2.2.1
      ∗ owns (c : Thread nD τ) scM0_2 fullShare (outsAt m c (n - 1) (by omega)).2.2.2.2.2.2.2.2) ∗ (∃ r, prngReg c r)) := by
  cases n with
  | zero => exact absurd rfl hz
  | succ n => rfl

/-- The contents of every window, point after point. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
    | ⟨13, _⟩ => (outsAt m c t.val t.isLt).2.1
    | ⟨14, _⟩ => (outsAt m c t.val t.isLt).2.2.1
    | ⟨15, _⟩ => (outsAt m c t.val t.isLt).2.2.2.1
    | ⟨16, _⟩ => (outsAt m c t.val t.isLt).2.2.2.2.1
    | ⟨17, _⟩ => (outsAt m c t.val t.isLt).2.2.2.2.2.1
    | ⟨18, _⟩ => (outsAt m c t.val t.isLt).2.2.2.2.2.2.1
    | ⟨_ + 19, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = (outsAt m c t.val t.isLt).1 := by dsimp only [dats]
theorem after_13 (c : Dev nD) (t : Fin cfg0.N) : (dats m 0 c).after 13 t = (outsAt m c t.val t.isLt).2.1 := by dsimp only [dats]
theorem after_14 (c : Dev nD) (t : Fin cfg0.N) : (dats m 0 c).after 14 t = (outsAt m c t.val t.isLt).2.2.1 := by dsimp only [dats]
theorem after_15 (c : Dev nD) (t : Fin cfg0.N) : (dats m 0 c).after 15 t = (outsAt m c t.val t.isLt).2.2.2.1 := by dsimp only [dats]
theorem after_16 (c : Dev nD) (t : Fin cfg0.N) : (dats m 0 c).after 16 t = (outsAt m c t.val t.isLt).2.2.2.2.1 := by dsimp only [dats]
theorem after_17 (c : Dev nD) (t : Fin cfg0.N) : (dats m 0 c).after 17 t = (outsAt m c t.val t.isLt).2.2.2.2.2.1 := by dsimp only [dats]
theorem after_18 (c : Dev nD) (t : Fin cfg0.N) : (dats m 0 c).after 18 t = (outsAt m c t.val t.isLt).2.2.2.2.2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_15 (c : Dev nD) (t : Fin cfg0.N) (h0 : t.val ≠ 0) (d) : (dats m 0 c).before 15 t d = (before m c t).2.2.2.1 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
theorem before_16 (c : Dev nD) (t : Fin cfg0.N) (h0 : t.val ≠ 0) (d) : (dats m 0 c).before 16 t d = (before m c t).2.2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before_17 (c : Dev nD) (t : Fin cfg0.N) (h0 : t.val ≠ 0) (d) : (dats m 0 c).before 17 t d = (before m c t).2.2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
theorem before_18 (c : Dev nD) (t : Fin cfg0.N) (h0 : t.val ≠ 0) (d) : (dats m 0 c).before 18 t d = (before m c t).2.2.2.2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]

end Cert.Kernel2Ideal.Xa

end
-- ==== Proof.XaOut.lean ====
/- What one point of the cross attention's backward call leaves in each buffer, in the words of its payloads. -/
module

public import proofs.«01_k».proof.Proof.XaOuts
public import Idealize.ShloMosaic.Lib.Pipeline.ReadBack
public import Idealize.ShloMosaic.Lib.Pipeline.ValueKit

@[expose] public section

set_option maxRecDepth 16384

noncomputable section

namespace Cert.Kernel2Ideal.Xa

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

/-- The gradient at the output projection of the block's rows, -/
noncomputable def dyB : FVec Ideal S512x1024 .bf16 := k0_pay13 (iblk m c 1 t) (iblk m c 11 t) (iblk m c 0 t)

/-- and before that projection. -/
noncomputable def doB : FVec Ideal S512x1024 .f32 := k0_pay15 (dyB m c t) (iblk m c 10 t)

/-- The gradient at head 0's scores. -/
noncomputable def dsB0 : FVec Ideal S512x256 .f32 := k0_pay20 (dyB m c t) (iblk m c 10 t) (View.ld (iblk m c 4 t) (Rect.unit ![0, 0] ![512, 256] inb_S512x1024_S512x256_0_0)) (View.ld (iblk m c 9 t) (Rect.unit (s := S256x1024) ![0, 0] ![256, 256] inb_S256x1024_S256x256_0_0))

/-- The gradient at head 1's scores. -/
noncomputable def dsB1 : FVec Ideal S512x256 .f32 := k0_pay27 (doB m c t) (View.ld (iblk m c 4 t) (Rect.unit ![0, 256] ![512, 256] inb_S512x1024_S512x256_0_256)) (View.ld (iblk m c 9 t) (Rect.unit (s := S256x1024) ![0, 256] ![256, 256] inb_S256x1024_S256x256_0_256))

/-- The gradient at head 2's scores. -/
noncomputable def dsB2 : FVec Ideal S512x256 .f32 := k0_pay34 (doB m c t) (View.ld (iblk m c 4 t) (Rect.unit ![0, 512] ![512, 256] inb_S512x1024_S512x256_0_512)) (View.ld (iblk m c 9 t) (Rect.unit (s := S256x1024) ![0, 512] ![256, 256] inb_S256x1024_S256x256_0_512))

/-- The gradient at head 3's scores. -/
noncomputable def dsB3 : FVec Ideal S512x256 .f32 := k0_pay41 (doB m c t) (View.ld (iblk m c 4 t) (Rect.unit ![0, 768] ![512, 256] inb_S512x1024_S512x256_0_768)) (View.ld (iblk m c 9 t) (Rect.unit (s := S256x1024) ![0, 768] ![256, 256] inb_S256x1024_S256x256_0_768))

/-- The gradient at the queries. -/
noncomputable def dqB : FVec Ideal S512x1024 .bf16 := (View.whole cc0_scratch0).readCov
    ([⟨Rect.unit (s := S512x1024) ![0, 768] ![512, 256] inb_S512x1024_S512x256_0_768, k0_pay43 (dsB3 m c t) (View.ld (iblk m c 8 t) (Rect.unit (s := S256x1024) ![0, 768] ![256, 256] inb_S256x1024_S256x256_0_768))⟩,
      ⟨Rect.unit (s := S512x1024) ![0, 512] ![512, 256] inb_S512x1024_S512x256_0_512, k0_pay36 (dsB2 m c t) (View.ld (iblk m c 8 t) (Rect.unit (s := S256x1024) ![0, 512] ![256, 256] inb_S256x1024_S256x256_0_512))⟩,
      ⟨Rect.unit (s := S512x1024) ![0, 256] ![512, 256] inb_S512x1024_S512x256_0_256, k0_pay29 (dsB1 m c t) (View.ld (iblk m c 8 t) (Rect.unit (s := S256x1024) ![0, 256] ![256, 256] inb_S256x1024_S256x256_0_256))⟩,
      ⟨Rect.unit (s := S512x1024) ![0, 0] ![512, 256] inb_S512x1024_S512x256_0_0, k0_pay22 (dsB0 m c t) (View.ld (iblk m c 8 t) (Rect.unit (s := S256x1024) ![0, 0] ![256, 256] inb_S256x1024_S256x256_0_0))⟩] : List (View.Piece (Elt Ideal) S512x1024 .bf16))
    (Rect.unit (s := S512x1024) ![0, 0] ![512, 1024] inb_S512x1024_S512x1024_0_0).toLoadRect

/-- What the point stores of the gradient at the keys, over an accumulator, -/
noncomputable def dkL (acc : FVec Ideal S256x1024 .f32) (L : List (View.Piece (Elt Ideal) S256x1024 .f32)) : List (View.Piece (Elt Ideal) S256x1024 .f32) :=
  ⟨Rect.unit (s := S256x1024) ![0, 768] ![256, 256] inb_S256x1024_S256x256_0_768, k0_pay44 (k0_pay16 (iblk m c 3 t)) (dsB3 m c t) (View.ld (Val := Elt Ideal) (e' := .f32) acc (Rect.unit (s := S256x1024) ![0, 768] ![256, 256] inb_S256x1024_S256x256_0_768))⟩ ::
    ⟨Rect.unit (s := S256x1024) ![0, 512] ![256, 256] inb_S256x1024_S256x256_0_512, k0_pay37 (k0_pay16 (iblk m c 3 t)) (dsB2 m c t) (View.ld (Val := Elt Ideal) (e' := .f32) acc (Rect.unit (s := S256x1024) ![0, 512] ![256, 256] inb_S256x1024_S256x256_0_512))⟩ ::
    ⟨Rect.unit (s := S256x1024) ![0, 256] ![256, 256] inb_S256x1024_S256x256_0_256, k0_pay30 (k0_pay16 (iblk m c 3 t)) (dsB1 m c t) (View.ld (Val := Elt Ideal) (e' := .f32) acc (Rect.unit (s := S256x1024) ![0, 256] ![256, 256] inb_S256x1024_S256x256_0_256))⟩ ::
    ⟨Rect.unit (s := S256x1024) ![0, 0] ![256, 256] inb_S256x1024_S256x256_0_0, k0_pay23 (k0_pay16 (iblk m c 3 t)) (dsB0 m c t) (View.ld (Val := Elt Ideal) (e' := .f32) acc (Rect.unit (s := S256x1024) ![0, 0] ![256, 256] inb_S256x1024_S256x256_0_0))⟩ :: L

/-- and of the gradient at the values. -/
noncomputable def dvL (acc : FVec Ideal S256x1024 .f32) (L : List (View.Piece (Elt Ideal) S256x1024 .f32)) : List (View.Piece (Elt Ideal) S256x1024 .f32) :=
  ⟨Rect.unit (s := S256x1024) ![0, 768] ![256, 256] inb_S256x1024_S256x256_0_768, k0_pay40 (doB m c t) (View.ld (iblk m c 4 t) (Rect.unit ![0, 768] ![512, 256] inb_S512x1024_S512x256_0_768)) (View.ld (Val := Elt Ideal) (e' := .f32) acc (Rect.unit (s := S256x1024) ![0, 768] ![256, 256] inb_S256x1024_S256x256_0_768))⟩ ::
    ⟨Rect.unit (s := S256x1024) ![0, 512] ![256, 256] inb_S256x1024_S256x256_0_512, k0_pay33 (doB m c t) (View.ld (iblk m c 4 t) (Rect.unit ![0, 512] ![512, 256] inb_S512x1024_S512x256_0_512)) (View.ld (Val := Elt Ideal) (e' := .f32) acc (Rect.unit (s := S256x1024) ![0, 512] ![256, 256] inb_S256x1024_S256x256_0_512))⟩ ::
    ⟨Rect.unit (s := S256x1024) ![0, 256] ![256, 256] inb_S256x1024_S256x256_0_256, k0_pay26 (doB m c t) (View.ld (iblk m c 4 t) (Rect.unit ![0, 256] ![512, 256] inb_S512x1024_S512x256_0_256)) (View.ld (Val := Elt Ideal) (e' := .f32) acc (Rect.unit (s := S256x1024) ![0, 256] ![256, 256] inb_S256x1024_S256x256_0_256))⟩ ::
    ⟨Rect.unit (s := S256x1024) ![0, 0] ![256, 256] inb_S256x1024_S256x256_0_0, k0_pay19 (dyB m c t) (iblk m c 10 t) (View.ld (iblk m c 4 t) (Rect.unit ![0, 0] ![512, 256] inb_S512x1024_S512x256_0_0)) (View.ld (Val := Elt Ideal) (e' := .f32) acc (Rect.unit (s := S256x1024) ![0, 0] ![256, 256] inb_S256x1024_S256x256_0_0))⟩ :: L

theorem dx_A (h : t.val = 0) : (outA m c t h).1 = k0_pay51 (k0_pay45 (iblk m c 2 t)) (k0_pay46 (iblk m c 2 t)) (dqB m c t) (iblk m c 7 t) (iblk m c 6 t) (iblk m c 0 t) := by
  unfold outA contents
  frame_out
  dsimp only [refs, ins]
  rfl

theorem dk_A (h : t.val = 0) : (outA m c t h).2.2.2.1 = View.canon (dkL m c t (k0_pay5 (F := Ideal)) [⟨Rect.unit (s := S256x1024) ![0, 0] ![256, 1024] inb_S256x1024_S256x1024_0_0, (k0_pay5 (F := Ideal))⟩]) := by
  unfold outA contents
  frame_out
  dsimp only [refs, ins]
  simp (disch := decide) only [View.readCov_skip, View.readCov_fill]
  rfl

theorem dv_A (h : t.val = 0) : (outA m c t h).2.2.2.2.1 = View.canon (dvL m c t (k0_pay6 (F := Ideal)) [⟨Rect.unit (s := S256x1024) ![0, 0] ![256, 1024] inb_S256x1024_S256x1024_0_0, (k0_pay6 (F := Ideal))⟩]) := by
  unfold outA contents
  frame_out
  dsimp only [refs, ins]
  simp (disch := decide) only [View.readCov_skip, View.readCov_fill]
  rfl

theorem dg3_A (h : t.val = 0) : (outA m c t h).2.2.2.2.2.1 = k0_pay50 (k0_pay46 (iblk m c 2 t)) (dqB m c t) (iblk m c 7 t) (k0_pay7 (F := Ideal)) := by
  unfold outA contents
  frame_out
  dsimp only [refs, ins]
  rfl

theorem dg4_A (h : t.val = 0) : (outA m c t h).2.2.2.2.2.2.1 = k0_pay12 (iblk m c 1 t) (iblk m c 0 t) (k0_pay8 (F := Ideal)) := by
  unfold outA contents
  frame_out
  dsimp only [refs, ins]

theorem aq_A (h : t.val = 0) : (outA m c t h).2.2.2.2.2.2.2.1 = k0_pay48 (k0_pay47 (iblk m c 2 t) (iblk m c 6 t) (dqB m c t) (k0_pay3 (F := Ideal))) := by
  unfold outA contents
  frame_out
  dsimp only [refs, ins]
  rfl

theorem ao_A (h : t.val = 0) : (outA m c t h).2.2.2.2.2.2.2.2 = k0_pay14 (dyB m c t) (k0_pay4 (F := Ideal)) (iblk m c 5 t) := by
  unfold outA contents
  frame_out
  dsimp only [refs, ins]
  rfl

theorem dx_B (h0 : t.val ≠ 0) (h1 : t.val ≠ 15) (o : Outs Ideal) : (outB m c t h0 h1 o).1 = k0_pay51 (k0_pay45 (iblk m c 2 t)) (k0_pay46 (iblk m c 2 t)) (dqB m c t) (iblk m c 7 t) (iblk m c 6 t) (iblk m c 0 t) := by
  unfold outB contents
  frame_out
  dsimp only [refs, ins]
  rfl

theorem dk_B (h0 : t.val ≠ 0) (h1 : t.val ≠ 15) (o : Outs Ideal) : (outB m c t h0 h1 o).2.2.2.1 = View.canon (dkL m c t o.2.2.2.1 []) := by
  unfold outB contents
  frame_out
  dsimp only [refs, ins]
  rfl

theorem dv_B (h0 : t.val ≠ 0) (h1 : t.val ≠ 15) (o : Outs Ideal) : (outB m c t h0 h1 o).2.2.2.2.1 = View.canon (dvL m c t o.2.2.2.2.1 []) := by
  unfold outB contents
  frame_out
  dsimp only [refs, ins]
  rfl

theorem dg3_B (h0 : t.val ≠ 0) (h1 : t.val ≠ 15) (o : Outs Ideal) : (outB m c t h0 h1 o).2.2.2.2.2.1 = k0_pay50 (k0_pay46 (iblk m c 2 t)) (dqB m c t) (iblk m c 7 t) o.2.2.2.2.2.1 := by
  unfold outB contents
  frame_out
  dsimp only [refs, ins]
  rfl

theorem dg4_B (h0 : t.val ≠ 0) (h1 : t.val ≠ 15) (o : Outs Ideal) : (outB m c t h0 h1 o).2.2.2.2.2.2.1 = k0_pay12 (iblk m c 1 t) (iblk m c 0 t) o.2.2.2.2.2.2.1 := by
  unfold outB contents
  frame_out
  dsimp only [refs, ins]

theorem aq_B (h0 : t.val ≠ 0) (h1 : t.val ≠ 15) (o : Outs Ideal) : (outB m c t h0 h1 o).2.2.2.2.2.2.2.1 = k0_pay48 (k0_pay47 (iblk m c 2 t) (iblk m c 6 t) (dqB m c t) o.2.2.2.2.2.2.2.1) := by
  unfold outB contents
  frame_out
  dsimp only [refs, ins]
  rfl

theorem ao_B (h0 : t.val ≠ 0) (h1 : t.val ≠ 15) (o : Outs Ideal) : (outB m c t h0 h1 o).2.2.2.2.2.2.2.2 = k0_pay14 (dyB m c t) o.2.2.2.2.2.2.2.2 (iblk m c 5 t) := by
  unfold outB contents
  frame_out
  dsimp only [refs, ins]
  rfl

theorem dx_C (h : t.val = 15) (o : Outs Ideal) : (outC m c t h o).1 = k0_pay51 (k0_pay45 (iblk m c 2 t)) (k0_pay46 (iblk m c 2 t)) (dqB m c t) (iblk m c 7 t) (iblk m c 6 t) (iblk m c 0 t) := by
  unfold outC contents
  frame_out
  dsimp only [refs, ins]
  rfl

theorem dwq_C (h : t.val = 15) (o : Outs Ideal) : (outC m c t h o).2.1 = k0_pay1 (k0_pay48 (k0_pay47 (iblk m c 2 t) (iblk m c 6 t) (dqB m c t) o.2.2.2.2.2.2.2.1)) := by
  unfold outC contents
  frame_out
  dsimp only [refs, ins]
  rfl

theorem dwo_C (h : t.val = 15) (o : Outs Ideal) : (outC m c t h o).2.2.1 = k0_pay2 (k0_pay14 (dyB m c t) o.2.2.2.2.2.2.2.2 (iblk m c 5 t)) := by
  unfold outC contents
  frame_out
  dsimp only [refs, ins]
  rfl

theorem dk_C (h : t.val = 15) (o : Outs Ideal) : (outC m c t h o).2.2.2.1 = View.canon (dkL m c t o.2.2.2.1 []) := by
  unfold outC contents
  frame_out
  dsimp only [refs, ins]
  rfl

theorem dv_C (h : t.val = 15) (o : Outs Ideal) : (outC m c t h o).2.2.2.2.1 = View.canon (dvL m c t o.2.2.2.2.1 []) := by
  unfold outC contents
  frame_out
  dsimp only [refs, ins]
  rfl

theorem dg3_C (h : t.val = 15) (o : Outs Ideal) : (outC m c t h o).2.2.2.2.2.1 = k0_pay50 (k0_pay46 (iblk m c 2 t)) (dqB m c t) (iblk m c 7 t) o.2.2.2.2.2.1 := by
  unfold outC contents
  frame_out
  dsimp only [refs, ins]
  rfl

theorem dg4_C (h : t.val = 15) (o : Outs Ideal) : (outC m c t h o).2.2.2.2.2.2.1 = k0_pay12 (iblk m c 1 t) (iblk m c 0 t) o.2.2.2.2.2.2.1 := by
  unfold outC contents
  frame_out
  dsimp only [refs, ins]

theorem aq_C (h : t.val = 15) (o : Outs Ideal) : (outC m c t h o).2.2.2.2.2.2.2.1 = k0_pay48 (k0_pay47 (iblk m c 2 t) (iblk m c 6 t) (dqB m c t) o.2.2.2.2.2.2.2.1) := by
  unfold outC contents
  frame_out
  dsimp only [refs, ins]
  rfl

theorem ao_C (h : t.val = 15) (o : Outs Ideal) : (outC m c t h o).2.2.2.2.2.2.2.2 = k0_pay14 (dyB m c t) o.2.2.2.2.2.2.2.2 (iblk m c 5 t) := by
  unfold outC contents
  frame_out
  dsimp only [refs, ins]
  rfl

theorem dx_out : (outsAt m c t.val t.isLt).1 = k0_pay51 (k0_pay45 (iblk m c 2 t)) (k0_pay46 (iblk m c 2 t)) (dqB m c t) (iblk m c 7 t) (iblk m c 6 t) (iblk m c 0 t) := by
  by_cases h : t.val = 0
  · rw [outsAt_A m c t h, dx_A]
  by_cases h15 : t.val = 15
  · rw [outsAt_C m c t h15, dx_C]
  · rw [outsAt_B m c t h h15, dx_B]

theorem dwq_last (h : t.val = 15) : (outsAt m c t.val t.isLt).2.1 = k0_pay1 (k0_pay48 (k0_pay47 (iblk m c 2 t) (iblk m c 6 t) (dqB m c t) (before m c t).2.2.2.2.2.2.2.1)) := by
  rw [outsAt_C m c t h, dwq_C]

theorem dwo_last (h : t.val = 15) : (outsAt m c t.val t.isLt).2.2.1 = k0_pay2 (k0_pay14 (dyB m c t) (before m c t).2.2.2.2.2.2.2.2 (iblk m c 5 t)) := by
  rw [outsAt_C m c t h, dwo_C]

theorem dk_first (h : t.val = 0) : (outsAt m c t.val t.isLt).2.2.2.1 = View.canon (dkL m c t (k0_pay5 (F := Ideal)) [⟨Rect.unit (s := S256x1024) ![0, 0] ![256, 1024] inb_S256x1024_S256x1024_0_0, (k0_pay5 (F := Ideal))⟩]) := by
  rw [outsAt_A m c t h, dk_A]

theorem dk_next (h : t.val ≠ 0) : (outsAt m c t.val t.isLt).2.2.2.1 = View.canon (dkL m c t (before m c t).2.2.2.1 []) := by
  by_cases h15 : t.val = 15
  · rw [outsAt_C m c t h15, dk_C]
  · rw [outsAt_B m c t h h15, dk_B]

theorem dv_first (h : t.val = 0) : (outsAt m c t.val t.isLt).2.2.2.2.1 = View.canon (dvL m c t (k0_pay6 (F := Ideal)) [⟨Rect.unit (s := S256x1024) ![0, 0] ![256, 1024] inb_S256x1024_S256x1024_0_0, (k0_pay6 (F := Ideal))⟩]) := by
  rw [outsAt_A m c t h, dv_A]

theorem dv_next (h : t.val ≠ 0) : (outsAt m c t.val t.isLt).2.2.2.2.1 = View.canon (dvL m c t (before m c t).2.2.2.2.1 []) := by
  by_cases h15 : t.val = 15
  · rw [outsAt_C m c t h15, dv_C]
  · rw [outsAt_B m c t h h15, dv_B]

theorem dg3_first (h : t.val = 0) : (outsAt m c t.val t.isLt).2.2.2.2.2.1 = k0_pay50 (k0_pay46 (iblk m c 2 t)) (dqB m c t) (iblk m c 7 t) (k0_pay7 (F := Ideal)) := by
  rw [outsAt_A m c t h, dg3_A]

theorem dg3_next (h : t.val ≠ 0) : (outsAt m c t.val t.isLt).2.2.2.2.2.1 = k0_pay50 (k0_pay46 (iblk m c 2 t)) (dqB m c t) (iblk m c 7 t) (before m c t).2.2.2.2.2.1 := by
  by_cases h15 : t.val = 15
  · rw [outsAt_C m c t h15, dg3_C]
  · rw [outsAt_B m c t h h15, dg3_B]

theorem dg4_first (h : t.val = 0) : (outsAt m c t.val t.isLt).2.2.2.2.2.2.1 = k0_pay12 (iblk m c 1 t) (iblk m c 0 t) (k0_pay8 (F := Ideal)) := by
  rw [outsAt_A m c t h, dg4_A]

theorem dg4_next (h : t.val ≠ 0) : (outsAt m c t.val t.isLt).2.2.2.2.2.2.1 = k0_pay12 (iblk m c 1 t) (iblk m c 0 t) (before m c t).2.2.2.2.2.2.1 := by
  by_cases h15 : t.val = 15
  · rw [outsAt_C m c t h15, dg4_C]
  · rw [outsAt_B m c t h h15, dg4_B]

theorem aq_first (h : t.val = 0) : (outsAt m c t.val t.isLt).2.2.2.2.2.2.2.1 = k0_pay48 (k0_pay47 (iblk m c 2 t) (iblk m c 6 t) (dqB m c t) (k0_pay3 (F := Ideal))) := by
  rw [outsAt_A m c t h, aq_A]

theorem aq_next (h : t.val ≠ 0) : (outsAt m c t.val t.isLt).2.2.2.2.2.2.2.1 = k0_pay48 (k0_pay47 (iblk m c 2 t) (iblk m c 6 t) (dqB m c t) (before m c t).2.2.2.2.2.2.2.1) := by
  by_cases h15 : t.val = 15
  · rw [outsAt_C m c t h15, aq_C]
  · rw [outsAt_B m c t h h15, aq_B]

theorem ao_first (h : t.val = 0) : (outsAt m c t.val t.isLt).2.2.2.2.2.2.2.2 = k0_pay14 (dyB m c t) (k0_pay4 (F := Ideal)) (iblk m c 5 t) := by
  rw [outsAt_A m c t h, ao_A]

theorem ao_next (h : t.val ≠ 0) : (outsAt m c t.val t.isLt).2.2.2.2.2.2.2.2 = k0_pay14 (dyB m c t) (before m c t).2.2.2.2.2.2.2.2 (iblk m c 5 t) := by
  by_cases h15 : t.val = 15
  · rw [outsAt_C m c t h15, ao_C]
  · rw [outsAt_B m c t h h15, ao_B]

end Cert.Kernel2Ideal.Xa

end
-- ==== Proof.XaTile.lean ====
/- Buffers written and read by four blocks of columns, one for each head. -/
module

public import proofs.«01_k».proof.Proof.XaOut
public import Idealize.ShloMosaic.Lib.Pointwise

@[expose] public section

set_option maxRecDepth 16384

noncomputable section

namespace Cert.Kernel2Ideal.Xa

open Cert.Kernel2Ideal Cert.Kernel2Ideal.Gen Idealize.ShloMosaic Idealize.ShloMosaic.TcCoe Idealize.SL.Sem

theorem at2 {n0 n1 : ℕ} (j : (⟨2, ![n0, n1]⟩ : Shape).Idx) (a : Fin n0) (b : Fin n1) (ha : (j 0 : ℕ) = a) (hb : (j 1 : ℕ) = b) :
    j = ix2 a b :=
  funext fun k => match k with
    | ⟨0, _⟩ => Fin.ext ha
    | ⟨1, _⟩ => Fin.ext hb

/-- Stores of four blocks of columns, over any stores before, leave what each block holds. -/
theorem canon4 (p0 p1 p2 p3 : FVec Ideal S256x256 .f32) (L : List (View.Piece (Elt Ideal) S256x1024 .f32)) (g : FVec Ideal S256x1024 .f32)
    (h0 : ∀ r j, p0 (ix2 r j) = g (ix2 r ⟨0 + j, by omega⟩))
    (h1 : ∀ r j, p1 (ix2 r j) = g (ix2 r ⟨256 + j, by omega⟩))
    (h2 : ∀ r j, p2 (ix2 r j) = g (ix2 r ⟨512 + j, by omega⟩))
    (h3 : ∀ r j, p3 (ix2 r j) = g (ix2 r ⟨768 + j, by omega⟩)) :
    View.canon ((⟨Rect.unit (s := S256x1024) ![0, 768] ![256, 256] inb_S256x1024_S256x256_0_768, p3⟩ : View.Piece (Elt Ideal) S256x1024 .f32) ::
      (⟨Rect.unit (s := S256x1024) ![0, 512] ![256, 256] inb_S256x1024_S256x256_0_512, p2⟩ : View.Piece (Elt Ideal) S256x1024 .f32) ::
      (⟨Rect.unit (s := S256x1024) ![0, 256] ![256, 256] inb_S256x1024_S256x256_0_256, p1⟩ : View.Piece (Elt Ideal) S256x1024 .f32) ::
      (⟨Rect.unit (s := S256x1024) ![0, 0] ![256, 256] inb_S256x1024_S256x256_0_0, p0⟩ : View.Piece (Elt Ideal) S256x1024 .f32) :: L) = g := by
  funext y
  refine View.canon_append_of_piecesOf g L [_, _, _, _] ⟨fun x => ?_, fun x => ?_, fun x => ?_, fun x => ?_, trivial⟩ y ?_
  · refine (congrArg p3 (at2 x (x 0) (x 1) rfl rfl)).trans ((h3 (x 0) (x 1)).trans (congrArg g (at2 _ (x 0) ⟨768 + x 1, _⟩ ?_ ?_).symm))
    · show 0 + 1 * (x 0 : ℕ) = x 0; omega
    · show 768 + 1 * (x 1 : ℕ) = 768 + x 1; omega
  · refine (congrArg p2 (at2 x (x 0) (x 1) rfl rfl)).trans ((h2 (x 0) (x 1)).trans (congrArg g (at2 _ (x 0) ⟨512 + x 1, _⟩ ?_ ?_).symm))
    · show 0 + 1 * (x 0 : ℕ) = x 0; omega
    · show 512 + 1 * (x 1 : ℕ) = 512 + x 1; omega
  · refine (congrArg p1 (at2 x (x 0) (x 1) rfl rfl)).trans ((h1 (x 0) (x 1)).trans (congrArg g (at2 _ (x 0) ⟨256 + x 1, _⟩ ?_ ?_).symm))
    · show 0 + 1 * (x 0 : ℕ) = x 0; omega
    · show 256 + 1 * (x 1 : ℕ) = 256 + x 1; omega
  · refine (congrArg p0 (at2 x (x 0) (x 1) rfl rfl)).trans ((h0 (x 0) (x 1)).trans (congrArg g (at2 _ (x 0) ⟨0 + x 1, _⟩ ?_ ?_).symm))
    · show 0 + 1 * (x 0 : ℕ) = x 0; omega
    · show 0 + 1 * (x 1 : ℕ) = 0 + x 1; omega
  · have h0 : (y 0 : ℕ) < 256 := (y 0).isLt
    have h1 : (y 1 : ℕ) < 1024 := (y 1).isLt
    rcases (by omega : 768 ≤ (y 1 : ℕ) ∨ (512 ≤ (y 1 : ℕ) ∧ (y 1 : ℕ) < 768) ∨ (256 ≤ (y 1 : ℕ) ∧ (y 1 : ℕ) < 512) ∨ (y 1 : ℕ) < 256) with h | h | h | h
    · exact ⟨_, List.mem_cons_self, (Rect.mem_set_unit (inb := inb_S256x1024_S256x256_0_768)).2 fun a => match a with
        | ⟨0, _⟩ => ⟨Nat.zero_le _, by show (y 0 : ℕ) < 0 + 256; omega⟩
        | ⟨1, _⟩ => ⟨by show 768 ≤ (y 1 : ℕ); omega, by show (y 1 : ℕ) < 768 + 256; omega⟩⟩
    · exact ⟨_, (List.mem_cons_of_mem _ List.mem_cons_self), (Rect.mem_set_unit (inb := inb_S256x1024_S256x256_0_512)).2 fun a => match a with
        | ⟨0, _⟩ => ⟨Nat.zero_le _, by show (y 0 : ℕ) < 0 + 256; omega⟩
        | ⟨1, _⟩ => ⟨by show 512 ≤ (y 1 : ℕ); omega, by show (y 1 : ℕ) < 512 + 256; omega⟩⟩
    · exact ⟨_, (List.mem_cons_of_mem _ (List.mem_cons_of_mem _ List.mem_cons_self)), (Rect.mem_set_unit (inb := inb_S256x1024_S256x256_0_256)).2 fun a => match a with
        | ⟨0, _⟩ => ⟨Nat.zero_le _, by show (y 0 : ℕ) < 0 + 256; omega⟩
        | ⟨1, _⟩ => ⟨by show 256 ≤ (y 1 : ℕ); omega, by show (y 1 : ℕ) < 256 + 256; omega⟩⟩
    · exact ⟨_, (List.mem_cons_of_mem _ (List.mem_cons_of_mem _ (List.mem_cons_of_mem _ List.mem_cons_self))), (Rect.mem_set_unit (inb := inb_S256x1024_S256x256_0_0)).2 fun a => match a with
        | ⟨0, _⟩ => ⟨Nat.zero_le _, by show (y 0 : ℕ) < 0 + 256; omega⟩
        | ⟨1, _⟩ => ⟨by show 0 ≤ (y 1 : ℕ); omega, by show (y 1 : ℕ) < 0 + 256; omega⟩⟩

/-- Stores of four blocks of columns, over any stores before, leave what each block holds. -/
theorem canon4q (p0 p1 p2 p3 : FVec Ideal S512x256 .bf16) (L : List (View.Piece (Elt Ideal) S512x1024 .bf16)) (g : FVec Ideal S512x1024 .bf16)
    (h0 : ∀ r j, p0 (ix2 r j) = g (ix2 r ⟨0 + j, by omega⟩))
    (h1 : ∀ r j, p1 (ix2 r j) = g (ix2 r ⟨256 + j, by omega⟩))
    (h2 : ∀ r j, p2 (ix2 r j) = g (ix2 r ⟨512 + j, by omega⟩))
    (h3 : ∀ r j, p3 (ix2 r j) = g (ix2 r ⟨768 + j, by omega⟩)) :
    View.canon ((⟨Rect.unit (s := S512x1024) ![0, 768] ![512, 256] inb_S512x1024_S512x256_0_768, p3⟩ : View.Piece (Elt Ideal) S512x1024 .bf16) ::
      (⟨Rect.unit (s := S512x1024) ![0, 512] ![512, 256] inb_S512x1024_S512x256_0_512, p2⟩ : View.Piece (Elt Ideal) S512x1024 .bf16) ::
      (⟨Rect.unit (s := S512x1024) ![0, 256] ![512, 256] inb_S512x1024_S512x256_0_256, p1⟩ : View.Piece (Elt Ideal) S512x1024 .bf16) ::
      (⟨Rect.unit (s := S512x1024) ![0, 0] ![512, 256] inb_S512x1024_S512x256_0_0, p0⟩ : View.Piece (Elt Ideal) S512x1024 .bf16) :: L) = g := by
  funext y
  refine View.canon_append_of_piecesOf g L [_, _, _, _] ⟨fun x => ?_, fun x => ?_, fun x => ?_, fun x => ?_, trivial⟩ y ?_
  · refine (congrArg p3 (at2 x (x 0) (x 1) rfl rfl)).trans ((h3 (x 0) (x 1)).trans (congrArg g (at2 _ (x 0) ⟨768 + x 1, _⟩ ?_ ?_).symm))
    · show 0 + 1 * (x 0 : ℕ) = x 0; omega
    · show 768 + 1 * (x 1 : ℕ) = 768 + x 1; omega
  · refine (congrArg p2 (at2 x (x 0) (x 1) rfl rfl)).trans ((h2 (x 0) (x 1)).trans (congrArg g (at2 _ (x 0) ⟨512 + x 1, _⟩ ?_ ?_).symm))
    · show 0 + 1 * (x 0 : ℕ) = x 0; omega
    · show 512 + 1 * (x 1 : ℕ) = 512 + x 1; omega
  · refine (congrArg p1 (at2 x (x 0) (x 1) rfl rfl)).trans ((h1 (x 0) (x 1)).trans (congrArg g (at2 _ (x 0) ⟨256 + x 1, _⟩ ?_ ?_).symm))
    · show 0 + 1 * (x 0 : ℕ) = x 0; omega
    · show 256 + 1 * (x 1 : ℕ) = 256 + x 1; omega
  · refine (congrArg p0 (at2 x (x 0) (x 1) rfl rfl)).trans ((h0 (x 0) (x 1)).trans (congrArg g (at2 _ (x 0) ⟨0 + x 1, _⟩ ?_ ?_).symm))
    · show 0 + 1 * (x 0 : ℕ) = x 0; omega
    · show 0 + 1 * (x 1 : ℕ) = 0 + x 1; omega
  · have h0 : (y 0 : ℕ) < 512 := (y 0).isLt
    have h1 : (y 1 : ℕ) < 1024 := (y 1).isLt
    rcases (by omega : 768 ≤ (y 1 : ℕ) ∨ (512 ≤ (y 1 : ℕ) ∧ (y 1 : ℕ) < 768) ∨ (256 ≤ (y 1 : ℕ) ∧ (y 1 : ℕ) < 512) ∨ (y 1 : ℕ) < 256) with h | h | h | h
    · exact ⟨_, List.mem_cons_self, (Rect.mem_set_unit (inb := inb_S512x1024_S512x256_0_768)).2 fun a => match a with
        | ⟨0, _⟩ => ⟨Nat.zero_le _, by show (y 0 : ℕ) < 0 + 512; omega⟩
        | ⟨1, _⟩ => ⟨by show 768 ≤ (y 1 : ℕ); omega, by show (y 1 : ℕ) < 768 + 256; omega⟩⟩
    · exact ⟨_, (List.mem_cons_of_mem _ List.mem_cons_self), (Rect.mem_set_unit (inb := inb_S512x1024_S512x256_0_512)).2 fun a => match a with
        | ⟨0, _⟩ => ⟨Nat.zero_le _, by show (y 0 : ℕ) < 0 + 512; omega⟩
        | ⟨1, _⟩ => ⟨by show 512 ≤ (y 1 : ℕ); omega, by show (y 1 : ℕ) < 512 + 256; omega⟩⟩
    · exact ⟨_, (List.mem_cons_of_mem _ (List.mem_cons_of_mem _ List.mem_cons_self)), (Rect.mem_set_unit (inb := inb_S512x1024_S512x256_0_256)).2 fun a => match a with
        | ⟨0, _⟩ => ⟨Nat.zero_le _, by show (y 0 : ℕ) < 0 + 512; omega⟩
        | ⟨1, _⟩ => ⟨by show 256 ≤ (y 1 : ℕ); omega, by show (y 1 : ℕ) < 256 + 256; omega⟩⟩
    · exact ⟨_, (List.mem_cons_of_mem _ (List.mem_cons_of_mem _ (List.mem_cons_of_mem _ List.mem_cons_self))), (Rect.mem_set_unit (inb := inb_S512x1024_S512x256_0_0)).2 fun a => match a with
        | ⟨0, _⟩ => ⟨Nat.zero_le _, by show (y 0 : ℕ) < 0 + 512; omega⟩
        | ⟨1, _⟩ => ⟨by show 0 ≤ (y 1 : ℕ); omega, by show (y 1 : ℕ) < 0 + 256; omega⟩⟩

/-- A load of a whole buffer after stores that cover it reads what they left. -/
theorem readCov_of_canon {κ : Kind} {sp : Space} (v : View sig κ sp S512x1024 .bf16) (L : List (View.Piece (Elt Ideal) S512x1024 .bf16))
    (g : FVec Ideal S512x1024 .bf16) (h : View.canon L = g) :
    v.readCov L (Rect.unit (s := S512x1024) ![0, 0] ![512, 1024] inb_S512x1024_S512x1024_0_0).toLoadRect = g := by
  rw [View.readCov_eq_canon', h]
  funext j
  exact congrArg g (at2 _ (j 0) (j 1) (show 0 + 1 * (j 0 : ℕ) = j 0 by omega) (show 0 + 1 * (j 1 : ℕ) = j 1 by omega) |>.trans (at2 j _ _ rfl rfl).symm)

theorem ld4_0 (acc : FVec Ideal S256x1024 .f32) (n d : Fin 256) :
    View.ld (Val := Elt Ideal) (e' := .f32) acc (Rect.unit (s := S256x1024) ![0, 0] ![256, 256] inb_S256x1024_S256x256_0_0) (ix2 n d) = acc (ix2 n ⟨0 + d, by omega⟩) :=
  congrArg acc (at2 _ _ _ (by show 0 + 1 * (n : ℕ) = n; omega) (by show 0 + 1 * (d : ℕ) = 0 + d; omega))

theorem ld4_1 (acc : FVec Ideal S256x1024 .f32) (n d : Fin 256) :
    View.ld (Val := Elt Ideal) (e' := .f32) acc (Rect.unit (s := S256x1024) ![0, 256] ![256, 256] inb_S256x1024_S256x256_0_256) (ix2 n d) = acc (ix2 n ⟨256 + d, by omega⟩) :=
  congrArg acc (at2 _ _ _ (by show 0 + 1 * (n : ℕ) = n; omega) (by show 256 + 1 * (d : ℕ) = 256 + d; omega))

theorem ld4_2 (acc : FVec Ideal S256x1024 .f32) (n d : Fin 256) :
    View.ld (Val := Elt Ideal) (e' := .f32) acc (Rect.unit (s := S256x1024) ![0, 512] ![256, 256] inb_S256x1024_S256x256_0_512) (ix2 n d) = acc (ix2 n ⟨512 + d, by omega⟩) :=
  congrArg acc (at2 _ _ _ (by show 0 + 1 * (n : ℕ) = n; omega) (by show 512 + 1 * (d : ℕ) = 512 + d; omega))

theorem ld4_3 (acc : FVec Ideal S256x1024 .f32) (n d : Fin 256) :
    View.ld (Val := Elt Ideal) (e' := .f32) acc (Rect.unit (s := S256x1024) ![0, 768] ![256, 256] inb_S256x1024_S256x256_0_768) (ix2 n d) = acc (ix2 n ⟨768 + d, by omega⟩) :=
  congrArg acc (at2 _ _ _ (by show 0 + 1 * (n : ℕ) = n; omega) (by show 768 + 1 * (d : ℕ) = 768 + d; omega))

theorem zero3 (a : Fin 1024) (b : Fin 1024) : k0_pay3 (F := Ideal) (ix2 a b) = 0 := by
  pointwise [k0_pay3]

theorem zero4 (a : Fin 1024) (b : Fin 1024) : k0_pay4 (F := Ideal) (ix2 a b) = 0 := by
  pointwise [k0_pay4]

theorem zero5 (a : Fin 256) (b : Fin 1024) : k0_pay5 (F := Ideal) (ix2 a b) = 0 := by
  pointwise [k0_pay5]

theorem zero6 (a : Fin 256) (b : Fin 1024) : k0_pay6 (F := Ideal) (ix2 a b) = 0 := by
  pointwise [k0_pay6]

theorem zero7 (a : Fin 1) (b : Fin 1024) : k0_pay7 (F := Ideal) (ix2 a b) = 0 := by
  pointwise [k0_pay7]

theorem zero8 (a : Fin 1) (b : Fin 1024) : k0_pay8 (F := Ideal) (ix2 a b) = 0 := by
  pointwise [k0_pay8]

end Cert.Kernel2Ideal.Xa

end
-- ==== Proof.XaPay.lean ====
/- What the payloads of the cross attention's backward call compute, read at one lane over any blocks. -/
module

public import proofs.«01_k».proof.Proof.Gen.Kernel2Ideal.Frame.Runs
public import Idealize.ShloMosaic.Lib.Pipeline.ValueKit
public import Idealize.ShloMosaic.Lib.Pointwise

@[expose] public section

set_option maxRecDepth 16384

noncomputable section

namespace Cert.Kernel2Ideal.Xa

open Cert.Kernel2Ideal Cert.Kernel2Ideal.Gen Idealize.ShloMosaic Idealize.ShloMosaic.TcCoe Idealize.SL.Sem

theorem do_at (dy : FVec Ideal S512x1024 .bf16) (wo : FVec Ideal S1024x1024 .bf16) (r : Fin 512) (k : Fin 1024) :
    k0_pay15 dy wo (ix2 r k) = ∑ j : Fin 1024, dy (ix2 r j) * wo (ix2 k j) := by
  pointwise [k0_pay15]

theorem q_cast (q : FVec Ideal S512x1024 .bf16) (r : Fin 512) (k : Fin 1024) : k0_pay16 q (ix2 r k) = q (ix2 r k) := by
  pointwise [k0_pay16]

theorem dv_at0 (dy : FVec Ideal S512x1024 .bf16) (wo : FVec Ideal S1024x1024 .bf16) (p : FVec Ideal S512x256 .bf16) (acc : FVec Ideal S256x256 .f32) (n d : Fin 256) :
    k0_pay19 dy wo p acc (ix2 n d) = acc (ix2 n d) + ∑ r : Fin 512, p (ix2 r n) * k0_pay15 dy wo (ix2 r ⟨0 + d, by omega⟩) := by
  simp only [Nat.zero_add]
  pointwise [k0_pay19, k0_pay17, k0_pay18]

theorem ds_at0 (dy : FVec Ideal S512x1024 .bf16) (wo : FVec Ideal S1024x1024 .bf16) (p : FVec Ideal S512x256 .bf16) (v : FVec Ideal S256x256 .bf16) (r : Fin 512) (j : Fin 256) :
    k0_pay20 dy wo p v (ix2 r j) = p (ix2 r j) * ((∑ d : Fin 256, k0_pay15 dy wo (ix2 r ⟨0 + d, by omega⟩) * v (ix2 j d))
      - ∑ k : Fin 256, (∑ d : Fin 256, k0_pay15 dy wo (ix2 r ⟨0 + d, by omega⟩) * v (ix2 k d)) * p (ix2 r k)) * Ideal.ofBits .f32 0x3D800000#32 := by
  simp only [Nat.zero_add]
  pointwise [k0_pay20, k0_pay17, k0_pay18]

theorem dq_at0 (s : FVec Ideal S512x256 .f32) (k : FVec Ideal S256x256 .bf16) (r : Fin 512) (d : Fin 256) :
    k0_pay22 s k (ix2 r d) = ∑ n : Fin 256, s (ix2 r n) * k (ix2 n d) := by
  pointwise [k0_pay22, k0_pay21]

theorem dk_at0 (q : FVec Ideal S512x1024 .bf16) (s : FVec Ideal S512x256 .f32) (acc : FVec Ideal S256x256 .f32) (n d : Fin 256) :
    k0_pay23 q s acc (ix2 n d) = acc (ix2 n d) + ∑ r : Fin 512, s (ix2 r n) * q (ix2 r ⟨0 + d, by omega⟩) := by
  simp only [Nat.zero_add]
  pointwise [k0_pay23, k0_pay21]

theorem dv_at1 (z : FVec Ideal S512x1024 .f32) (p : FVec Ideal S512x256 .bf16) (acc : FVec Ideal S256x256 .f32) (n d : Fin 256) :
    k0_pay26 z p acc (ix2 n d) = acc (ix2 n d) + ∑ r : Fin 512, p (ix2 r n) * z (ix2 r ⟨256 + d, by omega⟩) := by
  pointwise [k0_pay26, k0_pay24, k0_pay25]

theorem ds_at1 (z : FVec Ideal S512x1024 .f32) (p : FVec Ideal S512x256 .bf16) (v : FVec Ideal S256x256 .bf16) (r : Fin 512) (j : Fin 256) :
    k0_pay27 z p v (ix2 r j) = p (ix2 r j) * ((∑ d : Fin 256, z (ix2 r ⟨256 + d, by omega⟩) * v (ix2 j d))
      - ∑ k : Fin 256, (∑ d : Fin 256, z (ix2 r ⟨256 + d, by omega⟩) * v (ix2 k d)) * p (ix2 r k)) * Ideal.ofBits .f32 0x3D800000#32 := by
  pointwise [k0_pay27, k0_pay24, k0_pay25]

theorem dq_at1 (s : FVec Ideal S512x256 .f32) (k : FVec Ideal S256x256 .bf16) (r : Fin 512) (d : Fin 256) :
    k0_pay29 s k (ix2 r d) = ∑ n : Fin 256, s (ix2 r n) * k (ix2 n d) := by
  pointwise [k0_pay29, k0_pay28]

theorem dk_at1 (q : FVec Ideal S512x1024 .bf16) (s : FVec Ideal S512x256 .f32) (acc : FVec Ideal S256x256 .f32) (n d : Fin 256) :
    k0_pay30 q s acc (ix2 n d) = acc (ix2 n d) + ∑ r : Fin 512, s (ix2 r n) * q (ix2 r ⟨256 + d, by omega⟩) := by
  pointwise [k0_pay30, k0_pay28]

theorem dv_at2 (z : FVec Ideal S512x1024 .f32) (p : FVec Ideal S512x256 .bf16) (acc : FVec Ideal S256x256 .f32) (n d : Fin 256) :
    k0_pay33 z p acc (ix2 n d) = acc (ix2 n d) + ∑ r : Fin 512, p (ix2 r n) * z (ix2 r ⟨512 + d, by omega⟩) := by
  pointwise [k0_pay33, k0_pay31, k0_pay32]

theorem ds_at2 (z : FVec Ideal S512x1024 .f32) (p : FVec Ideal S512x256 .bf16) (v : FVec Ideal S256x256 .bf16) (r : Fin 512) (j : Fin 256) :
    k0_pay34 z p v (ix2 r j) = p (ix2 r j) * ((∑ d : Fin 256, z (ix2 r ⟨512 + d, by omega⟩) * v (ix2 j d))
      - ∑ k : Fin 256, (∑ d : Fin 256, z (ix2 r ⟨512 + d, by omega⟩) * v (ix2 k d)) * p (ix2 r k)) * Ideal.ofBits .f32 0x3D800000#32 := by
  pointwise [k0_pay34, k0_pay31, k0_pay32]

theorem dq_at2 (s : FVec Ideal S512x256 .f32) (k : FVec Ideal S256x256 .bf16) (r : Fin 512) (d : Fin 256) :
    k0_pay36 s k (ix2 r d) = ∑ n : Fin 256, s (ix2 r n) * k (ix2 n d) := by
  pointwise [k0_pay36, k0_pay35]

theorem dk_at2 (q : FVec Ideal S512x1024 .bf16) (s : FVec Ideal S512x256 .f32) (acc : FVec Ideal S256x256 .f32) (n d : Fin 256) :
    k0_pay37 q s acc (ix2 n d) = acc (ix2 n d) + ∑ r : Fin 512, s (ix2 r n) * q (ix2 r ⟨512 + d, by omega⟩) := by
  pointwise [k0_pay37, k0_pay35]

theorem dv_at3 (z : FVec Ideal S512x1024 .f32) (p : FVec Ideal S512x256 .bf16) (acc : FVec Ideal S256x256 .f32) (n d : Fin 256) :
    k0_pay40 z p acc (ix2 n d) = acc (ix2 n d) + ∑ r : Fin 512, p (ix2 r n) * z (ix2 r ⟨768 + d, by omega⟩) := by
  pointwise [k0_pay40, k0_pay38, k0_pay39]

theorem ds_at3 (z : FVec Ideal S512x1024 .f32) (p : FVec Ideal S512x256 .bf16) (v : FVec Ideal S256x256 .bf16) (r : Fin 512) (j : Fin 256) :
    k0_pay41 z p v (ix2 r j) = p (ix2 r j) * ((∑ d : Fin 256, z (ix2 r ⟨768 + d, by omega⟩) * v (ix2 j d))
      - ∑ k : Fin 256, (∑ d : Fin 256, z (ix2 r ⟨768 + d, by omega⟩) * v (ix2 k d)) * p (ix2 r k)) * Ideal.ofBits .f32 0x3D800000#32 := by
  pointwise [k0_pay41, k0_pay38, k0_pay39]

theorem dq_at3 (s : FVec Ideal S512x256 .f32) (k : FVec Ideal S256x256 .bf16) (r : Fin 512) (d : Fin 256) :
    k0_pay43 s k (ix2 r d) = ∑ n : Fin 256, s (ix2 r n) * k (ix2 n d) := by
  pointwise [k0_pay43, k0_pay42]

theorem dk_at3 (q : FVec Ideal S512x1024 .bf16) (s : FVec Ideal S512x256 .f32) (acc : FVec Ideal S256x256 .f32) (n d : Fin 256) :
    k0_pay44 q s acc (ix2 n d) = acc (ix2 n d) + ∑ r : Fin 512, s (ix2 r n) * q (ix2 r ⟨768 + d, by omega⟩) := by
  pointwise [k0_pay44, k0_pay42]

theorem ao_at (dy : FVec Ideal S512x1024 .bf16) (acc : FVec Ideal S1024x1024 .f32) (o : FVec Ideal S512x1024 .bf16) (a b : Fin 1024) :
    k0_pay14 dy acc o (ix2 a b) = acc (ix2 a b) + ∑ r : Fin 512, o (ix2 r a) * dy (ix2 r b) := by
  pointwise [k0_pay14]

/-- The reciprocal root mean square of a row of a block. -/
def rms {φ : FTy} (x : FVec Ideal S512x1024 φ) (r : Fin 512) : EReal :=
  Ideal.rsqrt (Ideal.div (∑ k : Fin 1024, x (ix2 r k) * x (ix2 r k)) (Ideal.ofBits .f32 0x44800000#32) + Ideal.ofBits .f32 0x358637BD#32)

theorem rms_at (x : FVec Ideal S512x1024 .f32) (r : Fin 512) : k0_pay45 (F := Ideal) x (ix2 r 0) = rms x r := by
  unfold rms
  pointwise [k0_pay45]

theorem xhat_at (x : FVec Ideal S512x1024 .f32) (r : Fin 512) (j : Fin 1024) : k0_pay46 x (ix2 r j) = x (ix2 r j) * rms x r := by
  rw [← rms_at]
  pointwise [k0_pay46]

theorem aq_at (x : FVec Ideal S512x1024 .f32) (g : FVec Ideal S1x1024 .f32) (dq : FVec Ideal S512x1024 .bf16)
    (acc : FVec Ideal S1024x1024 .f32) (a b : Fin 1024) :
    k0_pay48 (k0_pay47 x g dq acc) (ix2 a b) = acc (ix2 a b) + ∑ r : Fin 512, x (ix2 r a) * rms x r * g (ix2 0 a) * dq (ix2 r b) := by
  simp only [← xhat_at]
  pointwise [k0_pay48, k0_pay47]

theorem dg3_at (xh : FVec Ideal S512x1024 .f32) (dq : FVec Ideal S512x1024 .bf16) (wq : FVec Ideal S1024x1024 .bf16)
    (acc : FVec Ideal S1x1024 .f32) (j : Fin 1024) :
    k0_pay50 xh dq wq acc (ix2 0 j)
      = acc (ix2 0 j) + ∑ r : Fin 512, (∑ k : Fin 1024, dq (ix2 r k) * wq (ix2 j k)) * xh (ix2 r j) := by
  pointwise [k0_pay50, k0_pay49]

theorem dx_at (rr : FVec Ideal S512x1 .f32) (xh : FVec Ideal S512x1024 .f32) (dq : FVec Ideal S512x1024 .bf16) (wq : FVec Ideal S1024x1024 .bf16)
    (g : FVec Ideal S1x1024 .f32) (d : FVec Ideal S512x1024 .f32) (r : Fin 512) (j : Fin 1024) :
    k0_pay51 rr xh dq wq g d (ix2 r j) = d (ix2 r j) + rr (ix2 r 0) * ((∑ k : Fin 1024, dq (ix2 r k) * wq (ix2 j k)) * g (ix2 0 j)
      - xh (ix2 r j) * Ideal.div (∑ l : Fin 1024, (∑ k : Fin 1024, dq (ix2 r k) * wq (ix2 l k)) * g (ix2 0 l) * xh (ix2 r l))
          (Ideal.ofBits .f32 0x44800000#32)) := by
  pointwise [k0_pay51, k0_pay49]

theorem rms_y_at (y : FVec Ideal S512x1024 .bf16) (r : Fin 512) : k0_pay10 (F := Ideal) y (ix2 r 0) = rms y r := by
  unfold rms
  pointwise [k0_pay10, k0_pay9]

theorem yhat_at (y : FVec Ideal S512x1024 .bf16) (r : Fin 512) (j : Fin 1024) : k0_pay11 (F := Ideal) y (ix2 r j) = y (ix2 r j) * rms y r := by
  rw [← rms_y_at]
  pointwise [k0_pay11, k0_pay9]

theorem dg4_at (y : FVec Ideal S512x1024 .bf16) (d : FVec Ideal S512x1024 .f32) (acc : FVec Ideal S1x1024 .f32) (j : Fin 1024) :
    k0_pay12 y d acc (ix2 0 j) = acc (ix2 0 j) + ∑ r : Fin 512, d (ix2 r j) * (y (ix2 r j) * rms y r) := by
  simp only [← yhat_at]
  pointwise [k0_pay12]

theorem dy_at (y : FVec Ideal S512x1024 .bf16) (g : FVec Ideal S1x1024 .f32) (d : FVec Ideal S512x1024 .f32) (r : Fin 512) (j : Fin 1024) :
    k0_pay13 (F := Ideal) y g d (ix2 r j) = rms y r * (d (ix2 r j) * g (ix2 0 j) - y (ix2 r j) * rms y r
      * Ideal.div (∑ k : Fin 1024, d (ix2 r k) * g (ix2 0 k) * (y (ix2 r k) * rms y r)) (Ideal.ofBits .f32 0x44800000#32)) := by
  simp only [← yhat_at]
  rw [← rms_y_at]
  pointwise [k0_pay13]

end Cert.Kernel2Ideal.Xa

end
-- ==== Proof.XaPoint.lean ====
/- One point of the cross attention's backward call: what each payload is of the reference's stages. -/
module

public import proofs.«01_k».proof.Proof.XaBlock
public import proofs.«01_k».proof.Proof.XattnSum
public import proofs.«01_k».proof.Proof.XaTile
public import proofs.«01_k».proof.Proof.XaPay

@[expose] public section

set_option maxRecDepth 16384

noncomputable section

namespace Cert.Kernel2Ideal.Xa

open Cert.Kernel2Ideal Cert.Kernel2Ideal.Gen Idealize.ShloMosaic Idealize.ShloMosaic.TcCoe Idealize.SL.Sem
open Cert.Reference2Ideal.Read Cert.Reference2Ideal.Xattn

variable (m : (ℓ : Loc nD τ sig) → Buf (Elt Ideal) ℓ) (c : Dev nD) (t : Fin cfg0.N)

theorem dy_pt (H : Finite m c) (r : Fin 512) (j : Fin 1024) : dyB m c t (ix2 r j) = rdy m c (ix2 (row t r) j) := by
  unfold dyB
  rw [dy_at]
  simp only [dx2_blk m c t, g4_blk m c t]
  exact v92_at H.h0 H.h1 H.h2 H.h3 H.h4 H.h5 H.h6 H.h7 (row t r) j (fun k => iblk m c 1 t (ix2 r k)) (y_blk m c t r) rfl

theorem do_pt (H : Finite m c) (r : Fin 512) (k : Fin 1024) : doB m c t (ix2 r k) = rdo m c (ix2 (row t r) k) := by
  unfold doB rdo
  rw [do_at, v95_at]
  exact Finset.sum_congr rfl fun j _ => congrArg₂ (· * ·) (dy_pt m c t H r j) (wo_blk m c t k j)

theorem ds_pt0 (H : Finite m c) (r : Fin 512) (j : Fin 256) : dsB0 m c t (ix2 r j) = rds m c (ix3 0 (row t r) j) := by
  have e := v114_at H.h0 H.h1 H.h2 H.h3 H.h4 H.h5 H.h6 H.h7 (0 : Fin 4) (row t r) j
  have d : ∀ k : Fin 256, ∑ x : Fin 256, doB m c t (ix2 r ⟨0 + x, by omega⟩)
        * View.ld (iblk m c 9 t) (Rect.unit (s := S256x1024) ![0, 0] ![256, 256] inb_S256x1024_S256x256_0_0) (ix2 k x)
      = val_main_v98 (F := Ideal) (x0 m c) (x1 m c) (x2 m c) (x3 m c) (x4 m c) (x5 m c) (x6 m c) (x7 m c) (ix3 0 (row t r) k) := fun k =>
    (Finset.sum_congr rfl fun x _ => congrArg₂ (· * ·) (do_pt m c t H r _) (v_blk0 m c t k x)).trans (v98_at _ _ _ _ _ _ _ _ 0 (row t r) k).symm
  unfold dsB0
  rw [ds_at0]
  simp only [show k0_pay15 (dyB m c t) (iblk m c 10 t) = doB m c t from rfl]
  simp only [d, p_blk0 m c t]
  exact e

theorem ds_pt1 (H : Finite m c) (r : Fin 512) (j : Fin 256) : dsB1 m c t (ix2 r j) = rds m c (ix3 1 (row t r) j) := by
  have e := v114_at H.h0 H.h1 H.h2 H.h3 H.h4 H.h5 H.h6 H.h7 (1 : Fin 4) (row t r) j
  have d : ∀ k : Fin 256, ∑ x : Fin 256, doB m c t (ix2 r ⟨256 + x, by omega⟩)
        * View.ld (iblk m c 9 t) (Rect.unit (s := S256x1024) ![0, 256] ![256, 256] inb_S256x1024_S256x256_0_256) (ix2 k x)
      = val_main_v98 (F := Ideal) (x0 m c) (x1 m c) (x2 m c) (x3 m c) (x4 m c) (x5 m c) (x6 m c) (x7 m c) (ix3 1 (row t r) k) := fun k =>
    (Finset.sum_congr rfl fun x _ => congrArg₂ (· * ·) (do_pt m c t H r _) (v_blk1 m c t k x)).trans (v98_at _ _ _ _ _ _ _ _ 1 (row t r) k).symm
  unfold dsB1
  rw [ds_at1]
  simp only [d, p_blk1 m c t]
  exact e

theorem ds_pt2 (H : Finite m c) (r : Fin 512) (j : Fin 256) : dsB2 m c t (ix2 r j) = rds m c (ix3 2 (row t r) j) := by
  have e := v114_at H.h0 H.h1 H.h2 H.h3 H.h4 H.h5 H.h6 H.h7 (2 : Fin 4) (row t r) j
  have d : ∀ k : Fin 256, ∑ x : Fin 256, doB m c t (ix2 r ⟨512 + x, by omega⟩)
        * View.ld (iblk m c 9 t) (Rect.unit (s := S256x1024) ![0, 512] ![256, 256] inb_S256x1024_S256x256_0_512) (ix2 k x)
      = val_main_v98 (F := Ideal) (x0 m c) (x1 m c) (x2 m c) (x3 m c) (x4 m c) (x5 m c) (x6 m c) (x7 m c) (ix3 2 (row t r) k) := fun k =>
    (Finset.sum_congr rfl fun x _ => congrArg₂ (· * ·) (do_pt m c t H r _) (v_blk2 m c t k x)).trans (v98_at _ _ _ _ _ _ _ _ 2 (row t r) k).symm
  unfold dsB2
  rw [ds_at2]
  simp only [d, p_blk2 m c t]
  exact e

theorem ds_pt3 (H : Finite m c) (r : Fin 512) (j : Fin 256) : dsB3 m c t (ix2 r j) = rds m c (ix3 3 (row t r) j) := by
  have e := v114_at H.h0 H.h1 H.h2 H.h3 H.h4 H.h5 H.h6 H.h7 (3 : Fin 4) (row t r) j
  have d : ∀ k : Fin 256, ∑ x : Fin 256, doB m c t (ix2 r ⟨768 + x, by omega⟩)
        * View.ld (iblk m c 9 t) (Rect.unit (s := S256x1024) ![0, 768] ![256, 256] inb_S256x1024_S256x256_0_768) (ix2 k x)
      = val_main_v98 (F := Ideal) (x0 m c) (x1 m c) (x2 m c) (x3 m c) (x4 m c) (x5 m c) (x6 m c) (x7 m c) (ix3 3 (row t r) k) := fun k =>
    (Finset.sum_congr rfl fun x _ => congrArg₂ (· * ·) (do_pt m c t H r _) (v_blk3 m c t k x)).trans (v98_at _ _ _ _ _ _ _ _ 3 (row t r) k).symm
  unfold dsB3
  rw [ds_at3]
  simp only [d, p_blk3 m c t]
  exact e

theorem dq_pt (H : Finite m c) (r : Fin 512) (q : Fin 1024) : dqB m c t (ix2 r q) = rdq m c (ix2 (row t r) q) := by
  have e : dqB m c t = fun y => rdq m c (ix2 (row t (y 0)) (y 1)) := by
    unfold dqB
    refine readCov_of_canon _ _ _ (canon4q _ _ _ _ _ _ ?_ ?_ ?_ ?_)
    · intro r d
      rw [dq_at0]
      exact (Finset.sum_congr rfl fun n _ => congrArg₂ (· * ·) (ds_pt0 m c t H r n) (k_blk0 m c t n d)).trans
        (v121_col _ _ _ _ _ _ _ _ 0 (row t r) d).symm
    · intro r d
      rw [dq_at1]
      exact (Finset.sum_congr rfl fun n _ => congrArg₂ (· * ·) (ds_pt1 m c t H r n) (k_blk1 m c t n d)).trans
        (v121_col _ _ _ _ _ _ _ _ 1 (row t r) d).symm
    · intro r d
      rw [dq_at2]
      exact (Finset.sum_congr rfl fun n _ => congrArg₂ (· * ·) (ds_pt2 m c t H r n) (k_blk2 m c t n d)).trans
        (v121_col _ _ _ _ _ _ _ _ 2 (row t r) d).symm
    · intro r d
      rw [dq_at3]
      exact (Finset.sum_congr rfl fun n _ => congrArg₂ (· * ·) (ds_pt3 m c t H r n) (k_blk3 m c t n d)).trans
        (v121_col _ _ _ _ _ _ _ _ 3 (row t r) d).symm
  exact congrFun e (ix2 r q)

theorem rms_x (r : Fin 512) : rms (φ := .f32) (iblk m c 2 t) r = Ideal.rsqrt (Ideal.div (∑ k, x0 m c (ix2 (row t r) k) * x0 m c (ix2 (row t r) k))
    (Ideal.ofBits .f32 0x44800000#32) + Ideal.ofBits .f32 0x358637BD#32) := by
  unfold rms
  simp only [x_blk m c t]

theorem xhat_pt (r : Fin 512) (j : Fin 1024) : k0_pay46 (iblk m c 2 t) (ix2 r j) = val_main_v12 (F := Ideal) (x0 m c) (ix2 (row t r) j) := by
  rw [xhat_at, v12_at, rms_x, x_blk]

theorem dh_pt (H : Finite m c) (r : Fin 512) (j : Fin 1024) :
    ∑ k : Fin 1024, dqB m c t (ix2 r k) * iblk m c 7 t (ix2 j k) = rdh m c (ix2 (row t r) j) := by
  unfold rdh
  rw [v124_at]
  exact Finset.sum_congr rfl fun k _ => congrArg₂ (· * ·) (dq_pt m c t H r k) (wq_blk m c t j k)

/-- The gradient at the block's input. -/
theorem dx_pt (H : Finite m c) (r : Fin 512) (j : Fin 1024) : (outsAt m c t.val t.isLt).1 (ix2 r j)
    = val_main_v145 (F := Ideal) (x0 m c) (x1 m c) (x2 m c) (x3 m c) (x4 m c) (x5 m c) (x6 m c) (x7 m c) (ix2 (row t r) j) := by
  rw [dx_out, dx_at]
  simp only [dh_pt m c t H, xhat_at, rms_at, g3_blk m c t, x_blk m c t, dx2_blk m c t]
  exact v145_at H.h0 H.h1 H.h2 H.h3 H.h4 H.h5 H.h6 H.h7 (row t r) j (fun k => rdh m c (ix2 (row t r) k)) (fun k => rfl) (rms_x m c t r)

/-! ## What a point adds to each accumulator -/

/-- The gradient at the keys over the block's rows, -/
def dkT (n : Fin 256) (q : Fin 1024) : EReal := ∑ r : Fin 512, rds m c (ix3 (head q) (row t r) n) * rq m c (ix2 (row t r) q)

/-- and at the values. -/
def dvT (n : Fin 256) (q : Fin 1024) : EReal := ∑ r : Fin 512, rp m c (ix3 (head q) (row t r) n) * rdo m c (ix2 (row t r) q)

theorem dk_step (H : Finite m c) (acc : FVec Ideal S256x1024 .f32) (L : List (View.Piece (Elt Ideal) S256x1024 .f32)) (n : Fin 256) (q : Fin 1024) :
    View.canon (dkL m c t acc L) (ix2 n q) = acc (ix2 n q) + dkT m c t n q := by
  have e : View.canon (dkL m c t acc L) = fun y => acc (ix2 (y 0) (y 1)) + dkT m c t (y 0) (y 1) := by
    unfold dkL
    refine canon4 _ _ _ _ _ _ ?_ ?_ ?_ ?_
    · intro n d
      have hh : head ⟨0 + (d : ℕ), by omega⟩ = 0 := Fin.ext (by show (0 + (d : ℕ)) / 256 = 0; omega)
      rw [dk_at0, ld4_0]
      refine congrArg₂ (· + ·) rfl ?_
      show _ = ∑ r : Fin 512, rds m c (ix3 (head (⟨0 + (d : ℕ), by omega⟩ : Fin 1024)) (row t r) n) * rq m c (ix2 (row t r) ⟨0 + (d : ℕ), by omega⟩)
      rw [hh]
      exact Finset.sum_congr rfl fun r _ => congrArg₂ (· * ·) (ds_pt0 m c t H r n) ((q_cast _ r _).trans (q_blk m c t r _))
    · intro n d
      have hh : head ⟨256 + (d : ℕ), by omega⟩ = 1 := Fin.ext (by show (256 + (d : ℕ)) / 256 = 1; omega)
      rw [dk_at1, ld4_1]
      refine congrArg₂ (· + ·) rfl ?_
      show _ = ∑ r : Fin 512, rds m c (ix3 (head (⟨256 + (d : ℕ), by omega⟩ : Fin 1024)) (row t r) n) * rq m c (ix2 (row t r) ⟨256 + (d : ℕ), by omega⟩)
      rw [hh]
      exact Finset.sum_congr rfl fun r _ => congrArg₂ (· * ·) (ds_pt1 m c t H r n) ((q_cast _ r _).trans (q_blk m c t r _))
    · intro n d
      have hh : head ⟨512 + (d : ℕ), by omega⟩ = 2 := Fin.ext (by show (512 + (d : ℕ)) / 256 = 2; omega)
      rw [dk_at2, ld4_2]
      refine congrArg₂ (· + ·) rfl ?_
      show _ = ∑ r : Fin 512, rds m c (ix3 (head (⟨512 + (d : ℕ), by omega⟩ : Fin 1024)) (row t r) n) * rq m c (ix2 (row t r) ⟨512 + (d : ℕ), by omega⟩)
      rw [hh]
      exact Finset.sum_congr rfl fun r _ => congrArg₂ (· * ·) (ds_pt2 m c t H r n) ((q_cast _ r _).trans (q_blk m c t r _))
    · intro n d
      have hh : head ⟨768 + (d : ℕ), by omega⟩ = 3 := Fin.ext (by show (768 + (d : ℕ)) / 256 = 3; omega)
      rw [dk_at3, ld4_3]
      refine congrArg₂ (· + ·) rfl ?_
      show _ = ∑ r : Fin 512, rds m c (ix3 (head (⟨768 + (d : ℕ), by omega⟩ : Fin 1024)) (row t r) n) * rq m c (ix2 (row t r) ⟨768 + (d : ℕ), by omega⟩)
      rw [hh]
      exact Finset.sum_congr rfl fun r _ => congrArg₂ (· * ·) (ds_pt3 m c t H r n) ((q_cast _ r _).trans (q_blk m c t r _))
  exact congrFun e (ix2 n q)

theorem dv_step (H : Finite m c) (acc : FVec Ideal S256x1024 .f32) (L : List (View.Piece (Elt Ideal) S256x1024 .f32)) (n : Fin 256) (q : Fin 1024) :
    View.canon (dvL m c t acc L) (ix2 n q) = acc (ix2 n q) + dvT m c t n q := by
  have e : View.canon (dvL m c t acc L) = fun y => acc (ix2 (y 0) (y 1)) + dvT m c t (y 0) (y 1) := by
    unfold dvL
    refine canon4 _ _ _ _ _ _ ?_ ?_ ?_ ?_
    · intro n d
      have hh : head ⟨0 + (d : ℕ), by omega⟩ = 0 := Fin.ext (by show (0 + (d : ℕ)) / 256 = 0; omega)
      rw [dv_at0, ld4_0]
      refine congrArg₂ (· + ·) rfl ?_
      show _ = ∑ r : Fin 512, rp m c (ix3 (head (⟨0 + (d : ℕ), by omega⟩ : Fin 1024)) (row t r) n) * rdo m c (ix2 (row t r) ⟨0 + (d : ℕ), by omega⟩)
      rw [hh]
      exact Finset.sum_congr rfl fun r _ => congrArg₂ (· * ·) (p_blk0 m c t r n) (do_pt m c t H r _)
    · intro n d
      have hh : head ⟨256 + (d : ℕ), by omega⟩ = 1 := Fin.ext (by show (256 + (d : ℕ)) / 256 = 1; omega)
      rw [dv_at1, ld4_1]
      refine congrArg₂ (· + ·) rfl ?_
      show _ = ∑ r : Fin 512, rp m c (ix3 (head (⟨256 + (d : ℕ), by omega⟩ : Fin 1024)) (row t r) n) * rdo m c (ix2 (row t r) ⟨256 + (d : ℕ), by omega⟩)
      rw [hh]
      exact Finset.sum_congr rfl fun r _ => congrArg₂ (· * ·) (p_blk1 m c t r n) (do_pt m c t H r _)
    · intro n d
      have hh : head ⟨512 + (d : ℕ), by omega⟩ = 2 := Fin.ext (by show (512 + (d : ℕ)) / 256 = 2; omega)
      rw [dv_at2, ld4_2]
      refine congrArg₂ (· + ·) rfl ?_
      show _ = ∑ r : Fin 512, rp m c (ix3 (head (⟨512 + (d : ℕ), by omega⟩ : Fin 1024)) (row t r) n) * rdo m c (ix2 (row t r) ⟨512 + (d : ℕ), by omega⟩)
      rw [hh]
      exact Finset.sum_congr rfl fun r _ => congrArg₂ (· * ·) (p_blk2 m c t r n) (do_pt m c t H r _)
    · intro n d
      have hh : head ⟨768 + (d : ℕ), by omega⟩ = 3 := Fin.ext (by show (768 + (d : ℕ)) / 256 = 3; omega)
      rw [dv_at3, ld4_3]
      refine congrArg₂ (· + ·) rfl ?_
      show _ = ∑ r : Fin 512, rp m c (ix3 (head (⟨768 + (d : ℕ), by omega⟩ : Fin 1024)) (row t r) n) * rdo m c (ix2 (row t r) ⟨768 + (d : ℕ), by omega⟩)
      rw [hh]
      exact Finset.sum_congr rfl fun r _ => congrArg₂ (· * ·) (p_blk3 m c t r n) (do_pt m c t H r _)
  exact congrFun e (ix2 n q)

def aqT (a b : Fin 1024) : EReal := ∑ r : Fin 512, val_main_v15 (F := Ideal) (x0 m c) (x1 m c) (ix2 (row t r) a) * rdq m c (ix2 (row t r) b)

theorem aq_step (H : Finite m c) (acc : FVec Ideal S1024x1024 .f32) (a b : Fin 1024) :
    k0_pay48 (k0_pay47 (iblk m c 2 t) (iblk m c 6 t) (dqB m c t) acc) (ix2 a b) = acc (ix2 a b) + aqT m c t a b := by
  rw [aq_at]
  refine congrArg₂ (· + ·) rfl (Finset.sum_congr rfl fun r _ => ?_)
  rw [dq_pt m c t H, g3_blk, v15_at, ← xhat_at, xhat_pt]

def aoT (a b : Fin 1024) : EReal := ∑ r : Fin 512, ro m c (ix2 (row t r) a) * rdy m c (ix2 (row t r) b)

theorem ao_step (H : Finite m c) (acc : FVec Ideal S1024x1024 .f32) (a b : Fin 1024) :
    k0_pay14 (dyB m c t) acc (iblk m c 5 t) (ix2 a b) = acc (ix2 a b) + aoT m c t a b := by
  rw [ao_at]
  refine congrArg₂ (· + ·) rfl (Finset.sum_congr rfl fun r _ => ?_)
  rw [dy_pt m c t H, o_blk]

def dg3T (j : Fin 1024) : EReal := ∑ r : Fin 512, val_main_v12 (F := Ideal) (x0 m c) (ix2 (row t r) j) * rdh m c (ix2 (row t r) j)

theorem dg3_step (H : Finite m c) (acc : FVec Ideal S1x1024 .f32) (j : Fin 1024) :
    k0_pay50 (k0_pay46 (iblk m c 2 t)) (dqB m c t) (iblk m c 7 t) acc (ix2 0 j) = acc (ix2 0 j) + dg3T m c t j := by
  rw [dg3_at]
  refine congrArg₂ (· + ·) rfl (Finset.sum_congr rfl fun r _ => ?_)
  rw [dh_pt m c t H, xhat_pt, mul_comm]

def dg4T (j : Fin 1024) : EReal := ∑ r : Fin 512,
  val_main_v67 (F := Ideal) (x0 m c) (x1 m c) (x2 m c) (x3 m c) (x4 m c) (x5 m c) (ix2 (row t r) j) * x7 m c (ix2 (row t r) j)

theorem dg4_step (acc : FVec Ideal S1x1024 .f32) (j : Fin 1024) :
    k0_pay12 (iblk m c 1 t) (iblk m c 0 t) acc (ix2 0 j) = acc (ix2 0 j) + dg4T m c t j := by
  rw [dg4_at]
  refine congrArg₂ (· + ·) rfl (Finset.sum_congr rfl fun r _ => ?_)
  rw [dx2_blk, mul_comm]
  exact congrArg (· * _) (v67_at (x0 m c) (x1 m c) (x2 m c) (x3 m c) (x4 m c) (x5 m c) (row t r) j (fun k => iblk m c 1 t (ix2 r k)) (y_blk m c t r)).symm

end Cert.Kernel2Ideal.Xa

end
-- ==== Proof.XaFrame.lean ====
/- The cross-attention's backward call, point after point: its run and its frame. -/
module

public import proofs.«01_k».proof.Proof.XaOuts
public import Idealize.ShloMosaic.Lib.Claim
public import Idealize.ShloMosaic.Lib.Pipeline.FrameBody

@[expose] public section

set_option maxRecDepth 16384

noncomputable section

namespace Cert.Kernel2Ideal.Xa

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover -/

/-- Every index of the buffers the body always writes is stored to. -/
def Covers (L : Found F) : Prop :=
  (∀ y, ∃ p ∈ L.1, y ∈ p.1.set)
  ∧ (∀ y, ∃ p ∈ L.2.2.2.1, y ∈ p.1.set)
  ∧ (∀ y, ∃ p ∈ L.2.2.2.2.1, y ∈ p.1.set)
  ∧ (∀ y, ∃ p ∈ L.2.2.2.2.2.1, y ∈ p.1.set)
  ∧ (∀ y, ∃ p ∈ L.2.2.2.2.2.2.1, y ∈ p.1.set)
  ∧ (∀ y, ∃ p ∈ L.2.2.2.2.2.2.2.2.1, y ∈ p.1.set)
  ∧ (∀ y, ∃ p ∈ L.2.2.2.2.2.2.2.2.2, y ∈ p.1.set)

theorem coversA (c : Dev nD) (i : grid0.Coords) (A : Refs) (hc0 : cond0_0 i) (hc1 : ¬cond0_1 i) (x : Ins F) :
    Covers (runA c i A hc0 hc1 x).1 :=
  ⟨View.cover_of_tiledL _ S512x1024.size (by sl_kernel_rfl), View.cover_of_tiledBy _ ![256, 256] (by sl_kernel_rfl), View.cover_of_tiledBy _ ![256, 256] (by sl_kernel_rfl),
    View.cover_of_tiledL _ S1x1024.size (by sl_kernel_rfl), View.cover_of_tiledL _ S1x1024.size (by sl_kernel_rfl),
    View.cover_of_tiledL _ S1024x1024.size (by sl_kernel_rfl), View.cover_of_tiledL _ S1024x1024.size (by sl_kernel_rfl)⟩

theorem coversB (c : Dev nD) (i : grid0.Coords) (A : Refs) (hc0 : ¬cond0_0 i) (hc1 : ¬cond0_1 i) (x : Ins F) (dk dv : Vec F S256x1024 .f32) (dg3 dg4 : Vec F S1x1024 .f32) (aq ao : Vec F S1024x1024 .f32) :
    Covers (runB c i A hc0 hc1 x dk dv dg3 dg4 aq ao).1 :=
  ⟨View.cover_of_tiledL _ S512x1024.size (by sl_kernel_rfl), View.cover_of_tiledL _ S256x256.size (by sl_kernel_rfl), View.cover_of_tiledL _ S256x256.size (by sl_kernel_rfl),
    View.cover_of_tiledL _ S1x1024.size (by sl_kernel_rfl), View.cover_of_tiledL _ S1x1024.size (by sl_kernel_rfl),
    View.cover_of_tiledL _ S1024x1024.size (by sl_kernel_rfl), View.cover_of_tiledL _ S1024x1024.size (by sl_kernel_rfl)⟩

theorem coversC (c : Dev nD) (i : grid0.Coords) (A : Refs) (hc0 : ¬cond0_0 i) (hc1 : cond0_1 i) (x : Ins F) (dk dv : Vec F S256x1024 .f32) (dg3 dg4 : Vec F S1x1024 .f32) (aq ao : Vec F S1024x1024 .f32) :
    Covers (runC c i A hc0 hc1 x dk dv dg3 dg4 aq ao).1 :=
  ⟨View.cover_of_tiledL _ S512x1024.size (by sl_kernel_rfl), View.cover_of_tiledL _ S256x256.size (by sl_kernel_rfl), View.cover_of_tiledL _ S256x256.size (by sl_kernel_rfl),
    View.cover_of_tiledL _ S1x1024.size (by sl_kernel_rfl), View.cover_of_tiledL _ S1x1024.size (by sl_kernel_rfl),
    View.cover_of_tiledL _ S1024x1024.size (by sl_kernel_rfl), View.cover_of_tiledL _ S1024x1024.size (by sl_kernel_rfl)⟩

theorem coversC_last (c : Dev nD) (i : grid0.Coords) (A : Refs) (hc0 : ¬cond0_0 i) (hc1 : cond0_1 i) (x : Ins F) (dk dv : Vec F S256x1024 .f32) (dg3 dg4 : Vec F S1x1024 .f32) (aq ao : Vec F S1024x1024 .f32) :
    (∀ y, ∃ p ∈ (runC c i A hc0 hc1 x dk dv dg3 dg4 aq ao).1.2.1, y ∈ p.1.set) ∧ ∀ y, ∃ p ∈ (runC c i A hc0 hc1 x dk dv dg3 dg4 aq ao).1.2.2.1, y ∈ p.1.set :=
  ⟨View.cover_of_tiledL _ S1024x1024.size (by sl_kernel_rfl), View.cover_of_tiledL _ S1024x1024.size (by sl_kernel_rfl)⟩

/-- A buffer with stores that cover holds what they leave. -/
theorem stored_canon (c : Dev nD) {s : Shape} {e : EltTy} (a : Memref sig .tc .vmem s e) (L : List (View.Piece (Elt F) s e))
    (h : ∀ y, ∃ p ∈ L, y ∈ p.1.set) : stored c a L ⊢ owns (c : Thread nD τ) a fullShare (View.canon L) := by
  unfold stored owns
  iintro ⟨%f, H⟩
  iexists _; isplitr
  swap; · iexact H
  ipureintro; exact View.read_writes_eq_canon _ _ _ h

theorem stored_some (c : Dev nD) {s : Shape} {e : EltTy} (a : Memref sig .tc .vmem s e) (L : List (View.Piece (Elt F) s e)) :
    stored c a L ⊢ some_ (F := F) c a := by
  unfold stored some_ owns
  iintro ⟨%f, H⟩
  iexists _; iexists _; isplitr
  swap; · iexact H
  ipureintro; rfl

/-- At a point where a window is used its buffer is left at the point's contents. -/
theorem leaves_live {c : Dev nD} (dat : Dat τ (Elt F) Unit ℕ (UR sig nD τ) ℕ cfg0 c) (w : Fin cfg0.W) (t : Fin cfg0.N)
    (h : cfg0.idle w (cfg0.grid.coords t) = false) :
    dat.leavesExact w t = owns c ((cfg0.win w).stage (cfg0.slots t w)) fullShare (dat.after w t) := by
  unfold Dat.leavesExact; rw [h]

/-- What the body is handed at a point, the scratch and what the core owes apart, -/
def handed (c : Dev nD) (t : Fin cfg0.N) : sProp 𝕄 :=
  iprop((∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def returned (c : Dev nD) (t : Fin cfg0.N) : sProp 𝕄 :=
  iprop((dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t)

/-- The two outputs the last point writes, as a point leaves them. -/
def lasts (c : Dev nD) (t : Fin cfg0.N) : sProp 𝕄 := iprop((dats m 0 c).leavesExact 13 t ∗ (dats m 0 c).leavesExact 14 t)

/-- What the region keeps after a point. -/
theorem Phi_succ (c : Dev nD) (n : ℕ) (h : n + 1 ≤ cfg0.N) :
    Phi m c (n + 1) h = iprop(iprop(some_ (F := F) c scM0_0 ∗ owns (c : Thread nD τ) scM0_1 fullShare (outsAt m c n h).2.2.2.2.2.2.2.1
      ∗ owns (c : Thread nD τ) scM0_2 fullShare (outsAt m c n h).2.2.2.2.2.2.2.2) ∗ (∃ r, prngReg c r)) := rfl

/-- What the body's stores leave is what the point is to return. -/
theorem returned_of (c : Dev nD) (t : Fin cfg0.N) (R : sProp 𝕄) (L : Found F) (hL : Covers L) (hO : outsAt m c t.val t.isLt = contents L) :
    iprop(holds c (refs t) (ins m c t) ∗ stored c (refs t).dx L.1 ∗ lasts m c t ∗ stored c (refs t).dk L.2.2.2.1 ∗ stored c (refs t).dv L.2.2.2.2.1
      ∗ stored c (refs t).dg3 L.2.2.2.2.2.1 ∗ stored c (refs t).dg4 L.2.2.2.2.2.2.1 ∗ stored c (refs t).dqb L.2.2.2.2.2.2.2.1
      ∗ stored c (refs t).aq L.2.2.2.2.2.2.2.2.1 ∗ stored c (refs t).ao L.2.2.2.2.2.2.2.2.2 ∗ (∃ r, prngReg c r) ∗ R)
      ⊢ iprop(Phi m c (t.val + 1) t.isLt ∗ R ∗ returned m c t) := by
  obtain ⟨h12, h15, h16, h17, h18, h20, h21⟩ := hL
  rw [Phi_succ m c t.val t.isLt]
  unfold returned lasts holds
  rw [leaves_live (dats m 0 c) 0 t rfl, after_0]
  rw [leaves_live (dats m 0 c) 1 t rfl, after_1]
  rw [leaves_live (dats m 0 c) 2 t rfl, after_2]
  rw [leaves_live (dats m 0 c) 3 t rfl, after_3]
  rw [leaves_live (dats m 0 c) 4 t rfl, after_4]
  rw [leaves_live (dats m 0 c) 5 t rfl, after_5]
  rw [leaves_live (dats m 0 c) 6 t rfl, after_6]
  rw [leaves_live (dats m 0 c) 7 t rfl, after_7]
  rw [leaves_live (dats m 0 c) 8 t rfl, after_8]
  rw [leaves_live (dats m 0 c) 9 t rfl, after_9]
  rw [leaves_live (dats m 0 c) 10 t rfl, after_10]
  rw [leaves_live (dats m 0 c) 11 t rfl, after_11]
  rw [leaves_live (dats m 0 c) 12 t rfl, after_12]
  rw [leaves_live (dats m 0 c) 15 t rfl, after_15]
  rw [leaves_live (dats m 0 c) 16 t rfl, after_16]
  rw [leaves_live (dats m 0 c) 17 t rfl, after_17]
  rw [leaves_live (dats m 0 c) 18 t rfl, after_18]
  rw [hO]
  unfold contents
  dsimp only [refs, ins]
  iintro ⟨⟨H0, H1, H2, H3, H4, H5, H6, H7, H8, H9, H10, H11⟩, H12, ⟨H13, H14⟩, H15, H16, H17, H18, HS0, HS1, HS2, Hg, HR⟩
  isplitl [HS0 HS1 HS2 Hg]
  · isplitl [HS0 HS1 HS2]
    · isplitl [HS0]; · iapply (stored_some c _ _); iexact HS0
      isplitl [HS1]; · iapply (stored_canon c _ _ h20); iexact HS1
      iapply (stored_canon c _ _ h21); iexact HS2
    iexact Hg
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (stored_canon c _ _ h12); iexact H12
  isplitl [H13]; · iexact H13
  isplitl [H14]; · iexact H14
  isplitl [H15]; · iapply (stored_canon c _ _ h15); iexact H15
  isplitl [H16]; · iapply (stored_canon c _ _ h16); iexact H16
  isplitl [H17]; · iapply (stored_canon c _ _ h17); iexact H17
  iapply (stored_canon c _ _ h18); iexact H18

set_option maxHeartbeats 2000000 in
theorem soundA (c : Dev nD) (t : Fin cfg0.N) (R : sProp 𝕄) (h : t.val = 0) :
    iprop(Phi m c t.val (Nat.le_of_lt t.isLt) ∗ R ∗ handed m c t) ⊢ wp frame (wpE (defs₀ (F := F)) Variants.none c none) Set.univ (bodyAt0 t)
      (fun _ => iprop(Phi m c (t.val + 1) t.isLt ∗ R ∗ returned m c t)) := by
  unfold handed
  simp only [before_0, before_1, before_2, before_3, before_4, before_5, before_6, before_7, before_8, before_9, before_10, before_11]
  rw [Phi_zero m c _ _ h, PhiA0_eq]
  iintro ⟨⟨⟨HS0, HS1, HS2⟩, Hg⟩, HR, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runA c (grid0.coords t) (refs t) (first t h).1 (first t h).2 (ins m c t)).2 ((dats m 0 c).before 13 t d13) ((dats m 0 c).before 14 t d14) Set.univ _)
  isplitl [H0 H1 H2 H3 H4 H5 H6 H7 H8 H9 H10 H11]
  · unfold holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · unfold some_; iexists _; iexact H12
  isplitl [H13]; · iexact H13
  isplitl [H14]; · iexact H14
  isplitl [H15]; · unfold some_; iexists _; iexact H15
  isplitl [H16]; · unfold some_; iexists _; iexact H16
  isplitl [H17]; · unfold some_; iexists _; iexact H17
  isplitl [H18]; · unfold some_; iexists _; iexact H18
  isplitl [HS0]; · unfold some_; iexact HS0
  isplitl [HS1]; · unfold some_; iexact HS1
  isplitl [HS2]; · unfold some_; iexact HS2
  iintro ⟨HI, H12, H13, H14, H15, H16, H17, H18, HS0, HS1, HS2⟩
  iapply (returned_of m c t R (runA c (grid0.coords t) (refs t) (first t h).1 (first t h).2 (ins m c t)).1 (coversA c (grid0.coords t) (refs t) (first t h).1 (first t h).2 (ins m c t)) (outsAt_A m c t h))
  isplitl [HI]; · iexact HI
  isplitl [H12]; · iexact H12
  isplitl [H13 H14]
  · unfold lasts
    rw [Dat.leavesExact_idle (dats m 0 c) 13 t (idleAt0_13_A t (first t h).1 (first t h).2) (noFlush0_13_A t (first t h).1 (first t h).2)]
    rw [Dat.leavesExact_idle (dats m 0 c) 14 t (idleAt0_14_A t (first t h).1 (first t h).2) (noFlush0_14_A t (first t h).1 (first t h).2)]
    isplitl [H13]
    · iexists d13; iexact H13
    iexists d14; iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [Hg]; · iexact Hg
  iexact HR

set_option maxHeartbeats 2000000 in
theorem soundB (c : Dev nD) (t : Fin cfg0.N) (R : sProp 𝕄) (h0 : t.val ≠ 0) (h1 : t.val ≠ 15) :
    iprop(Phi m c t.val (Nat.le_of_lt t.isLt) ∗ R ∗ handed m c t) ⊢ wp frame (wpE (defs₀ (F := F)) Variants.none c none) Set.univ (bodyAt0 t)
      (fun _ => iprop(Phi m c (t.val + 1) t.isLt ∗ R ∗ returned m c t)) := by
  unfold handed
  simp only [before_0, before_1, before_2, before_3, before_4, before_5, before_6, before_7, before_8, before_9, before_10, before_11]
  have h0 : t.val ≠ 0 := h0
  simp only [before_15 m c t h0, before_16 m c t h0, before_17 m c t h0, before_18 m c t h0]
  rw [Phi_pos m c _ _ h0]
  iintro ⟨⟨⟨HS0, HS1, HS2⟩, Hg⟩, HR, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runB c (grid0.coords t) (refs t) (inner t h0 h1).1 (inner t h0 h1).2 (ins m c t) (before m c t).2.2.2.1 (before m c t).2.2.2.2.1 (before m c t).2.2.2.2.2.1 (before m c t).2.2.2.2.2.2.1 (before m c t).2.2.2.2.2.2.2.1 (before m c t).2.2.2.2.2.2.2.2).2 ((dats m 0 c).before 13 t d13) ((dats m 0 c).before 14 t d14) Set.univ _)
  isplitl [H0 H1 H2 H3 H4 H5 H6 H7 H8 H9 H10 H11]
  · unfold holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · unfold some_; iexists _; iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  iintro ⟨HI, H12, H13, H14, H15, H16, H17, H18, HS0, HS1, HS2⟩
  iapply (returned_of m c t R (runB c (grid0.coords t) (refs t) (inner t h0 h1).1 (inner t h0 h1).2 (ins m c t) (before m c t).2.2.2.1 (before m c t).2.2.2.2.1 (before m c t).2.2.2.2.2.1 (before m c t).2.2.2.2.2.2.1 (before m c t).2.2.2.2.2.2.2.1 (before m c t).2.2.2.2.2.2.2.2).1 (coversB c (grid0.coords t) (refs t) (inner t h0 h1).1 (inner t h0 h1).2 (ins m c t) (before m c t).2.2.2.1 (before m c t).2.2.2.2.1 (before m c t).2.2.2.2.2.1 (before m c t).2.2.2.2.2.2.1 (before m c t).2.2.2.2.2.2.2.1 (before m c t).2.2.2.2.2.2.2.2) (outsAt_B m c t h0 h1))
  isplitl [HI]; · iexact HI
  isplitl [H12]; · iexact H12
  isplitl [H13 H14]
  · unfold lasts
    rw [Dat.leavesExact_idle (dats m 0 c) 13 t (idleAt0_13_B t (inner t h0 h1).1 (inner t h0 h1).2) (noFlush0_13_B t (inner t h0 h1).1 (inner t h0 h1).2)]
    rw [Dat.leavesExact_idle (dats m 0 c) 14 t (idleAt0_14_B t (inner t h0 h1).1 (inner t h0 h1).2) (noFlush0_14_B t (inner t h0 h1).1 (inner t h0 h1).2)]
    isplitl [H13]
    · iexists d13; iexact H13
    iexists d14; iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [Hg]; · iexact Hg
  iexact HR

set_option maxHeartbeats 2000000 in
theorem soundC (c : Dev nD) (t : Fin cfg0.N) (R : sProp 𝕄) (h : t.val = 15) :
    iprop(Phi m c t.val (Nat.le_of_lt t.isLt) ∗ R ∗ handed m c t) ⊢ wp frame (wpE (defs₀ (F := F)) Variants.none c none) Set.univ (bodyAt0 t)
      (fun _ => iprop(Phi m c (t.val + 1) t.isLt ∗ R ∗ returned m c t)) := by
  unfold handed
  simp only [before_0, before_1, before_2, before_3, before_4, before_5, before_6, before_7, before_8, before_9, before_10, before_11]
  have h0 : t.val ≠ 0 := (by omega)
  simp only [before_15 m c t h0, before_16 m c t h0, before_17 m c t h0, before_18 m c t h0]
  rw [Phi_pos m c _ _ h0]
  iintro ⟨⟨⟨HS0, HS1, HS2⟩, Hg⟩, HR, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runC c (grid0.coords t) (refs t) (last t h).1 (last t h).2 (ins m c t) (before m c t).2.2.2.1 (before m c t).2.2.2.2.1 (before m c t).2.2.2.2.2.1 (before m c t).2.2.2.2.2.2.1 (before m c t).2.2.2.2.2.2.2.1 (before m c t).2.2.2.2.2.2.2.2).2 ((dats m 0 c).before 13 t d13) ((dats m 0 c).before 14 t d14) Set.univ _)
  isplitl [H0 H1 H2 H3 H4 H5 H6 H7 H8 H9 H10 H11]
  · unfold holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · unfold some_; iexists _; iexact H12
  isplitl [H13]; · unfold some_; iexists _; iexact H13
  isplitl [H14]; · unfold some_; iexists _; iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  iintro ⟨HI, H12, H13, H14, H15, H16, H17, H18, HS0, HS1, HS2⟩
  iapply (returned_of m c t R (runC c (grid0.coords t) (refs t) (last t h).1 (last t h).2 (ins m c t) (before m c t).2.2.2.1 (before m c t).2.2.2.2.1 (before m c t).2.2.2.2.2.1 (before m c t).2.2.2.2.2.2.1 (before m c t).2.2.2.2.2.2.2.1 (before m c t).2.2.2.2.2.2.2.2).1 (coversC c (grid0.coords t) (refs t) (last t h).1 (last t h).2 (ins m c t) (before m c t).2.2.2.1 (before m c t).2.2.2.2.1 (before m c t).2.2.2.2.2.1 (before m c t).2.2.2.2.2.2.1 (before m c t).2.2.2.2.2.2.2.1 (before m c t).2.2.2.2.2.2.2.2) (outsAt_C m c t h))
  isplitl [HI]; · iexact HI
  isplitl [H12]; · iexact H12
  isplitl [H13 H14]
  · unfold lasts
    rw [leaves_live (dats m 0 c) 13 t (liveAt0_13_C t (last t h).1 (last t h).2), after_13]
    rw [leaves_live (dats m 0 c) 14 t (liveAt0_14_C t (last t h).1 (last t h).2), after_14]
    rw [outsAt_C m c t h]
    isplitl [H13]
    · iapply (stored_canon c _ _ (coversC_last c (grid0.coords t) (refs t) (last t h).1 (last t h).2 (ins m c t) (before m c t).2.2.2.1 (before m c t).2.2.2.2.1 (before m c t).2.2.2.2.2.1 (before m c t).2.2.2.2.2.2.1 (before m c t).2.2.2.2.2.2.2.1 (before m c t).2.2.2.2.2.2.2.2).1); iexact H13
    iapply (stored_canon c _ _ (coversC_last c (grid0.coords t) (refs t) (last t h).1 (last t h).2 (ins m c t) (before m c t).2.2.2.1 (before m c t).2.2.2.2.1 (before m c t).2.2.2.2.2.1 (before m c t).2.2.2.2.2.2.1 (before m c t).2.2.2.2.2.2.2.1 (before m c t).2.2.2.2.2.2.2.2).2); iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [Hg]; · iexact Hg
  iexact HR

/-- The body at any point. -/
theorem sound (c : Dev nD) (t : Fin cfg0.N) :
    iprop((dats m 0 c).Φ t.castSucc ∗ (dats m 0 c).owesAt () t.castSucc ∗ handed m c t)
      ⊢ wp frame (wpE (defs₀ (F := F)) Variants.none c none) Set.univ (bodyAt0 t)
        (fun _ => iprop((dats m 0 c).Φ t.succ ∗ (dats m 0 c).owesAt () t.succ ∗ returned m c t)) := by
  rw [show (dats m 0 c).owesAt () t.succ = (dats m 0 c).owesAt () t.castSucc from rfl]
  rw [show (dats m 0 c).Φ t.succ = Phi m c (t.val + 1) t.isLt from rfl, Phi_castSucc m c t]
  by_cases h0 : t.val = 0
  · exact soundA m c t _ h0
  · by_cases h1 : t.val = 15
    · exact soundC m c t _ h1
    · exact soundB m c t _ h0 h1

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-- What the launch hands over is what is known before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the scratch is given back. -/
theorem hout (c : Dev nD) : (dats m 0 c).Φ (Fin.last cfg0.N) ⊢ Pipeline.ΦA spec0 c := by
  have hz : (Fin.last cfg0.N).val ≠ 0 := by rw [Fin.val_last]; have : cfg0.N = 16 := N_0; omega
  rw [show (dats m 0 c).Φ (Fin.last cfg0.N) = Phi m c (Fin.last cfg0.N).val (Nat.le_of_lt_succ (Fin.last cfg0.N).isLt) from rfl, Phi_pos m c _ _ hz, PhiA0_eq]
  unfold some_
  iintro ⟨⟨HS0, HS1, HS2⟩, Hg⟩
  isplitl [HS0 HS1 HS2]
  · isplitl [HS0]; · iexact HS0
    isplitl [HS1]; · iexists _; iexact HS1
    iexists _; iexact HS2
  iexact Hg

set_option backward.isDefEq.respectTransparency.types false in
/-- The call runs to the end, its arrays hold what the points leave, and every counter is zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.Kernel2Ideal.Xa

end
-- ==== Proof.XaValue.lean ====
/- The results of the cross attention's backward call: what is kept over the sixteen points is a sum over all rows. -/
module

public import proofs.«01_k».proof.Proof.Gen.Reference2Ideal.Run
public import proofs.«01_k».proof.Proof.Gen.Reference2Ideal.Read
public import proofs.«01_k».proof.Proof.XaPoint
public import proofs.«01_k».proof.Proof.XaFrame
public import Idealize.ShloMosaic.Lib.Claim

@[expose] public section

set_option maxRecDepth 16384

noncomputable section

namespace Cert.Kernel2Ideal.Xa

open Cert.Kernel2Ideal Cert.Kernel2Ideal.Gen Idealize.ShloMosaic Idealize.ShloMosaic.TcCoe Idealize.SL.Sem
open Cert.Reference2Ideal.Read Cert.Reference2Ideal.Xattn

variable (m : (ℓ : Loc nD τ sig) → Buf (Elt Ideal) ℓ) (c : Dev nD)

/-- The rows of the points are the rows of the array, each once. -/
theorem rows_sum (f : Fin 8192 → EReal) : ∑ t : Fin cfg0.N, ∑ r : Fin 512, f (row t r) = ∑ i, f i := by
  refine (Fin.sum_points_lanes_congr (A := 1) (L := 8192) 16 (g := fun _ l => f l) (fun t k ha hl => congrArg f (Fin.ext ?_)) N_0 rfl).trans (Fin.sum_univ_one _)
  have h : t.val < 16 := lt_of_lt_of_eq t.isLt N_0
  show (row t k : ℕ) = t.val % 16 * 512 + k.val
  unfold row
  dsimp only
  omega

/-- What starts as the first point's term and grows by each later point's is, after the last point, the sum of all. -/
theorem acc_sum {ι : Type} (f : Outs Ideal → ι → EReal) (T : Fin cfg0.N → ι → EReal)
    (h0 : ∀ t : Fin cfg0.N, t.val = 0 → ∀ i, f (outsAt m c t.val t.isLt) i = T t i)
    (hs : ∀ t : Fin cfg0.N, t.val ≠ 0 → ∀ i, f (outsAt m c t.val t.isLt) i = f (before m c t) i + T t i)
    (t : Fin cfg0.N) (ht : t.val = 15) (i : ι) : f (outsAt m c t.val t.isLt) i = ∑ p, T p i := by
  have lt (t : Fin cfg0.N) : t.val < 16 := lt_of_lt_of_eq t.isLt N_0
  refine (Pipeline.eq_sum_fin_of_reset_step_apply_last (fun n h => f (outsAt m c n h)) 16 (fun _ => 0) T (fun t h i => ?_) (fun t h i => ?_)
    (le_of_eq N_0) t (by rw [ht]; exact N_0.symm) i).trans (zero_add _)
  · rw [zero_add]
    exact h0 t (by have := lt t; omega) i
  · exact hs t (by have := lt t; omega) i

theorem dk_sum (H : Finite m c) (t : Fin cfg0.N) (ht : t.val = 15) (n : Fin 256) (q : Fin 1024) : (outsAt m c t.val t.isLt).2.2.2.1 (ix2 n q)
    = val_main_v120 (F := Ideal) (x0 m c) (x1 m c) (x2 m c) (x3 m c) (x4 m c) (x5 m c) (x6 m c) (x7 m c) (ix2 n q) := by
  refine (acc_sum m c (fun o (i : Fin 256 × Fin 1024) => o.2.2.2.1 (ix2 i.1 i.2)) (fun t i => dkT m c t i.1 i.2)
    (fun t h i => ?_) (fun t h i => ?_) t ht (n, q)).trans ?_
  · rw [dk_first m c t h, dk_step m c t H, zero5, zero_add]
  · rw [dk_next m c t h, dk_step m c t H]
  · rw [v120_at]
    exact rows_sum fun i => rds m c (ix3 (head q) i n) * rq m c (ix2 i q)

theorem dv_sum (H : Finite m c) (t : Fin cfg0.N) (ht : t.val = 15) (n : Fin 256) (q : Fin 1024) : (outsAt m c t.val t.isLt).2.2.2.2.1 (ix2 n q)
    = val_main_v119 (F := Ideal) (x0 m c) (x1 m c) (x2 m c) (x3 m c) (x4 m c) (x5 m c) (x6 m c) (x7 m c) (ix2 n q) := by
  refine (acc_sum m c (fun o (i : Fin 256 × Fin 1024) => o.2.2.2.2.1 (ix2 i.1 i.2)) (fun t i => dvT m c t i.1 i.2)
    (fun t h i => ?_) (fun t h i => ?_) t ht (n, q)).trans ?_
  · rw [dv_first m c t h, dv_step m c t H, zero6, zero_add]
  · rw [dv_next m c t h, dv_step m c t H]
  · rw [v119_at]
    exact rows_sum fun i => rp m c (ix3 (head q) i n) * rdo m c (ix2 i q)

theorem dg3_sum (H : Finite m c) (t : Fin cfg0.N) (ht : t.val = 15) (j : Fin 1024) : (outsAt m c t.val t.isLt).2.2.2.2.2.1 (ix2 0 j)
    = val_main_v148 (F := Ideal) (x0 m c) (x1 m c) (x2 m c) (x3 m c) (x4 m c) (x5 m c) (x6 m c) (x7 m c) (ix2 0 j) := by
  refine (acc_sum m c (fun o (j : Fin 1024) => o.2.2.2.2.2.1 (ix2 0 j)) (fun t j => dg3T m c t j)
    (fun t h i => ?_) (fun t h i => ?_) t ht j).trans ?_
  · rw [dg3_first m c t h, dg3_step m c t H, zero7, zero_add]
  · rw [dg3_next m c t h, dg3_step m c t H]
  · rw [v148_at]
    exact rows_sum fun i => val_main_v12 (F := Ideal) (x0 m c) (ix2 i j) * rdh m c (ix2 i j)

theorem dg4_sum (t : Fin cfg0.N) (ht : t.val = 15) (j : Fin 1024) : (outsAt m c t.val t.isLt).2.2.2.2.2.2.1 (ix2 0 j)
    = val_main_v149 (F := Ideal) (x0 m c) (x1 m c) (x2 m c) (x3 m c) (x4 m c) (x5 m c) (x7 m c) (ix2 0 j) := by
  refine (acc_sum m c (fun o (j : Fin 1024) => o.2.2.2.2.2.2.1 (ix2 0 j)) (fun t j => dg4T m c t j)
    (fun t h i => ?_) (fun t h i => ?_) t ht j).trans ?_
  · rw [dg4_first m c t h, dg4_step m c t, zero8, zero_add]
  · rw [dg4_next m c t h, dg4_step m c t]
  · rw [v149_at]
    exact rows_sum fun i => val_main_v67 (F := Ideal) (x0 m c) (x1 m c) (x2 m c) (x3 m c) (x4 m c) (x5 m c) (ix2 i j) * x7 m c (ix2 i j)

theorem dwq_sum (H : Finite m c) (t : Fin cfg0.N) (ht : t.val = 15) (a b : Fin 1024) : (outsAt m c t.val t.isLt).2.1 (ix2 a b)
    = val_main_v146 (F := Ideal) (x0 m c) (x1 m c) (x2 m c) (x3 m c) (x4 m c) (x5 m c) (x6 m c) (x7 m c) (ix2 a b) := by
  rw [dwq_last m c t ht, ← aq_next m c t (by omega)]
  refine Eq.trans (b := (outsAt m c t.val t.isLt).2.2.2.2.2.2.2.1 (ix2 a b)) (by pointwise [k0_pay1]) ?_
  refine (acc_sum m c (fun o (i : Fin 1024 × Fin 1024) => o.2.2.2.2.2.2.2.1 (ix2 i.1 i.2)) (fun t i => aqT m c t i.1 i.2)
    (fun t h i => ?_) (fun t h i => ?_) t ht (a, b)).trans ?_
  · rw [aq_first m c t h, aq_step m c t H, zero3, zero_add]
  · rw [aq_next m c t h, aq_step m c t H]
  · rw [v146_at]
    exact rows_sum fun i => val_main_v15 (F := Ideal) (x0 m c) (x1 m c) (ix2 i a) * rdq m c (ix2 i b)

theorem dwo_sum (H : Finite m c) (t : Fin cfg0.N) (ht : t.val = 15) (a b : Fin 1024) : (outsAt m c t.val t.isLt).2.2.1 (ix2 a b)
    = val_main_v147 (F := Ideal) (x0 m c) (x1 m c) (x2 m c) (x3 m c) (x4 m c) (x5 m c) (x6 m c) (x7 m c) (ix2 a b) := by
  rw [dwo_last m c t ht, ← ao_next m c t (by omega)]
  refine Eq.trans (b := (outsAt m c t.val t.isLt).2.2.2.2.2.2.2.2 (ix2 a b)) (by pointwise [k0_pay2]) ?_
  refine (acc_sum m c (fun o (i : Fin 1024 × Fin 1024) => o.2.2.2.2.2.2.2.2 (ix2 i.1 i.2)) (fun t i => aoT m c t i.1 i.2)
    (fun t h i => ?_) (fun t h i => ?_) t ht (a, b)).trans ?_
  · rw [ao_first m c t h, ao_step m c t H, zero4, zero_add]
  · rw [ao_next m c t h, ao_step m c t H]
  · rw [v147_at]
    exact rows_sum fun i => ro m c (ix2 i a) * rdy m c (ix2 i b)

/-! ## The results -/

theorem final12 (H : Finite m c) : (dats m 0 c).arrAt 12 (cfgs 0).N
    = val_main_v145 (F := Ideal) (x0 m c) (x1 m c) (x2 m c) (x3 m c) (x4 m c) (x5 m c) (x6 m c) (x7 m c) := by
  refine (dats m 0 c).arrAt_eq_of_covers 12 _ (by decide +kernel) fun t hf y => ?_
  blk_simp
  rw [after_12]
  refine (congrArg _ (eq2 y (y 0) (y 1) rfl rfl)).trans ((dx_pt m c t H (y 0) (y 1)).trans ?_)
  generalize val_main_v145 (F := Ideal) (x0 m c) (x1 m c) (x2 m c) (x3 m c) (x4 m c) (x5 m c) (x6 m c) (x7 m c) = v
  blk_point [idx t, row]

theorem final13 (H : Finite m c) : (dats m 0 c).arrAt 13 (cfgs 0).N
    = val_main_v146 (F := Ideal) (x0 m c) (x1 m c) (x2 m c) (x3 m c) (x4 m c) (x5 m c) (x6 m c) (x7 m c) := by
  refine (dats m 0 c).arrAt_eq_of_after_last 13 t0_15 (by decide +kernel) _ fun j => ?_
  blk_simp
  rw [after_13]
  refine (congrArg _ (eq2 j (j 0) (j 1) rfl rfl)).trans ((dwq_sum m c H t0_15 rfl (j 0) (j 1)).trans ?_)
  generalize val_main_v146 (F := Ideal) (x0 m c) (x1 m c) (x2 m c) (x3 m c) (x4 m c) (x5 m c) (x6 m c) (x7 m c) = v
  blk_point [idx t0_15]

theorem final14 (H : Finite m c) : (dats m 0 c).arrAt 14 (cfgs 0).N
    = val_main_v147 (F := Ideal) (x0 m c) (x1 m c) (x2 m c) (x3 m c) (x4 m c) (x5 m c) (x6 m c) (x7 m c) := by
  refine (dats m 0 c).arrAt_eq_of_after_last 14 t0_15 (by decide +kernel) _ fun j => ?_
  blk_simp
  rw [after_14]
  refine (congrArg _ (eq2 j (j 0) (j 1) rfl rfl)).trans ((dwo_sum m c H t0_15 rfl (j 0) (j 1)).trans ?_)
  generalize val_main_v147 (F := Ideal) (x0 m c) (x1 m c) (x2 m c) (x3 m c) (x4 m c) (x5 m c) (x6 m c) (x7 m c) = v
  blk_point [idx t0_15]

theorem final15 (H : Finite m c) : (dats m 0 c).arrAt 15 (cfgs 0).N
    = val_main_v120 (F := Ideal) (x0 m c) (x1 m c) (x2 m c) (x3 m c) (x4 m c) (x5 m c) (x6 m c) (x7 m c) := by
  refine (dats m 0 c).arrAt_eq_of_after_last 15 t0_15 (by decide +kernel) _ fun j => ?_
  blk_simp
  rw [after_15]
  refine (congrArg _ (eq2 j (j 0) (j 1) rfl rfl)).trans ((dk_sum m c H t0_15 rfl (j 0) (j 1)).trans ?_)
  generalize val_main_v120 (F := Ideal) (x0 m c) (x1 m c) (x2 m c) (x3 m c) (x4 m c) (x5 m c) (x6 m c) (x7 m c) = v
  blk_point [idx t0_15]

theorem final16 (H : Finite m c) : (dats m 0 c).arrAt 16 (cfgs 0).N
    = val_main_v119 (F := Ideal) (x0 m c) (x1 m c) (x2 m c) (x3 m c) (x4 m c) (x5 m c) (x6 m c) (x7 m c) := by
  refine (dats m 0 c).arrAt_eq_of_after_last 16 t0_15 (by decide +kernel) _ fun j => ?_
  blk_simp
  rw [after_16]
  refine (congrArg _ (eq2 j (j 0) (j 1) rfl rfl)).trans ((dv_sum m c H t0_15 rfl (j 0) (j 1)).trans ?_)
  generalize val_main_v119 (F := Ideal) (x0 m c) (x1 m c) (x2 m c) (x3 m c) (x4 m c) (x5 m c) (x6 m c) (x7 m c) = v
  blk_point [idx t0_15]

theorem final17 (H : Finite m c) : (dats m 0 c).arrAt 17 (cfgs 0).N
    = val_main_v148 (F := Ideal) (x0 m c) (x1 m c) (x2 m c) (x3 m c) (x4 m c) (x5 m c) (x6 m c) (x7 m c) := by
  refine (dats m 0 c).arrAt_eq_of_after_last 17 t0_15 (by decide +kernel) _ fun j => ?_
  blk_simp
  rw [after_17]
  refine (congrArg _ (eq2 j 0 (j 1) (by have := (j 0).isLt; simp at this ⊢) rfl)).trans ((dg3_sum m c H t0_15 rfl (j 1)).trans ?_)
  generalize val_main_v148 (F := Ideal) (x0 m c) (x1 m c) (x2 m c) (x3 m c) (x4 m c) (x5 m c) (x6 m c) (x7 m c) = v
  blk_point [idx t0_15]

theorem final18 : (dats m 0 c).arrAt 18 (cfgs 0).N
    = val_main_v149 (F := Ideal) (x0 m c) (x1 m c) (x2 m c) (x3 m c) (x4 m c) (x5 m c) (x7 m c) := by
  refine (dats m 0 c).arrAt_eq_of_after_last 18 t0_15 (by decide +kernel) _ fun j => ?_
  blk_simp
  rw [after_18]
  refine (congrArg _ (eq2 j 0 (j 1) (by have := (j 0).isLt; simp at this ⊢) rfl)).trans ((dg4_sum m c t0_15 rfl (j 1)).trans ?_)
  generalize val_main_v149 (F := Ideal) (x0 m c) (x1 m c) (x2 m c) (x3 m c) (x4 m c) (x5 m c) (x7 m c) = v
  blk_point [idx t0_15]

end Cert.Kernel2Ideal.Xa

end
-- ==== Proof.RealOf.lean ====
/- The test of a finite argument, read as a statement about an extended real. -/
module

public import proofs.«01_k».proof.Proof.Reals

@[expose] public section

noncomputable section

namespace Cert.Reals

open Idealize.ShloMosaic

/-- An extended real below infinity in size is a real. -/
theorem isReal_of_lt {x : EReal} (h : Ideal.cmp .olt (max x (-x)) (Ideal.ofBits .f32 0x7F800000#32) = 1#1) : IsReal x := by
  have w : Ideal.ofBits .f32 0x7F800000#32 = (⊤ : EReal) := by simp [Ideal.ofBits, Ideal.ieee]
  have l : max x (-x) < ⊤ := by
    by_contra hn
    rw [w] at h
    simp [Ideal.cmp, hn] at h
  induction x using EReal.rec with
  | bot => simp at l
  | top => simp at l
  | coe a => exact ⟨a, rfl⟩

end Cert.Reals

end
-- ==== Proof.XaClaim.lean ====
/- The cross attention's backward call and its reference: the claims of the pair. -/
module

public import proofs.«01_k».proof.Defs
public import proofs.«01_k».proof.Proof.Gen.Kernel2Ideal
public import proofs.«01_k».proof.Proof.Gen.Reference2Ideal
public import proofs.«01_k».proof.Proof.Gen.Pre_xattn_finite
public import proofs.«01_k».proof.Proof.Gen.Reference2Ideal.Run
public import proofs.«01_k».proof.Proof.Gen.Reference2Ideal.Read
public import proofs.«01_k».proof.Proof.XaValue
public import proofs.«01_k».proof.Proof.RealOf
public import Idealize.ShloMosaic.Lib.Claim

@[expose] public section

set_option maxRecDepth 16384

noncomputable section

namespace Cert.Proof

open Idealize.ShloMosaic Idealize.ShloMosaic.TcCoe Idealize.SL.Sem
open Cert.Reals (isReal_of_lt)

set_option maxHeartbeats 1600000 in
theorem xa_finite (m : (ℓ : Loc Cert.Kernel2Ideal.nD Cert.Kernel2Ideal.τ Cert.Kernel2Ideal.sig) → Buf (Elt Ideal) ℓ) (h : Cert.Pre_Kernel2Ideal_xattn_finite m)
    (c : Dev Cert.Kernel2Ideal.nD) : Cert.Kernel2Ideal.Xa.Finite m c := by
  obtain ⟨h0, h1, h2, h3, h4, h5, h6, h7⟩ := h c
  exact ⟨fun i => isReal_of_lt (congrFun h0 i), fun i => isReal_of_lt (congrFun h1 i), fun i => isReal_of_lt (congrFun h2 i), fun i => isReal_of_lt (congrFun h3 i),
    fun i => isReal_of_lt (congrFun h4 i), fun i => isReal_of_lt (congrFun h5 i), fun i => isReal_of_lt (congrFun h6 i), fun i => isReal_of_lt (congrFun h7 i)⟩

open Cert.Reference2Ideal.Read

section
open Cert.Reference2Ideal Cert.Reference2Ideal.Value

set_option maxHeartbeats 1600000 in
/-- Where the reference of the attention's backward call ends, each result as a function of the arguments. -/
theorem xa_reference_run (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r => ∀ c : Dev Cert.Reference2Ideal.nD,
      r.2.mem ((c.tc : Thread nD τ).loc main_v145) = val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v146) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v147) = val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v120) = val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v148) = val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v149) = val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run Cert.Reference2Ideal.defs _ _).mono (fun r h c => ⟨(h c).1.trans (val_main_v145_eq (StableHlo.launchContents m c)),
      (h c).2.1.trans (val_main_v146_eq (StableHlo.launchContents m c)),
      (h c).2.2.1.trans (val_main_v147_eq (StableHlo.launchContents m c)),
      (h c).2.2.2.1.trans (val_main_v120_eq (StableHlo.launchContents m c)),
      (h c).2.2.2.2.1.trans (val_main_v119_eq (StableHlo.launchContents m c)),
      (h c).2.2.2.2.2.1.trans (val_main_v148_eq (StableHlo.launchContents m c)),
      (h c).2.2.2.2.2.2.1.trans (val_main_v149_eq (StableHlo.launchContents m c)),
      (h c).2.2.2.2.2.2.2⟩)
    (Cert.Reference2Ideal.Value.run (F := Ideal) m ρ)

end

set_option maxHeartbeats 4000000 in
theorem xa_algebraic : Cert.algebraic_Kernel2Ideal_Reference2Ideal_pre_xattn_finite := by
  pair_intro
  · run_from Cert.Kernel2Ideal.Xa.run_main m g
    · exact hc.1 16
    · exact hc.1 17
    · exact hc.1 18
  · run_from xa_reference_run m' g'
    · exact (Cert.Kernel2Ideal.Xa.final12 m c (xa_finite m hpre c)).symm
    · exact (Cert.Kernel2Ideal.Xa.final13 m c (xa_finite m hpre c)).symm
    · exact (Cert.Kernel2Ideal.Xa.final14 m c (xa_finite m hpre c)).symm
    · exact (Cert.Kernel2Ideal.Xa.final15 m c (xa_finite m hpre c)).symm
    · exact (Cert.Kernel2Ideal.Xa.final16 m c (xa_finite m hpre c)).symm
    · exact (Cert.Kernel2Ideal.Xa.final17 m c (xa_finite m hpre c)).symm
    · exact (Cert.Kernel2Ideal.Xa.final18 m c).symm

/-- The reference of the attention's backward call runs and leaves its arguments and its counters alone. -/
theorem xa_reference_frame : Cert.quiescent_Reference2Ideal := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

end Cert.Proof

end
-- ==== Proof.XfValue.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Xf

open Cert.Kernel3Ideal Cert.Kernel3Ideal.Gen Idealize.ShloMosaic Idealize.ShloMosaic.TcCoe Idealize.SL.Sem
open Cert.Reference3Ideal.Read
open Idealize.ShloMosaic.Pipeline (Dat)

variable (m : (ℓ : Loc nD τ sig) → Buf (Elt Ideal) ℓ)

/-- Which block each window holds at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

theorem q_at (c : Dev nD) (t : Fin cfg0.N) (i : Fin 8192) (r k : Fin 1024) (hi : (i : ℕ) = t.val * 1024 + r) :
    k0_pay3 (F := Ideal) (iblk m c 0 t) (iblk m c 1 t) (iblk m c 2 t) (ix2 r k)
      = val_main_v13 (F := Ideal) (m ((c : Thread nD τ).loc main_arg0)) (m ((c : Thread nD τ).loc main_arg1))
          (m ((c : Thread nD τ).loc main_arg2)) (ix2 i k) := by
  pointwise [k0_pay3, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The row of the whole array that row `r` of block `t` is. -/
def row (t : Fin cfg0.N) (r : Fin 1024) : Fin 8192 := ⟨t.val * 1024 + r, by have := lt_of_lt_of_eq t.isLt N_0; omega⟩

section Ref
variable (x0 : FVec Ideal S8192x1024 .f32) (x1 : FVec Ideal S1024 .f32) (x2 : FVec Ideal S1024x1024 .f32) (x3 : FVec Ideal S256x1024 .f32)

/-- An exponential of the softmax: the score less the row's largest. -/
theorem exp_at (h : Fin 4) (i : Fin 8192) (j : Fin 256) : val_main_v26 (F := Ideal) x0 x1 x2 x3 (ix3 h i j)
    = Ideal.exp (val_main_v19 (F := Ideal) x0 x1 x2 x3 (ix3 h i j)
        - val_main_v22 (F := Ideal) x0 x1 x2 x3 (ix2 h i)) := by
  rw [val_main_v26_apply, val_main_v25_apply]
  have e : val_main_v24 (F := Ideal) x0 x1 x2 x3 (ix3 h i j) = val_main_v22 (F := Ideal) x0 x1 x2 x3 (ix2 h i) := by
    pointwise [val_main_v24, val_main_v23]
  rw [e]
  generalize val_main_v19 (F := Ideal) x0 x1 x2 x3 (ix3 h i j) = a
  generalize val_main_v22 (F := Ideal) x0 x1 x2 x3 (ix2 h i) = b
  rfl

/-- A row's largest score; that the reference also bounds it by the least number changes nothing. -/
theorem max_at (h : Fin 4) (i : Fin 8192) : val_main_v22 (F := Ideal) x0 x1 x2 x3 (ix2 h i)
    = Finset.fold max (Ideal.ofBits .f32 0xFF800000#32) (fun k : Fin 256 => val_main_v19 (F := Ideal) x0 x1 x2 x3 (ix3 h i k)) Finset.univ := by
  have e : val_main_v20 (F := Ideal) x0 x1 x2 x3 (ix2 h i)
      = Finset.fold max (Ideal.ofBits .f32 0xFF800000#32) (fun k : Fin 256 => val_main_v19 (F := Ideal) x0 x1 x2 x3 (ix3 h i k)) Finset.univ := by
    pointwise [val_main_v20, val_main_cst_3]
  have w : val_main_v21 (F := Ideal) (ix2 h i) = (⊥ : EReal) := by
    pointwise [val_main_v21, val_main_cst_4]
    exact Cert.Reals.word_neg_inf
  rw [val_main_v22_apply, w, e]
  generalize Finset.fold max (Ideal.ofBits .f32 0xFF800000#32) (fun k : Fin 256 => val_main_v19 (F := Ideal) x0 x1 x2 x3 (ix3 h i k)) Finset.univ = b
  exact max_eq_right (bot_le (a := (b : EReal)))

/-- A probability: the exponential over the row's sum. -/
theorem prob_at (h : Fin 4) (i : Fin 8192) (j : Fin 256) : val_main_v30 (F := Ideal) x0 x1 x2 x3 (ix3 h i j)
    = Ideal.div (val_main_v26 (F := Ideal) x0 x1 x2 x3 (ix3 h i j)) (∑ k : Fin 256, val_main_v26 (F := Ideal) x0 x1 x2 x3 (ix3 h i k)) := by
  pointwise [val_main_v30, val_main_v29, val_main_v28, val_main_v27, val_main_cst_5]

variable {x0 x1 x2 x3}

/-- The kernel's softmax of a row of scores that are the reference's is the reference's softmax. -/
theorem softmax_at {s : FVec Ideal S1024x256 .f32} {r : Fin 1024} (h : Fin 4) (i : Fin 8192)
    (hs : ∀ x : Fin 256, s (ix2 r x) = val_main_v19 (F := Ideal) x0 x1 x2 x3 (ix3 h i x)) (j : Fin 256) :
    k0_pay9 (F := Ideal) s (ix2 r j) = val_main_v30 (F := Ideal) x0 x1 x2 x3 (ix3 h i j) := by
  rw [prob_at]
  simp only [exp_at, max_at]
  pointwise [k0_pay9]
  simp only [hs]

end Ref

theorem eq2 {n0 n1 : ℕ} (j : (⟨2, ![n0, n1]⟩ : Shape).Idx) (a : Fin n0) (b : Fin n1) (ha : (j 0 : ℕ) = a) (hb : (j 1 : ℕ) = b) :
    j = ix2 a b :=
  funext fun k => match k with
    | ⟨0, _⟩ => Fin.ext ha
    | ⟨1, _⟩ => Fin.ext hb

/-- Four column blocks of 256 are the whole block. -/
theorem canon4 (p0 p1 p2 p3 : FVec Ideal S1024x256 .bf16) (g : FVec Ideal S1024x1024 .bf16)
    (h0 : ∀ r j, p0 (ix2 r j) = g (ix2 r ⟨j, by omega⟩)) (h1 : ∀ r j, p1 (ix2 r j) = g (ix2 r ⟨256 + j, by omega⟩))
    (h2 : ∀ r j, p2 (ix2 r j) = g (ix2 r ⟨512 + j, by omega⟩)) (h3 : ∀ r j, p3 (ix2 r j) = g (ix2 r ⟨768 + j, by omega⟩)) :
    View.canon [(⟨Rect.unit (s := S1024x1024) ![0, 768] ![1024, 256] inb_S1024x1024_S1024x256_0_768, p3⟩ : View.Piece (Elt Ideal) S1024x1024 .bf16),
      ⟨Rect.unit (s := S1024x1024) ![0, 512] ![1024, 256] inb_S1024x1024_S1024x256_0_512, p2⟩,
      ⟨Rect.unit (s := S1024x1024) ![0, 256] ![1024, 256] inb_S1024x1024_S1024x256_0_256, p1⟩,
      ⟨Rect.unit (s := S1024x1024) ![0, 0] ![1024, 256] inb_S1024x1024_S1024x256_0_0, p0⟩] = g := by
  funext y
  canon_tiles x hx
  · exact (congrArg p3 (eq2 x (x 0) (x 1) rfl rfl)).trans ((h3 (x 0) (x 1)).trans (congrArg g (eq2 y _ _ hx0 hx1).symm))
  · exact (congrArg p2 (eq2 x (x 0) (x 1) rfl rfl)).trans ((h2 (x 0) (x 1)).trans (congrArg g (eq2 y _ _ hx0 hx1).symm))
  · exact (congrArg p1 (eq2 x (x 0) (x 1) rfl rfl)).trans ((h1 (x 0) (x 1)).trans (congrArg g (eq2 y _ _ hx0 hx1).symm))
  · exact (congrArg p0 (eq2 x (x 0) (x 1) rfl rfl)).trans ((h0 (x 0) (x 1)).trans (congrArg g (eq2 y _ _ hx0 hx1).symm))

/-- A load of a whole buffer after stores that cover it reads what they left. -/
theorem readCov_of_canon {κ : Kind} {sp : Space} (v : View sig κ sp S1024x1024 .bf16) (L : List (View.Piece (Elt Ideal) S1024x1024 .bf16))
    (g : FVec Ideal S1024x1024 .bf16) (h : View.canon L = g) :
    v.readCov L (Rect.unit (s := S1024x1024) ![0, 0] ![1024, 1024] inb_S1024x1024_S1024x1024_0_0).toLoadRect = g := by
  rw [View.readCov_eq_canon', h]
  funext j
  exact congrArg g (eq2 _ (j 0) (j 1) (show 0 + 1 * (j 0 : ℕ) = j 0 by omega) (show 0 + 1 * (j 1 : ℕ) = j 1 by omega) |>.trans (eq2 j _ _ rfl rfl).symm)

/-! ## One block of rows, result by result -/

section Point
variable (c : Dev nD) (t : Fin cfg0.N)

theorem p0_at (r : Fin 1024) (j : Fin 256) :
    k0_pay4 (F := Ideal) (iblk m c 0 t) (iblk m c 1 t) (iblk m c 2 t)
        (View.ld (iblk m c 3 t) (Rect.unit ![0, 0] ![256, 256] inb_S256x1024_S256x256_0_0)) (ix2 r j)
      = val_main_v30 (F := Ideal) (m ((c : Thread nD τ).loc main_arg0)) (m ((c : Thread nD τ).loc main_arg1))
          (m ((c : Thread nD τ).loc main_arg2)) (m ((c : Thread nD τ).loc main_arg3)) (ix3 0 (row t r) j) := by
  refine softmax_at 0 (row t r) (fun x => ?_) j
  have hq := q_at m c t (row t r) r (hi := rfl)
  generalize k0_pay3 (F := Ideal) (iblk m c 0 t) (iblk m c 1 t) (iblk m c 2 t) = q at hq ⊢
  pointwise [k0_pay8, val_main_v19, val_main_v17, val_main_v14, val_main_v15, val_main_v18, val_main_cst_2]
  blk_point [iblk, V, idx t, hq]

theorem p1_at (r : Fin 1024) (j : Fin 256) :
    k0_pay6 (F := Ideal) (k0_pay3 (F := Ideal) (iblk m c 0 t) (iblk m c 1 t) (iblk m c 2 t))
        (View.ld (iblk m c 3 t) (Rect.unit ![0, 256] ![256, 256] inb_S256x1024_S256x256_0_256)) (ix2 r j)
      = val_main_v30 (F := Ideal) (m ((c : Thread nD τ).loc main_arg0)) (m ((c : Thread nD τ).loc main_arg1))
          (m ((c : Thread nD τ).loc main_arg2)) (m ((c : Thread nD τ).loc main_arg3)) (ix3 1 (row t r) j) := by
  refine softmax_at 1 (row t r) (fun x => ?_) j
  have hq := q_at m c t (row t r) r (hi := rfl)
  generalize k0_pay3 (F := Ideal) (iblk m c 0 t) (iblk m c 1 t) (iblk m c 2 t) = q at hq ⊢
  pointwise [k0_pay8, val_main_v19, val_main_v17, val_main_v14, val_main_v15, val_main_v18, val_main_cst_2]
  blk_point [iblk, V, idx t, hq]

theorem p2_at (r : Fin 1024) (j : Fin 256) :
    k0_pay9 (F := Ideal) (k0_pay8 (F := Ideal) (k0_pay3 (F := Ideal) (iblk m c 0 t) (iblk m c 1 t) (iblk m c 2 t))
        (View.ld (iblk m c 3 t) (Rect.unit ![0, 512] ![256, 256] inb_S256x1024_S256x256_0_512))) (ix2 r j)
      = val_main_v30 (F := Ideal) (m ((c : Thread nD τ).loc main_arg0)) (m ((c : Thread nD τ).loc main_arg1))
          (m ((c : Thread nD τ).loc main_arg2)) (m ((c : Thread nD τ).loc main_arg3)) (ix3 2 (row t r) j) := by
  refine softmax_at 2 (row t r) (fun x => ?_) j
  have hq := q_at m c t (row t r) r (hi := rfl)
  generalize k0_pay3 (F := Ideal) (iblk m c 0 t) (iblk m c 1 t) (iblk m c 2 t) = q at hq ⊢
  pointwise [k0_pay8, val_main_v19, val_main_v17, val_main_v14, val_main_v15, val_main_v18, val_main_cst_2]
  blk_point [iblk, V, idx t, hq]

theorem p3_at (r : Fin 1024) (j : Fin 256) :
    k0_pay11 (F := Ideal) (k0_pay3 (F := Ideal) (iblk m c 0 t) (iblk m c 1 t) (iblk m c 2 t))
        (View.ld (iblk m c 3 t) (Rect.unit ![0, 768] ![256, 256] inb_S256x1024_S256x256_0_768)) (ix2 r j)
      = val_main_v30 (F := Ideal) (m ((c : Thread nD τ).loc main_arg0)) (m ((c : Thread nD τ).loc main_arg1))
          (m ((c : Thread nD τ).loc main_arg2)) (m ((c : Thread nD τ).loc main_arg3)) (ix3 3 (row t r) j) := by
  refine softmax_at 3 (row t r) (fun x => ?_) j
  have hq := q_at m c t (row t r) r (hi := rfl)
  generalize k0_pay3 (F := Ideal) (iblk m c 0 t) (iblk m c 1 t) (iblk m c 2 t) = q at hq ⊢
  pointwise [k0_pay8, val_main_v19, val_main_v17, val_main_v14, val_main_v15, val_main_v18, val_main_cst_2]
  blk_point [iblk, V, idx t, hq]

theorem o0_at (r : Fin 1024) (j : Fin 256) :
    k0_pay5 (F := Ideal) (k0_pay4 (F := Ideal) (iblk m c 0 t) (iblk m c 1 t) (iblk m c 2 t)
        (View.ld (iblk m c 3 t) (Rect.unit ![0, 0] ![256, 256] inb_S256x1024_S256x256_0_0)))
        (View.ld (iblk m c 4 t) (Rect.unit ![0, 0] ![256, 256] inb_S256x1024_S256x256_0_0)) (ix2 r j)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (row t r) ⟨j, by omega⟩) := by
  have hp := p0_at m c t r
  unfold k0_pay5
  generalize k0_pay4 (F := Ideal) (iblk m c 0 t) (iblk m c 1 t) (iblk m c 2 t)
        (View.ld (iblk m c 3 t) (Rect.unit ![0, 0] ![256, 256] inb_S256x1024_S256x256_0_0)) = p at hp ⊢
  pointwise [val_main_v33, val_main_v32, val_main_v31, val_main_v16]
  refine Finset.sum_congr rfl fun x _ => ?_
  rw [hp, mul_comm]
  generalize val_main_v30 (F := Ideal) (m ((c : Thread nD τ).loc main_arg0)) (m ((c : Thread nD τ).loc main_arg1)) (m ((c : Thread nD τ).loc main_arg2)) (m ((c : Thread nD τ).loc main_arg3)) = p'
  blk_point [iblk, V, idx t]

theorem o1_at (r : Fin 1024) (j : Fin 256) :
    k0_pay7 (F := Ideal) (k0_pay3 (F := Ideal) (iblk m c 0 t) (iblk m c 1 t) (iblk m c 2 t)) (View.ld (iblk m c 3 t) (Rect.unit ![0, 256] ![256, 256] inb_S256x1024_S256x256_0_256))
        (View.ld (iblk m c 4 t) (Rect.unit ![0, 256] ![256, 256] inb_S256x1024_S256x256_0_256)) (ix2 r j)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (row t r) ⟨256 + j, by omega⟩) := by
  have hp := p1_at m c t r
  unfold k0_pay7
  generalize k0_pay6 (F := Ideal) (k0_pay3 (F := Ideal) (iblk m c 0 t) (iblk m c 1 t) (iblk m c 2 t))
        (View.ld (iblk m c 3 t) (Rect.unit ![0, 256] ![256, 256] inb_S256x1024_S256x256_0_256)) = p at hp ⊢
  pointwise [val_main_v33, val_main_v32, val_main_v31, val_main_v16]
  refine Finset.sum_congr rfl fun x _ => ?_
  rw [hp, mul_comm]
  generalize val_main_v30 (F := Ideal) (m ((c : Thread nD τ).loc main_arg0)) (m ((c : Thread nD τ).loc main_arg1)) (m ((c : Thread nD τ).loc main_arg2)) (m ((c : Thread nD τ).loc main_arg3)) = p'
  blk_point [iblk, V, idx t]

theorem o2_at (r : Fin 1024) (j : Fin 256) :
    k0_pay10 (F := Ideal) (k0_pay8 (F := Ideal) (k0_pay3 (F := Ideal) (iblk m c 0 t) (iblk m c 1 t) (iblk m c 2 t))
        (View.ld (iblk m c 3 t) (Rect.unit ![0, 512] ![256, 256] inb_S256x1024_S256x256_0_512))) (View.ld (iblk m c 4 t) (Rect.unit ![0, 512] ![256, 256] inb_S256x1024_S256x256_0_512)) (ix2 r j)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (row t r) ⟨512 + j, by omega⟩) := by
  have hp := p2_at m c t r
  unfold k0_pay10
  generalize k0_pay9 (F := Ideal) (k0_pay8 (F := Ideal) (k0_pay3 (F := Ideal) (iblk m c 0 t) (iblk m c 1 t) (iblk m c 2 t))
        (View.ld (iblk m c 3 t) (Rect.unit ![0, 512] ![256, 256] inb_S256x1024_S256x256_0_512))) = p at hp ⊢
  pointwise [val_main_v33, val_main_v32, val_main_v31, val_main_v16]
  refine Finset.sum_congr rfl fun x _ => ?_
  rw [hp, mul_comm]
  generalize val_main_v30 (F := Ideal) (m ((c : Thread nD τ).loc main_arg0)) (m ((c : Thread nD τ).loc main_arg1)) (m ((c : Thread nD τ).loc main_arg2)) (m ((c : Thread nD τ).loc main_arg3)) = p'
  blk_point [iblk, V, idx t]

theorem o3_at (r : Fin 1024) (j : Fin 256) :
    k0_pay12 (F := Ideal) (k0_pay3 (F := Ideal) (iblk m c 0 t) (iblk m c 1 t) (iblk m c 2 t)) (View.ld (iblk m c 3 t) (Rect.unit ![0, 768] ![256, 256] inb_S256x1024_S256x256_0_768))
        (View.ld (iblk m c 4 t) (Rect.unit ![0, 768] ![256, 256] inb_S256x1024_S256x256_0_768)) (ix2 r j)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 (row t r) ⟨768 + j, by omega⟩) := by
  have hp := p3_at m c t r
  unfold k0_pay12
  generalize k0_pay11 (F := Ideal) (k0_pay3 (F := Ideal) (iblk m c 0 t) (iblk m c 1 t) (iblk m c 2 t))
        (View.ld (iblk m c 3 t) (Rect.unit ![0, 768] ![256, 256] inb_S256x1024_S256x256_0_768)) = p at hp ⊢
  pointwise [val_main_v33, val_main_v32, val_main_v31, val_main_v16]
  refine Finset.sum_congr rfl fun x _ => ?_
  rw [hp, mul_comm]
  generalize val_main_v30 (F := Ideal) (m ((c : Thread nD τ).loc main_arg0)) (m ((c : Thread nD τ).loc main_arg1)) (m ((c : Thread nD τ).loc main_arg2)) (m ((c : Thread nD τ).loc main_arg3)) = p'
  blk_point [iblk, V, idx t]

/-- What the output projection's row is, from the attention's rows. -/
theorem y_at (o : FVec Ideal S1024x1024 .bf16) (r k : Fin 1024)
    (ho : ∀ k, o (ix2 r k) = val_main_v33 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 (row t r) k)) :
    k0_pay1 (F := Ideal) o (iblk m c 5 t) (ix2 r k)
      = val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 (row t r) k) := by
  pointwise [k0_pay1, val_main_v34]
  generalize val_main_v33 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) = o' at ho ⊢
  blk_point [iblk, V, idx t, ho]

/-- The rows of the attention's output. -/
def oRows : FVec Ideal S1024x1024 .bf16 := fun y => val_main_v33 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1))

end Point

/-! ## The result arrays -/

theorem final7 (c : Dev nD) : (dats m 0 c).arrAt 7 (cfgs 0).N = val_main_v37 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  unfold outsAt0
  frame_out
  refine (congrArg _ (eq2 y (y 0) (y 1) rfl rfl)).trans ((q_at m c t (row t (y 0)) (y 0) (y 1) rfl).trans ?_)
  pointwise [val_main_v37]
  generalize val_main_v13 (F := Ideal) (m ((c : Thread nD τ).loc main_arg0)) (m ((c : Thread nD τ).loc main_arg1)) (m ((c : Thread nD τ).loc main_arg2)) = q
  blk_point [idx t, row]

theorem final8 (c : Dev nD) : (dats m 0 c).arrAt 8 (cfgs 0).N = val_main_v38 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 8 _ (by decide +kernel) fun t hf y => ?_
  blk_simp
  rw [after0_8]
  unfold outsAt0
  frame_out
  rw [canon4 _ _ _ _ (fun y => val_main_v38 (F := Ideal) (m ((c : Thread nD τ).loc main_arg0)) (m ((c : Thread nD τ).loc main_arg1)) (m ((c : Thread nD τ).loc main_arg2))
          (m ((c : Thread nD τ).loc main_arg3)) (ix2 (row t (y 0)) (y 1)))]
  · generalize val_main_v38 (F := Ideal) (m ((c : Thread nD τ).loc main_arg0)) (m ((c : Thread nD τ).loc main_arg1)) (m ((c : Thread nD τ).loc main_arg2))
          (m ((c : Thread nD τ).loc main_arg3)) = p
    blk_point [idx t, row]
  · intro r j
    refine (p0_at m c t r j).trans ?_
    pointwise [val_main_v38, val_main_v36, val_main_v35]
    generalize val_main_v30 (F := Ideal) (m ((c : Thread nD τ).loc main_arg0)) (m ((c : Thread nD τ).loc main_arg1)) (m ((c : Thread nD τ).loc main_arg2))
          (m ((c : Thread nD τ).loc main_arg3)) = p
    blk_point []
  · intro r j
    refine (p1_at m c t r j).trans ?_
    pointwise [val_main_v38, val_main_v36, val_main_v35]
    generalize val_main_v30 (F := Ideal) (m ((c : Thread nD τ).loc main_arg0)) (m ((c : Thread nD τ).loc main_arg1)) (m ((c : Thread nD τ).loc main_arg2))
          (m ((c : Thread nD τ).loc main_arg3)) = p
    blk_point []
  · intro r j
    refine (p2_at m c t r j).trans ?_
    pointwise [val_main_v38, val_main_v36, val_main_v35]
    generalize val_main_v30 (F := Ideal) (m ((c : Thread nD τ).loc main_arg0)) (m ((c : Thread nD τ).loc main_arg1)) (m ((c : Thread nD τ).loc main_arg2))
          (m ((c : Thread nD τ).loc main_arg3)) = p
    blk_point []
  · intro r j
    refine (p3_at m c t r j).trans ?_
    pointwise [val_main_v38, val_main_v36, val_main_v35]
    generalize val_main_v30 (F := Ideal) (m ((c : Thread nD τ).loc main_arg0)) (m ((c : Thread nD τ).loc main_arg1)) (m ((c : Thread nD τ).loc main_arg2))
          (m ((c : Thread nD τ).loc main_arg3)) = p
    blk_point []

theorem final9 (c : Dev nD) : (dats m 0 c).arrAt 9 (cfgs 0).N = val_main_v39 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 9 _ (by decide +kernel) fun t hf y => ?_
  blk_simp
  rw [after0_9]
  unfold outsAt0
  frame_out
  refine (congrFun (canon4 _ _ _ _ (oRows m c t) (o0_at m c t) (o1_at m c t) (o2_at m c t) (o3_at m c t)) y).trans ?_
  unfold oRows
  pointwise [val_main_v39]
  generalize val_main_v33 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) = o
  blk_point [idx t, row]

theorem final10 (c : Dev nD) : (dats m 0 c).arrAt 10 (cfgs 0).N = val_main_v40 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  unfold outsAt0
  frame_out
  refine (congrArg (fun o => k0_pay1 (F := Ideal) o (iblk m c 5 t) y) (readCov_of_canon _ _ _
    (canon4 _ _ _ _ (oRows m c t) (o0_at m c t) (o1_at m c t) (o2_at m c t) (o3_at m c t)))).trans ?_
  refine (congrArg _ (eq2 y (y 0) (y 1) rfl rfl)).trans ((y_at m c t _ (y 0) (y 1) fun k => rfl).trans ?_)
  pointwise [val_main_v40]
  generalize val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) = o
  blk_point [idx t, row]

theorem final11 (c : Dev nD) : (dats m 0 c).arrAt 11 (cfgs 0).N = val_main_v54 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 11 _ (by decide +kernel) fun t hf y => ?_
  blk_simp
  rw [after0_11]
  unfold outsAt0
  frame_out
  refine (congrArg (fun o => k0_pay2 (F := Ideal) (iblk m c 0 t) o (iblk m c 5 t) (iblk m c 6 t) y) (readCov_of_canon _ _ _
    (canon4 _ _ _ _ (oRows m c t) (o0_at m c t) (o1_at m c t) (o2_at m c t) (o3_at m c t)))).trans ?_
  have hy := fun k => y_at m c t (oRows m c t) (y 0) k fun k => rfl
  unfold k0_pay2
  generalize k0_pay1 (F := Ideal) _ _ = yb at hy ⊢
  refine (congrArg _ (eq2 y (y 0) (y 1) rfl rfl)).trans ?_
  pointwise [val_main_v54, val_main_v53, val_main_v52, val_main_v51, val_main_v50, val_main_v49, val_main_v48, val_main_v47,
    val_main_v46, val_main_v45, val_main_v44, val_main_v43, val_main_v42, val_main_v41, val_main_cst_6, val_main_cst_7, val_main_cst_8]
  have hy' := (congrArg yb (eq2 y (y 0) (y 1) rfl rfl)).trans (hy (y 1))
  simp only [hy, hy']
  generalize val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) = o
  blk_point [iblk, V, idx t, row]

end Cert.Kernel3Ideal.Xf

namespace Cert.Proof

open Idealize.ShloMosaic Idealize.ShloMosaic.TcCoe Idealize.SL.Sem
open Cert.Kernel3Ideal.Gen Cert.Reference3Ideal.Read

set_option maxHeartbeats 1600000 in
theorem xf_algebraic : Cert.algebraic_Kernel3Ideal_Reference3Ideal := by
  pair_intro
  · run_from Cert.Kernel3Ideal.Gen.run_main m g
  · run_from Cert.Reference3Ideal.Value.run m' g'
    · exact (Cert.Kernel3Ideal.Xf.final7 m c).symm
    · simp only [val_main_v38_eq m' c, hagree c]
      exact (Cert.Kernel3Ideal.Xf.final8 m c).symm
    · simp only [val_main_v39_eq m' c, hagree c]
      exact (Cert.Kernel3Ideal.Xf.final9 m c).symm
    · simp only [val_main_v40_eq m' c, hagree c]
      exact (Cert.Kernel3Ideal.Xf.final10 m c).symm
    · simp only [val_main_v54_eq m' c, hagree c]
      exact (Cert.Kernel3Ideal.Xf.final11 m c).symm

/-- The reference of the cross-attention runs and leaves its arguments and its counters alone. -/
theorem xf_reference_frame : Cert.quiescent_Reference3Ideal := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

end Cert.Proof

end
-- ==== Proof.FfOut.lean ====
/- The feed-forward's backward call at one block of rows: what each output and scratch holds, in terms of the blocks read. -/
module

public import proofs.«01_k».proof.Proof.Gen.Kernel4Ideal.Value
public import Idealize.ShloMosaic.Lib.Pipeline.ReadBack
public import Idealize.ShloMosaic.Lib.Pipeline.ValueKit

@[expose] public section

set_option maxRecDepth 16384

noncomputable section

namespace Cert.Kernel4Ideal.Ffn

open Cert.Kernel4Ideal Cert.Kernel4Ideal.Gen Idealize.ShloMosaic Idealize.ShloMosaic.TcCoe Idealize.SL.Sem

/-- The gradient at the convolution's result over a block of the gate's columns. -/
def gradG (dy : FVec Ideal S256x1024 .bf16) (cg cv : FVec Ideal S256x1408 .bf16) (w : FVec Ideal S1408x1024 .bf16) : FVec Ideal S256x1408 .f32 :=
  k0_pay60 dy (k0_pay55 cg) (k0_pay56 cv) (k0_pay57 cg) w

/-- The same over a block of the values' columns. -/
def gradV (dy : FVec Ideal S256x1024 .bf16) (cg : FVec Ideal S256x1408 .bf16) (w : FVec Ideal S1408x1024 .bf16) : FVec Ideal S256x1408 .f32 :=
  k0_pay61 dy (k0_pay55 cg) (k0_pay57 cg) w

/-- The rows of du that only the block itself enters. -/
def duTop (D : FVec Ideal S256x1408 .f32) (w0 w1 w2 : FVec Ideal S1x1408 .f32) (S : FVec Ideal S512x256 .bf16) : FVec Ideal S256x1408 .bf16 :=
  k0_pay53 D w0 w1 w2 (k0_pay40 D S) (k0_pay41 D S)

/-- The last rows of du, the next rows' gradient `a`, `b` added. -/
def duBot (D : FVec Ideal S256x1408 .f32) (w0 w1 w2 : FVec Ideal S1x1408 .f32) (S : FVec Ideal S512x256 .bf16) (a b : FVec Ideal S1x1408 .f32) :
    FVec Ideal S16x1408 .bf16 :=
  k0_pay54 D w0 w1 w2 (k0_pay40 D S) (k0_pay41 D S) (k0_pay42 a) (k0_pay28 a b)

/-- The filter's gradient, one row each. -/
def dwRow2 (D : FVec Ideal S256x1408 .f32) (u : FVec Ideal S256x1408 .bf16) (acc : FVec Ideal S1x1408 .f32) : FVec Ideal S1x1408 .f32 :=
  k0_pay49 D u acc

def dwRow1 (D : FVec Ideal S256x1408 .f32) (S : FVec Ideal S512x256 .bf16) (a : FVec Ideal S1x1408 .f32) (u : FVec Ideal S256x1408 .bf16)
    (ut : FVec Ideal S16x1408 .bf16) (acc : FVec Ideal S1x1408 .f32) : FVec Ideal S1x1408 .f32 :=
  k0_pay50 (k0_pay40 D S) (k0_pay42 a) u ut acc

def dwRow0 (D : FVec Ideal S256x1408 .f32) (S : FVec Ideal S512x256 .bf16) (a b : FVec Ideal S1x1408 .f32) (u : FVec Ideal S256x1408 .bf16)
    (ut : FVec Ideal S16x1408 .bf16) (acc : FVec Ideal S1x1408 .f32) : FVec Ideal S1x1408 .f32 :=
  k0_pay34 (k0_pay41 D S) (k0_pay28 a b) u ut acc

/-- The matrix whose product with a block moves its rows up by one, and by two. -/
def shift : FVec Ideal S512x256 .bf16 :=
  View.canon [(⟨Rect.unit (s := S512x256) ![256, 0] ![256, 256] inb_S512x256_S256x256_256_0, k0_pay5 (F := Ideal)⟩ : View.Piece (Elt Ideal) S512x256 .bf16), (⟨Rect.unit (s := S512x256) ![0, 0] ![256, 256] inb_S512x256_S256x256_0_0, k0_pay4 (F := Ideal)⟩ : View.Piece (Elt Ideal) S512x256 .bf16)]

theorem shift_read (v : View sig .tc .vmem S512x256 .bf16) (L : List (View.Piece (Elt Ideal) S512x256 .bf16)) :
    v.readCov L (Rect.unit (s := S512x256) ![0, 0] ![512, 256] inb_S512x256_S512x256_0_0).toLoadRect = View.canon L := by
  rw [View.readCov_eq_canon']
  funext j
  refine congrArg _ (funext fun k => match k with
    | ⟨0, _⟩ => Fin.ext (by show 0 + 1 * (j 0 : ℕ) = j 0; omega)
    | ⟨1, _⟩ => Fin.ext (by show 0 + 1 * (j 1 : ℕ) = j 1; omega))

theorem du_read (v : View sig .tc .vmem S256x5632 .bf16) (L : List (View.Piece (Elt Ideal) S256x5632 .bf16)) :
    v.readCov L (Rect.unit (s := S256x5632) ![0, 0] ![256, 5632] inb_S256x5632_S256x5632_0_0).toLoadRect = View.canon L := by
  rw [View.readCov_eq_canon']
  funext j
  refine congrArg _ (funext fun k => match k with
    | ⟨0, _⟩ => Fin.ext (by show 0 + 1 * (j 0 : ℕ) = j 0; omega)
    | ⟨1, _⟩ => Fin.ext (by show 0 + 1 * (j 1 : ℕ) = j 1; omega))

/-- A buffer that held `A`, after stores: the stores over a store of `A`. -/
theorem read_over (M : Memref sig .tc .vmem S8x5632 .f32) (hM : M.IsWhole) (A : FVec Ideal S8x5632 .f32) :
    ∀ L : List (View.Piece (Elt Ideal) S8x5632 .f32),
      M.view.read (Elt Ideal) (M.view.writes (Elt Ideal) (hM.unread A) L) = View.canon (L ++ [(⟨Rect.unit (s := S8x5632) ![0, 0] ![8, 5632] inb_S8x5632_S8x5632_0_0, A⟩ : View.Piece (Elt Ideal) S8x5632 .f32)])
  | [] => by
    rw [View.writes_nil, hM.read_unread]
    exact (View.canon_unit_zero (Val := Elt Ideal) (e := .f32) (S := S8x5632) (off := ![0, 0]) (funext fun k => match k with | ⟨0, _⟩ => rfl | ⟨1, _⟩ => rfl) _ _).symm
  | p :: L => by
    funext y
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy]
      exact congrFun (read_over M hM A L) y

theorem keep_read (A : FVec Ideal S8x5632 .f32) : View.read (Elt Ideal) (View.whole cc0_scratch0) ((Memref.isWhole_whole cc0_scratch0).unread A) = A :=
  Memref.IsWhole.read_unread (Val := Elt Ideal) (Memref.isWhole_whole cc0_scratch0) A

theorem shift_keep (A : FVec Ideal S512x256 .bf16) : View.read (Elt Ideal) (View.whole cc0_scratch1) ((Memref.isWhole_whole cc0_scratch1).unread A) = A :=
  Memref.IsWhole.read_unread (Val := Elt Ideal) (Memref.isWhole_whole cc0_scratch1) A

variable (m : (ℓ : Loc nD τ sig) → Buf (Elt Ideal) ℓ) (c : Dev nD) (t : Fin cfg0.N)

/-- The gradient at the down projection over the block's rows. -/
def dyb : FVec Ideal S256x1024 .bf16 := k0_pay13 (iblk m c 1 t) (iblk m c 9 t) (iblk m c 0 t)

/-- The saved convolution's columns from 0 on. -/
def cb0 : FVec Ideal S256x1408 .bf16 := View.ld (Val := Elt Ideal) (e' := .bf16) (iblk m c 4 t) (Rect.unit (s := S256x5632) ![0, 0] ![256, 1408] inb_S256x5632_S256x1408_0_0)

/-- The saved convolution's columns from 1408 on. -/
def cb1 : FVec Ideal S256x1408 .bf16 := View.ld (Val := Elt Ideal) (e' := .bf16) (iblk m c 4 t) (Rect.unit (s := S256x5632) ![0, 1408] ![256, 1408] inb_S256x5632_S256x1408_0_1408)

/-- The saved convolution's columns from 2816 on. -/
def cb2 : FVec Ideal S256x1408 .bf16 := View.ld (Val := Elt Ideal) (e' := .bf16) (iblk m c 4 t) (Rect.unit (s := S256x5632) ![0, 2816] ![256, 1408] inb_S256x5632_S256x1408_0_2816)

/-- The saved convolution's columns from 4224 on. -/
def cb3 : FVec Ideal S256x1408 .bf16 := View.ld (Val := Elt Ideal) (e' := .bf16) (iblk m c 4 t) (Rect.unit (s := S256x5632) ![0, 4224] ![256, 1408] inb_S256x5632_S256x1408_0_4224)

/-- The saved up projection's columns from 0 on, and its last rows. -/
def ub0 : FVec Ideal S256x1408 .bf16 := View.ld (Val := Elt Ideal) (e' := .bf16) (iblk m c 3 t) (Rect.unit (s := S256x5632) ![0, 0] ![256, 1408] inb_S256x5632_S256x1408_0_0)
def ut0 : FVec Ideal S16x1408 .bf16 := View.ld (Val := Elt Ideal) (e' := .bf16) (iblk m c 3 t) (Rect.unit (s := S256x5632) ![240, 0] ![16, 1408] inb_S256x5632_S16x1408_240_0)

/-- The saved up projection's columns from 1408 on, and its last rows. -/
def ub1 : FVec Ideal S256x1408 .bf16 := View.ld (Val := Elt Ideal) (e' := .bf16) (iblk m c 3 t) (Rect.unit (s := S256x5632) ![0, 1408] ![256, 1408] inb_S256x5632_S256x1408_0_1408)
def ut1 : FVec Ideal S16x1408 .bf16 := View.ld (Val := Elt Ideal) (e' := .bf16) (iblk m c 3 t) (Rect.unit (s := S256x5632) ![240, 1408] ![16, 1408] inb_S256x5632_S16x1408_240_1408)

/-- The saved up projection's columns from 2816 on, and its last rows. -/
def ub2 : FVec Ideal S256x1408 .bf16 := View.ld (Val := Elt Ideal) (e' := .bf16) (iblk m c 3 t) (Rect.unit (s := S256x5632) ![0, 2816] ![256, 1408] inb_S256x5632_S256x1408_0_2816)
def ut2 : FVec Ideal S16x1408 .bf16 := View.ld (Val := Elt Ideal) (e' := .bf16) (iblk m c 3 t) (Rect.unit (s := S256x5632) ![240, 2816] ![16, 1408] inb_S256x5632_S16x1408_240_2816)

/-- The saved up projection's columns from 4224 on, and its last rows. -/
def ub3 : FVec Ideal S256x1408 .bf16 := View.ld (Val := Elt Ideal) (e' := .bf16) (iblk m c 3 t) (Rect.unit (s := S256x5632) ![0, 4224] ![256, 1408] inb_S256x5632_S256x1408_0_4224)
def ut3 : FVec Ideal S16x1408 .bf16 := View.ld (Val := Elt Ideal) (e' := .bf16) (iblk m c 3 t) (Rect.unit (s := S256x5632) ![240, 4224] ![16, 1408] inb_S256x5632_S16x1408_240_4224)

/-- The down projection's rows from 0 on. -/
def wd0 : FVec Ideal S1408x1024 .bf16 := View.ld (Val := Elt Ideal) (e' := .bf16) (iblk m c 8 t) (Rect.unit (s := S2816x1024) ![0, 0] ![1408, 1024] inb_S2816x1024_S1408x1024_0_0)

/-- The down projection's rows from 1408 on. -/
def wd1 : FVec Ideal S1408x1024 .bf16 := View.ld (Val := Elt Ideal) (e' := .bf16) (iblk m c 8 t) (Rect.unit (s := S2816x1024) ![1408, 0] ![1408, 1024] inb_S2816x1024_S1408x1024_1408_0)

/-- The filter's columns from 0 on. -/
def cw00 : FVec Ideal S1x1408 .f32 := View.ld (Val := Elt Ideal) (e' := .f32) (iblk m c 7 t) (Rect.unit (s := S3x5632) ![0, 0] ![1, 1408] inb_S3x5632_S1x1408_0_0)
def cw01 : FVec Ideal S1x1408 .f32 := View.ld (Val := Elt Ideal) (e' := .f32) (iblk m c 7 t) (Rect.unit (s := S3x5632) ![1, 0] ![1, 1408] inb_S3x5632_S1x1408_1_0)
def cw02 : FVec Ideal S1x1408 .f32 := View.ld (Val := Elt Ideal) (e' := .f32) (iblk m c 7 t) (Rect.unit (s := S3x5632) ![2, 0] ![1, 1408] inb_S3x5632_S1x1408_2_0)

/-- The filter's columns from 1408 on. -/
def cw10 : FVec Ideal S1x1408 .f32 := View.ld (Val := Elt Ideal) (e' := .f32) (iblk m c 7 t) (Rect.unit (s := S3x5632) ![0, 1408] ![1, 1408] inb_S3x5632_S1x1408_0_1408)
def cw11 : FVec Ideal S1x1408 .f32 := View.ld (Val := Elt Ideal) (e' := .f32) (iblk m c 7 t) (Rect.unit (s := S3x5632) ![1, 1408] ![1, 1408] inb_S3x5632_S1x1408_1_1408)
def cw12 : FVec Ideal S1x1408 .f32 := View.ld (Val := Elt Ideal) (e' := .f32) (iblk m c 7 t) (Rect.unit (s := S3x5632) ![2, 1408] ![1, 1408] inb_S3x5632_S1x1408_2_1408)

/-- The filter's columns from 2816 on. -/
def cw20 : FVec Ideal S1x1408 .f32 := View.ld (Val := Elt Ideal) (e' := .f32) (iblk m c 7 t) (Rect.unit (s := S3x5632) ![0, 2816] ![1, 1408] inb_S3x5632_S1x1408_0_2816)
def cw21 : FVec Ideal S1x1408 .f32 := View.ld (Val := Elt Ideal) (e' := .f32) (iblk m c 7 t) (Rect.unit (s := S3x5632) ![1, 2816] ![1, 1408] inb_S3x5632_S1x1408_1_2816)
def cw22 : FVec Ideal S1x1408 .f32 := View.ld (Val := Elt Ideal) (e' := .f32) (iblk m c 7 t) (Rect.unit (s := S3x5632) ![2, 2816] ![1, 1408] inb_S3x5632_S1x1408_2_2816)

/-- The filter's columns from 4224 on. -/
def cw30 : FVec Ideal S1x1408 .f32 := View.ld (Val := Elt Ideal) (e' := .f32) (iblk m c 7 t) (Rect.unit (s := S3x5632) ![0, 4224] ![1, 1408] inb_S3x5632_S1x1408_0_4224)
def cw31 : FVec Ideal S1x1408 .f32 := View.ld (Val := Elt Ideal) (e' := .f32) (iblk m c 7 t) (Rect.unit (s := S3x5632) ![1, 4224] ![1, 1408] inb_S3x5632_S1x1408_1_4224)
def cw32 : FVec Ideal S1x1408 .f32 := View.ld (Val := Elt Ideal) (e' := .f32) (iblk m c 7 t) (Rect.unit (s := S3x5632) ![2, 4224] ![1, 1408] inb_S3x5632_S1x1408_2_4224)

/-- The gradient at the convolution's result, by blocks of columns. -/
def D0 : FVec Ideal S256x1408 .f32 := gradG (dyb m c t) (cb0 m c t) (cb2 m c t) (wd0 m c t)
def D1 : FVec Ideal S256x1408 .f32 := gradG (dyb m c t) (cb1 m c t) (cb3 m c t) (wd1 m c t)
def D2 : FVec Ideal S256x1408 .f32 := gradV (dyb m c t) (cb0 m c t) (wd0 m c t)
def D3 : FVec Ideal S256x1408 .f32 := gradV (dyb m c t) (cb1 m c t) (wd1 m c t)

/-- The stores into du: `K` the rows kept of the block before, `S` the matrix that moves rows. -/
def duL (K : FVec Ideal S8x5632 .f32) (S : FVec Ideal S512x256 .bf16) : List (View.Piece (Elt Ideal) S256x5632 .bf16) :=
  [(⟨Rect.unit (s := S256x5632) ![240, 4224] ![16, 1408] inb_S256x5632_S16x1408_240_4224, duBot (D3 m c t) (cw30 m c t) (cw31 m c t) (cw32 m c t) S (View.ld (Val := Elt Ideal) (e' := .f32) K (Rect.unit (s := S8x5632) ![0, 4224] ![1, 1408] inb_S8x5632_S1x1408_0_4224)) (View.ld (Val := Elt Ideal) (e' := .f32) K (Rect.unit (s := S8x5632) ![1, 4224] ![1, 1408] inb_S8x5632_S1x1408_1_4224))⟩ : View.Piece (Elt Ideal) S256x5632 .bf16),
    (⟨Rect.unit (s := S256x5632) ![0, 4224] ![256, 1408] inb_S256x5632_S256x1408_0_4224, duTop (D3 m c t) (cw30 m c t) (cw31 m c t) (cw32 m c t) S⟩ : View.Piece (Elt Ideal) S256x5632 .bf16),
    (⟨Rect.unit (s := S256x5632) ![240, 1408] ![16, 1408] inb_S256x5632_S16x1408_240_1408, duBot (D1 m c t) (cw10 m c t) (cw11 m c t) (cw12 m c t) S (View.ld (Val := Elt Ideal) (e' := .f32) K (Rect.unit (s := S8x5632) ![0, 1408] ![1, 1408] inb_S8x5632_S1x1408_0_1408)) (View.ld (Val := Elt Ideal) (e' := .f32) K (Rect.unit (s := S8x5632) ![1, 1408] ![1, 1408] inb_S8x5632_S1x1408_1_1408))⟩ : View.Piece (Elt Ideal) S256x5632 .bf16),
    (⟨Rect.unit (s := S256x5632) ![0, 1408] ![256, 1408] inb_S256x5632_S256x1408_0_1408, duTop (D1 m c t) (cw10 m c t) (cw11 m c t) (cw12 m c t) S⟩ : View.Piece (Elt Ideal) S256x5632 .bf16),
    (⟨Rect.unit (s := S256x5632) ![240, 2816] ![16, 1408] inb_S256x5632_S16x1408_240_2816, duBot (D2 m c t) (cw20 m c t) (cw21 m c t) (cw22 m c t) S (View.ld (Val := Elt Ideal) (e' := .f32) K (Rect.unit (s := S8x5632) ![0, 2816] ![1, 1408] inb_S8x5632_S1x1408_0_2816)) (View.ld (Val := Elt Ideal) (e' := .f32) K (Rect.unit (s := S8x5632) ![1, 2816] ![1, 1408] inb_S8x5632_S1x1408_1_2816))⟩ : View.Piece (Elt Ideal) S256x5632 .bf16),
    (⟨Rect.unit (s := S256x5632) ![0, 2816] ![256, 1408] inb_S256x5632_S256x1408_0_2816, duTop (D2 m c t) (cw20 m c t) (cw21 m c t) (cw22 m c t) S⟩ : View.Piece (Elt Ideal) S256x5632 .bf16),
    (⟨Rect.unit (s := S256x5632) ![240, 0] ![16, 1408] inb_S256x5632_S16x1408_240_0, duBot (D0 m c t) (cw00 m c t) (cw01 m c t) (cw02 m c t) S (View.ld (Val := Elt Ideal) (e' := .f32) K (Rect.unit (s := S8x5632) ![0, 0] ![1, 1408] inb_S8x5632_S1x1408_0_0)) (View.ld (Val := Elt Ideal) (e' := .f32) K (Rect.unit (s := S8x5632) ![1, 0] ![1, 1408] inb_S8x5632_S1x1408_1_0))⟩ : View.Piece (Elt Ideal) S256x5632 .bf16),
    (⟨Rect.unit (s := S256x5632) ![0, 0] ![256, 1408] inb_S256x5632_S256x1408_0_0, duTop (D0 m c t) (cw00 m c t) (cw01 m c t) (cw02 m c t) S⟩ : View.Piece (Elt Ideal) S256x5632 .bf16)]

/-- The stores into the filter's gradient, over what it held, `A`. -/
def dwL (K : FVec Ideal S8x5632 .f32) (S : FVec Ideal S512x256 .bf16) (A : FVec Ideal S8x5632 .f32) : List (View.Piece (Elt Ideal) S8x5632 .f32) :=
  [(⟨Rect.unit (s := S8x5632) ![0, 4224] ![1, 1408] inb_S8x5632_S1x1408_0_4224, dwRow0 (D3 m c t) S (View.ld (Val := Elt Ideal) (e' := .f32) K (Rect.unit (s := S8x5632) ![0, 4224] ![1, 1408] inb_S8x5632_S1x1408_0_4224)) (View.ld (Val := Elt Ideal) (e' := .f32) K (Rect.unit (s := S8x5632) ![1, 4224] ![1, 1408] inb_S8x5632_S1x1408_1_4224)) (ub3 m c t) (ut3 m c t) (View.ld (Val := Elt Ideal) (e' := .f32) A (Rect.unit (s := S8x5632) ![0, 4224] ![1, 1408] inb_S8x5632_S1x1408_0_4224))⟩ : View.Piece (Elt Ideal) S8x5632 .f32),
    (⟨Rect.unit (s := S8x5632) ![1, 4224] ![1, 1408] inb_S8x5632_S1x1408_1_4224, dwRow1 (D3 m c t) S (View.ld (Val := Elt Ideal) (e' := .f32) K (Rect.unit (s := S8x5632) ![0, 4224] ![1, 1408] inb_S8x5632_S1x1408_0_4224)) (ub3 m c t) (ut3 m c t) (View.ld (Val := Elt Ideal) (e' := .f32) A (Rect.unit (s := S8x5632) ![1, 4224] ![1, 1408] inb_S8x5632_S1x1408_1_4224))⟩ : View.Piece (Elt Ideal) S8x5632 .f32),
    (⟨Rect.unit (s := S8x5632) ![2, 4224] ![1, 1408] inb_S8x5632_S1x1408_2_4224, dwRow2 (D3 m c t) (ub3 m c t) (View.ld (Val := Elt Ideal) (e' := .f32) A (Rect.unit (s := S8x5632) ![2, 4224] ![1, 1408] inb_S8x5632_S1x1408_2_4224))⟩ : View.Piece (Elt Ideal) S8x5632 .f32),
    (⟨Rect.unit (s := S8x5632) ![0, 1408] ![1, 1408] inb_S8x5632_S1x1408_0_1408, dwRow0 (D1 m c t) S (View.ld (Val := Elt Ideal) (e' := .f32) K (Rect.unit (s := S8x5632) ![0, 1408] ![1, 1408] inb_S8x5632_S1x1408_0_1408)) (View.ld (Val := Elt Ideal) (e' := .f32) K (Rect.unit (s := S8x5632) ![1, 1408] ![1, 1408] inb_S8x5632_S1x1408_1_1408)) (ub1 m c t) (ut1 m c t) (View.ld (Val := Elt Ideal) (e' := .f32) A (Rect.unit (s := S8x5632) ![0, 1408] ![1, 1408] inb_S8x5632_S1x1408_0_1408))⟩ : View.Piece (Elt Ideal) S8x5632 .f32),
    (⟨Rect.unit (s := S8x5632) ![1, 1408] ![1, 1408] inb_S8x5632_S1x1408_1_1408, dwRow1 (D1 m c t) S (View.ld (Val := Elt Ideal) (e' := .f32) K (Rect.unit (s := S8x5632) ![0, 1408] ![1, 1408] inb_S8x5632_S1x1408_0_1408)) (ub1 m c t) (ut1 m c t) (View.ld (Val := Elt Ideal) (e' := .f32) A (Rect.unit (s := S8x5632) ![1, 1408] ![1, 1408] inb_S8x5632_S1x1408_1_1408))⟩ : View.Piece (Elt Ideal) S8x5632 .f32),
    (⟨Rect.unit (s := S8x5632) ![2, 1408] ![1, 1408] inb_S8x5632_S1x1408_2_1408, dwRow2 (D1 m c t) (ub1 m c t) (View.ld (Val := Elt Ideal) (e' := .f32) A (Rect.unit (s := S8x5632) ![2, 1408] ![1, 1408] inb_S8x5632_S1x1408_2_1408))⟩ : View.Piece (Elt Ideal) S8x5632 .f32),
    (⟨Rect.unit (s := S8x5632) ![0, 2816] ![1, 1408] inb_S8x5632_S1x1408_0_2816, dwRow0 (D2 m c t) S (View.ld (Val := Elt Ideal) (e' := .f32) K (Rect.unit (s := S8x5632) ![0, 2816] ![1, 1408] inb_S8x5632_S1x1408_0_2816)) (View.ld (Val := Elt Ideal) (e' := .f32) K (Rect.unit (s := S8x5632) ![1, 2816] ![1, 1408] inb_S8x5632_S1x1408_1_2816)) (ub2 m c t) (ut2 m c t) (View.ld (Val := Elt Ideal) (e' := .f32) A (Rect.unit (s := S8x5632) ![0, 2816] ![1, 1408] inb_S8x5632_S1x1408_0_2816))⟩ : View.Piece (Elt Ideal) S8x5632 .f32),
    (⟨Rect.unit (s := S8x5632) ![1, 2816] ![1, 1408] inb_S8x5632_S1x1408_1_2816, dwRow1 (D2 m c t) S (View.ld (Val := Elt Ideal) (e' := .f32) K (Rect.unit (s := S8x5632) ![0, 2816] ![1, 1408] inb_S8x5632_S1x1408_0_2816)) (ub2 m c t) (ut2 m c t) (View.ld (Val := Elt Ideal) (e' := .f32) A (Rect.unit (s := S8x5632) ![1, 2816] ![1, 1408] inb_S8x5632_S1x1408_1_2816))⟩ : View.Piece (Elt Ideal) S8x5632 .f32),
    (⟨Rect.unit (s := S8x5632) ![2, 2816] ![1, 1408] inb_S8x5632_S1x1408_2_2816, dwRow2 (D2 m c t) (ub2 m c t) (View.ld (Val := Elt Ideal) (e' := .f32) A (Rect.unit (s := S8x5632) ![2, 2816] ![1, 1408] inb_S8x5632_S1x1408_2_2816))⟩ : View.Piece (Elt Ideal) S8x5632 .f32),
    (⟨Rect.unit (s := S8x5632) ![0, 0] ![1, 1408] inb_S8x5632_S1x1408_0_0, dwRow0 (D0 m c t) S (View.ld (Val := Elt Ideal) (e' := .f32) K (Rect.unit (s := S8x5632) ![0, 0] ![1, 1408] inb_S8x5632_S1x1408_0_0)) (View.ld (Val := Elt Ideal) (e' := .f32) K (Rect.unit (s := S8x5632) ![1, 0] ![1, 1408] inb_S8x5632_S1x1408_1_0)) (ub0 m c t) (ut0 m c t) (View.ld (Val := Elt Ideal) (e' := .f32) A (Rect.unit (s := S8x5632) ![0, 0] ![1, 1408] inb_S8x5632_S1x1408_0_0))⟩ : View.Piece (Elt Ideal) S8x5632 .f32),
    (⟨Rect.unit (s := S8x5632) ![1, 0] ![1, 1408] inb_S8x5632_S1x1408_1_0, dwRow1 (D0 m c t) S (View.ld (Val := Elt Ideal) (e' := .f32) K (Rect.unit (s := S8x5632) ![0, 0] ![1, 1408] inb_S8x5632_S1x1408_0_0)) (ub0 m c t) (ut0 m c t) (View.ld (Val := Elt Ideal) (e' := .f32) A (Rect.unit (s := S8x5632) ![1, 0] ![1, 1408] inb_S8x5632_S1x1408_1_0))⟩ : View.Piece (Elt Ideal) S8x5632 .f32),
    (⟨Rect.unit (s := S8x5632) ![2, 0] ![1, 1408] inb_S8x5632_S1x1408_2_0, dwRow2 (D0 m c t) (ub0 m c t) (View.ld (Val := Elt Ideal) (e' := .f32) A (Rect.unit (s := S8x5632) ![2, 0] ![1, 1408] inb_S8x5632_S1x1408_2_0))⟩ : View.Piece (Elt Ideal) S8x5632 .f32)]

/-- The stores into the rows kept. -/
def keepL : List (View.Piece (Elt Ideal) S8x5632 .f32) :=
  [(⟨Rect.unit (s := S8x5632) ![0, 4224] ![8, 1408] inb_S8x5632_S8x1408_0_4224, k0_pay46 (D3 m c t)⟩ : View.Piece (Elt Ideal) S8x5632 .f32),
    (⟨Rect.unit (s := S8x5632) ![0, 1408] ![8, 1408] inb_S8x5632_S8x1408_0_1408, k0_pay46 (D1 m c t)⟩ : View.Piece (Elt Ideal) S8x5632 .f32),
    (⟨Rect.unit (s := S8x5632) ![0, 2816] ![8, 1408] inb_S8x5632_S8x1408_0_2816, k0_pay46 (D2 m c t)⟩ : View.Piece (Elt Ideal) S8x5632 .f32),
    (⟨Rect.unit (s := S8x5632) ![0, 0] ![8, 1408] inb_S8x5632_S8x1408_0_0, k0_pay46 (D0 m c t)⟩ : View.Piece (Elt Ideal) S8x5632 .f32)]

/-- The block of rows before. -/
abbrev prev := outsAt0 m c (t.val - 1) (Nat.lt_of_le_of_lt (Nat.sub_le t.val 1) t.isLt)

/-! ## The first block of rows -/

section First
variable (h : t.val % 32 = 0)
include h

set_option maxHeartbeats 1600000 in
theorem du_A : (outsAt0 m c t.val t.isLt).2.1 = View.canon (duL m c t k0_pay3 shift) := by
  rw [outsAt0_A m c t h]
  dsimp only
  frame_out
  simp (disch := decide) only [View.readCov_skip, View.readCov_fill]
  simp only [shift_read]
  rfl

set_option maxHeartbeats 1600000 in
theorem dx_A : (outsAt0 m c t.val t.isLt).1
    = k0_pay2 (k0_pay14 (iblk m c 2 t)) (k0_pay15 (iblk m c 2 t)) (k0_pay100 (View.canon (duL m c t k0_pay3 shift)) (iblk m c 6 t)) (iblk m c 5 t) (iblk m c 0 t) := by
  rw [outsAt0_A m c t h]
  dsimp only
  frame_out
  simp (disch := decide) only [View.readCov_skip, View.readCov_fill]
  simp only [shift_read, du_read]
  rfl

theorem dy_A : (outsAt0 m c t.val t.isLt).2.2.1 = dyb m c t := by
  rw [outsAt0_A m c t h]
  dsimp only
  frame_out
  rfl

theorem h_A : (outsAt0 m c t.val t.isLt).2.2.2.1 = k0_pay16 (iblk m c 2 t) (iblk m c 5 t) := by
  rw [outsAt0_A m c t h]
  dsimp only
  frame_out

set_option maxHeartbeats 1600000 in
theorem dg5_A : (outsAt0 m c t.val t.isLt).2.2.2.2.1
    = k0_pay1 (k0_pay15 (iblk m c 2 t)) (k0_pay100 (View.canon (duL m c t k0_pay3 shift)) (iblk m c 6 t)) (k0_pay6 (F := Ideal)) := by
  rw [outsAt0_A m c t h]
  dsimp only
  frame_out
  simp (disch := decide) only [View.readCov_skip, View.readCov_fill]
  simp only [shift_read, du_read]
  rfl

theorem dg6_A : (outsAt0 m c t.val t.isLt).2.2.2.2.2.1 = k0_pay12 (iblk m c 1 t) (iblk m c 0 t) (k0_pay7 (F := Ideal)) := by
  rw [outsAt0_A m c t h]
  dsimp only
  frame_out

set_option maxHeartbeats 1600000 in
theorem dw_A : (outsAt0 m c t.val t.isLt).2.2.2.2.2.2.1
    = View.canon (dwL m c t k0_pay3 shift k0_pay8 ++ [(⟨Rect.unit (s := S8x5632) ![0, 0] ![8, 5632] inb_S8x5632_S8x5632_0_0, (k0_pay8 (F := Ideal))⟩ : View.Piece (Elt Ideal) S8x5632 .f32)]) := by
  rw [outsAt0_A m c t h]
  dsimp only
  frame_out
  simp (disch := decide) only [View.readCov_skip, View.readCov_fill]
  simp only [shift_read]
  rfl

theorem keep_A : (outsAt0 m c t.val t.isLt).2.2.2.2.2.2.2.1 = View.canon (keepL m c t ++ [(⟨Rect.unit (s := S8x5632) ![0, 0] ![8, 5632] inb_S8x5632_S8x5632_0_0, (k0_pay3 (F := Ideal))⟩ : View.Piece (Elt Ideal) S8x5632 .f32)]) := by
  rw [outsAt0_A m c t h]
  dsimp only
  frame_out
  rfl

theorem shift_A : (outsAt0 m c t.val t.isLt).2.2.2.2.2.2.2.2 = shift := by
  rw [outsAt0_A m c t h]
  dsimp only
  frame_out

end First

/-! ## A later block of rows -/

section Later
variable (h : ¬t.val % 32 = 0)
include h

set_option maxHeartbeats 1600000 in
theorem du_B : (outsAt0 m c t.val t.isLt).2.1 = View.canon (duL m c t (prev m c t).2.2.2.2.2.2.2.1 (prev m c t).2.2.2.2.2.2.2.2) := by
  rw [outsAt0_B m c t h]
  dsimp only
  frame_out
  simp only [keep_read, shift_keep]
  rfl

set_option maxHeartbeats 1600000 in
theorem dx_B : (outsAt0 m c t.val t.isLt).1
    = k0_pay2 (k0_pay14 (iblk m c 2 t)) (k0_pay15 (iblk m c 2 t))
      (k0_pay100 (View.canon (duL m c t (prev m c t).2.2.2.2.2.2.2.1 (prev m c t).2.2.2.2.2.2.2.2)) (iblk m c 6 t)) (iblk m c 5 t) (iblk m c 0 t) := by
  rw [outsAt0_B m c t h]
  dsimp only
  frame_out
  simp only [du_read, keep_read, shift_keep]
  rfl

theorem dy_B : (outsAt0 m c t.val t.isLt).2.2.1 = dyb m c t := by
  rw [outsAt0_B m c t h]
  dsimp only
  frame_out
  rfl

theorem h_B : (outsAt0 m c t.val t.isLt).2.2.2.1 = k0_pay16 (iblk m c 2 t) (iblk m c 5 t) := by
  rw [outsAt0_B m c t h]
  dsimp only
  frame_out

set_option maxHeartbeats 1600000 in
theorem dg5_B : (outsAt0 m c t.val t.isLt).2.2.2.2.1
    = k0_pay1 (k0_pay15 (iblk m c 2 t))
      (k0_pay100 (View.canon (duL m c t (prev m c t).2.2.2.2.2.2.2.1 (prev m c t).2.2.2.2.2.2.2.2)) (iblk m c 6 t)) (prev m c t).2.2.2.2.1 := by
  rw [outsAt0_B m c t h]
  dsimp only
  frame_out
  simp only [du_read, keep_read, shift_keep]
  rfl

theorem dg6_B : (outsAt0 m c t.val t.isLt).2.2.2.2.2.1 = k0_pay12 (iblk m c 1 t) (iblk m c 0 t) (prev m c t).2.2.2.2.2.1 := by
  rw [outsAt0_B m c t h]
  dsimp only
  frame_out

set_option maxHeartbeats 1600000 in
theorem dw_B : (outsAt0 m c t.val t.isLt).2.2.2.2.2.2.1
    = View.canon (dwL m c t (prev m c t).2.2.2.2.2.2.2.1 (prev m c t).2.2.2.2.2.2.2.2 (prev m c t).2.2.2.2.2.2.1
      ++ [(⟨Rect.unit (s := S8x5632) ![0, 0] ![8, 5632] inb_S8x5632_S8x5632_0_0, (prev m c t).2.2.2.2.2.2.1⟩ : View.Piece (Elt Ideal) S8x5632 .f32)]) := by
  rw [outsAt0_B m c t h]
  dsimp only
  frame_out
  refine (read_over _ _ _ _).trans ?_
  simp only [keep_read, shift_keep]
  rfl

theorem keep_B : (outsAt0 m c t.val t.isLt).2.2.2.2.2.2.2.1 = View.canon (keepL m c t) := by
  rw [outsAt0_B m c t h]
  dsimp only
  frame_out
  rfl

theorem shift_B : (outsAt0 m c t.val t.isLt).2.2.2.2.2.2.2.2 = (prev m c t).2.2.2.2.2.2.2.2 := by
  rw [outsAt0_B m c t h]
  rfl

end Later

end Cert.Kernel4Ideal.Ffn
-- ==== Proof.FfPay.lean ====
/- What the payloads of the feed-forward's backward call compute, read at one lane over any blocks. -/
module

public import proofs.«01_k».proof.Proof.FfOut
public import Idealize.ShloMosaic.Lib.Pointwise
public import Idealize.ShloMosaic.Lib.WordCmp

@[expose] public section

set_option maxRecDepth 16384

noncomputable section

namespace Cert.Kernel4Ideal.Ffn

open Cert.Kernel4Ideal Cert.Kernel4Ideal.Gen Idealize.ShloMosaic Idealize.ShloMosaic.TcCoe Idealize.SL.Sem

/-- Choosing by whether two counts agree. -/
theorem pick {α : Type} (a b : ℕ) (ha : a < 2 ^ 32) (hb : b < 2 ^ 32) (x y : α) :
    Scalar.select (IntOp.cmpi .eq (BitVec.ofNat 32 a) (BitVec.ofNat 32 b)) x y = if a = b then x else y := by
  rw [Idealize.ShloMosaic.WordCmp.cmpi_eq_ofNat ha hb]
  by_cases h : a = b <;> simp [Scalar.select, h]

/-- The logistic function. -/
def sgm (x : EReal) : EReal := Ideal.div ((1 : ℝ) : EReal) (((1 : ℝ) : EReal) + Ideal.exp (-x))

theorem gradV_at (dy : FVec Ideal S256x1024 .bf16) (cg : FVec Ideal S256x1408 .bf16) (w : FVec Ideal S1408x1024 .bf16) (r : Fin 256) (q : Fin 1408) :
    gradV dy cg w (ix2 r q) = (∑ k : Fin 1024, dy (ix2 r k) * w (ix2 q k)) * (cg (ix2 r q) * sgm (cg (ix2 r q))) := by
  unfold gradV sgm
  pointwise [k0_pay61, k0_pay59, k0_pay58, k0_pay57, k0_pay55]
  simp only [sub_eq_add_neg, zero_add, EReal.coe_one]

theorem gradG_at (dy : FVec Ideal S256x1024 .bf16) (cg cv : FVec Ideal S256x1408 .bf16) (w : FVec Ideal S1408x1024 .bf16) (r : Fin 256) (q : Fin 1408) :
    gradG dy cg cv w (ix2 r q) = (∑ k : Fin 1024, dy (ix2 r k) * w (ix2 q k)) * cv (ix2 r q)
      * (sgm (cg (ix2 r q)) + cg (ix2 r q) * sgm (cg (ix2 r q)) * (((1 : ℝ) : EReal) - sgm (cg (ix2 r q)))) := by
  unfold gradG sgm
  pointwise [k0_pay60, k0_pay59, k0_pay58, k0_pay57, k0_pay56, k0_pay55]
  simp only [sub_eq_add_neg, zero_add, EReal.coe_one]

theorem duTop_at (D : FVec Ideal S256x1408 .f32) (w0 w1 w2 : FVec Ideal S1x1408 .f32) (S : FVec Ideal S512x256 .bf16) (r : Fin 256) (q : Fin 1408) :
    duTop D w0 w1 w2 S (ix2 r q) = w2 (ix2 0 q) * D (ix2 r q) + w1 (ix2 0 q) * (∑ p : Fin 256, S (ix2 ⟨r, by omega⟩ p) * D (ix2 p q))
      + w0 (ix2 0 q) * (∑ p : Fin 256, S (ix2 ⟨256 + r, by omega⟩ p) * D (ix2 p q)) := by
  unfold duTop
  pointwise [k0_pay53, k0_pay52, k0_pay40, k0_pay41, k0_pay39]

theorem m1_at (a : FVec Ideal S1x1408 .f32) (r : Fin 16) (q : Fin 1408) :
    k0_pay42 (F := Ideal) a (ix2 r q) = if (r : ℕ) = 15 then a (ix2 0 q) else 0 := by
  pointwise [k0_pay42]
  rw [pick _ _ (by omega) (by norm_num)]

theorem m2_at (a b : FVec Ideal S1x1408 .f32) (r : Fin 16) (q : Fin 1408) :
    k0_pay28 (F := Ideal) a b (ix2 r q) = if (r : ℕ) = 15 then b (ix2 0 q) else if (r : ℕ) = 14 then a (ix2 0 q) else 0 := by
  pointwise [k0_pay28]
  rw [pick _ _ (by omega) (by norm_num), pick _ _ (by omega) (by norm_num)]

theorem duBot_at (D : FVec Ideal S256x1408 .f32) (w0 w1 w2 : FVec Ideal S1x1408 .f32) (S : FVec Ideal S512x256 .bf16) (a b : FVec Ideal S1x1408 .f32)
    (r : Fin 16) (q : Fin 1408) :
    duBot D w0 w1 w2 S a b (ix2 r q) = w2 (ix2 0 q) * D (ix2 ⟨240 + r, by omega⟩ q)
      + w1 (ix2 0 q) * (∑ p : Fin 256, S (ix2 ⟨240 + r, by omega⟩ p) * D (ix2 p q))
      + w0 (ix2 0 q) * (∑ p : Fin 256, S (ix2 ⟨256 + (240 + r), by omega⟩ p) * D (ix2 p q))
      + w1 (ix2 0 q) * k0_pay42 (F := Ideal) a (ix2 r q) + w0 (ix2 0 q) * k0_pay28 (F := Ideal) a b (ix2 r q) := by
  unfold duBot
  generalize k0_pay42 (F := Ideal) a = m1
  generalize k0_pay28 (F := Ideal) a b = m2
  pointwise [k0_pay54, k0_pay52, k0_pay40, k0_pay41, k0_pay39]

theorem dwRow2_at (D : FVec Ideal S256x1408 .f32) (u : FVec Ideal S256x1408 .bf16) (acc : FVec Ideal S1x1408 .f32) (q : Fin 1408) :
    dwRow2 D u acc (ix2 0 q) = acc (ix2 0 q) + ∑ r : Fin 256, u (ix2 r q) * D (ix2 r q) := by
  unfold dwRow2
  pointwise [k0_pay49, k0_pay47]

theorem dwRow1_at (D : FVec Ideal S256x1408 .f32) (S : FVec Ideal S512x256 .bf16) (a : FVec Ideal S1x1408 .f32) (u : FVec Ideal S256x1408 .bf16)
    (ut : FVec Ideal S16x1408 .bf16) (acc : FVec Ideal S1x1408 .f32) (q : Fin 1408) :
    dwRow1 D S a u ut acc (ix2 0 q) = acc (ix2 0 q) + ((∑ r : Fin 256, u (ix2 r q) * ∑ p : Fin 256, S (ix2 ⟨r, by omega⟩ p) * D (ix2 p q))
      + ∑ r : Fin 16, ut (ix2 r q) * k0_pay42 (F := Ideal) a (ix2 r q)) := by
  unfold dwRow1
  generalize k0_pay42 (F := Ideal) a = m1
  pointwise [k0_pay50, k0_pay47, k0_pay48, k0_pay40, k0_pay39]

theorem dwRow0_at (D : FVec Ideal S256x1408 .f32) (S : FVec Ideal S512x256 .bf16) (a b : FVec Ideal S1x1408 .f32) (u : FVec Ideal S256x1408 .bf16)
    (ut : FVec Ideal S16x1408 .bf16) (acc : FVec Ideal S1x1408 .f32) (q : Fin 1408) :
    dwRow0 D S a b u ut acc (ix2 0 q) = acc (ix2 0 q) + ((∑ r : Fin 256, u (ix2 r q) * ∑ p : Fin 256, S (ix2 ⟨256 + r, by omega⟩ p) * D (ix2 p q))
      + ∑ r : Fin 16, ut (ix2 r q) * k0_pay28 (F := Ideal) a b (ix2 r q)) := by
  unfold dwRow0
  generalize k0_pay28 (F := Ideal) a b = m2
  pointwise [k0_pay34, k0_pay30, k0_pay31, k0_pay41, k0_pay39]

theorem keep_at (D : FVec Ideal S256x1408 .f32) (k : Fin 8) (q : Fin 1408) : k0_pay46 D (ix2 k q) = D (ix2 ⟨k, by omega⟩ q) := by
  pointwise [k0_pay46]

theorem up1_at (r p : Fin 256) : k0_pay4 (F := Ideal) (ix2 r p) = if (p : ℕ) = r + 1 then 1 else 0 := by
  pointwise [k0_pay4]
  rw [show IntOp.addi (BitVec.ofNat 32 (r : ℕ)) 1#32 = BitVec.ofNat 32 (r + 1) from (BitVec.ofNat_add _ _).symm, pick _ _ (by omega) (by omega)]

theorem up2_at (r p : Fin 256) : k0_pay5 (F := Ideal) (ix2 r p) = if (p : ℕ) = r + 2 then 1 else 0 := by
  pointwise [k0_pay5]
  rw [show IntOp.addi (BitVec.ofNat 32 (r : ℕ)) 2#32 = BitVec.ofNat 32 (r + 2) from (BitVec.ofNat_add _ _).symm, pick _ _ (by omega) (by omega)]

theorem zero3_at (k : Fin 8) (q : Fin 5632) : k0_pay3 (F := Ideal) (ix2 k q) = 0 := by
  pointwise [k0_pay3]
theorem zero8_at (k : Fin 8) (q : Fin 5632) : k0_pay8 (F := Ideal) (ix2 k q) = 0 := by
  pointwise [k0_pay8]
theorem zero6_at (q : Fin 1024) : k0_pay6 (F := Ideal) (ix2 0 q) = 0 := by
  pointwise [k0_pay6]
theorem zero7_at (q : Fin 1024) : k0_pay7 (F := Ideal) (ix2 0 q) = 0 := by
  pointwise [k0_pay7]

/-- The reciprocal root of a row's mean square. -/
def rms {n : ℕ} (y : Fin n → EReal) : EReal :=
  Ideal.rsqrt (Ideal.div (∑ x, y x * y x) (Ideal.ofBits .f32 0x44800000#32) + Ideal.ofBits .f32 0x358637BD#32)

theorem dy_at (y : FVec Ideal S256x1024 .bf16) (g : FVec Ideal S1x1024 .f32) (d : FVec Ideal S256x1024 .f32) (r : Fin 256) (j : Fin 1024) :
    k0_pay13 (F := Ideal) y g d (ix2 r j) = rms (fun x : Fin 1024 => y (ix2 r x)) * (d (ix2 r j) * g (ix2 0 j)
      - y (ix2 r j) * rms (fun x : Fin 1024 => y (ix2 r x))
        * Ideal.div (∑ k : Fin 1024, d (ix2 r k) * g (ix2 0 k) * (y (ix2 r k) * rms (fun x : Fin 1024 => y (ix2 r x)))) (Ideal.ofBits .f32 0x44800000#32)) := by
  unfold rms
  pointwise [k0_pay13, k0_pay11, k0_pay10, k0_pay9]

theorem dg6_at (y : FVec Ideal S256x1024 .bf16) (d : FVec Ideal S256x1024 .f32) (acc : FVec Ideal S1x1024 .f32) (j : Fin 1024) :
    k0_pay12 (F := Ideal) y d acc (ix2 0 j) = acc (ix2 0 j) + ∑ r : Fin 256, d (ix2 r j) * (y (ix2 r j) * rms (fun x : Fin 1024 => y (ix2 r x))) := by
  unfold rms
  pointwise [k0_pay12, k0_pay11, k0_pay10, k0_pay9]

theorem h_at (x : FVec Ideal S256x1024 .f32) (g : FVec Ideal S1x1024 .f32) (r : Fin 256) (j : Fin 1024) :
    k0_pay16 (F := Ideal) x g (ix2 r j) = x (ix2 r j) * rms (fun k : Fin 1024 => x (ix2 r k)) * g (ix2 0 j) := by
  unfold rms
  pointwise [k0_pay16, k0_pay15, k0_pay14]

theorem dh_at (u : FVec Ideal S256x5632 .bf16) (w : FVec Ideal S5632x1024 .bf16) (r : Fin 256) (j : Fin 1024) :
    k0_pay100 (F := Ideal) u w (ix2 r j) = ∑ q : Fin 5632, u (ix2 r q) * w (ix2 q j) := by
  pointwise [k0_pay100]

theorem dg5_at (x : FVec Ideal S256x1024 .f32) (d : FVec Ideal S256x1024 .f32) (acc : FVec Ideal S1x1024 .f32) (j : Fin 1024) :
    k0_pay1 (F := Ideal) (k0_pay15 x) d acc (ix2 0 j) = acc (ix2 0 j) + ∑ r : Fin 256, d (ix2 r j) * (x (ix2 r j) * rms (fun k : Fin 1024 => x (ix2 r k))) := by
  unfold rms
  pointwise [k0_pay1, k0_pay15, k0_pay14]

theorem dx_at (x : FVec Ideal S256x1024 .f32) (d : FVec Ideal S256x1024 .f32) (g : FVec Ideal S1x1024 .f32) (z : FVec Ideal S256x1024 .f32)
    (r : Fin 256) (j : Fin 1024) :
    k0_pay2 (F := Ideal) (k0_pay14 x) (k0_pay15 x) d g z (ix2 r j) = z (ix2 r j) + rms (fun k : Fin 1024 => x (ix2 r k)) * (d (ix2 r j) * g (ix2 0 j)
      - x (ix2 r j) * rms (fun k : Fin 1024 => x (ix2 r k))
        * Ideal.div (∑ k : Fin 1024, d (ix2 r k) * g (ix2 0 k) * (x (ix2 r k) * rms (fun k : Fin 1024 => x (ix2 r k)))) (Ideal.ofBits .f32 0x44800000#32)) := by
  unfold rms
  pointwise [k0_pay2, k0_pay15, k0_pay14]

end Cert.Kernel4Ideal.Ffn
-- ==== Proof.FfRef.lean ====
/- The reference of the feed-forward part's backward call: every stage is real at real arguments, and its results in the form a
   hand-written backward has. -/
module

public import proofs.«01_k».proof.Proof.Gen.Reference4Ideal.Read
public import proofs.«01_k».proof.Proof.Reals
public import Idealize.ShloMosaic.Lib.Pipeline.ValueKit
public import Idealize.ShloMosaic.Lib.Pipeline.Value
public import Idealize.ShloMosaic.Lib.Pointwise

@[expose] public section

set_option maxRecDepth 16384

noncomputable section

namespace Cert.Reference4Ideal.Ffn

open Cert.Reference4Ideal Cert.Reference4Ideal.Gen Cert.Reference4Ideal.Read Cert.Reals
open Idealize.ShloMosaic Idealize.ShloMosaic.TcCoe Idealize.SL.Sem

/-- An index with two coordinates is its coordinates. -/
theorem eq2 {n k : ℕ} (i : Shape.Idx ⟨2, ![n, k]⟩) (a : Fin n) (b : Fin k) (h0 : (i 0).val = a.val) (h1 : (i 1).val = b.val) : i = ix2 a b := by
  funext d; match d with
    | ⟨0, _⟩ => exact Fin.ext h0
    | ⟨1, _⟩ => exact Fin.ext h1

/-- A column of 8192 entries, zero behind its end. -/
def tail (G : Fin 8192 → EReal) (k : ℕ) : EReal := if h : k < 8192 then G ⟨k, h⟩ else 0

theorem tail_of_lt (G : Fin 8192 → EReal) {k : ℕ} (h : k < 8192) : tail G k = G ⟨k, h⟩ := dif_pos h

theorem tail_of_not (G : Fin 8192 → EReal) {k : ℕ} (h : ¬k < 8192) : tail G k = 0 := dif_neg h

/-- A column of 8192 entries, behind two zeros. -/
def behind (U : Fin 8192 → EReal) (k : ℕ) (h : k < 8194) : EReal := if h2 : k < 2 then 0 else U ⟨k - 2, by omega⟩

/-- A sum over a column times one that is delayed is the sum of the other times the first one advanced. -/
theorem sum_behind (G U : Fin 8192 → EReal) (s e : ℕ) (hs : s + e = 2) :
    ∑ i : Fin 8192, G i * behind U (e + i) (by omega) = ∑ i : Fin 8192, U i * tail G (i + s) := by
  have e1 : ∀ i : Fin 8192, G i * behind U (e + i) (by omega) = ∑ j : Fin 8192, if (i : ℕ) = j + s then U j * G i else 0 := by
    intro i
    by_cases h : (e + i : ℕ) < 2
    · rw [behind, dif_pos h, mul_zero, Finset.sum_eq_zero]
      exact fun j _ => if_neg (by omega)
    · rw [behind, dif_neg h, Finset.sum_eq_single (⟨e + i - 2, by omega⟩ : Fin 8192) (fun j _ hj => if_neg fun hij => hj (Fin.ext (by simp only; omega)))
        (fun hn => absurd (Finset.mem_univ _) hn), if_pos (by simp only; omega), mul_comm]
  have e2 : ∀ j : Fin 8192, U j * tail G (j + s) = ∑ i : Fin 8192, if (i : ℕ) = j + s then U j * G i else 0 := by
    intro j
    by_cases h : (j + s : ℕ) < 8192
    · rw [tail_of_lt G h, Finset.sum_eq_single (⟨j + s, h⟩ : Fin 8192) (fun i _ hi => if_neg fun hij => hi (Fin.ext hij))
        (fun hn => absurd (Finset.mem_univ _) hn), if_pos rfl]
    · rw [tail_of_not G h, mul_zero, Finset.sum_eq_zero]
      exact fun i _ => if_neg (by omega)
  simp only [e1, e2]
  exact Finset.sum_comm

/-- A sigmoid of a real. -/
theorem sigmoid_real {x : EReal} (hx : IsReal x) :
    IsReal (Ideal.div ((1 : ℝ) : EReal) (((1 : ℝ) : EReal) + Ideal.exp (-x))) := by
  obtain ⟨a, rfl⟩ := hx
  rw [← EReal.coe_neg, Ideal.exp_coe, ← EReal.coe_add]
  exact (IsReal.coe 1).div (by have := Real.exp_pos (-a); positivity)

variable {x0 : FVec Ideal S8192x1024 .f32} {x1 : FVec Ideal S1024 .f32} {x2 : FVec Ideal S1024x5632 .f32}
  {x3 : FVec Ideal S3x5632 .f32} {x4 : FVec Ideal S2816x1024 .f32} {x5 : FVec Ideal S1024 .f32} {x6 : FVec Ideal S8192x1024 .f32}

/-- The concatenation with two rows of zeros in front. -/
theorem v18_at (i : Fin 8194) (q : Fin 5632) : val_main_v18 (F := Ideal) x0 x1 x2 (ix2 i q)
    = behind (fun k => val_main_v16 (F := Ideal) x0 x1 x2 (ix2 k q)) i i.isLt := by
  unfold val_main_v18 behind
  by_cases h : (i : ℕ) < 2
  · rw [dif_pos h]
    refine (concatenate_pair_apply_left (t := S8194x5632) (s₁ := S2x5632) (s₂ := S8192x5632) 0 _ _ _ (ix2 i q) rfl (@ix2 2 5632 ⟨i, h⟩ q) ?_).trans ?_
    · intro b; match b with
        | ⟨0, _⟩ => rfl
        | ⟨1, _⟩ => rfl
    · pointwise [val_main_v17, val_main_cst_3]
  · rw [dif_neg h]
    refine (concatenate_pair_apply_right (t := S8194x5632) (s₁ := S2x5632) (s₂ := S8192x5632) 0 _ _ _ (ix2 i q) rfl rfl (@ix2 8192 5632 ⟨i - 2, by omega⟩ q) ?_ ?_)
    · intro b hb; match b with
        | ⟨0, _⟩ => exact absurd rfl hb
        | ⟨1, _⟩ => rfl
    · show (i : ℕ) - 2 + 2 = i
      omega

theorem v22_at (i : Fin 8192) (q : Fin 5632) : val_main_v22 (F := Ideal) x0 x1 x2 (ix2 i q)
    = behind (fun k => val_main_v16 (F := Ideal) x0 x1 x2 (ix2 k q)) (0 + i) (by omega) := by
  rw [val_main_v22_apply, ← v18_at ⟨0 + i, by omega⟩ q]
  exact congrArg _ (eq2 _ _ _ (by show (i : ℕ) = 0 + i; omega) rfl)

theorem v30_at (i : Fin 8192) (q : Fin 5632) : val_main_v30 (F := Ideal) x0 x1 x2 (ix2 i q)
    = behind (fun k => val_main_v16 (F := Ideal) x0 x1 x2 (ix2 k q)) (1 + i) (by omega) := by
  rw [val_main_v30_apply, ← v18_at ⟨1 + i, by omega⟩ q]
  exact congrArg _ (eq2 _ _ _ rfl rfl)

theorem v37_at (i : Fin 8192) (q : Fin 5632) : val_main_v37 (F := Ideal) x0 x1 x2 (ix2 i q)
    = behind (fun k => val_main_v16 (F := Ideal) x0 x1 x2 (ix2 k q)) (2 + i) (by omega) := by
  rw [val_main_v37_apply, ← v18_at ⟨2 + i, by omega⟩ q]
  exact congrArg _ (eq2 _ _ _ rfl rfl)

section Real
variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i))

include h0 in
theorem v7_real (i : Fin 8192) : IsReal (val_main_v7 (F := Ideal) x0 (ix2 i 0)) := by
  pointwise [val_main_v7, val_main_v6, val_main_v5, val_main_v4, val_main_v3, val_main_v2, val_main_v1, val_main_v0, val_main_cst,
    val_main_cst_0, val_main_cst_1]
  rw [word_1024, word_eps]
  exact rms_isReal (fun k => h0 _) (by norm_num)

include h0 h1 h2 in
theorem v16_real (i : Fin 8192) (j : Fin 5632) : IsReal (val_main_v16 (F := Ideal) x0 x1 x2 (ix2 i j)) := by
  pointwise [val_main_v16, val_main_v15, val_main_v14, val_main_v13, val_main_v12, val_main_v11]
  exact IsReal.sum fun k => (((h0 _).mul (v7_real h0 i)).mul (h1 _)).mul (h2 _)

include h0 h1 h2 in
theorem behind_real (q : Fin 5632) (k : ℕ) (h : k < 8194) :
    IsReal (behind (fun k => val_main_v16 (F := Ideal) x0 x1 x2 (ix2 k q)) k h) := by
  unfold behind
  split
  · exact IsReal.coe 0
  · exact v16_real h0 h1 h2 _ q

include h0 h1 h2 h3 in
theorem v41_real (i : Fin 8192) (q : Fin 5632) : IsReal (val_main_v41 (F := Ideal) x0 x1 x2 x3 (ix2 i q)) := by
  rw [val_main_v41_apply, val_main_v40_apply, val_main_v34_apply, val_main_v33_apply, val_main_v27_apply, val_main_v25_apply,
    v22_at, v30_at, v37_at]
  have ha := behind_real h0 h1 h2 q (0 + i) (by omega)
  have hb := behind_real h0 h1 h2 q (1 + i) (by omega)
  have hc := behind_real h0 h1 h2 q (2 + i) (by omega)
  generalize behind _ (0 + i) _ = a at *
  generalize behind _ (1 + i) _ = b at *
  generalize behind _ (2 + i) _ = c at *
  pointwise [val_main_v39, val_main_v38, val_main_v36, val_main_v35, val_main_v32, val_main_v31, val_main_v29, val_main_v28,
    val_main_v24, val_main_v23, val_main_v21, val_main_v20, val_main_v26, val_main_cst_5]
  exact (((h3 _).mul ha).add ((h3 _).mul hb)).add ((h3 _).mul hc)

theorem gate_at (i : Fin 8192) (q : Fin 2816) : val_main_v42 (F := Ideal) x0 x1 x2 x3 (ix2 i q)
    = val_main_v41 (F := Ideal) x0 x1 x2 x3 (ix2 i ⟨q, by omega⟩) := by
  rw [val_main_v42_apply]
  exact congrArg _ (eq2 _ _ _ rfl rfl)

theorem val_at (i : Fin 8192) (q : Fin 2816) : val_main_v43 (F := Ideal) x0 x1 x2 x3 (ix2 i q)
    = val_main_v41 (F := Ideal) x0 x1 x2 x3 (ix2 i ⟨2816 + q, by omega⟩) := by
  rw [val_main_v43_apply]
  exact congrArg _ (eq2 _ _ _ rfl rfl)

theorem sig_at (i : Fin 8192) (q : Fin 2816) : val_main_v44_2 (F := Ideal) x0 x1 x2 x3 (ix2 i q)
    = Ideal.div ((1 : ℝ) : EReal) (((1 : ℝ) : EReal) + Ideal.exp (-(val_main_v41 (F := Ideal) x0 x1 x2 x3 (ix2 i ⟨q, by omega⟩)))) := by
  rw [← gate_at]
  pointwise [val_main_v44_2, val_main_call0_v4, val_main_call0_v3, val_main_call0_v2, val_main_call0_v1, val_main_call0_v0,
    val_main_call0_cst, val_main_call0_cst_0]
  try rw [EReal.coe_one]

include h0 h1 h2 h3 in
theorem sig_real (i : Fin 8192) (q : Fin 2816) : IsReal (val_main_v44_2 (F := Ideal) x0 x1 x2 x3 (ix2 i q)) := by
  rw [sig_at]
  exact sigmoid_real (v41_real h0 h1 h2 h3 i _)

include h0 h1 h2 h3 h4 in
theorem v46_real (i : Fin 8192) (j : Fin 1024) : IsReal (val_main_v46 (F := Ideal) x0 x1 x2 x3 x4 (ix2 i j)) := by
  pointwise [val_main_v46]
  refine IsReal.sum fun k => IsReal.mul ?_ (h4 _)
  rw [val_main_v45_apply, val_main_v44_0_apply, gate_at, val_at]
  exact ((v41_real h0 h1 h2 h3 i _).mul (sig_real h0 h1 h2 h3 i k)).mul (v41_real h0 h1 h2 h3 i _)

include h0 h1 h2 h3 h4 h5 h6 in
/-- The gradient at the down projection's result, with the normalized row factored out. -/
theorem v84_at (i : Fin 8192) (j : Fin 1024) (y : Fin 1024 → EReal) (hy' : ∀ k, y k = val_main_v46 (F := Ideal) x0 x1 x2 x3 x4 (ix2 i k))
    {r : EReal} (hr : r = Ideal.rsqrt (Ideal.div (∑ x, y x * y x) (Ideal.ofBits .f32 0x44800000#32) + Ideal.ofBits .f32 0x358637BD#32)) :
    r * (x6 (ix2 i j) * x5 (ix1 j) - y j * r * Ideal.div (∑ k, x6 (ix2 i k) * x5 (ix1 k) * (y k * r)) (Ideal.ofBits .f32 0x44800000#32))
      = val_main_v84 (F := Ideal) x0 x1 x2 x3 x4 x5 x6 (ix2 i j) := by
  obtain rfl : y = fun k => val_main_v46 (F := Ideal) x0 x1 x2 x3 x4 (ix2 i k) := funext hy'
  pointwise [val_main_v84, val_main_v83, val_main_v82,val_main_v81, val_main_v80, val_main_v79, val_main_v78, val_main_v77, val_main_v76, val_main_v75,
    val_main_v74, val_main_v73, val_main_v72, val_main_v71, val_main_v69, val_main_v68, val_main_v64, val_main_v60, val_main_v57, val_main_v56,
    val_main_v55, val_main_v54, val_main_v53, val_main_v52, val_main_v51, val_main_v50, val_main_v49, val_main_v48, val_main_v47,
    val_main_cst_6, val_main_cst_7, val_main_cst_8, val_main_cst_9, val_main_cst_12, val_main_cst_13, val_main_cst_14]
  rw [Fin.sum_univ_one, word_1024, word_neg_half]
  rw [word_1024, word_eps] at hr
  rw [word_eps]
  have e := rms_bwd (fun k => val_main_v46 (F := Ideal) x0 x1 x2 x3 x4 (ix2 i k)) (fun k => x6 (ix2 i k) * x5 (ix1 k))
    (v46_real h0 h1 h2 h3 h4 i) (fun k => (h6 _).mul (h5 _)) (N := 1024) (by norm_num) j rfl hr rfl
  rw [e, hr]

include h0 h1 h2 h3 h4 h5 h6 in
theorem v84_real (i : Fin 8192) (j : Fin 1024) : IsReal (val_main_v84 (F := Ideal) x0 x1 x2 x3 x4 x5 x6 (ix2 i j)) := by
  rw [← v84_at h0 h1 h2 h3 h4 h5 h6 i j _ (fun k => rfl) rfl, word_1024, word_eps]
  have hy := fun k => v46_real h0 h1 h2 h3 h4 i k
  have hr := rms_isReal hy (N := 1024) (by norm_num)
  exact hr.mul (((h6 _).mul (h5 _)).sub (((hy j).mul hr).mul
    (IsReal.div (IsReal.sum fun k => ((h6 _).mul (h5 _)).mul ((hy k).mul hr)) (by norm_num))))

theorem v85_at (i : Fin 8192) (q : Fin 2816) : val_main_v85 (F := Ideal) x0 x1 x2 x3 x4 x5 x6 (ix2 i q)
    = ∑ k : Fin 1024, val_main_v84 (F := Ideal) x0 x1 x2 x3 x4 x5 x6 (ix2 i k) * x4 (ix2 q k) := by
  pointwise [val_main_v85]

include h0 h1 h2 h3 h4 h5 h6 in
theorem v85_real (i : Fin 8192) (q : Fin 2816) : IsReal (val_main_v85 (F := Ideal) x0 x1 x2 x3 x4 x5 x6 (ix2 i q)) := by
  rw [v85_at]
  exact IsReal.sum fun k => (v84_real h0 h1 h2 h3 h4 h5 h6 i k).mul (h4 _)

/-- The gradient at the convolution's result, of the values' columns. -/
theorem v89_val (i : Fin 8192) (q : Fin 2816) : val_main_v89 (F := Ideal) x0 x1 x2 x3 x4 x5 x6 (ix2 i ⟨2816 + q, by omega⟩)
    = (∑ k : Fin 1024, val_main_v84 (F := Ideal) x0 x1 x2 x3 x4 x5 x6 (ix2 i k) * x4 (ix2 q k))
      * (val_main_v41 (F := Ideal) x0 x1 x2 x3 (ix2 i ⟨q, by omega⟩)
        * Ideal.div ((1 : ℝ) : EReal) (((1 : ℝ) : EReal) + Ideal.exp (-(val_main_v41 (F := Ideal) x0 x1 x2 x3 (ix2 i ⟨q, by omega⟩))))) := by
  rw [← v85_at, ← sig_at, ← gate_at, mul_comm]
  pointwise [val_main_v89]
  rw [val_main_v86_apply, val_main_v44_0_apply]
  rfl

theorem v89_gate0 (i : Fin 8192) (q : Fin 2816) : val_main_v89 (F := Ideal) x0 x1 x2 x3 x4 x5 x6 (ix2 i ⟨q, by omega⟩)
    = val_main_v88 (F := Ideal) x0 x1 x2 x3 x4 x5 x6 (ix2 i q) := by
  pointwise [val_main_v89]

include h0 h1 h2 h3 h4 h5 h6 in
/-- The same of the gate's columns, the sigmoid's own derivative factored. -/
theorem v89_gate (i : Fin 8192) (q : Fin 2816) {s : EReal}
    (hs : s = Ideal.div ((1 : ℝ) : EReal) (((1 : ℝ) : EReal) + Ideal.exp (-(val_main_v41 (F := Ideal) x0 x1 x2 x3 (ix2 i ⟨q, by omega⟩))))) :
    val_main_v89 (F := Ideal) x0 x1 x2 x3 x4 x5 x6 (ix2 i ⟨q, by omega⟩)
    = (∑ k : Fin 1024, val_main_v84 (F := Ideal) x0 x1 x2 x3 x4 x5 x6 (ix2 i k) * x4 (ix2 q k))
      * val_main_v41 (F := Ideal) x0 x1 x2 x3 (ix2 i ⟨2816 + q, by omega⟩)
      * (s + val_main_v41 (F := Ideal) x0 x1 x2 x3 (ix2 i ⟨q, by omega⟩) * s * (((1 : ℝ) : EReal) - s)) := by
  rw [v89_gate0, ← v85_at]
  have e : val_main_v44_1 (F := Ideal) x0 x1 x2 x3 (ix2 i q) = s * (((1 : ℝ) : EReal) - s) := by
    rw [hs, ← sig_at]
    pointwise [val_main_v44_1, val_main_call0_v7, val_main_call0_v6, val_main_call0_cst_1]
    rw [EReal.coe_one]
  have hsr : IsReal s := hs ▸ sigmoid_real (v41_real h0 h1 h2 h3 i _)
  rw [val_main_v88_apply, val_main_call1_v1_apply, val_main_call1_v2_apply, val_main_call1_v0_apply, val_main_v87_apply, e, sig_at, ← hs,
    gate_at, val_at]
  obtain ⟨a, ha⟩ := v41_real h0 h1 h2 h3 i ⟨q, by omega⟩
  obtain ⟨b, hb⟩ := v41_real h0 h1 h2 h3 i ⟨2816 + q, by omega⟩
  obtain ⟨d, hd⟩ := v85_real h0 h1 h2 h3 h4 h5 h6 i q
  obtain ⟨s, rfl⟩ := hsr
  rw [ha, hb, hd]
  show ((d : EReal) * b) * s + (a * (d * b)) * (s * (((1 : ℝ) : EReal) - s)) = _
  simp only [← EReal.coe_mul, ← EReal.coe_sub, ← EReal.coe_add]
  exact congrArg _ (by ring)

include h0 h1 h2 h3 h4 h5 h6 in
theorem v89_real (i : Fin 8192) (q : Fin 5632) : IsReal (val_main_v89 (F := Ideal) x0 x1 x2 x3 x4 x5 x6 (ix2 i q)) := by
  have hc := fun p => v41_real h0 h1 h2 h3 i p
  have hd := fun p => IsReal.sum (s := Finset.univ) fun k => (v84_real h0 h1 h2 h3 h4 h5 h6 i k).mul (h4 (ix2 p k))
  by_cases h : (q : ℕ) < 2816
  · have hs := sigmoid_real (hc ⟨q, by omega⟩)
    have e := v89_gate h0 h1 h2 h3 h4 h5 h6 i ⟨q, h⟩ rfl
    exact e ▸ ((hd _).mul (hc _)).mul (hs.add (((hc _).mul hs).mul ((IsReal.coe 1).sub hs)))
  · have e := v89_val (x0 := x0) (x1 := x1) (x2 := x2) (x3 := x3) (x4 := x4) (x5 := x5) (x6 := x6) i ⟨q - 2816, by omega⟩
    have eq : (⟨2816 + (q - 2816), by omega⟩ : Fin 5632) = q := Fin.ext (by show 2816 + (q.val - 2816) = q; omega)
    rw [eq] at e
    exact e ▸ (hd _).mul ((hc _).mul (sigmoid_real (hc _)))

/-- The gradient at the convolution's input. -/
theorem v122_at (i : Fin 8192) (q : Fin 5632) : val_main_v122 (F := Ideal) x0 x1 x2 x3 x4 x5 x6 (ix2 i q)
    = x3 (ix2 2 q) * val_main_v89 (F := Ideal) x0 x1 x2 x3 x4 x5 x6 (ix2 i q)
      + x3 (ix2 1 q) * tail (fun k => val_main_v89 (F := Ideal) x0 x1 x2 x3 x4 x5 x6 (ix2 k q)) (i + 1)
      + x3 (ix2 0 q) * tail (fun k => val_main_v89 (F := Ideal) x0 x1 x2 x3 x4 x5 x6 (ix2 k q)) (i + 2) := by
  have hi : (2 + (i : ℕ) - 1) = i + 1 := by omega
  have hi2 : (2 + (i : ℕ)) = i + 2 := by omega
  pointwise [val_main_v122, val_main_v117, val_main_v116, val_main_v106, val_main_v105, val_main_v96, val_main_v91, val_main_v100, val_main_v111,
    val_main_v90, val_main_v99, val_main_v110, val_main_cst_21, val_main_cst_25, val_main_v38, val_main_v36, val_main_v35, val_main_v31,
    val_main_v29, val_main_v28, val_main_v23, val_main_v21, val_main_v20]
  have e1 : (if h : 1 ≤ 2 + (i : ℕ) ∧ 2 + (i : ℕ) - 1 < 8192 then
          x3 (ix2 1 q) * val_main_v89 (F := Ideal) x0 x1 x2 x3 x4 x5 x6 (ix2 ⟨2 + i - 1, h.2⟩ q) else 0)
      = x3 (ix2 1 q) * tail (fun k => val_main_v89 (F := Ideal) x0 x1 x2 x3 x4 x5 x6 (ix2 k q)) (i + 1) := by
    by_cases h : (i : ℕ) + 1 < 8192
    · rw [dif_pos ⟨by omega, by omega⟩, tail_of_lt _ h]
      simp only [hi]
    · rw [dif_neg (by omega), tail_of_not _ h, mul_zero]
  have e2 : (if h : 2 + (i : ℕ) < 8192 then x3 (ix2 0 q) * val_main_v89 (F := Ideal) x0 x1 x2 x3 x4 x5 x6 (ix2 ⟨2 + i, h⟩ q) else 0)
      = x3 (ix2 0 q) * tail (fun k => val_main_v89 (F := Ideal) x0 x1 x2 x3 x4 x5 x6 (ix2 k q)) (i + 2) := by
    by_cases h : (i : ℕ) + 2 < 8192
    · rw [dif_pos (by omega), tail_of_lt _ h]
      simp only [hi2]
    · rw [dif_neg (by omega), tail_of_not _ h, mul_zero]
  rw [← e1, ← e2]

include h0 h1 h2 h3 h4 h5 h6 in
theorem v122_real (i : Fin 8192) (q : Fin 5632) : IsReal (val_main_v122 (F := Ideal) x0 x1 x2 x3 x4 x5 x6 (ix2 i q)) := by
  have ht : ∀ k, IsReal (tail (fun k => val_main_v89 (F := Ideal) x0 x1 x2 x3 x4 x5 x6 (ix2 k q)) k) := by
    intro k
    unfold tail
    split
    · exact v89_real h0 h1 h2 h3 h4 h5 h6 _ q
    · exact IsReal.coe 0
  rw [v122_at]
  exact (((h3 _).mul (v89_real h0 h1 h2 h3 h4 h5 h6 i q)).add ((h3 _).mul (ht _))).add ((h3 _).mul (ht _))

theorem v95_at (q : Fin 5632) : val_main_v95 (F := Ideal) x0 x1 x2 x3 x4 x5 x6 (ix1 q)
    = ∑ i : Fin 8192, val_main_v16 (F := Ideal) x0 x1 x2 (ix2 i q) * tail (fun k => val_main_v89 (F := Ideal) x0 x1 x2 x3 x4 x5 x6 (ix2 k q)) (i + 0) := by
  rw [← sum_behind _ _ 0 2 rfl]
  pointwise [val_main_v95, val_main_v94, val_main_v93, val_main_v92, val_main_cst_15, val_main_cst_16]
  try rw [Fin.sum_univ_one]
  exact Finset.sum_congr rfl fun i _ => congrArg _ (v37_at i q)

theorem v104_at (q : Fin 5632) : val_main_v104 (F := Ideal) x0 x1 x2 x3 x4 x5 x6 (ix1 q)
    = ∑ i : Fin 8192, val_main_v16 (F := Ideal) x0 x1 x2 (ix2 i q) * tail (fun k => val_main_v89 (F := Ideal) x0 x1 x2 x3 x4 x5 x6 (ix2 k q)) (i + 1) := by
  rw [← sum_behind _ _ 1 1 rfl]
  pointwise [val_main_v104, val_main_v103, val_main_v102, val_main_v101, val_main_cst_19, val_main_cst_20]
  try rw [Fin.sum_univ_one]
  exact Finset.sum_congr rfl fun i _ => congrArg _ (v30_at i q)

theorem v115_at (q : Fin 5632) : val_main_v115 (F := Ideal) x0 x1 x2 x3 x4 x5 x6 (ix1 q)
    = ∑ i : Fin 8192, val_main_v16 (F := Ideal) x0 x1 x2 (ix2 i q) * tail (fun k => val_main_v89 (F := Ideal) x0 x1 x2 x3 x4 x5 x6 (ix2 k q)) (i + 2) := by
  rw [← sum_behind _ _ 2 0 rfl]
  pointwise [val_main_v115, val_main_v114, val_main_v113, val_main_v112, val_main_cst_23, val_main_cst_24]
  try rw [Fin.sum_univ_one]
  exact Finset.sum_congr rfl fun i _ => congrArg _ ((v22_at i q).trans (by simp only [Nat.zero_add]))

/-- The gradient at the convolution's taps. -/
theorem v151_at (k : Fin 8) (q : Fin 5632) : val_main_v151 (F := Ideal) x0 x1 x2 x3 x4 x5 x6 (ix2 k q)
    = if (k : ℕ) < 3 then ∑ i : Fin 8192, val_main_v16 (F := Ideal) x0 x1 x2 (ix2 i q)
        * tail (fun k => val_main_v89 (F := Ideal) x0 x1 x2 x3 x4 x5 x6 (ix2 k q)) (i + (2 - k)) else 0 := by
  have h0 := v95_at (x0 := x0) (x1 := x1) (x2 := x2) (x3 := x3) (x4 := x4) (x5 := x5) (x6 := x6) q
  have h1 := v104_at (x0 := x0) (x1 := x1) (x2 := x2) (x3 := x3) (x4 := x4) (x5 := x5) (x6 := x6) q
  have h2 := v115_at (x0 := x0) (x1 := x1) (x2 := x2) (x3 := x3) (x4 := x4) (x5 := x5) (x6 := x6) q
  pointwise [val_main_v151, val_main_v120, val_main_v119, val_main_v109, val_main_v108, val_main_v98, val_main_v97, val_main_v107, val_main_v118,
    val_main_v150, val_main_cst_32, val_main_cst_26, val_main_cst_22, val_main_cst_18]
  rw [h0, h1, h2]
  match k with
  | ⟨0, _⟩ => simp
  | ⟨1, _⟩ => simp
  | ⟨2, _⟩ => simp
  | ⟨k + 3, _⟩ => simp

include h0 h1 h2 h3 h4 h5 h6 in
/-- The gradient at the call's input, with the normalized row factored out. -/
theorem v144_at (i : Fin 8192) (j : Fin 1024) (d : Fin 1024 → EReal)
    (hd : ∀ k, d k = val_main_v123 (F := Ideal) x0 x1 x2 x3 x4 x5 x6 (ix2 i k)) {r : EReal}
    (hr : r = Ideal.rsqrt (Ideal.div (∑ k, x0 (ix2 i k) * x0 (ix2 i k)) (Ideal.ofBits .f32 0x44800000#32) + Ideal.ofBits .f32 0x358637BD#32)) :
    x6 (ix2 i j) + r * (d j * x1 (ix1 j) - x0 (ix2 i j) * r
        * Ideal.div (∑ k, d k * x1 (ix1 k) * (x0 (ix2 i k) * r)) (Ideal.ofBits .f32 0x44800000#32))
      = val_main_v144 (F := Ideal) x0 x1 x2 x3 x4 x5 x6 (ix2 i j) := by
  obtain rfl : d = fun k => val_main_v123 (F := Ideal) x0 x1 x2 x3 x4 x5 x6 (ix2 i k) := funext hd
  have hdr : ∀ k, IsReal (val_main_v123 (F := Ideal) x0 x1 x2 x3 x4 x5 x6 (ix2 i k)) := by
    intro k
    pointwise [val_main_v123]
    exact IsReal.sum fun p => (v122_real h0 h1 h2 h3 h4 h5 h6 i p).mul (h2 _)
  pointwise [val_main_v144, val_main_v143, val_main_v142, val_main_v141, val_main_v140, val_main_v139, val_main_v138,
    val_main_v137, val_main_v136, val_main_v135, val_main_v134, val_main_v133, val_main_v132, val_main_v131, val_main_v130,
    val_main_v128, val_main_v127, val_main_v13, val_main_v10, val_main_v9, val_main_v8, val_main_cst_2, val_main_cst_29, val_main_cst_30,
    val_main_cst_31, val_main_v7, val_main_v6, val_main_v5, val_main_v4, val_main_v3, val_main_v2, val_main_v1, val_main_v0, val_main_cst,
    val_main_cst_0, val_main_cst_1]
  rw [Fin.sum_univ_one, word_1024, word_neg_half]
  rw [word_1024, word_eps] at hr
  rw [word_eps]
  have e := rms_bwd (fun k => x0 (ix2 i k)) (fun k => val_main_v123 (F := Ideal) x0 x1 x2 x3 x4 x5 x6 (ix2 i k) * x1 (ix1 k))
    (fun k => h0 _) (fun k => (hdr k).mul (h1 _)) (N := 1024) (by norm_num) j rfl hr rfl
  rw [e, hr]

end Real

end Cert.Reference4Ideal.Ffn

end
-- ==== Proof.FfBlock.lean ====
/- The feed-forward's backward call at one block of rows: its operands and the gradient at the convolution's result. -/
module

public import proofs.«01_k».proof.Proof.FfPay
public import proofs.«01_k».proof.Proof.FfRef
public import Idealize.ShloMosaic.Lib.Claim
public import Idealize.ShloMosaic.Lib.StableHlo.RunRead

@[expose] public section

set_option maxRecDepth 16384

noncomputable section

namespace Cert.Kernel4Ideal.Ffn

open Cert.Kernel4Ideal Cert.Kernel4Ideal.Gen Idealize.ShloMosaic Idealize.ShloMosaic.TcCoe Idealize.SL.Sem
open Cert.Reference4Ideal.Read
open Cert.Reference4Ideal.Ffn (eq2 tail tail_of_lt tail_of_not)
open Cert.Reals (IsReal)

variable (m : (ℓ : Loc nD τ sig) → Buf (Elt Ideal) ℓ) (c : Dev nD)

/-! ## The arguments and the reference's stages -/

abbrev x0 : FVec Ideal S8192x1024 .f32 := m ((c : Thread nD τ).loc main_arg0)
abbrev x1 : FVec Ideal S1024 .f32 := m ((c : Thread nD τ).loc main_arg1)
abbrev x2 : FVec Ideal S1024x5632 .f32 := m ((c : Thread nD τ).loc main_arg2)
abbrev x3 : FVec Ideal S3x5632 .f32 := m ((c : Thread nD τ).loc main_arg3)
abbrev x4 : FVec Ideal S2816x1024 .f32 := m ((c : Thread nD τ).loc main_arg4)
abbrev x5 : FVec Ideal S1024 .f32 := m ((c : Thread nD τ).loc main_arg5)
abbrev x6 : FVec Ideal S8192x1024 .f32 := m ((c : Thread nD τ).loc main_arg6)
/-- The up projection. -/
def ru : FVec Ideal S8192x5632 .f32 := val_main_v16 (F := Ideal) (x0 m c) (x1 m c) (x2 m c)
/-- The convolution. -/
def rc : FVec Ideal S8192x5632 .f32 := val_main_v41 (F := Ideal) (x0 m c) (x1 m c) (x2 m c) (x3 m c)
/-- The down projection. -/
def ry : FVec Ideal S8192x1024 .f32 := val_main_v46 (F := Ideal) (x0 m c) (x1 m c) (x2 m c) (x3 m c) (x4 m c)
/-- The gradient at the down projection. -/
def rdy : FVec Ideal S8192x1024 .f32 := val_main_v84 (F := Ideal) (x0 m c) (x1 m c) (x2 m c) (x3 m c) (x4 m c) (x5 m c) (x6 m c)
/-- The gradient at the convolution. -/
def rdc : FVec Ideal S8192x5632 .f32 := val_main_v89 (F := Ideal) (x0 m c) (x1 m c) (x2 m c) (x3 m c) (x4 m c) (x5 m c) (x6 m c)
/-- The gradient at the up projection. -/
def rdu : FVec Ideal S8192x5632 .f32 := val_main_v122 (F := Ideal) (x0 m c) (x1 m c) (x2 m c) (x3 m c) (x4 m c) (x5 m c) (x6 m c)

/-- Every argument is finite. -/
structure Finite : Prop where
  h0 : ∀ i, IsReal (x0 m c i)
  h1 : ∀ i, IsReal (x1 m c i)
  h2 : ∀ i, IsReal (x2 m c i)
  h3 : ∀ i, IsReal (x3 m c i)
  h4 : ∀ i, IsReal (x4 m c i)
  h5 : ∀ i, IsReal (x5 m c i)
  h6 : ∀ i, IsReal (x6 m c i)

/-- The row of the whole array that row `r` of block `t` is: the blocks are taken from the last one on. -/
def row (t : Fin cfg0.N) (r : Fin 256) : Fin 8192 := ⟨(31 - t.val) * 256 + r, by omega⟩

/-- Which block each window holds at a point. -/
theorem idx : ∀ t : Fin cfg0.N, win0_0.index t = ![31 - t.val, 0] ∧ win0_1.index t = ![31 - t.val, 0] ∧ win0_2.index t = ![31 - t.val, 0]
    ∧ win0_3.index t = ![31 - t.val, 0] ∧ win0_4.index t = ![31 - t.val, 0] ∧ win0_5.index t = ![0, 0] ∧ win0_6.index t = ![0, 0]
    ∧ win0_7.index t = ![0, 0] ∧ win0_8.index t = ![0, 0] ∧ win0_9.index t = ![0, 0] ∧ win0_10.index t = ![31 - t.val, 0]
    ∧ win0_11.index t = ![31 - t.val, 0] ∧ win0_12.index t = ![31 - t.val, 0] ∧ win0_13.index t = ![31 - t.val, 0] ∧ win0_14.index t = ![0, 0]
    ∧ win0_15.index t = ![0, 0] ∧ win0_16.index t = ![0, 0] :=
  (by decide +kernel : ∀ t : Fin grid0.N, _)

/-! ## What the host hands the call -/

theorem host_y : V m c main_v48 = ry m c := by
  unfold V
  after_reads_simp
  rfl

theorem host_u : V m c main_v49 = ru m c := by
  unfold V
  after_reads_simp
  rfl

theorem host_c : V m c main_v50 = rc m c := by
  unfold V
  after_reads_simp
  rfl

theorem host_g5 : V m c main_v0 = shapeCast S1x1024 (x1 m c) shapeCasts_S1024_S1x1024 := by
  unfold V
  after_reads_simp
  rfl

theorem host_g6 : V m c main_v1 = shapeCast S1x1024 (x5 m c) shapeCasts_S1024_S1x1024 := by
  unfold V
  after_reads_simp
  rfl

theorem host_wup : V m c main_v3 = transpose S5632x1024 [1, 0] (truncf .bf16 (x2 m c) bitsLt_bf16_f32) transposes_S1024x5632_S5632x1024_1_0 := by
  unfold V
  after_reads_simp

/-! ## The blocks -/

section Block
variable (t : Fin cfg0.N)

theorem y_blk (r : Fin 256) (k : Fin 1024) : iblk m c 1 t (ix2 r k) = ry m c (ix2 (row t r) k) := by
  rw [← host_y]
  blk_point [iblk, idx t, row]

theorem u_blk (r : Fin 256) (k : Fin 5632) : iblk m c 3 t (ix2 r k) = ru m c (ix2 (row t r) k) := by
  rw [← host_u]
  blk_point [iblk, idx t, row]

theorem c_blk (r : Fin 256) (k : Fin 5632) : iblk m c 4 t (ix2 r k) = rc m c (ix2 (row t r) k) := by
  rw [← host_c]
  blk_point [iblk, idx t, row]

theorem dx3_blk (r : Fin 256) (k : Fin 1024) : iblk m c 0 t (ix2 r k) = x6 m c (ix2 (row t r) k) := by
  blk_point [iblk, V, idx t, row]

theorem x_blk (r : Fin 256) (k : Fin 1024) : iblk m c 2 t (ix2 r k) = x0 m c (ix2 (row t r) k) := by
  blk_point [iblk, V, idx t, row]

theorem g5_blk (k : Fin 1024) : iblk m c 5 t (ix2 0 k) = x1 m c (ix1 k) := by
  have e := host_g5 m c
  generalize hG : shapeCast S1x1024 (x1 m c) shapeCasts_S1024_S1x1024 = G at e
  refine Eq.trans (b := G (ix2 0 k)) ?_ (by subst hG; pointwise [])
  rw [← e]
  blk_point [iblk, idx t]

theorem g6_blk (k : Fin 1024) : iblk m c 9 t (ix2 0 k) = x5 m c (ix1 k) := by
  have e := host_g6 m c
  generalize hG : shapeCast S1x1024 (x5 m c) shapeCasts_S1024_S1x1024 = G at e
  refine Eq.trans (b := G (ix2 0 k)) ?_ (by subst hG; pointwise [])
  rw [← e]
  blk_point [iblk, idx t]

theorem wup_blk (q : Fin 5632) (j : Fin 1024) : iblk m c 6 t (ix2 q j) = x2 m c (ix2 j q) := by
  have e := host_wup m c
  generalize hG : transpose S5632x1024 [1, 0] (truncf .bf16 (x2 m c) bitsLt_bf16_f32) transposes_S1024x5632_S5632x1024_1_0 = G at e
  refine Eq.trans (b := G (ix2 q j)) ?_ (by subst hG; pointwise [])
  rw [← e]
  blk_point [iblk, idx t]

theorem wc_blk (k : Fin 3) (q : Fin 5632) : iblk m c 7 t (ix2 k q) = x3 m c (ix2 k q) := by
  blk_point [iblk, V, idx t]

theorem wd_blk (q : Fin 2816) (j : Fin 1024) : iblk m c 8 t (ix2 q j) = x4 m c (ix2 q j) := by
  blk_point [iblk, idx t]

/-- Where a load through a rectangle reads. -/
theorem ix_at {a b n0 n1 o0 o1 : ℕ} (inb : ∀ k : Fin 2, (![o0, o1] : Fin 2 → ℕ) k + (![n0, n1] : Fin 2 → ℕ) k ≤ (![a, b] : Fin 2 → ℕ) k)
    (r : Fin n0) (q : Fin n1) (i : Fin a) (j : Fin b) (hi : (i : ℕ) = o0 + r) (hj : (j : ℕ) = o1 + q) :
    (Rect.unit (s := ⟨2, ![a, b]⟩) ![o0, o1] ![n0, n1] inb).idx (ix2 r q) = ix2 i j :=
  eq2 _ _ _ (by show o0 + 1 * (r : ℕ) = i; omega) (by show o1 + 1 * (q : ℕ) = j; omega)

theorem cb0_at (r : Fin 256) (q : Fin 1408) : cb0 m c t (ix2 r q) = rc m c (ix2 (row t r) ⟨0 + q, by omega⟩) :=
  (congrArg (iblk m c 4 t) (ix_at _ r q r ⟨0 + q, by omega⟩ (by omega) rfl)).trans (c_blk m c t r _)

theorem ub0_at (r : Fin 256) (q : Fin 1408) : ub0 m c t (ix2 r q) = ru m c (ix2 (row t r) ⟨0 + q, by omega⟩) :=
  (congrArg (iblk m c 3 t) (ix_at _ r q r ⟨0 + q, by omega⟩ (by omega) rfl)).trans (u_blk m c t r _)

theorem ut0_at (r : Fin 16) (q : Fin 1408) : ut0 m c t (ix2 r q) = ru m c (ix2 (row t ⟨240 + r, by omega⟩) ⟨0 + q, by omega⟩) :=
  (congrArg (iblk m c 3 t) (ix_at _ r q ⟨240 + r, by omega⟩ ⟨0 + q, by omega⟩ rfl rfl)).trans (u_blk m c t _ _)

theorem cw00_at (q : Fin 1408) : cw00 m c t (ix2 0 q) = x3 m c (ix2 0 ⟨0 + q, by omega⟩) :=
  (congrArg (iblk m c 7 t) (ix_at _ 0 q 0 ⟨0 + q, by omega⟩ rfl rfl)).trans (wc_blk m c t _ _)

theorem cw01_at (q : Fin 1408) : cw01 m c t (ix2 0 q) = x3 m c (ix2 1 ⟨0 + q, by omega⟩) :=
  (congrArg (iblk m c 7 t) (ix_at _ 0 q 1 ⟨0 + q, by omega⟩ rfl rfl)).trans (wc_blk m c t _ _)

theorem cw02_at (q : Fin 1408) : cw02 m c t (ix2 0 q) = x3 m c (ix2 2 ⟨0 + q, by omega⟩) :=
  (congrArg (iblk m c 7 t) (ix_at _ 0 q 2 ⟨0 + q, by omega⟩ rfl rfl)).trans (wc_blk m c t _ _)

theorem cb1_at (r : Fin 256) (q : Fin 1408) : cb1 m c t (ix2 r q) = rc m c (ix2 (row t r) ⟨1408 + q, by omega⟩) :=
  (congrArg (iblk m c 4 t) (ix_at _ r q r ⟨1408 + q, by omega⟩ (by omega) rfl)).trans (c_blk m c t r _)

theorem ub1_at (r : Fin 256) (q : Fin 1408) : ub1 m c t (ix2 r q) = ru m c (ix2 (row t r) ⟨1408 + q, by omega⟩) :=
  (congrArg (iblk m c 3 t) (ix_at _ r q r ⟨1408 + q, by omega⟩ (by omega) rfl)).trans (u_blk m c t r _)

theorem ut1_at (r : Fin 16) (q : Fin 1408) : ut1 m c t (ix2 r q) = ru m c (ix2 (row t ⟨240 + r, by omega⟩) ⟨1408 + q, by omega⟩) :=
  (congrArg (iblk m c 3 t) (ix_at _ r q ⟨240 + r, by omega⟩ ⟨1408 + q, by omega⟩ rfl rfl)).trans (u_blk m c t _ _)

theorem cw10_at (q : Fin 1408) : cw10 m c t (ix2 0 q) = x3 m c (ix2 0 ⟨1408 + q, by omega⟩) :=
  (congrArg (iblk m c 7 t) (ix_at _ 0 q 0 ⟨1408 + q, by omega⟩ rfl rfl)).trans (wc_blk m c t _ _)

theorem cw11_at (q : Fin 1408) : cw11 m c t (ix2 0 q) = x3 m c (ix2 1 ⟨1408 + q, by omega⟩) :=
  (congrArg (iblk m c 7 t) (ix_at _ 0 q 1 ⟨1408 + q, by omega⟩ rfl rfl)).trans (wc_blk m c t _ _)

theorem cw12_at (q : Fin 1408) : cw12 m c t (ix2 0 q) = x3 m c (ix2 2 ⟨1408 + q, by omega⟩) :=
  (congrArg (iblk m c 7 t) (ix_at _ 0 q 2 ⟨1408 + q, by omega⟩ rfl rfl)).trans (wc_blk m c t _ _)

theorem cb2_at (r : Fin 256) (q : Fin 1408) : cb2 m c t (ix2 r q) = rc m c (ix2 (row t r) ⟨2816 + q, by omega⟩) :=
  (congrArg (iblk m c 4 t) (ix_at _ r q r ⟨2816 + q, by omega⟩ (by omega) rfl)).trans (c_blk m c t r _)

theorem ub2_at (r : Fin 256) (q : Fin 1408) : ub2 m c t (ix2 r q) = ru m c (ix2 (row t r) ⟨2816 + q, by omega⟩) :=
  (congrArg (iblk m c 3 t) (ix_at _ r q r ⟨2816 + q, by omega⟩ (by omega) rfl)).trans (u_blk m c t r _)

theorem ut2_at (r : Fin 16) (q : Fin 1408) : ut2 m c t (ix2 r q) = ru m c (ix2 (row t ⟨240 + r, by omega⟩) ⟨2816 + q, by omega⟩) :=
  (congrArg (iblk m c 3 t) (ix_at _ r q ⟨240 + r, by omega⟩ ⟨2816 + q, by omega⟩ rfl rfl)).trans (u_blk m c t _ _)

theorem cw20_at (q : Fin 1408) : cw20 m c t (ix2 0 q) = x3 m c (ix2 0 ⟨2816 + q, by omega⟩) :=
  (congrArg (iblk m c 7 t) (ix_at _ 0 q 0 ⟨2816 + q, by omega⟩ rfl rfl)).trans (wc_blk m c t _ _)

theorem cw21_at (q : Fin 1408) : cw21 m c t (ix2 0 q) = x3 m c (ix2 1 ⟨2816 + q, by omega⟩) :=
  (congrArg (iblk m c 7 t) (ix_at _ 0 q 1 ⟨2816 + q, by omega⟩ rfl rfl)).trans (wc_blk m c t _ _)

theorem cw22_at (q : Fin 1408) : cw22 m c t (ix2 0 q) = x3 m c (ix2 2 ⟨2816 + q, by omega⟩) :=
  (congrArg (iblk m c 7 t) (ix_at _ 0 q 2 ⟨2816 + q, by omega⟩ rfl rfl)).trans (wc_blk m c t _ _)

theorem cb3_at (r : Fin 256) (q : Fin 1408) : cb3 m c t (ix2 r q) = rc m c (ix2 (row t r) ⟨4224 + q, by omega⟩) :=
  (congrArg (iblk m c 4 t) (ix_at _ r q r ⟨4224 + q, by omega⟩ (by omega) rfl)).trans (c_blk m c t r _)

theorem ub3_at (r : Fin 256) (q : Fin 1408) : ub3 m c t (ix2 r q) = ru m c (ix2 (row t r) ⟨4224 + q, by omega⟩) :=
  (congrArg (iblk m c 3 t) (ix_at _ r q r ⟨4224 + q, by omega⟩ (by omega) rfl)).trans (u_blk m c t r _)

theorem ut3_at (r : Fin 16) (q : Fin 1408) : ut3 m c t (ix2 r q) = ru m c (ix2 (row t ⟨240 + r, by omega⟩) ⟨4224 + q, by omega⟩) :=
  (congrArg (iblk m c 3 t) (ix_at _ r q ⟨240 + r, by omega⟩ ⟨4224 + q, by omega⟩ rfl rfl)).trans (u_blk m c t _ _)

theorem cw30_at (q : Fin 1408) : cw30 m c t (ix2 0 q) = x3 m c (ix2 0 ⟨4224 + q, by omega⟩) :=
  (congrArg (iblk m c 7 t) (ix_at _ 0 q 0 ⟨4224 + q, by omega⟩ rfl rfl)).trans (wc_blk m c t _ _)

theorem cw31_at (q : Fin 1408) : cw31 m c t (ix2 0 q) = x3 m c (ix2 1 ⟨4224 + q, by omega⟩) :=
  (congrArg (iblk m c 7 t) (ix_at _ 0 q 1 ⟨4224 + q, by omega⟩ rfl rfl)).trans (wc_blk m c t _ _)

theorem cw32_at (q : Fin 1408) : cw32 m c t (ix2 0 q) = x3 m c (ix2 2 ⟨4224 + q, by omega⟩) :=
  (congrArg (iblk m c 7 t) (ix_at _ 0 q 2 ⟨4224 + q, by omega⟩ rfl rfl)).trans (wc_blk m c t _ _)

theorem wd0_at (q : Fin 1408) (j : Fin 1024) : wd0 m c t (ix2 q j) = x4 m c (ix2 ⟨0 + q, by omega⟩ j) :=
  (congrArg (iblk m c 8 t) (ix_at _ q j ⟨0 + q, by omega⟩ j rfl (by omega))).trans (wd_blk m c t _ _)

theorem wd1_at (q : Fin 1408) (j : Fin 1024) : wd1 m c t (ix2 q j) = x4 m c (ix2 ⟨1408 + q, by omega⟩ j) :=
  (congrArg (iblk m c 8 t) (ix_at _ q j ⟨1408 + q, by omega⟩ j rfl (by omega))).trans (wd_blk m c t _ _)

/-! ## The gradient at the convolution's result -/

section Grad
variable (f : Finite m c)
include f

theorem dyb_at (r : Fin 256) (j : Fin 1024) : dyb m c t (ix2 r j) = rdy m c (ix2 (row t r) j) := by
  unfold dyb
  rw [dy_at]
  simp only [y_blk, g6_blk, dx3_blk]
  exact Cert.Reference4Ideal.Ffn.v84_at f.h0 f.h1 f.h2 f.h3 f.h4 f.h5 f.h6 (row t r) j _ (fun k => rfl) rfl

theorem D0_at (r : Fin 256) (q : Fin 1408) : D0 m c t (ix2 r q) = rdc m c (ix2 (row t r) ⟨0 + q, by omega⟩) := by
  unfold D0
  rw [gradG_at]
  simp only [dyb_at m c t f, cb0_at, cb2_at, wd0_at]
  refine Eq.trans ?_ (Cert.Reference4Ideal.Ffn.v89_gate f.h0 f.h1 f.h2 f.h3 f.h4 f.h5 f.h6 (row t r) ⟨0 + q, by omega⟩ rfl).symm
  have e : (⟨2816 + q, by omega⟩ : Fin 5632) = ⟨2816 + (0 + q), by omega⟩ := Fin.ext (by show 2816 + (q : ℕ) = 2816 + (0 + q); omega)
  rw [e]
  rfl

theorem D1_at (r : Fin 256) (q : Fin 1408) : D1 m c t (ix2 r q) = rdc m c (ix2 (row t r) ⟨1408 + q, by omega⟩) := by
  unfold D1
  rw [gradG_at]
  simp only [dyb_at m c t f, cb1_at, cb3_at, wd1_at]
  refine Eq.trans ?_ (Cert.Reference4Ideal.Ffn.v89_gate f.h0 f.h1 f.h2 f.h3 f.h4 f.h5 f.h6 (row t r) ⟨1408 + q, by omega⟩ rfl).symm
  have e : (⟨4224 + q, by omega⟩ : Fin 5632) = ⟨2816 + (1408 + q), by omega⟩ := Fin.ext (by show 4224 + (q : ℕ) = 2816 + (1408 + q); omega)
  rw [e]
  rfl

theorem D2_at (r : Fin 256) (q : Fin 1408) : D2 m c t (ix2 r q) = rdc m c (ix2 (row t r) ⟨2816 + q, by omega⟩) := by
  unfold D2
  rw [gradV_at]
  simp only [dyb_at m c t f, cb0_at, wd0_at]
  have e : (⟨2816 + q, by omega⟩ : Fin 5632) = ⟨2816 + (0 + q), by omega⟩ := Fin.ext (by show 2816 + (q : ℕ) = 2816 + (0 + q); omega)
  rw [e]
  exact (Cert.Reference4Ideal.Ffn.v89_val (row t r) ⟨0 + q, by omega⟩).symm

theorem D3_at (r : Fin 256) (q : Fin 1408) : D3 m c t (ix2 r q) = rdc m c (ix2 (row t r) ⟨4224 + q, by omega⟩) := by
  unfold D3
  rw [gradV_at]
  simp only [dyb_at m c t f, cb1_at, wd1_at]
  have e : (⟨4224 + q, by omega⟩ : Fin 5632) = ⟨2816 + (1408 + q), by omega⟩ := Fin.ext (by show 4224 + (q : ℕ) = 2816 + (1408 + q); omega)
  rw [e]
  exact (Cert.Reference4Ideal.Ffn.v89_val (row t r) ⟨1408 + q, by omega⟩).symm

end Grad

end Block

end Cert.Kernel4Ideal.Ffn
-- ==== Proof.FfTile.lean ====
/- The feed-forward's backward call at one block of rows: the gradient at the up projection and the filter's, the rows behind the block included. -/
module

public import proofs.«01_k».proof.Proof.FfBlock

@[expose] public section

set_option maxRecDepth 16384

noncomputable section

namespace Cert.Kernel4Ideal.Ffn

open Cert.Kernel4Ideal Cert.Kernel4Ideal.Gen Idealize.ShloMosaic Idealize.ShloMosaic.TcCoe Idealize.SL.Sem
open Cert.Reference4Ideal.Read
open Cert.Reference4Ideal.Ffn (eq2 tail tail_of_lt tail_of_not)

/-! ## Reading stores -/

/-- Inside the last store. -/
theorem canon_hit {A B o0 o1 n0 n1 : ℕ} {e : EltTy}
    {inb : ∀ k : Fin 2, (![o0, o1] : Fin 2 → ℕ) k + (![n0, n1] : Fin 2 → ℕ) k ≤ (![A, B] : Fin 2 → ℕ) k}
    (p : (⟨2, ![n0, n1]⟩ : Shape).Idx → Elt Ideal e) (L : List (View.Piece (Elt Ideal) ⟨2, ![A, B]⟩ e)) (i : Fin A) (j : Fin B) (a : Fin n0) (b : Fin n1)
    (hi : (i : ℕ) = o0 + a) (hj : (j : ℕ) = o1 + b) :
    View.canon ((⟨Rect.unit (s := ⟨2, ![A, B]⟩) ![o0, o1] ![n0, n1] inb, p⟩ : View.Piece (Elt Ideal) ⟨2, ![A, B]⟩ e) :: L) (ix2 i j) = p (ix2 a b) := by
  rw [← ix_at inb a b i j hi hj]
  exact View.canon_cons_emb _ _ _ _

/-- Outside of the last store. -/
theorem canon_skip {A B o0 o1 n0 n1 : ℕ} {e : EltTy}
    {inb : ∀ k : Fin 2, (![o0, o1] : Fin 2 → ℕ) k + (![n0, n1] : Fin 2 → ℕ) k ≤ (![A, B] : Fin 2 → ℕ) k}
    (p : (⟨2, ![n0, n1]⟩ : Shape).Idx → Elt Ideal e) (L : List (View.Piece (Elt Ideal) ⟨2, ![A, B]⟩ e)) (i : Fin A) (j : Fin B)
    (h : (i : ℕ) < o0 ∨ o0 + n0 ≤ (i : ℕ) ∨ (j : ℕ) < o1 ∨ o1 + n1 ≤ (j : ℕ)) :
    View.canon ((⟨Rect.unit (s := ⟨2, ![A, B]⟩) ![o0, o1] ![n0, n1] inb, p⟩ : View.Piece (Elt Ideal) ⟨2, ![A, B]⟩ e) :: L) (ix2 i j) = View.canon L (ix2 i j) := by
  refine View.canon_cons_of_not_mem _ _ fun hm => ?_
  have hm' := (Rect.mem_set_unit (inb := inb)).1 hm
  have h0 : o0 ≤ (i : ℕ) ∧ (i : ℕ) < o0 + n0 := hm' 0
  have h1 : o1 ≤ (j : ℕ) ∧ (j : ℕ) < o1 + n1 := hm' 1
  omega

/-! ## Moving rows up -/

theorem shift1_at (r p : Fin 256) : shift (ix2 ⟨r, by omega⟩ p) = if (p : ℕ) = r + 1 then 1 else 0 := by
  unfold shift
  refine (canon_skip _ _ _ _ (Or.inl ?_)).trans ((canon_hit _ _ _ _ r p ?_ ?_).trans (up1_at r p))
  · show (r : ℕ) < 256
    omega
  · show (r : ℕ) = 0 + r
    omega
  · omega

theorem shift2_at (r p : Fin 256) : shift (ix2 ⟨256 + r, by omega⟩ p) = if (p : ℕ) = r + 2 then 1 else 0 := by
  unfold shift
  refine (canon_hit _ _ _ _ r p ?_ ?_).trans (up2_at r p)
  · rfl
  · omega

theorem sum_at (d : ℕ) (f : Fin 256 → EReal) : ∑ p : Fin 256, (if (p : ℕ) = d then (1 : EReal) else 0) * f p = if h : d < 256 then f ⟨d, h⟩ else 0 := by
  split
  · rename_i h
    rw [Finset.sum_eq_single ⟨d, h⟩ (fun b _ hb => by rw [if_neg (fun e => hb (Fin.ext e)), zero_mul]) (fun hn => absurd (Finset.mem_univ _) hn),
      if_pos rfl, one_mul]
  · rename_i h
    exact Finset.sum_eq_zero fun p _ => by rw [if_neg (by omega), zero_mul]

/-- A sum over a block's last sixteen rows is one over all its rows, of terms that are zero before. -/
theorem sum_last (u : Fin 256 → EReal) (f : ℕ → EReal) (h : ∀ k < 240, f k = 0) :
    ∑ r : Fin 16, u ⟨240 + r, by omega⟩ * f (240 + r) = ∑ r : Fin 256, u r * f r := by
  have e := Fin.sum_univ_add (a := 240) (b := 16) (fun r : Fin (240 + 16) => u r * f r)
  have z : ∑ r : Fin 240, u (Fin.castAdd 16 r) * f (Fin.castAdd 16 r : Fin (240 + 16)) = 0 :=
    Finset.sum_eq_zero fun r _ => by rw [h _ (by show (r : ℕ) < 240; omega), mul_zero]
  exact ((e.trans (congrArg (· + _) z)).trans (zero_add _)).symm

/-! ## One block of columns -/

section Column
variable (t : Fin cfg0.N) (G : Fin 8192 → EReal)

theorem tail_in (r : Fin 256) (d : ℕ) (h : r + d < 256) : tail G (row t r + d) = G (row t ⟨r + d, h⟩) := by
  have e : ((row t r : ℕ) + d) = (row t ⟨r + d, h⟩ : ℕ) := by
    show (31 - t.val) * 256 + (r : ℕ) + d = (31 - t.val) * 256 + (r + d)
    omega
  rw [e, tail_of_lt G (row t ⟨r + d, h⟩).isLt]

variable {D : FVec Ideal S256x1408 .f32} {q : Fin 1408} (hD : ∀ r, D (ix2 r q) = G (row t r))
  {a b : FVec Ideal S1x1408 .f32} (ha : a (ix2 0 q) = tail G ((31 - t.val) * 256 + 256)) (hb : b (ix2 0 q) = tail G ((31 - t.val) * 256 + 257))
include hD

theorem up1 (r : Fin 256) : ∑ p : Fin 256, shift (ix2 ⟨r, by omega⟩ p) * D (ix2 p q) = if (r : ℕ) + 1 < 256 then tail G (row t r + 1) else 0 := by
  simp only [shift1_at]
  rw [sum_at]
  split
  · rename_i h
    rw [hD, tail_in t G r 1 h]
  · rfl

theorem up2 (r : Fin 256) : ∑ p : Fin 256, shift (ix2 ⟨256 + r, by omega⟩ p) * D (ix2 p q) = if (r : ℕ) + 2 < 256 then tail G (row t r + 2) else 0 := by
  simp only [shift2_at]
  rw [sum_at]
  split
  · rename_i h
    rw [hD, tail_in t G r 2 h]
  · rfl

variable (w0 w1 w2 : FVec Ideal S1x1408 .f32)

theorem duTop_col (r : Fin 256) (hr : (r : ℕ) < 240) : duTop D w0 w1 w2 shift (ix2 r q)
    = w2 (ix2 0 q) * G (row t r) + w1 (ix2 0 q) * tail G (row t r + 1) + w0 (ix2 0 q) * tail G (row t r + 2) := by
  rw [duTop_at, up1 t G hD, up2 t G hD, hD, if_pos (by omega), if_pos (by omega)]

include ha hb

theorem m1_col (r : Fin 16) : k0_pay42 (F := Ideal) a (ix2 r q) = if 240 + (r : ℕ) = 255 then tail G ((31 - t.val) * 256 + 256) else 0 := by
  rw [m1_at, ha]
  exact if_congr (by omega) rfl rfl

theorem m2_col (r : Fin 16) : k0_pay28 (F := Ideal) a b (ix2 r q)
    = if 240 + (r : ℕ) = 255 then tail G ((31 - t.val) * 256 + 257) else if 240 + (r : ℕ) = 254 then tail G ((31 - t.val) * 256 + 256) else 0 := by
  rw [m2_at, ha, hb]
  exact if_congr (by omega) rfl (if_congr (by omega) rfl rfl)

theorem duBot_col (r : Fin 16) : duBot D w0 w1 w2 shift a b (ix2 r q)
    = w2 (ix2 0 q) * G (row t ⟨240 + r, by omega⟩) + w1 (ix2 0 q) * tail G (row t ⟨240 + r, by omega⟩ + 1)
      + w0 (ix2 0 q) * tail G (row t ⟨240 + r, by omega⟩ + 2) := by
  have e1 : ∑ p : Fin 256, shift (ix2 ⟨240 + r, by omega⟩ p) * D (ix2 p q)
      = if 240 + (r : ℕ) + 1 < 256 then tail G (row t ⟨240 + r, by omega⟩ + 1) else 0 := up1 t G hD ⟨240 + r, by omega⟩
  have e2 : ∑ p : Fin 256, shift (ix2 ⟨256 + (240 + r), by omega⟩ p) * D (ix2 p q)
      = if 240 + (r : ℕ) + 2 < 256 then tail G (row t ⟨240 + r, by omega⟩ + 2) else 0 := up2 t G hD ⟨240 + r, by omega⟩
  rw [duBot_at, e1, e2, m1_col t G hD ha hb, m2_col t G hD ha hb, hD]
  rcases (by omega : (r : ℕ) < 14 ∨ (r : ℕ) = 14 ∨ (r : ℕ) = 15) with h | h | h
  · rw [if_pos (by omega), if_pos (by omega), if_neg (by omega), if_neg (by omega), if_neg (by omega), mul_zero, mul_zero, add_zero, add_zero]
  · have e : ((row t ⟨240 + r, by omega⟩ : ℕ) + 2) = (31 - t.val) * 256 + 256 := by
      show (31 - t.val) * 256 + (240 + (r : ℕ)) + 2 = _
      omega
    rw [if_pos (by omega), if_neg (by omega), if_neg (by omega), if_neg (by omega), if_pos (by omega), mul_zero, mul_zero, add_zero, add_zero, e]
  · have e : ((row t ⟨240 + r, by omega⟩ : ℕ) + 2) = (31 - t.val) * 256 + 257 := by
      show (31 - t.val) * 256 + (240 + (r : ℕ)) + 2 = _
      omega
    have e' : ((row t ⟨240 + r, by omega⟩ : ℕ) + 1) = (31 - t.val) * 256 + 256 := by
      show (31 - t.val) * 256 + (240 + (r : ℕ)) + 1 = _
      omega
    rw [if_neg (by omega), if_neg (by omega), if_pos (by omega), if_pos (by omega), mul_zero, mul_zero, add_zero, add_zero, e, e']

variable (U : Fin 8192 → EReal) {u : FVec Ideal S256x1408 .bf16} {ut : FVec Ideal S16x1408 .bf16} (hu : ∀ r, u (ix2 r q) = U (row t r))
  (hut : ∀ r : Fin 16, ut (ix2 r q) = U (row t ⟨240 + r, by omega⟩)) (acc : FVec Ideal S1x1408 .f32)
include hu hut

theorem dwRow2_col : dwRow2 D u acc (ix2 0 q) = acc (ix2 0 q) + ∑ r : Fin 256, U (row t r) * tail G (row t r + 0) := by
  rw [dwRow2_at]
  simp only [hD, hu, Nat.add_zero]
  refine congrArg _ (Finset.sum_congr rfl fun r _ => ?_)
  rw [tail_of_lt G (row t r).isLt]

theorem dwRow1_col : dwRow1 D shift a u ut acc (ix2 0 q) = acc (ix2 0 q) + ∑ r : Fin 256, U (row t r) * tail G (row t r + 1) := by
  rw [dwRow1_at]
  simp only [up1 t G hD, m1_col t G hD ha hb, hu, hut]
  rw [sum_last (fun r => U (row t r)) (fun k => if k = 255 then tail G ((31 - t.val) * 256 + 256) else 0) (fun k hk => if_neg (by omega)), ← Finset.sum_add_distrib]
  refine congrArg _ (Finset.sum_congr rfl fun r _ => ?_)
  rcases (by omega : (r : ℕ) < 255 ∨ (r : ℕ) = 255) with h | h
  · rw [if_pos (by omega), if_neg (by omega), mul_zero, add_zero]
  · have e' : ((row t r : ℕ) + 1) = (31 - t.val) * 256 + 256 := by
      show (31 - t.val) * 256 + (r : ℕ) + 1 = _
      omega
    rw [if_neg (by omega), if_pos h, mul_zero, zero_add, e']

theorem dwRow0_col : dwRow0 D shift a b u ut acc (ix2 0 q) = acc (ix2 0 q) + ∑ r : Fin 256, U (row t r) * tail G (row t r + 2) := by
  rw [dwRow0_at]
  simp only [up2 t G hD, m2_col t G hD ha hb, hu, hut]
  rw [sum_last (fun r => U (row t r)) (fun k => if k = 255 then tail G ((31 - t.val) * 256 + 257) else if k = 254 then tail G ((31 - t.val) * 256 + 256) else 0)
    (fun k hk => by rw [if_neg (by omega), if_neg (by omega)]), ← Finset.sum_add_distrib]
  refine congrArg _ (Finset.sum_congr rfl fun r _ => ?_)
  rcases (by omega : (r : ℕ) < 254 ∨ (r : ℕ) = 254 ∨ (r : ℕ) = 255) with h | h | h
  · rw [if_pos (by omega), if_neg (by omega), if_neg (by omega), mul_zero, add_zero]
  · have e' : ((row t r : ℕ) + 2) = (31 - t.val) * 256 + 256 := by
      show (31 - t.val) * 256 + (r : ℕ) + 2 = _
      omega
    rw [if_neg (by omega), if_neg (by omega), if_pos h, mul_zero, zero_add, e']
  · have e' : ((row t r : ℕ) + 2) = (31 - t.val) * 256 + 257 := by
      show (31 - t.val) * 256 + (r : ℕ) + 2 = _
      omega
    rw [if_neg (by omega), if_pos h, mul_zero, zero_add, e']

end Column

/-! ## The stores -/

theorem lt_last (a : Fin 16) : 240 + (a : ℕ) < 256 := by omega
theorem lt0 (q : Fin 1408) : 0 + (q : ℕ) < 5632 := by omega
theorem lt1 (q : Fin 1408) : 1408 + (q : ℕ) < 5632 := by omega
theorem lt2 (q : Fin 1408) : 2816 + (q : ℕ) < 5632 := by omega
theorem lt3 (q : Fin 1408) : 4224 + (q : ℕ) < 5632 := by omega

section Stores
variable (m : (ℓ : Loc nD τ sig) → Buf (Elt Ideal) ℓ) (c : Dev nD) (t : Fin cfg0.N) (f : Finite m c)
include f

/-- The gradient at the convolution, one column of it. -/
def col (m : (ℓ : Loc nD τ sig) → Buf (Elt Ideal) ℓ) (c : Dev nD) (j : Fin 5632) : Fin 8192 → EReal := fun i => rdc m c (ix2 i j)

theorem rdu_eq (i : Fin 8192) (j : Fin 5632) : rdu m c (ix2 i j)
    = x3 m c (ix2 2 j) * col m c j i + x3 m c (ix2 1 j) * tail (col m c j) (i + 1) + x3 m c (ix2 0 j) * tail (col m c j) (i + 2) :=
  Cert.Reference4Ideal.Ffn.v122_at i j

variable (K : FVec Ideal S8x5632 .f32)
  (hK : ∀ (k : Fin 8) (j : Fin 5632), K (ix2 k j) = tail (col m c j) ((31 - t.val) * 256 + 256 + k))
include hK

theorem k0a (q : Fin 1408) : (View.ld (Val := Elt Ideal) (e' := .f32) K (Rect.unit (s := S8x5632) ![0, 0] ![1, 1408] inb_S8x5632_S1x1408_0_0)) (ix2 0 q)
    = tail (col m c ⟨0 + q, by omega⟩) ((31 - t.val) * 256 + 256) :=
  (congrArg K (ix_at _ 0 q 0 ⟨0 + q, by omega⟩ rfl rfl)).trans (hK 0 _)

theorem k0b (q : Fin 1408) : (View.ld (Val := Elt Ideal) (e' := .f32) K (Rect.unit (s := S8x5632) ![1, 0] ![1, 1408] inb_S8x5632_S1x1408_1_0)) (ix2 0 q)
    = tail (col m c ⟨0 + q, by omega⟩) ((31 - t.val) * 256 + 257) :=
  (congrArg K (ix_at _ 0 q 1 ⟨0 + q, by omega⟩ rfl rfl)).trans (hK 1 _)

theorem k1a (q : Fin 1408) : (View.ld (Val := Elt Ideal) (e' := .f32) K (Rect.unit (s := S8x5632) ![0, 1408] ![1, 1408] inb_S8x5632_S1x1408_0_1408)) (ix2 0 q)
    = tail (col m c ⟨1408 + q, by omega⟩) ((31 - t.val) * 256 + 256) :=
  (congrArg K (ix_at _ 0 q 0 ⟨1408 + q, by omega⟩ rfl rfl)).trans (hK 0 _)

theorem k1b (q : Fin 1408) : (View.ld (Val := Elt Ideal) (e' := .f32) K (Rect.unit (s := S8x5632) ![1, 1408] ![1, 1408] inb_S8x5632_S1x1408_1_1408)) (ix2 0 q)
    = tail (col m c ⟨1408 + q, by omega⟩) ((31 - t.val) * 256 + 257) :=
  (congrArg K (ix_at _ 0 q 1 ⟨1408 + q, by omega⟩ rfl rfl)).trans (hK 1 _)

theorem k2a (q : Fin 1408) : (View.ld (Val := Elt Ideal) (e' := .f32) K (Rect.unit (s := S8x5632) ![0, 2816] ![1, 1408] inb_S8x5632_S1x1408_0_2816)) (ix2 0 q)
    = tail (col m c ⟨2816 + q, by omega⟩) ((31 - t.val) * 256 + 256) :=
  (congrArg K (ix_at _ 0 q 0 ⟨2816 + q, by omega⟩ rfl rfl)).trans (hK 0 _)

theorem k2b (q : Fin 1408) : (View.ld (Val := Elt Ideal) (e' := .f32) K (Rect.unit (s := S8x5632) ![1, 2816] ![1, 1408] inb_S8x5632_S1x1408_1_2816)) (ix2 0 q)
    = tail (col m c ⟨2816 + q, by omega⟩) ((31 - t.val) * 256 + 257) :=
  (congrArg K (ix_at _ 0 q 1 ⟨2816 + q, by omega⟩ rfl rfl)).trans (hK 1 _)

theorem k3a (q : Fin 1408) : (View.ld (Val := Elt Ideal) (e' := .f32) K (Rect.unit (s := S8x5632) ![0, 4224] ![1, 1408] inb_S8x5632_S1x1408_0_4224)) (ix2 0 q)
    = tail (col m c ⟨4224 + q, by omega⟩) ((31 - t.val) * 256 + 256) :=
  (congrArg K (ix_at _ 0 q 0 ⟨4224 + q, by omega⟩ rfl rfl)).trans (hK 0 _)

theorem k3b (q : Fin 1408) : (View.ld (Val := Elt Ideal) (e' := .f32) K (Rect.unit (s := S8x5632) ![1, 4224] ![1, 1408] inb_S8x5632_S1x1408_1_4224)) (ix2 0 q)
    = tail (col m c ⟨4224 + q, by omega⟩) ((31 - t.val) * 256 + 257) :=
  (congrArg K (ix_at _ 0 q 1 ⟨4224 + q, by omega⟩ rfl rfl)).trans (hK 1 _)

theorem du0 (r : Fin 256) (j : Fin 5632) (q : Fin 1408) (hj : (j : ℕ) = 0 + q) : View.canon (duL m c t K shift) (ix2 r j) = rdu m c (ix2 (row t r) j) := by
  obtain rfl : j = ⟨0 + q, lt0 q⟩ := Fin.ext hj
  rw [rdu_eq m c f, ← cw00_at m c t q, ← cw01_at m c t q, ← cw02_at m c t q]
  unfold duL
  generalize hw0 : cw00 m c t = w0
  generalize hw1 : cw01 m c t = w1
  generalize hw2 : cw02 m c t = w2
  have hD : ∀ r, D0 m c t (ix2 r q) = col m c ⟨0 + q, lt0 q⟩ (row t r) := fun r => D0_at m c t f r q
  by_cases h : (r : ℕ) < 240
  · refine Eq.trans ?_ (duTop_col t _ hD w0 w1 w2 r h)
    exact (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| canon_hit _ _ _ _ r q (by omega) hj
  · have hr : 240 + ((r : ℕ) - 240) = r := by omega
    obtain ⟨a, rfl⟩ : ∃ a : Fin 16, r = ⟨240 + a, lt_last a⟩ := ⟨⟨r - 240, by omega⟩, Fin.ext hr.symm⟩
    refine Eq.trans ?_ (duBot_col t _ hD (k0a m c t f K hK q) (k0b m c t f K hK q) w0 w1 w2 a)
    exact (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| canon_hit _ _ _ _ a q rfl hj

theorem du1 (r : Fin 256) (j : Fin 5632) (q : Fin 1408) (hj : (j : ℕ) = 1408 + q) : View.canon (duL m c t K shift) (ix2 r j) = rdu m c (ix2 (row t r) j) := by
  obtain rfl : j = ⟨1408 + q, lt1 q⟩ := Fin.ext hj
  rw [rdu_eq m c f, ← cw10_at m c t q, ← cw11_at m c t q, ← cw12_at m c t q]
  unfold duL
  generalize hw0 : cw10 m c t = w0
  generalize hw1 : cw11 m c t = w1
  generalize hw2 : cw12 m c t = w2
  have hD : ∀ r, D1 m c t (ix2 r q) = col m c ⟨1408 + q, lt1 q⟩ (row t r) := fun r => D1_at m c t f r q
  by_cases h : (r : ℕ) < 240
  · refine Eq.trans ?_ (duTop_col t _ hD w0 w1 w2 r h)
    exact (canon_skip _ _ _ _ (by omega)).trans <| (canon_skip _ _ _ _ (by omega)).trans <| (canon_skip _ _ _ _ (by omega)).trans <| canon_hit _ _ _ _ r q (by omega) hj
  · have hr : 240 + ((r : ℕ) - 240) = r := by omega
    obtain ⟨a, rfl⟩ : ∃ a : Fin 16, r = ⟨240 + a, lt_last a⟩ := ⟨⟨r - 240, by omega⟩, Fin.ext hr.symm⟩
    refine Eq.trans ?_ (duBot_col t _ hD (k1a m c t f K hK q) (k1b m c t f K hK q) w0 w1 w2 a)
    exact (canon_skip _ _ _ _ (by omega)).trans <| (canon_skip _ _ _ _ (by omega)).trans <| canon_hit _ _ _ _ a q rfl hj

theorem du2 (r : Fin 256) (j : Fin 5632) (q : Fin 1408) (hj : (j : ℕ) = 2816 + q) : View.canon (duL m c t K shift) (ix2 r j) = rdu m c (ix2 (row t r) j) := by
  obtain rfl : j = ⟨2816 + q, lt2 q⟩ := Fin.ext hj
  rw [rdu_eq m c f, ← cw20_at m c t q, ← cw21_at m c t q, ← cw22_at m c t q]
  unfold duL
  generalize hw0 : cw20 m c t = w0
  generalize hw1 : cw21 m c t = w1
  generalize hw2 : cw22 m c t = w2
  have hD : ∀ r, D2 m c t (ix2 r q) = col m c ⟨2816 + q, lt2 q⟩ (row t r) := fun r => D2_at m c t f r q
  by_cases h : (r : ℕ) < 240
  · refine Eq.trans ?_ (duTop_col t _ hD w0 w1 w2 r h)
    exact (canon_skip _ _ _ _ (by omega)).trans <| (canon_skip _ _ _ _ (by omega)).trans <| (canon_skip _ _ _ _ (by omega)).trans <| (canon_skip _ _ _ _ (by omega)).trans <| (canon_skip _ _ _ _ (by omega)).trans <| canon_hit _ _ _ _ r q (by omega) hj
  · have hr : 240 + ((r : ℕ) - 240) = r := by omega
    obtain ⟨a, rfl⟩ : ∃ a : Fin 16, r = ⟨240 + a, lt_last a⟩ := ⟨⟨r - 240, by omega⟩, Fin.ext hr.symm⟩
    refine Eq.trans ?_ (duBot_col t _ hD (k2a m c t f K hK q) (k2b m c t f K hK q) w0 w1 w2 a)
    exact (canon_skip _ _ _ _ (by omega)).trans <| (canon_skip _ _ _ _ (by omega)).trans <| (canon_skip _ _ _ _ (by omega)).trans <| (canon_skip _ _ _ _ (by omega)).trans <| canon_hit _ _ _ _ a q rfl hj

theorem du3 (r : Fin 256) (j : Fin 5632) (q : Fin 1408) (hj : (j : ℕ) = 4224 + q) : View.canon (duL m c t K shift) (ix2 r j) = rdu m c (ix2 (row t r) j) := by
  obtain rfl : j = ⟨4224 + q, lt3 q⟩ := Fin.ext hj
  rw [rdu_eq m c f, ← cw30_at m c t q, ← cw31_at m c t q, ← cw32_at m c t q]
  unfold duL
  generalize hw0 : cw30 m c t = w0
  generalize hw1 : cw31 m c t = w1
  generalize hw2 : cw32 m c t = w2
  have hD : ∀ r, D3 m c t (ix2 r q) = col m c ⟨4224 + q, lt3 q⟩ (row t r) := fun r => D3_at m c t f r q
  by_cases h : (r : ℕ) < 240
  · refine Eq.trans ?_ (duTop_col t _ hD w0 w1 w2 r h)
    exact (canon_skip _ _ _ _ (by omega)).trans <| canon_hit _ _ _ _ r q (by omega) hj
  · have hr : 240 + ((r : ℕ) - 240) = r := by omega
    obtain ⟨a, rfl⟩ : ∃ a : Fin 16, r = ⟨240 + a, lt_last a⟩ := ⟨⟨r - 240, by omega⟩, Fin.ext hr.symm⟩
    refine Eq.trans ?_ (duBot_col t _ hD (k3a m c t f K hK q) (k3b m c t f K hK q) w0 w1 w2 a)
    exact canon_hit _ _ _ _ a q rfl hj

theorem du_at (r : Fin 256) (j : Fin 5632) : View.canon (duL m c t K shift) (ix2 r j) = rdu m c (ix2 (row t r) j) := by
  rcases (by omega : (j : ℕ) < 1408 ∨ (1408 ≤ (j : ℕ) ∧ (j : ℕ) < 2816) ∨ (2816 ≤ (j : ℕ) ∧ (j : ℕ) < 4224) ∨ 4224 ≤ (j : ℕ)) with h | h | h | h
  · exact du0 m c t f K hK r j ⟨j, h⟩ (by show (j : ℕ) = 0 + j; omega)
  · exact du1 m c t f K hK r j ⟨j - 1408, by omega⟩ (by show (j : ℕ) = 1408 + (j - 1408); omega)
  · exact du2 m c t f K hK r j ⟨j - 2816, by omega⟩ (by show (j : ℕ) = 2816 + (j - 2816); omega)
  · exact du3 m c t f K hK r j ⟨j - 4224, by omega⟩ (by show (j : ℕ) = 4224 + (j - 4224); omega)

variable (A : FVec Ideal S8x5632 .f32) (L : List (View.Piece (Elt Ideal) S8x5632 .f32))

theorem dw00 (j : Fin 5632) (q : Fin 1408) (hj : (j : ℕ) = 0 + q) : View.canon (dwL m c t K shift A ++ L) (ix2 0 j)
    = A (ix2 0 j) + ∑ r : Fin 256, ru m c (ix2 (row t r) j) * tail (col m c j) (row t r + 2) := by
  obtain rfl : j = ⟨0 + q, lt0 q⟩ := Fin.ext hj
  have hD : ∀ r, D0 m c t (ix2 r q) = col m c ⟨0 + q, lt0 q⟩ (row t r) := fun r => D0_at m c t f r q
  have e : View.ld (Val := Elt Ideal) (e' := .f32) A (Rect.unit (s := S8x5632) ![0, 0] ![1, 1408] inb_S8x5632_S1x1408_0_0) (ix2 0 q)
      = A (ix2 0 ⟨0 + q, lt0 q⟩) := congrArg A (ix_at _ 0 q 0 ⟨0 + q, lt0 q⟩ rfl rfl)
  rw [← e]
  refine Eq.trans ?_ (dwRow0_col t _ hD (k0a m c t f K hK q) (k0b m c t f K hK q) (fun i => ru m c (ix2 i ⟨0 + q, lt0 q⟩)) (fun r => ub0_at m c t r q) (fun r => ut0_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw01 (j : Fin 5632) (q : Fin 1408) (hj : (j : ℕ) = 0 + q) : View.canon (dwL m c t K shift A ++ L) (ix2 1 j)
    = A (ix2 1 j) + ∑ r : Fin 256, ru m c (ix2 (row t r) j) * tail (col m c j) (row t r + 1) := by
  obtain rfl : j = ⟨0 + q, lt0 q⟩ := Fin.ext hj
  have hD : ∀ r, D0 m c t (ix2 r q) = col m c ⟨0 + q, lt0 q⟩ (row t r) := fun r => D0_at m c t f r q
  have e : View.ld (Val := Elt Ideal) (e' := .f32) A (Rect.unit (s := S8x5632) ![1, 0] ![1, 1408] inb_S8x5632_S1x1408_1_0) (ix2 0 q)
      = A (ix2 1 ⟨0 + q, lt0 q⟩) := congrArg A (ix_at _ 0 q 1 ⟨0 + q, lt0 q⟩ rfl rfl)
  rw [← e]
  refine Eq.trans ?_ (dwRow1_col t _ hD (k0a m c t f K hK q) (k0b m c t f K hK q) (fun i => ru m c (ix2 i ⟨0 + q, lt0 q⟩)) (fun r => ub0_at m c t r q) (fun r => ut0_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw02 (j : Fin 5632) (q : Fin 1408) (hj : (j : ℕ) = 0 + q) : View.canon (dwL m c t K shift A ++ L) (ix2 2 j)
    = A (ix2 2 j) + ∑ r : Fin 256, ru m c (ix2 (row t r) j) * tail (col m c j) (row t r + 0) := by
  obtain rfl : j = ⟨0 + q, lt0 q⟩ := Fin.ext hj
  have hD : ∀ r, D0 m c t (ix2 r q) = col m c ⟨0 + q, lt0 q⟩ (row t r) := fun r => D0_at m c t f r q
  have e : View.ld (Val := Elt Ideal) (e' := .f32) A (Rect.unit (s := S8x5632) ![2, 0] ![1, 1408] inb_S8x5632_S1x1408_2_0) (ix2 0 q)
      = A (ix2 2 ⟨0 + q, lt0 q⟩) := congrArg A (ix_at _ 0 q 2 ⟨0 + q, lt0 q⟩ rfl rfl)
  rw [← e]
  refine Eq.trans ?_ (dwRow2_col t _ hD (k0a m c t f K hK q) (k0b m c t f K hK q) (fun i => ru m c (ix2 i ⟨0 + q, lt0 q⟩)) (fun r => ub0_at m c t r q) (fun r => ut0_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw10 (j : Fin 5632) (q : Fin 1408) (hj : (j : ℕ) = 1408 + q) : View.canon (dwL m c t K shift A ++ L) (ix2 0 j)
    = A (ix2 0 j) + ∑ r : Fin 256, ru m c (ix2 (row t r) j) * tail (col m c j) (row t r + 2) := by
  obtain rfl : j = ⟨1408 + q, lt1 q⟩ := Fin.ext hj
  have hD : ∀ r, D1 m c t (ix2 r q) = col m c ⟨1408 + q, lt1 q⟩ (row t r) := fun r => D1_at m c t f r q
  have e : View.ld (Val := Elt Ideal) (e' := .f32) A (Rect.unit (s := S8x5632) ![0, 1408] ![1, 1408] inb_S8x5632_S1x1408_0_1408) (ix2 0 q)
      = A (ix2 0 ⟨1408 + q, lt1 q⟩) := congrArg A (ix_at _ 0 q 0 ⟨1408 + q, lt1 q⟩ rfl rfl)
  rw [← e]
  refine Eq.trans ?_ (dwRow0_col t _ hD (k1a m c t f K hK q) (k1b m c t f K hK q) (fun i => ru m c (ix2 i ⟨1408 + q, lt1 q⟩)) (fun r => ub1_at m c t r q) (fun r => ut1_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw11 (j : Fin 5632) (q : Fin 1408) (hj : (j : ℕ) = 1408 + q) : View.canon (dwL m c t K shift A ++ L) (ix2 1 j)
    = A (ix2 1 j) + ∑ r : Fin 256, ru m c (ix2 (row t r) j) * tail (col m c j) (row t r + 1) := by
  obtain rfl : j = ⟨1408 + q, lt1 q⟩ := Fin.ext hj
  have hD : ∀ r, D1 m c t (ix2 r q) = col m c ⟨1408 + q, lt1 q⟩ (row t r) := fun r => D1_at m c t f r q
  have e : View.ld (Val := Elt Ideal) (e' := .f32) A (Rect.unit (s := S8x5632) ![1, 1408] ![1, 1408] inb_S8x5632_S1x1408_1_1408) (ix2 0 q)
      = A (ix2 1 ⟨1408 + q, lt1 q⟩) := congrArg A (ix_at _ 0 q 1 ⟨1408 + q, lt1 q⟩ rfl rfl)
  rw [← e]
  refine Eq.trans ?_ (dwRow1_col t _ hD (k1a m c t f K hK q) (k1b m c t f K hK q) (fun i => ru m c (ix2 i ⟨1408 + q, lt1 q⟩)) (fun r => ub1_at m c t r q) (fun r => ut1_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw12 (j : Fin 5632) (q : Fin 1408) (hj : (j : ℕ) = 1408 + q) : View.canon (dwL m c t K shift A ++ L) (ix2 2 j)
    = A (ix2 2 j) + ∑ r : Fin 256, ru m c (ix2 (row t r) j) * tail (col m c j) (row t r + 0) := by
  obtain rfl : j = ⟨1408 + q, lt1 q⟩ := Fin.ext hj
  have hD : ∀ r, D1 m c t (ix2 r q) = col m c ⟨1408 + q, lt1 q⟩ (row t r) := fun r => D1_at m c t f r q
  have e : View.ld (Val := Elt Ideal) (e' := .f32) A (Rect.unit (s := S8x5632) ![2, 1408] ![1, 1408] inb_S8x5632_S1x1408_2_1408) (ix2 0 q)
      = A (ix2 2 ⟨1408 + q, lt1 q⟩) := congrArg A (ix_at _ 0 q 2 ⟨1408 + q, lt1 q⟩ rfl rfl)
  rw [← e]
  refine Eq.trans ?_ (dwRow2_col t _ hD (k1a m c t f K hK q) (k1b m c t f K hK q) (fun i => ru m c (ix2 i ⟨1408 + q, lt1 q⟩)) (fun r => ub1_at m c t r q) (fun r => ut1_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw20 (j : Fin 5632) (q : Fin 1408) (hj : (j : ℕ) = 2816 + q) : View.canon (dwL m c t K shift A ++ L) (ix2 0 j)
    = A (ix2 0 j) + ∑ r : Fin 256, ru m c (ix2 (row t r) j) * tail (col m c j) (row t r + 2) := by
  obtain rfl : j = ⟨2816 + q, lt2 q⟩ := Fin.ext hj
  have hD : ∀ r, D2 m c t (ix2 r q) = col m c ⟨2816 + q, lt2 q⟩ (row t r) := fun r => D2_at m c t f r q
  have e : View.ld (Val := Elt Ideal) (e' := .f32) A (Rect.unit (s := S8x5632) ![0, 2816] ![1, 1408] inb_S8x5632_S1x1408_0_2816) (ix2 0 q)
      = A (ix2 0 ⟨2816 + q, lt2 q⟩) := congrArg A (ix_at _ 0 q 0 ⟨2816 + q, lt2 q⟩ rfl rfl)
  rw [← e]
  refine Eq.trans ?_ (dwRow0_col t _ hD (k2a m c t f K hK q) (k2b m c t f K hK q) (fun i => ru m c (ix2 i ⟨2816 + q, lt2 q⟩)) (fun r => ub2_at m c t r q) (fun r => ut2_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw21 (j : Fin 5632) (q : Fin 1408) (hj : (j : ℕ) = 2816 + q) : View.canon (dwL m c t K shift A ++ L) (ix2 1 j)
    = A (ix2 1 j) + ∑ r : Fin 256, ru m c (ix2 (row t r) j) * tail (col m c j) (row t r + 1) := by
  obtain rfl : j = ⟨2816 + q, lt2 q⟩ := Fin.ext hj
  have hD : ∀ r, D2 m c t (ix2 r q) = col m c ⟨2816 + q, lt2 q⟩ (row t r) := fun r => D2_at m c t f r q
  have e : View.ld (Val := Elt Ideal) (e' := .f32) A (Rect.unit (s := S8x5632) ![1, 2816] ![1, 1408] inb_S8x5632_S1x1408_1_2816) (ix2 0 q)
      = A (ix2 1 ⟨2816 + q, lt2 q⟩) := congrArg A (ix_at _ 0 q 1 ⟨2816 + q, lt2 q⟩ rfl rfl)
  rw [← e]
  refine Eq.trans ?_ (dwRow1_col t _ hD (k2a m c t f K hK q) (k2b m c t f K hK q) (fun i => ru m c (ix2 i ⟨2816 + q, lt2 q⟩)) (fun r => ub2_at m c t r q) (fun r => ut2_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw22 (j : Fin 5632) (q : Fin 1408) (hj : (j : ℕ) = 2816 + q) : View.canon (dwL m c t K shift A ++ L) (ix2 2 j)
    = A (ix2 2 j) + ∑ r : Fin 256, ru m c (ix2 (row t r) j) * tail (col m c j) (row t r + 0) := by
  obtain rfl : j = ⟨2816 + q, lt2 q⟩ := Fin.ext hj
  have hD : ∀ r, D2 m c t (ix2 r q) = col m c ⟨2816 + q, lt2 q⟩ (row t r) := fun r => D2_at m c t f r q
  have e : View.ld (Val := Elt Ideal) (e' := .f32) A (Rect.unit (s := S8x5632) ![2, 2816] ![1, 1408] inb_S8x5632_S1x1408_2_2816) (ix2 0 q)
      = A (ix2 2 ⟨2816 + q, lt2 q⟩) := congrArg A (ix_at _ 0 q 2 ⟨2816 + q, lt2 q⟩ rfl rfl)
  rw [← e]
  refine Eq.trans ?_ (dwRow2_col t _ hD (k2a m c t f K hK q) (k2b m c t f K hK q) (fun i => ru m c (ix2 i ⟨2816 + q, lt2 q⟩)) (fun r => ub2_at m c t r q) (fun r => ut2_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

theorem dw30 (j : Fin 5632) (q : Fin 1408) (hj : (j : ℕ) = 4224 + q) : View.canon (dwL m c t K shift A ++ L) (ix2 0 j)
    = A (ix2 0 j) + ∑ r : Fin 256, ru m c (ix2 (row t r) j) * tail (col m c j) (row t r + 2) := by
  obtain rfl : j = ⟨4224 + q, lt3 q⟩ := Fin.ext hj
  have hD : ∀ r, D3 m c t (ix2 r q) = col m c ⟨4224 + q, lt3 q⟩ (row t r) := fun r => D3_at m c t f r q
  have e : View.ld (Val := Elt Ideal) (e' := .f32) A (Rect.unit (s := S8x5632) ![0, 4224] ![1, 1408] inb_S8x5632_S1x1408_0_4224) (ix2 0 q)
      = A (ix2 0 ⟨4224 + q, lt3 q⟩) := congrArg A (ix_at _ 0 q 0 ⟨4224 + q, lt3 q⟩ rfl rfl)
  rw [← e]
  refine Eq.trans ?_ (dwRow0_col t _ hD (k3a m c t f K hK q) (k3b m c t f K hK q) (fun i => ru m c (ix2 i ⟨4224 + q, lt3 q⟩)) (fun r => ub3_at m c t r q) (fun r => ut3_at m c t r q) _)
  unfold dwL
  exact canon_hit _ _ _ _ 0 q rfl hj

theorem dw31 (j : Fin 5632) (q : Fin 1408) (hj : (j : ℕ) = 4224 + q) : View.canon (dwL m c t K shift A ++ L) (ix2 1 j)
    = A (ix2 1 j) + ∑ r : Fin 256, ru m c (ix2 (row t r) j) * tail (col m c j) (row t r + 1) := by
  obtain rfl : j = ⟨4224 + q, lt3 q⟩ := Fin.ext hj
  have hD : ∀ r, D3 m c t (ix2 r q) = col m c ⟨4224 + q, lt3 q⟩ (row t r) := fun r => D3_at m c t f r q
  have e : View.ld (Val := Elt Ideal) (e' := .f32) A (Rect.unit (s := S8x5632) ![1, 4224] ![1, 1408] inb_S8x5632_S1x1408_1_4224) (ix2 0 q)
      = A (ix2 1 ⟨4224 + q, lt3 q⟩) := congrArg A (ix_at _ 0 q 1 ⟨4224 + q, lt3 q⟩ rfl rfl)
  rw [← e]
  refine Eq.trans ?_ (dwRow1_col t _ hD (k3a m c t f K hK q) (k3b m c t f K hK q) (fun i => ru m c (ix2 i ⟨4224 + q, lt3 q⟩)) (fun r => ub3_at m c t r q) (fun r => ut3_at m c t r q) _)
  unfold dwL
  exact (canon_skip _ _ _ _ (by simp only [Fin.val_zero, Fin.val_one, Fin.val_two]; omega)).trans <| canon_hit _ _ _ _ 0 q rfl hj

theorem dw32 (j : Fin 5632) (q : Fin 1408) (hj : (j : ℕ) = 4224 + q) : View.canon (dwL m c t K shift A ++ L) (ix2 2 j)
    = A (ix2 2 j) + ∑ r : Fin 256, ru m c (ix2 (row t r) j) * tail (col m c j) (row t r + 0) := by
  obtain rfl : j = ⟨4224 + q, lt3 q⟩ := Fin.ext hj
  have hD : ∀ r, D3 m c t (ix2 r q) = col m c ⟨4224 + q, lt3 q⟩ (row t r) := fun r => D3_at m c t f r q
  have e : View.ld (Val := Elt Ideal) (e' := .f32) A (Rect.unit (s := S8x5632) ![2, 4224] ![1, 1408] inb_S8x5632_S1x1408_2_4224) (ix2 0 q)
      = A (ix2 2 ⟨4224 + q, lt3 q⟩) := congrArg A (ix_at _ 0 q 2 ⟨4224 + q, lt3 q⟩ rfl rfl)
  rw [← e]
  refine Eq.trans ?_ (dwRow2_col t _ hD (k3a m c t f K hK q) (k3b m c t f K hK q) (fun i => ru m c (ix2 i ⟨4224 + q, lt3 q⟩)) (fun r => ub3_at m c t r q) (fun r => ut3_at m c t r q) _)
  unfold dwL
  exact (canon_skip _ _ _ _ (by simp only [Fin.val_zero, Fin.val_one, Fin.val_two]; omega)).trans <| (canon_skip _ _ _ _ (by simp only [Fin.val_zero, Fin.val_one, Fin.val_two]; omega)).trans <| canon_hit _ _ _ _ 0 q rfl hj

/-- A row of the filter's gradient. -/
theorem dw_at (k : Fin 3) (j : Fin 5632) : View.canon (dwL m c t K shift A ++ L) (ix2 ⟨k, by omega⟩ j)
    = A (ix2 ⟨k, by omega⟩ j) + ∑ r : Fin 256, ru m c (ix2 (row t r) j) * tail (col m c j) (row t r + (2 - (k : ℕ))) := by
  rcases (by omega : (j : ℕ) < 1408 ∨ (1408 ≤ (j : ℕ) ∧ (j : ℕ) < 2816) ∨ (2816 ≤ (j : ℕ) ∧ (j : ℕ) < 4224) ∨ 4224 ≤ (j : ℕ)) with h | h | h | h
  · have e : (j : ℕ) = 0 + ((j : ℕ) - 0) := by omega
    fin_cases k
    · exact dw00 m c t f K hK A L j ⟨j - 0, by omega⟩ e
    · exact dw01 m c t f K hK A L j ⟨j - 0, by omega⟩ e
    · exact dw02 m c t f K hK A L j ⟨j - 0, by omega⟩ e
  · have e : (j : ℕ) = 1408 + ((j : ℕ) - 1408) := by omega
    fin_cases k
    · exact dw10 m c t f K hK A L j ⟨j - 1408, by omega⟩ e
    · exact dw11 m c t f K hK A L j ⟨j - 1408, by omega⟩ e
    · exact dw12 m c t f K hK A L j ⟨j - 1408, by omega⟩ e
  · have e : (j : ℕ) = 2816 + ((j : ℕ) - 2816) := by omega
    fin_cases k
    · exact dw20 m c t f K hK A L j ⟨j - 2816, by omega⟩ e
    · exact dw21 m c t f K hK A L j ⟨j - 2816, by omega⟩ e
    · exact dw22 m c t f K hK A L j ⟨j - 2816, by omega⟩ e
  · have e : (j : ℕ) = 4224 + ((j : ℕ) - 4224) := by omega
    fin_cases k
    · exact dw30 m c t f K hK A L j ⟨j - 4224, by omega⟩ e
    · exact dw31 m c t f K hK A L j ⟨j - 4224, by omega⟩ e
    · exact dw32 m c t f K hK A L j ⟨j - 4224, by omega⟩ e

omit f hK in
/-- The rows behind the filter's stay. -/
theorem dw_rest (S : FVec Ideal S512x256 .bf16) (k : Fin 8) (hk : 3 ≤ (k : ℕ)) (j : Fin 5632) : View.canon (dwL m c t K S A ++ [(⟨Rect.unit (s := S8x5632) ![0, 0] ![8, 5632] inb_S8x5632_S8x5632_0_0, A⟩ : View.Piece (Elt Ideal) S8x5632 .f32)]) (ix2 k j)
    = A (ix2 k j) := by
  unfold dwL
  exact (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| (canon_skip _ _ _ _ (by omega)).trans <| canon_hit _ _ _ _ k j (by omega) (by omega)

omit hK in
/-- The first rows of the gradient at the convolution are kept. -/
theorem keep_col (L : List (View.Piece (Elt Ideal) S8x5632 .f32)) (k : Fin 8) (j : Fin 5632) :
    View.canon (keepL m c t ++ L) (ix2 k j) = col m c j (row t ⟨k, by omega⟩) := by
  unfold keepL
  rcases (by omega : (j : ℕ) < 1408 ∨ (1408 ≤ (j : ℕ) ∧ (j : ℕ) < 2816) ∨ (2816 ≤ (j : ℕ) ∧ (j : ℕ) < 4224) ∨ 4224 ≤ (j : ℕ)) with h | h | h | h
  · obtain ⟨q, rfl⟩ : ∃ q : Fin 1408, j = ⟨0 + q, lt0 q⟩ := ⟨⟨j - 0, by omega⟩, Fin.ext (by show (j : ℕ) = 0 + (j - 0); omega)⟩
    refine Eq.trans ?_ ((keep_at (D0 m c t) k q).trans (D0_at m c t f ⟨k, by omega⟩ q))
    exact (canon_skip _ _ _ _ (by omega)).trans <| (canon_skip _ _ _ _ (by omega)).trans <| (canon_skip _ _ _ _ (by omega)).trans <| canon_hit _ _ _ _ k q (by omega) rfl
  · obtain ⟨q, rfl⟩ : ∃ q : Fin 1408, j = ⟨1408 + q, lt1 q⟩ := ⟨⟨j - 1408, by omega⟩, Fin.ext (by show (j : ℕ) = 1408 + (j - 1408); omega)⟩
    refine Eq.trans ?_ ((keep_at (D1 m c t) k q).trans (D1_at m c t f ⟨k, by omega⟩ q))
    exact (canon_skip _ _ _ _ (by omega)).trans <| canon_hit _ _ _ _ k q (by omega) rfl
  · obtain ⟨q, rfl⟩ : ∃ q : Fin 1408, j = ⟨2816 + q, lt2 q⟩ := ⟨⟨j - 2816, by omega⟩, Fin.ext (by show (j : ℕ) = 2816 + (j - 2816); omega)⟩
    refine Eq.trans ?_ ((keep_at (D2 m c t) k q).trans (D2_at m c t f ⟨k, by omega⟩ q))
    exact (canon_skip _ _ _ _ (by omega)).trans <| (canon_skip _ _ _ _ (by omega)).trans <| canon_hit _ _ _ _ k q (by omega) rfl
  · obtain ⟨q, rfl⟩ : ∃ q : Fin 1408, j = ⟨4224 + q, lt3 q⟩ := ⟨⟨j - 4224, by omega⟩, Fin.ext (by show (j : ℕ) = 4224 + (j - 4224); omega)⟩
    refine Eq.trans ?_ ((keep_at (D3 m c t) k q).trans (D3_at m c t f ⟨k, by omega⟩ q))
    exact canon_hit _ _ _ _ k q (by omega) rfl

end Stores

end Cert.Kernel4Ideal.Ffn
-- ==== Proof.FfPoint.lean ====
/- The feed-forward's backward call, point after point: every block it leaves is a block of the reference's result. -/
module

public import proofs.«01_k».proof.Proof.FfTile

@[expose] public section

set_option maxRecDepth 16384

noncomputable section

namespace Cert.Kernel4Ideal.Ffn

open Cert.Kernel4Ideal Cert.Kernel4Ideal.Gen Idealize.ShloMosaic Idealize.ShloMosaic.TcCoe Idealize.SL.Sem
open Cert.Reference4Ideal.Read
open Cert.Reference4Ideal.Ffn (eq2 tail tail_of_lt tail_of_not)

variable (m : (ℓ : Loc nD τ sig) → Buf (Elt Ideal) ℓ) (c : Dev nD)

/-! ## The reference's results at a lane -/

theorem h_ref (i : Fin 8192) (j : Fin 1024) : x0 m c (ix2 i j) * rms (fun k : Fin 1024 => x0 m c (ix2 i k)) * x1 m c (ix1 j)
    = val_main_v147 (F := Ideal) (x0 m c) (x1 m c) (ix2 i j) := by
  unfold rms
  pointwise [val_main_v147, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The gradient at the normalized rows. -/
def rdh : FVec Ideal S8192x1024 .f32 := val_main_v123 (F := Ideal) (x0 m c) (x1 m c) (x2 m c) (x3 m c) (x4 m c) (x5 m c) (x6 m c)

theorem rdh_at (i : Fin 8192) (j : Fin 1024) : rdh m c (ix2 i j) = ∑ q : Fin 5632, rdu m c (ix2 i q) * x2 m c (ix2 j q) := by
  unfold rdh rdu
  pointwise [val_main_v123]

theorem dg5_ref (j : Fin 1024) : val_main_v148 (F := Ideal) (x0 m c) (x1 m c) (x2 m c) (x3 m c) (x4 m c) (x5 m c) (x6 m c) (ix2 0 j)
    = ∑ i : Fin 8192, rdh m c (ix2 i j) * (x0 m c (ix2 i j) * rms (fun k : Fin 1024 => x0 m c (ix2 i k))) := by
  unfold rdh rms
  refine Eq.trans ?_ (Finset.sum_congr rfl fun i _ => mul_comm _ _)
  pointwise [val_main_v148, val_main_v129, val_main_v126, val_main_v125, val_main_v124, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_27, val_main_cst_28]
  rw [Fin.sum_univ_one]

theorem dg6_ref (j : Fin 1024) : val_main_v149 (F := Ideal) (x0 m c) (x1 m c) (x2 m c) (x3 m c) (x4 m c) (x6 m c) (ix2 0 j)
    = ∑ i : Fin 8192, x6 m c (ix2 i j) * (ry m c (ix2 i j) * rms (fun k : Fin 1024 => ry m c (ix2 i k))) := by
  unfold ry rms
  refine Eq.trans ?_ (Finset.sum_congr rfl fun i _ => mul_comm _ _)
  pointwise [val_main_v149, val_main_v70, val_main_v67, val_main_v66, val_main_v65, val_main_v64, val_main_v59, val_main_v58, val_main_v54, val_main_v53, val_main_v52,
    val_main_v51, val_main_v50, val_main_v49, val_main_v48, val_main_v47, val_main_cst_6, val_main_cst_7, val_main_cst_8, val_main_cst_10, val_main_cst_11]
  rw [Fin.sum_univ_one]

/-! ## What is carried from block to block -/

theorem lt32 (t : Fin cfg0.N) : t.val < 32 := lt_of_lt_of_eq t.isLt N_0

theorem shift_all : ∀ (n : ℕ) (h : n < cfg0.N), (outsAt0 m c n h).2.2.2.2.2.2.2.2 = shift
  | 0, h => shift_A m c ⟨0, h⟩ rfl
  | n + 1, h => (shift_B m c ⟨n + 1, h⟩ (by have := lt32 ⟨n + 1, h⟩; show ¬(n + 1) % 32 = 0; dsimp only at this; omega)).trans (shift_all n _)

section Point
variable (f : Finite m c) (t : Fin cfg0.N)
include f

theorem keep_all (t : Fin cfg0.N) (k : Fin 8) (j : Fin 5632) :
    (outsAt0 m c t.val t.isLt).2.2.2.2.2.2.2.1 (ix2 k j) = col m c j (row t ⟨k, by omega⟩) := by
  by_cases h : t.val % 32 = 0
  · rw [keep_A m c t h]
    exact keep_col m c t f _ k j
  · rw [keep_B m c t h, ← List.append_nil (keepL m c t)]
    exact keep_col m c t f _ k j

theorem keep_before (h : ¬t.val % 32 = 0) (k : Fin 8) (j : Fin 5632) :
    (prev m c t).2.2.2.2.2.2.2.1 (ix2 k j) = tail (col m c j) ((31 - t.val) * 256 + 256 + k) := by
  have ht := lt32 t
  refine (keep_all m c f ⟨t.val - 1, Nat.lt_of_le_of_lt (Nat.sub_le t.val 1) t.isLt⟩ k j).trans ?_
  have e : (31 - t.val) * 256 + 256 + (k : ℕ) = (31 - (t.val - 1)) * 256 + k := by omega
  rw [e]
  exact (tail_of_lt (col m c j) (by omega)).symm

omit f in
theorem keep_none (h : t.val % 32 = 0) (k : Fin 8) (j : Fin 5632) :
    k0_pay3 (F := Ideal) (ix2 k j) = tail (col m c j) ((31 - t.val) * 256 + 256 + k) := by
  have ht := lt32 t
  rw [zero3_at, tail_of_not _ (by omega)]

/-! ## The gradient at the up projection -/

theorem du_pt (r : Fin 256) (j : Fin 5632) : (outsAt0 m c t.val t.isLt).2.1 (ix2 r j) = rdu m c (ix2 (row t r) j) := by
  by_cases h : t.val % 32 = 0
  · rw [du_A m c t h]
    exact du_at m c t f _ (keep_none m c t h) r j
  · rw [du_B m c t h, shift_all m c]
    exact du_at m c t f _ (keep_before m c f t h) r j

omit f in
theorem dx_du : (outsAt0 m c t.val t.isLt).1
    = k0_pay2 (k0_pay14 (iblk m c 2 t)) (k0_pay15 (iblk m c 2 t)) (k0_pay100 (outsAt0 m c t.val t.isLt).2.1 (iblk m c 6 t)) (iblk m c 5 t) (iblk m c 0 t) := by
  by_cases h : t.val % 32 = 0
  · rw [dx_A m c t h, du_A m c t h]
  · rw [dx_B m c t h, du_B m c t h]

theorem dh_pt (r : Fin 256) (j : Fin 1024) :
    k0_pay100 (F := Ideal) (outsAt0 m c t.val t.isLt).2.1 (iblk m c 6 t) (ix2 r j) = rdh m c (ix2 (row t r) j) := by
  rw [dh_at, rdh_at]
  exact Finset.sum_congr rfl fun q _ => congrArg₂ (· * ·) (du_pt m c f t r q) (wup_blk m c t q j)

theorem dx_pt (r : Fin 256) (j : Fin 1024) : (outsAt0 m c t.val t.isLt).1 (ix2 r j)
    = val_main_v144 (F := Ideal) (x0 m c) (x1 m c) (x2 m c) (x3 m c) (x4 m c) (x5 m c) (x6 m c) (ix2 (row t r) j) := by
  rw [dx_du m c t, dx_at]
  simp only [dh_pt m c f t, x_blk, g5_blk, dx3_blk]
  exact Cert.Reference4Ideal.Ffn.v144_at f.h0 f.h1 f.h2 f.h3 f.h4 f.h5 f.h6 (row t r) j (fun k => rdh m c (ix2 (row t r) k)) (fun k => rfl) rfl

theorem dy_pt (r : Fin 256) (j : Fin 1024) : (outsAt0 m c t.val t.isLt).2.2.1 (ix2 r j) = rdy m c (ix2 (row t r) j) := by
  refine Eq.trans ?_ (dyb_at m c t f r j)
  by_cases h : t.val % 32 = 0
  · rw [dy_A m c t h]
  · rw [dy_B m c t h]

omit f in
theorem h_pt (r : Fin 256) (j : Fin 1024) : (outsAt0 m c t.val t.isLt).2.2.2.1 (ix2 r j)
    = val_main_v147 (F := Ideal) (x0 m c) (x1 m c) (ix2 (row t r) j) := by
  have e : (outsAt0 m c t.val t.isLt).2.2.2.1 = k0_pay16 (iblk m c 2 t) (iblk m c 5 t) := by
    by_cases h : t.val % 32 = 0
    · exact h_A m c t h
    · exact h_B m c t h
  rw [e, h_at, ← h_ref m c]
  simp only [x_blk, g5_blk]

/-! ## What a point adds to the sums over all rows -/

def dg5T (t : Fin cfg0.N) (j : Fin 1024) : EReal :=
  ∑ r : Fin 256, rdh m c (ix2 (row t r) j) * (x0 m c (ix2 (row t r) j) * rms (fun k : Fin 1024 => x0 m c (ix2 (row t r) k)))

def dg6T (t : Fin cfg0.N) (j : Fin 1024) : EReal :=
  ∑ r : Fin 256, x6 m c (ix2 (row t r) j) * (ry m c (ix2 (row t r) j) * rms (fun k : Fin 1024 => ry m c (ix2 (row t r) k)))

def dwT (t : Fin cfg0.N) (k : Fin 8) (j : Fin 5632) : EReal :=
  if (k : ℕ) < 3 then ∑ r : Fin 256, ru m c (ix2 (row t r) j) * tail (col m c j) (row t r + (2 - (k : ℕ))) else 0

theorem dg5_step (acc : FVec Ideal S1x1024 .f32) (j : Fin 1024) :
    k0_pay1 (F := Ideal) (k0_pay15 (iblk m c 2 t)) (k0_pay100 (outsAt0 m c t.val t.isLt).2.1 (iblk m c 6 t)) acc (ix2 0 j) = acc (ix2 0 j) + dg5T m c t j := by
  rw [dg5_at]
  simp only [dh_pt m c f t, x_blk]
  rfl

omit f in
theorem dg6_step (acc : FVec Ideal S1x1024 .f32) (j : Fin 1024) :
    k0_pay12 (F := Ideal) (iblk m c 1 t) (iblk m c 0 t) acc (ix2 0 j) = acc (ix2 0 j) + dg6T m c t j := by
  rw [dg6_at]
  simp only [y_blk, dx3_blk]
  rfl

theorem dg5_first (h : t.val % 32 = 0) (j : Fin 1024) : (outsAt0 m c t.val t.isLt).2.2.2.2.1 (ix2 0 j) = dg5T m c t j := by
  rw [dg5_A m c t h, ← du_A m c t h, dg5_step m c f t, zero6_at, zero_add]

theorem dg5_next (h : ¬t.val % 32 = 0) (j : Fin 1024) :
    (outsAt0 m c t.val t.isLt).2.2.2.2.1 (ix2 0 j) = (prev m c t).2.2.2.2.1 (ix2 0 j) + dg5T m c t j := by
  rw [dg5_B m c t h, ← du_B m c t h, dg5_step m c f t]

omit f in
theorem dg6_first (h : t.val % 32 = 0) (j : Fin 1024) : (outsAt0 m c t.val t.isLt).2.2.2.2.2.1 (ix2 0 j) = dg6T m c t j := by
  rw [dg6_A m c t h, dg6_step m c t, zero7_at, zero_add]

omit f in
theorem dg6_next (h : ¬t.val % 32 = 0) (j : Fin 1024) :
    (outsAt0 m c t.val t.isLt).2.2.2.2.2.1 (ix2 0 j) = (prev m c t).2.2.2.2.2.1 (ix2 0 j) + dg6T m c t j := by
  rw [dg6_B m c t h, dg6_step m c t]

theorem dw_step (K : FVec Ideal S8x5632 .f32) (hK : ∀ (k : Fin 8) (j : Fin 5632), K (ix2 k j) = tail (col m c j) ((31 - t.val) * 256 + 256 + k))
    (A : FVec Ideal S8x5632 .f32) (k : Fin 8) (j : Fin 5632) :
    View.canon (dwL m c t K shift A ++ [(⟨Rect.unit (s := S8x5632) ![0, 0] ![8, 5632] inb_S8x5632_S8x5632_0_0, A⟩ : View.Piece (Elt Ideal) S8x5632 .f32)]) (ix2 k j)
      = A (ix2 k j) + dwT m c t k j := by
  unfold dwT
  by_cases hk : (k : ℕ) < 3
  · rw [if_pos hk]
    exact dw_at m c t f K hK A _ ⟨k, hk⟩ j
  · rw [if_neg hk, add_zero]
    exact dw_rest m c t K A shift k (by omega) j

theorem dw_first (h : t.val % 32 = 0) (k : Fin 8) (j : Fin 5632) : (outsAt0 m c t.val t.isLt).2.2.2.2.2.2.1 (ix2 k j) = dwT m c t k j := by
  rw [dw_A m c t h]
  refine (dw_step m c f t _ (keep_none m c t h) _ k j).trans ?_
  rw [zero8_at, zero_add]

theorem dw_next (h : ¬t.val % 32 = 0) (k : Fin 8) (j : Fin 5632) :
    (outsAt0 m c t.val t.isLt).2.2.2.2.2.2.1 (ix2 k j) = (prev m c t).2.2.2.2.2.2.1 (ix2 k j) + dwT m c t k j := by
  rw [dw_B m c t h, shift_all m c]
  exact dw_step m c f t _ (keep_before m c f t h) _ k j

end Point

end Cert.Kernel4Ideal.Ffn
-- ==== Proof.FfValue.lean ====
/- The results of the feed-forward's backward call: what is kept over the thirty-two points is a sum over all rows. -/
module

public import proofs.«01_k».proof.Proof.Gen.Reference4Ideal.Run
public import proofs.«01_k».proof.Proof.Gen.Reference4Ideal.Read
public import proofs.«01_k».proof.Proof.Gen.Kernel4Ideal.Frame
public import proofs.«01_k».proof.Proof.FfPoint
public import Idealize.ShloMosaic.Lib.Claim

@[expose] public section

set_option maxRecDepth 16384

noncomputable section

namespace Cert.Kernel4Ideal.Ffn

open Cert.Kernel4Ideal Cert.Kernel4Ideal.Gen Idealize.ShloMosaic Idealize.ShloMosaic.TcCoe Idealize.SL.Sem
open Cert.Reference4Ideal.Read
open Cert.Reference4Ideal.Ffn (eq2 tail v151_at)

variable (m : (ℓ : Loc nD τ sig) → Buf (Elt Ideal) ℓ) (c : Dev nD)

/-- The rows of the points, last block first, are the rows of the array, each once. -/
theorem rows_sum (f : Fin 8192 → EReal) : ∑ t : Fin cfg0.N, ∑ r : Fin 256, f (row t r) = ∑ i, f i := by
  refine ((Equiv.sum_comp Fin.revPerm fun t : Fin cfg0.N => ∑ r : Fin 256, f (row t r)).symm).trans ?_
  refine (Fin.sum_points_lanes_congr (A := 1) (L := 8192) 32 (g := fun _ l => f l) (fun t k ha hl => congrArg f (Fin.ext ?_)) N_0 rfl).trans (Fin.sum_univ_one _)
  have h : t.val < 32 := lt32 t
  have e : (Fin.revPerm t : Fin cfg0.N).val = 31 - t.val := by
    rw [Fin.revPerm_apply, Fin.val_rev]
    exact (congrArg (· - (t.val + 1)) N_0).trans (by omega)
  show (31 - (Fin.revPerm t : Fin cfg0.N).val) * 256 + k.val = t.val % 32 * 256 + k.val
  rw [e]
  omega

/-- What starts as the first point's term and grows by each later point's is, after the last point, the sum of all. -/
theorem acc_sum {O ι : Type} (g : (n : ℕ) → n < cfg0.N → O) (f : O → ι → EReal) (T : Fin cfg0.N → ι → EReal)
    (h0 : ∀ t : Fin cfg0.N, t.val % 32 = 0 → ∀ i, f (g t.val t.isLt) i = T t i)
    (hs : ∀ t : Fin cfg0.N, ¬t.val % 32 = 0 → ∀ i, f (g t.val t.isLt) i = f (g (t.val - 1) (Nat.lt_of_le_of_lt (Nat.sub_le t.val 1) t.isLt)) i + T t i)
    (t : Fin cfg0.N) (ht : t.val = 31) (i : ι) : f (g t.val t.isLt) i = ∑ p, T p i := by
  refine (Pipeline.eq_sum_fin_of_reset_step_apply_last (fun n h => f (g n h)) 32 (fun _ => 0) T (fun t h i => ?_) (fun t h i => ?_)
    (le_of_eq N_0) t (by rw [ht]; exact N_0.symm) i).trans (zero_add _)
  · rw [zero_add]
    exact h0 t h i
  · exact hs t h i

theorem dg5_sum (f : Finite m c) (t : Fin cfg0.N) (ht : t.val = 31) (j : Fin 1024) : (outsAt0 m c t.val t.isLt).2.2.2.2.1 (ix2 0 j)
    = val_main_v148 (F := Ideal) (x0 m c) (x1 m c) (x2 m c) (x3 m c) (x4 m c) (x5 m c) (x6 m c) (ix2 0 j) := by
  refine (acc_sum (outsAt0 m c) (fun o (j : Fin 1024) => o.2.2.2.2.1 (ix2 0 j)) (fun t j => dg5T m c t j)
    (fun t h i => dg5_first m c f t h i) (fun t h i => dg5_next m c f t h i) t ht j).trans ?_
  rw [dg5_ref]
  exact rows_sum fun i => rdh m c (ix2 i j) * (x0 m c (ix2 i j) * rms (fun k : Fin 1024 => x0 m c (ix2 i k)))

theorem dg6_sum (t : Fin cfg0.N) (ht : t.val = 31) (j : Fin 1024) : (outsAt0 m c t.val t.isLt).2.2.2.2.2.1 (ix2 0 j)
    = val_main_v149 (F := Ideal) (x0 m c) (x1 m c) (x2 m c) (x3 m c) (x4 m c) (x6 m c) (ix2 0 j) := by
  refine (acc_sum (outsAt0 m c) (fun o (j : Fin 1024) => o.2.2.2.2.2.1 (ix2 0 j)) (fun t j => dg6T m c t j)
    (fun t h i => dg6_first m c t h i) (fun t h i => dg6_next m c t h i) t ht j).trans ?_
  rw [dg6_ref]
  exact rows_sum fun i => x6 m c (ix2 i j) * (ry m c (ix2 i j) * rms (fun k : Fin 1024 => ry m c (ix2 i k)))

theorem dw_sum (f : Finite m c) (t : Fin cfg0.N) (ht : t.val = 31) (k : Fin 8) (q : Fin 5632) : (outsAt0 m c t.val t.isLt).2.2.2.2.2.2.1 (ix2 k q)
    = val_main_v151 (F := Ideal) (x0 m c) (x1 m c) (x2 m c) (x3 m c) (x4 m c) (x5 m c) (x6 m c) (ix2 k q) := by
  refine (acc_sum (outsAt0 m c) (fun o (i : Fin 8 × Fin 5632) => o.2.2.2.2.2.2.1 (ix2 i.1 i.2)) (fun t i => dwT m c t i.1 i.2)
    (fun t h i => dw_first m c f t h i.1 i.2) (fun t h i => dw_next m c f t h i.1 i.2) t ht (k, q)).trans ?_
  rw [v151_at]
  unfold dwT
  by_cases h : (k : ℕ) < 3
  · simp only [h, if_true]
    exact rows_sum fun i => ru m c (ix2 i q) * tail (col m c q) ((i : ℕ) + (2 - (k : ℕ)))
  · simp only [h, if_false]
    exact Finset.sum_const_zero

/-! ## The results -/

/-- The last point. -/
def last : Fin grid0.N := ⟨31, by rw [N_0]; decide⟩

theorem du_ref (i : Fin 8192) (j : Fin 5632) : rdu m c (ix2 i j) = val_main_v145 (F := Ideal) (x0 m c) (x1 m c) (x2 m c) (x3 m c) (x4 m c) (x5 m c) (x6 m c) (ix2 i j) := by
  unfold rdu
  pointwise [val_main_v145]

theorem dy_ref (i : Fin 8192) (j : Fin 1024) : rdy m c (ix2 i j) = val_main_v146 (F := Ideal) (x0 m c) (x1 m c) (x2 m c) (x3 m c) (x4 m c) (x5 m c) (x6 m c) (ix2 i j) := by
  unfold rdy
  pointwise [val_main_v146]

theorem final10 (f : Finite m c) : (dats m 0 c).arrAt 10 (cfgs 0).N
    = val_main_v144 (F := Ideal) (x0 m c) (x1 m c) (x2 m c) (x3 m c) (x4 m c) (x5 m c) (x6 m c) := by
  refine (dats m 0 c).arrAt_eq_of_covers 10 _ (by decide +kernel) fun t hf y => ?_
  blk_simp
  rw [after0_10]
  refine (congrArg _ (eq2 y (y 0) (y 1) rfl rfl)).trans ((dx_pt m c f t (y 0) (y 1)).trans ?_)
  generalize val_main_v144 (F := Ideal) (x0 m c) (x1 m c) (x2 m c) (x3 m c) (x4 m c) (x5 m c) (x6 m c) = v
  blk_point [idx t, row]

theorem final11 (f : Finite m c) : (dats m 0 c).arrAt 11 (cfgs 0).N
    = val_main_v145 (F := Ideal) (x0 m c) (x1 m c) (x2 m c) (x3 m c) (x4 m c) (x5 m c) (x6 m c) := by
  refine (dats m 0 c).arrAt_eq_of_covers 11 _ (by decide +kernel) fun t hf y => ?_
  blk_simp
  rw [after0_11]
  refine (congrArg _ (eq2 y (y 0) (y 1) rfl rfl)).trans ((du_pt m c f t (y 0) (y 1)).trans ((du_ref m c _ _).trans ?_))
  generalize val_main_v145 (F := Ideal) (x0 m c) (x1 m c) (x2 m c) (x3 m c) (x4 m c) (x5 m c) (x6 m c) = v
  blk_point [idx t, row]

theorem final12 (f : Finite m c) : (dats m 0 c).arrAt 12 (cfgs 0).N
    = val_main_v146 (F := Ideal) (x0 m c) (x1 m c) (x2 m c) (x3 m c) (x4 m c) (x5 m c) (x6 m c) := by
  refine (dats m 0 c).arrAt_eq_of_covers 12 _ (by decide +kernel) fun t hf y => ?_
  blk_simp
  rw [after0_12]
  refine (congrArg _ (eq2 y (y 0) (y 1) rfl rfl)).trans ((dy_pt m c f t (y 0) (y 1)).trans ((dy_ref m c _ _).trans ?_))
  generalize val_main_v146 (F := Ideal) (x0 m c) (x1 m c) (x2 m c) (x3 m c) (x4 m c) (x5 m c) (x6 m c) = v
  blk_point [idx t, row]

theorem final13 : (dats m 0 c).arrAt 13 (cfgs 0).N
    = val_main_v147 (F := Ideal) (x0 m c) (x1 m c) := by
  refine (dats m 0 c).arrAt_eq_of_covers 13 _ (by decide +kernel) fun t hf y => ?_
  blk_simp
  rw [after0_13]
  refine (congrArg _ (eq2 y (y 0) (y 1) rfl rfl)).trans ((h_pt m c t (y 0) (y 1)).trans ?_)
  generalize val_main_v147 (F := Ideal) (x0 m c) (x1 m c) = v
  blk_point [idx t, row]

theorem final14 (f : Finite m c) : (dats m 0 c).arrAt 14 (cfgs 0).N
    = val_main_v148 (F := Ideal) (x0 m c) (x1 m c) (x2 m c) (x3 m c) (x4 m c) (x5 m c) (x6 m c) := by
  refine (dats m 0 c).arrAt_eq_of_after_last 14 last (by decide +kernel) _ fun j => ?_
  blk_simp
  rw [after0_14]
  refine (congrArg _ (eq2 j 0 (j 1) (by have := (j 0).isLt; simp at this ⊢) rfl)).trans ((dg5_sum m c f last rfl (j 1)).trans ?_)
  generalize val_main_v148 (F := Ideal) (x0 m c) (x1 m c) (x2 m c) (x3 m c) (x4 m c) (x5 m c) (x6 m c) = v
  blk_point [idx last]

theorem final15 : (dats m 0 c).arrAt 15 (cfgs 0).N
    = val_main_v149 (F := Ideal) (x0 m c) (x1 m c) (x2 m c) (x3 m c) (x4 m c) (x6 m c) := by
  refine (dats m 0 c).arrAt_eq_of_after_last 15 last (by decide +kernel) _ fun j => ?_
  blk_simp
  rw [after0_15]
  refine (congrArg _ (eq2 j 0 (j 1) (by have := (j 0).isLt; simp at this ⊢) rfl)).trans ((dg6_sum m c last rfl (j 1)).trans ?_)
  generalize val_main_v149 (F := Ideal) (x0 m c) (x1 m c) (x2 m c) (x3 m c) (x4 m c) (x6 m c) = v
  blk_point [idx last]

theorem final16 (f : Finite m c) : (dats m 0 c).arrAt 16 (cfgs 0).N
    = val_main_v151 (F := Ideal) (x0 m c) (x1 m c) (x2 m c) (x3 m c) (x4 m c) (x5 m c) (x6 m c) := by
  refine (dats m 0 c).arrAt_eq_of_after_last 16 last (by decide +kernel) _ fun j => ?_
  blk_simp
  rw [after0_16]
  refine (congrArg _ (eq2 j (j 0) (j 1) rfl rfl)).trans ((dw_sum m c f last rfl (j 0) (j 1)).trans ?_)
  generalize val_main_v151 (F := Ideal) (x0 m c) (x1 m c) (x2 m c) (x3 m c) (x4 m c) (x5 m c) (x6 m c) = v
  blk_point [idx last]

end Cert.Kernel4Ideal.Ffn

end
-- ==== Proof.FfClaim.lean ====
/- The feed-forward's backward call and its reference: the claims of the pair. -/
module

public import proofs.«01_k».proof.Defs
public import proofs.«01_k».proof.Proof.Gen.Kernel4Ideal
public import proofs.«01_k».proof.Proof.Gen.Reference4Ideal
public import proofs.«01_k».proof.Proof.Gen.Pre_ffn_finite
public import proofs.«01_k».proof.Proof.Gen.Reference4Ideal.Run
public import proofs.«01_k».proof.Proof.Gen.Reference4Ideal.Read
public import proofs.«01_k».proof.Proof.Gen.Kernel4Ideal.Value
public import proofs.«01_k».proof.Proof.FfValue
public import proofs.«01_k».proof.Proof.RealOf
public import Idealize.ShloMosaic.Lib.Claim

@[expose] public section

set_option maxRecDepth 16384

noncomputable section

namespace Cert.Proof

open Idealize.ShloMosaic Idealize.ShloMosaic.TcCoe Idealize.SL.Sem
open Cert.Reals (isReal_of_lt)

set_option maxHeartbeats 1600000 in
theorem ff_finite (m : (ℓ : Loc Cert.Kernel4Ideal.nD Cert.Kernel4Ideal.τ Cert.Kernel4Ideal.sig) → Buf (Elt Ideal) ℓ) (h : Cert.Pre_Kernel4Ideal_ffn_finite m)
    (c : Dev Cert.Kernel4Ideal.nD) : Cert.Kernel4Ideal.Ffn.Finite m c := by
  obtain ⟨h0, h1, h2, h3, h4, h5, h6⟩ := h c
  exact ⟨fun i => isReal_of_lt (congrFun h0 i), fun i => isReal_of_lt (congrFun h1 i), fun i => isReal_of_lt (congrFun h2 i), fun i => isReal_of_lt (congrFun h3 i),
    fun i => isReal_of_lt (congrFun h4 i), fun i => isReal_of_lt (congrFun h5 i), fun i => isReal_of_lt (congrFun h6 i)⟩

open Cert.Reference4Ideal.Read

section
open Cert.Reference4Ideal Cert.Reference4Ideal.Value

set_option maxHeartbeats 1600000 in
/-- Where the reference of the feed-forward's backward call ends, each result as a function of the arguments. -/
theorem ff_reference_run (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ fun r => ∀ c : Dev Cert.Reference4Ideal.nD,
      r.2.mem ((c.tc : Thread nD τ).loc main_v144) = val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v145) = val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v146) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v147) = val_main_v147 (F := Ideal) (m ((c.tc : Thread nD τ).loc main_arg0)) (m ((c.tc : Thread nD τ).loc main_arg1))
      ∧ r.2.mem ((c.tc : Thread nD τ).loc main_v148) = val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v149) = val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v151) = val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run Cert.Reference4Ideal.defs _ _).mono (fun r h c => ⟨(h c).1.trans (val_main_v144_eq (StableHlo.launchContents m c)),
      (h c).2.1.trans (val_main_v145_eq (StableHlo.launchContents m c)),
      (h c).2.2.1.trans (val_main_v146_eq (StableHlo.launchContents m c)),
      (h c).2.2.2.1.trans (val_main_v147_eq (StableHlo.launchContents m c)),
      (h c).2.2.2.2.1.trans (val_main_v148_eq (StableHlo.launchContents m c)),
      (h c).2.2.2.2.2.1.trans (val_main_v149_eq (StableHlo.launchContents m c)),
      (h c).2.2.2.2.2.2.1.trans (val_main_v151_eq (StableHlo.launchContents m c)),
      (h c).2.2.2.2.2.2.2⟩)
    (Cert.Reference4Ideal.Value.run (F := Ideal) m ρ)

end

set_option maxHeartbeats 4000000 in
theorem ff_algebraic : Cert.algebraic_Kernel4Ideal_Reference4Ideal_pre_ffn_finite := by
  pair_intro
  · run_from Cert.Kernel4Ideal.Gen.run_main m g
    · exact hc.1 16
    · exact Cert.Kernel4Ideal.Gen.V_main_arg1 m c
    · exact Cert.Kernel4Ideal.Gen.V_main_arg2 m c
    · exact Cert.Kernel4Ideal.Gen.V_main_arg4 m c
    · exact Cert.Kernel4Ideal.Gen.V_main_arg5 m c
  · run_from ff_reference_run m' g'
    · exact (Cert.Kernel4Ideal.Ffn.final10 m c (ff_finite m hpre c)).symm
    · exact (Cert.Kernel4Ideal.Ffn.final11 m c (ff_finite m hpre c)).symm
    · exact (Cert.Kernel4Ideal.Ffn.final12 m c (ff_finite m hpre c)).symm
    · exact (Cert.Kernel4Ideal.Ffn.final13 m c).symm
    · exact (Cert.Kernel4Ideal.Ffn.final14 m c (ff_finite m hpre c)).symm
    · exact (Cert.Kernel4Ideal.Ffn.final15 m c).symm
    · exact (Cert.Kernel4Ideal.Ffn.final16 m c (ff_finite m hpre c)).symm

/-- The reference of the feed-forward's backward call runs and leaves its arguments and its counters alone. -/
theorem ff_reference_frame : Cert.quiescent_Reference4Ideal := fun m ρ _ =>
  (θ_run Cert.Reference4Ideal.defs _ _).mono (fun r h => ⟨fun c => (h c).2.2.2.2.2.2.2,
      Idealize.ShloMosaic.sem_eq_zero_of_no_sems (by decide) r.2⟩)
    (Cert.Reference4Ideal.Value.run (F := Ideal) m ρ)

end Cert.Proof

end
-- ==== Proof.KfValue.lean ====
/- The value of the memory branch's forward call: each of its two result arrays, as the composed term
   of the reference. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Kf

open Cert.Kernel5Ideal Cert.Kernel5Ideal.Gen Idealize.ShloMosaic Idealize.ShloMosaic.TcCoe Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

theorem final4 (c : Dev nD) : (dats m 0 c).arrAt 4 (cfgs 0).N
    = k0_pay2 (m ((c : Thread nD τ).loc main_arg0)) (shapeCast _ (m ((c : Thread nD τ).loc main_arg1)) shapeCasts_S1024_S1x1024)
        (m ((c : Thread nD τ).loc main_arg2)) := by
  refine (dats m 0 c).arrAt_eq_of_after_last 4 t0_0 (by decide +kernel) _ fun j => ?_
  blk_simp
  rw [after0_4]
  frame_out
  blk_point [iblk, V, idx t0_0]

theorem final5 (c : Dev nD) : (dats m 0 c).arrAt 5 (cfgs 0).N
    = k0_pay3 (m ((c : Thread nD τ).loc main_arg0)) (shapeCast _ (m ((c : Thread nD τ).loc main_arg1)) shapeCasts_S1024_S1x1024)
        (m ((c : Thread nD τ).loc main_arg3)) := by
  refine (dats m 0 c).arrAt_eq_of_after_last 5 t0_0 (by decide +kernel) _ fun j => ?_
  blk_simp
  rw [after0_5]
  frame_out
  blk_point [iblk, V, idx t0_0]

end Cert.Kernel5Ideal.Kf

namespace Cert.Proof

open Idealize.ShloMosaic Idealize.ShloMosaic.TcCoe Idealize.SL.Sem
open Cert.Kernel5Ideal.Gen

set_option maxHeartbeats 1600000 in
theorem kf_algebraic : Cert.algebraic_Kernel5Ideal_Reference5Ideal := by
  pair_intro
  · run_from Cert.Kernel5Ideal.Gen.run_main m g
  · run_from Cert.Reference5Ideal.Value.run m' g'
    · rw [Cert.Kernel5Ideal.Kf.final4 m c]
      funext j
      pointwise! [k0_pay2, k0_pay1]
    · rw [Cert.Kernel5Ideal.Kf.final5 m c]
      funext j
      pointwise! [k0_pay3, k0_pay1]

/-- The reference of the memory branch's forward call runs and leaves its arguments and its counters alone. -/
theorem kf_reference_frame : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

end Cert.Proof

end
-- ==== Proof.GfOut.lean ====
/- The feed-forward's forward call at one block of rows: what each output and scratch holds, in terms of the blocks read. -/
module

public import proofs.«01_k».proof.Proof.Gen.Kernel6Ideal.Value
public import Idealize.ShloMosaic.Lib.Pipeline.ReadBack
public import Idealize.ShloMosaic.Lib.Pipeline.ValueKit

@[expose] public section

set_option maxRecDepth 16384

noncomputable section

namespace Cert.Kernel6Ideal.Ffn

open Cert.Kernel6Ideal Cert.Kernel6Ideal.Gen Idealize.ShloMosaic Idealize.ShloMosaic.TcCoe Idealize.SL.Sem

/-- The up projection over a block of columns. -/
def up (hb : FVec Ideal S256x1024 .bf16) (w : FVec Ideal S1408x1024 .bf16) : FVec Ideal S256x1408 .bf16 := k0_pay17 hb w

/-- The convolution's rows, of what the block itself enters. -/
def top (hb : FVec Ideal S256x1024 .bf16) (w0 w1 w2 : FVec Ideal S1x1408 .f32) (w : FVec Ideal S1408x1024 .bf16) (S : FVec Ideal S512x256 .bf16) :
    FVec Ideal S256x1408 .bf16 := k0_pay19 hb w0 w1 w2 w S

/-- The convolution's first rows, what the rows before enter added: `a` the last one, `b` the one before. -/
def edge (hb : FVec Ideal S256x1024 .bf16) (w0 w1 w2 : FVec Ideal S1x1408 .f32) (w : FVec Ideal S1408x1024 .bf16) (S : FVec Ideal S512x256 .bf16)
    (a b : FVec Ideal S1x1408 .f32) : FVec Ideal S16x1408 .bf16 :=
  k0_pay21 w0 w1 (k0_pay18 hb w0 w1 w2 w S) a b (iota .tc S16x1408 32 [0] iota_S16x1408_d0_w32) (k0_pay20 a)

/-- The rows kept for the next block. -/
def kept (hb : FVec Ideal S256x1024 .bf16) (w : FVec Ideal S1408x1024 .bf16) : FVec Ideal S8x1408 .f32 := k0_pay22 (k0_pay16 hb w)

/-- The gated values. -/
def gated (cg cv : FVec Ideal S256x1408 .bf16) : FVec Ideal S256x1408 .bf16 := k0_pay23 (k0_pay15 cg) cv

/-- The matrix whose product with a block moves its rows down by one, and by two. -/
def shift : FVec Ideal S512x256 .bf16 :=
  View.canon [(⟨Rect.unit (s := S512x256) ![256, 0] ![256, 256] inb_S512x256_S256x256_256_0, k0_pay3 (F := Ideal)⟩ : View.Piece (Elt Ideal) S512x256 .bf16), (⟨Rect.unit (s := S512x256) ![0, 0] ![256, 256] inb_S512x256_S256x256_0_0, k0_pay2 (F := Ideal)⟩ : View.Piece (Elt Ideal) S512x256 .bf16)]

theorem shift_read (v : View sig .tc .vmem S512x256 .bf16) (L : List (View.Piece (Elt Ideal) S512x256 .bf16)) :
    v.readCov L (Rect.unit (s := S512x256) ![0, 0] ![512, 256] inb_S512x256_S512x256_0_0).toLoadRect = View.canon L := by
  rw [View.readCov_eq_canon']
  funext j
  refine congrArg _ (funext fun k => match k with
    | ⟨0, _⟩ => Fin.ext (by show 0 + 1 * (j 0 : ℕ) = j 0; omega)
    | ⟨1, _⟩ => Fin.ext (by show 0 + 1 * (j 1 : ℕ) = j 1; omega))

theorem a_read (v : View sig .tc .vmem S256x2816 .bf16) (L : List (View.Piece (Elt Ideal) S256x2816 .bf16)) :
    v.readCov L (Rect.unit (s := S256x2816) ![0, 0] ![256, 2816] inb_S256x2816_S256x2816_0_0).toLoadRect = View.canon L := by
  rw [View.readCov_eq_canon']
  funext j
  refine congrArg _ (funext fun k => match k with
    | ⟨0, _⟩ => Fin.ext (by show 0 + 1 * (j 0 : ℕ) = j 0; omega)
    | ⟨1, _⟩ => Fin.ext (by show 0 + 1 * (j 1 : ℕ) = j 1; omega))

/-- Columns of what was stored. -/
theorem c_read (v : View sig .tc .vmem S256x5632 .bf16) (L : List (View.Piece (Elt Ideal) S256x5632 .bf16)) (r : Rect S256x5632) :
    v.readCov L r.toLoadRect = View.ld (Val := Elt Ideal) (e' := .bf16) (View.canon L) r := by
  rw [View.readCov_eq_canon']

theorem keep_read (A : FVec Ideal S8x5632 .f32) : View.read (Elt Ideal) (View.whole cc0_scratch0) ((Memref.isWhole_whole cc0_scratch0).unread A) = A :=
  Memref.IsWhole.read_unread (Val := Elt Ideal) (Memref.isWhole_whole cc0_scratch0) A

theorem shift_keep (A : FVec Ideal S512x256 .bf16) : View.read (Elt Ideal) (View.whole cc0_scratch1) ((Memref.isWhole_whole cc0_scratch1).unread A) = A :=
  Memref.IsWhole.read_unread (Val := Elt Ideal) (Memref.isWhole_whole cc0_scratch1) A

variable (m : (ℓ : Loc nD τ sig) → Buf (Elt Ideal) ℓ) (c : Dev nD) (t : Fin cfg0.N)

/-- The normalized rows. -/
def hb : FVec Ideal S256x1024 .bf16 := k0_pay4 (iblk m c 0 t) (iblk m c 1 t)

/-- The up projection's columns from 0 on. -/
def wu0 : FVec Ideal S1408x1024 .bf16 := View.ld (Val := Elt Ideal) (e' := .bf16) (iblk m c 2 t) (Rect.unit (s := S5632x1024) ![0, 0] ![1408, 1024] inb_S5632x1024_S1408x1024_0_0)

/-- The filter's columns from 0 on. -/
def cw00 : FVec Ideal S1x1408 .f32 := View.ld (Val := Elt Ideal) (e' := .f32) (iblk m c 3 t) (Rect.unit (s := S3x5632) ![0, 0] ![1, 1408] inb_S3x5632_S1x1408_0_0)
def cw01 : FVec Ideal S1x1408 .f32 := View.ld (Val := Elt Ideal) (e' := .f32) (iblk m c 3 t) (Rect.unit (s := S3x5632) ![1, 0] ![1, 1408] inb_S3x5632_S1x1408_1_0)
def cw02 : FVec Ideal S1x1408 .f32 := View.ld (Val := Elt Ideal) (e' := .f32) (iblk m c 3 t) (Rect.unit (s := S3x5632) ![2, 0] ![1, 1408] inb_S3x5632_S1x1408_2_0)

/-- The up projection's columns from 1408 on. -/
def wu1 : FVec Ideal S1408x1024 .bf16 := View.ld (Val := Elt Ideal) (e' := .bf16) (iblk m c 2 t) (Rect.unit (s := S5632x1024) ![1408, 0] ![1408, 1024] inb_S5632x1024_S1408x1024_1408_0)

/-- The filter's columns from 1408 on. -/
def cw10 : FVec Ideal S1x1408 .f32 := View.ld (Val := Elt Ideal) (e' := .f32) (iblk m c 3 t) (Rect.unit (s := S3x5632) ![0, 1408] ![1, 1408] inb_S3x5632_S1x1408_0_1408)
def cw11 : FVec Ideal S1x1408 .f32 := View.ld (Val := Elt Ideal) (e' := .f32) (iblk m c 3 t) (Rect.unit (s := S3x5632) ![1, 1408] ![1, 1408] inb_S3x5632_S1x1408_1_1408)
def cw12 : FVec Ideal S1x1408 .f32 := View.ld (Val := Elt Ideal) (e' := .f32) (iblk m c 3 t) (Rect.unit (s := S3x5632) ![2, 1408] ![1, 1408] inb_S3x5632_S1x1408_2_1408)

/-- The up projection's columns from 2816 on. -/
def wu2 : FVec Ideal S1408x1024 .bf16 := View.ld (Val := Elt Ideal) (e' := .bf16) (iblk m c 2 t) (Rect.unit (s := S5632x1024) ![2816, 0] ![1408, 1024] inb_S5632x1024_S1408x1024_2816_0)

/-- The filter's columns from 2816 on. -/
def cw20 : FVec Ideal S1x1408 .f32 := View.ld (Val := Elt Ideal) (e' := .f32) (iblk m c 3 t) (Rect.unit (s := S3x5632) ![0, 2816] ![1, 1408] inb_S3x5632_S1x1408_0_2816)
def cw21 : FVec Ideal S1x1408 .f32 := View.ld (Val := Elt Ideal) (e' := .f32) (iblk m c 3 t) (Rect.unit (s := S3x5632) ![1, 2816] ![1, 1408] inb_S3x5632_S1x1408_1_2816)
def cw22 : FVec Ideal S1x1408 .f32 := View.ld (Val := Elt Ideal) (e' := .f32) (iblk m c 3 t) (Rect.unit (s := S3x5632) ![2, 2816] ![1, 1408] inb_S3x5632_S1x1408_2_2816)

/-- The up projection's columns from 4224 on. -/
def wu3 : FVec Ideal S1408x1024 .bf16 := View.ld (Val := Elt Ideal) (e' := .bf16) (iblk m c 2 t) (Rect.unit (s := S5632x1024) ![4224, 0] ![1408, 1024] inb_S5632x1024_S1408x1024_4224_0)

/-- The filter's columns from 4224 on. -/
def cw30 : FVec Ideal S1x1408 .f32 := View.ld (Val := Elt Ideal) (e' := .f32) (iblk m c 3 t) (Rect.unit (s := S3x5632) ![0, 4224] ![1, 1408] inb_S3x5632_S1x1408_0_4224)
def cw31 : FVec Ideal S1x1408 .f32 := View.ld (Val := Elt Ideal) (e' := .f32) (iblk m c 3 t) (Rect.unit (s := S3x5632) ![1, 4224] ![1, 1408] inb_S3x5632_S1x1408_1_4224)
def cw32 : FVec Ideal S1x1408 .f32 := View.ld (Val := Elt Ideal) (e' := .f32) (iblk m c 3 t) (Rect.unit (s := S3x5632) ![2, 4224] ![1, 1408] inb_S3x5632_S1x1408_2_4224)

/-- The stores into u. -/
def uL : List (View.Piece (Elt Ideal) S256x5632 .bf16) :=
  [(⟨Rect.unit (s := S256x5632) ![0, 4224] ![256, 1408] inb_S256x5632_S256x1408_0_4224, up (hb m c t) (wu3 m c t)⟩ : View.Piece (Elt Ideal) S256x5632 .bf16),
    (⟨Rect.unit (s := S256x5632) ![0, 1408] ![256, 1408] inb_S256x5632_S256x1408_0_1408, up (hb m c t) (wu1 m c t)⟩ : View.Piece (Elt Ideal) S256x5632 .bf16),
    (⟨Rect.unit (s := S256x5632) ![0, 2816] ![256, 1408] inb_S256x5632_S256x1408_0_2816, up (hb m c t) (wu2 m c t)⟩ : View.Piece (Elt Ideal) S256x5632 .bf16),
    (⟨Rect.unit (s := S256x5632) ![0, 0] ![256, 1408] inb_S256x5632_S256x1408_0_0, up (hb m c t) (wu0 m c t)⟩ : View.Piece (Elt Ideal) S256x5632 .bf16)]

/-- The stores into the rows kept. -/
def keepL : List (View.Piece (Elt Ideal) S8x5632 .f32) :=
  [(⟨Rect.unit (s := S8x5632) ![0, 4224] ![8, 1408] inb_S8x5632_S8x1408_0_4224, kept (hb m c t) (wu3 m c t)⟩ : View.Piece (Elt Ideal) S8x5632 .f32),
    (⟨Rect.unit (s := S8x5632) ![0, 1408] ![8, 1408] inb_S8x5632_S8x1408_0_1408, kept (hb m c t) (wu1 m c t)⟩ : View.Piece (Elt Ideal) S8x5632 .f32),
    (⟨Rect.unit (s := S8x5632) ![0, 2816] ![8, 1408] inb_S8x5632_S8x1408_0_2816, kept (hb m c t) (wu2 m c t)⟩ : View.Piece (Elt Ideal) S8x5632 .f32),
    (⟨Rect.unit (s := S8x5632) ![0, 0] ![8, 1408] inb_S8x5632_S8x1408_0_0, kept (hb m c t) (wu0 m c t)⟩ : View.Piece (Elt Ideal) S8x5632 .f32)]

section Stores
variable (K : FVec Ideal S8x5632 .f32) (S : FVec Ideal S512x256 .bf16)

/-- The stores into c: `K` the rows kept of the block before, `S` the matrix that moves rows; columns from 0 on. -/
def cL0 : List (View.Piece (Elt Ideal) S256x5632 .bf16) :=
  (⟨Rect.unit (s := S256x5632) ![0, 0] ![16, 1408] inb_S256x5632_S16x1408_0_0, edge (hb m c t) (cw00 m c t) (cw01 m c t) (cw02 m c t) (wu0 m c t) S (View.ld (Val := Elt Ideal) (e' := .f32) K (Rect.unit (s := S8x5632) ![7, 0] ![1, 1408] inb_S8x5632_S1x1408_7_0)) (View.ld (Val := Elt Ideal) (e' := .f32) K (Rect.unit (s := S8x5632) ![6, 0] ![1, 1408] inb_S8x5632_S1x1408_6_0))⟩ : View.Piece (Elt Ideal) S256x5632 .bf16)
    :: (⟨Rect.unit (s := S256x5632) ![0, 0] ![256, 1408] inb_S256x5632_S256x1408_0_0, top (hb m c t) (cw00 m c t) (cw01 m c t) (cw02 m c t) (wu0 m c t) S⟩ : View.Piece (Elt Ideal) S256x5632 .bf16) :: []

/-- The same, columns from 2816 on added. -/
def cL1 : List (View.Piece (Elt Ideal) S256x5632 .bf16) :=
  (⟨Rect.unit (s := S256x5632) ![0, 2816] ![16, 1408] inb_S256x5632_S16x1408_0_2816, edge (hb m c t) (cw20 m c t) (cw21 m c t) (cw22 m c t) (wu2 m c t) S (View.ld (Val := Elt Ideal) (e' := .f32) K (Rect.unit (s := S8x5632) ![7, 2816] ![1, 1408] inb_S8x5632_S1x1408_7_2816)) (View.ld (Val := Elt Ideal) (e' := .f32) K (Rect.unit (s := S8x5632) ![6, 2816] ![1, 1408] inb_S8x5632_S1x1408_6_2816))⟩ : View.Piece (Elt Ideal) S256x5632 .bf16)
    :: (⟨Rect.unit (s := S256x5632) ![0, 2816] ![256, 1408] inb_S256x5632_S256x1408_0_2816, top (hb m c t) (cw20 m c t) (cw21 m c t) (cw22 m c t) (wu2 m c t) S⟩ : View.Piece (Elt Ideal) S256x5632 .bf16) :: cL0 m c t K S

/-- The same, columns from 1408 on added. -/
def cL2 : List (View.Piece (Elt Ideal) S256x5632 .bf16) :=
  (⟨Rect.unit (s := S256x5632) ![0, 1408] ![16, 1408] inb_S256x5632_S16x1408_0_1408, edge (hb m c t) (cw10 m c t) (cw11 m c t) (cw12 m c t) (wu1 m c t) S (View.ld (Val := Elt Ideal) (e' := .f32) K (Rect.unit (s := S8x5632) ![7, 1408] ![1, 1408] inb_S8x5632_S1x1408_7_1408)) (View.ld (Val := Elt Ideal) (e' := .f32) K (Rect.unit (s := S8x5632) ![6, 1408] ![1, 1408] inb_S8x5632_S1x1408_6_1408))⟩ : View.Piece (Elt Ideal) S256x5632 .bf16)
    :: (⟨Rect.unit (s := S256x5632) ![0, 1408] ![256, 1408] inb_S256x5632_S256x1408_0_1408, top (hb m c t) (cw10 m c t) (cw11 m c t) (cw12 m c t) (wu1 m c t) S⟩ : View.Piece (Elt Ideal) S256x5632 .bf16) :: cL1 m c t K S

/-- The same, columns from 4224 on added. -/
def cL3 : List (View.Piece (Elt Ideal) S256x5632 .bf16) :=
  (⟨Rect.unit (s := S256x5632) ![0, 4224] ![16, 1408] inb_S256x5632_S16x1408_0_4224, edge (hb m c t) (cw30 m c t) (cw31 m c t) (cw32 m c t) (wu3 m c t) S (View.ld (Val := Elt Ideal) (e' := .f32) K (Rect.unit (s := S8x5632) ![7, 4224] ![1, 1408] inb_S8x5632_S1x1408_7_4224)) (View.ld (Val := Elt Ideal) (e' := .f32) K (Rect.unit (s := S8x5632) ![6, 4224] ![1, 1408] inb_S8x5632_S1x1408_6_4224))⟩ : View.Piece (Elt Ideal) S256x5632 .bf16)
    :: (⟨Rect.unit (s := S256x5632) ![0, 4224] ![256, 1408] inb_S256x5632_S256x1408_0_4224, top (hb m c t) (cw30 m c t) (cw31 m c t) (cw32 m c t) (wu3 m c t) S⟩ : View.Piece (Elt Ideal) S256x5632 .bf16) :: cL2 m c t K S

def cv0 : FVec Ideal S256x1408 .bf16 := View.ld (Val := Elt Ideal) (e' := .bf16) (View.canon (cL0 m c t K S)) (Rect.unit (s := S256x5632) ![0, 0] ![256, 1408] inb_S256x5632_S256x1408_0_0)

def cv2 : FVec Ideal S256x1408 .bf16 := View.ld (Val := Elt Ideal) (e' := .bf16) (View.canon (cL1 m c t K S)) (Rect.unit (s := S256x5632) ![0, 2816] ![256, 1408] inb_S256x5632_S256x1408_0_2816)

def cv1 : FVec Ideal S256x1408 .bf16 := View.ld (Val := Elt Ideal) (e' := .bf16) (View.canon (cL2 m c t K S)) (Rect.unit (s := S256x5632) ![0, 1408] ![256, 1408] inb_S256x5632_S256x1408_0_1408)

def cv3 : FVec Ideal S256x1408 .bf16 := View.ld (Val := Elt Ideal) (e' := .bf16) (View.canon (cL3 m c t K S)) (Rect.unit (s := S256x5632) ![0, 4224] ![256, 1408] inb_S256x5632_S256x1408_0_4224)

/-- The stores into a. -/
def aL : List (View.Piece (Elt Ideal) S256x2816 .bf16) :=
  [(⟨Rect.unit (s := S256x2816) ![0, 1408] ![256, 1408] inb_S256x2816_S256x1408_0_1408, gated (cv1 m c t K S) (cv3 m c t K S)⟩ : View.Piece (Elt Ideal) S256x2816 .bf16),
    (⟨Rect.unit (s := S256x2816) ![0, 0] ![256, 1408] inb_S256x2816_S256x1408_0_0, gated (cv0 m c t K S) (cv2 m c t K S)⟩ : View.Piece (Elt Ideal) S256x2816 .bf16)]

end Stores

/-- The block of rows before. -/
abbrev prev := outsAt0 m c (t.val - 1) (Nat.lt_of_le_of_lt (Nat.sub_le t.val 1) t.isLt)

section First
variable (h : t.val % 32 = 0)
include h

set_option maxHeartbeats 1600000 in
theorem u_A : (outsAt0 m c t.val t.isLt).1 = View.canon (uL m c t) := by
  rw [outsAt0_A m c t h]
  dsimp only
  frame_out
  rfl

set_option maxHeartbeats 1600000 in
theorem c_A : (outsAt0 m c t.val t.isLt).2.1 = View.canon (cL3 m c t k0_pay1 shift) := by
  rw [outsAt0_A m c t h]
  dsimp only
  frame_out
  simp (disch := decide) only [View.readCov_skip, View.readCov_fill]
  simp only [shift_read, a_read, c_read]
  rfl

set_option maxHeartbeats 1600000 in
theorem a_A : (outsAt0 m c t.val t.isLt).2.2.1 = View.canon (aL m c t k0_pay1 shift) := by
  rw [outsAt0_A m c t h]
  dsimp only
  frame_out
  simp (disch := decide) only [View.readCov_skip, View.readCov_fill]
  simp only [shift_read, a_read, c_read]
  rfl

set_option maxHeartbeats 1600000 in
theorem y_A : (outsAt0 m c t.val t.isLt).2.2.2.1 = k0_pay45 (View.canon (aL m c t k0_pay1 shift)) (iblk m c 4 t) := by
  rw [outsAt0_A m c t h]
  dsimp only
  frame_out
  simp (disch := decide) only [View.readCov_skip, View.readCov_fill]
  simp only [shift_read, a_read, c_read]
  rfl

set_option maxHeartbeats 1600000 in
theorem x3_A : (outsAt0 m c t.val t.isLt).2.2.2.2.1 = k0_pay46 (iblk m c 0 t) (View.canon (aL m c t k0_pay1 shift)) (iblk m c 4 t) (iblk m c 5 t) := by
  rw [outsAt0_A m c t h]
  dsimp only
  frame_out
  simp (disch := decide) only [View.readCov_skip, View.readCov_fill]
  simp only [shift_read, a_read, c_read]
  rfl

set_option maxHeartbeats 1600000 in
theorem keep_A : (outsAt0 m c t.val t.isLt).2.2.2.2.2.1 = View.canon (keepL m c t ++ [(⟨Rect.unit (s := S8x5632) ![0, 0] ![8, 5632] inb_S8x5632_S8x5632_0_0, (k0_pay1 (F := Ideal))⟩ : View.Piece (Elt Ideal) S8x5632 .f32)]) := by
  rw [outsAt0_A m c t h]
  dsimp only
  frame_out
  rfl

set_option maxHeartbeats 1600000 in
theorem shift_A : (outsAt0 m c t.val t.isLt).2.2.2.2.2.2 = shift := by
  rw [outsAt0_A m c t h]
  dsimp only
  frame_out

end First

section Later
variable (h : ¬t.val % 32 = 0)
include h

set_option maxHeartbeats 1600000 in
theorem u_B : (outsAt0 m c t.val t.isLt).1 = View.canon (uL m c t) := by
  rw [outsAt0_B m c t h]
  dsimp only
  frame_out
  rfl

set_option maxHeartbeats 1600000 in
theorem c_B : (outsAt0 m c t.val t.isLt).2.1 = View.canon (cL3 m c t (prev m c t).2.2.2.2.2.1 (prev m c t).2.2.2.2.2.2) := by
  rw [outsAt0_B m c t h]
  dsimp only
  frame_out
  simp only [keep_read, shift_keep, a_read, c_read]
  rfl

set_option maxHeartbeats 1600000 in
theorem a_B : (outsAt0 m c t.val t.isLt).2.2.1 = View.canon (aL m c t (prev m c t).2.2.2.2.2.1 (prev m c t).2.2.2.2.2.2) := by
  rw [outsAt0_B m c t h]
  dsimp only
  frame_out
  simp only [keep_read, shift_keep, a_read, c_read]
  rfl

set_option maxHeartbeats 1600000 in
theorem y_B : (outsAt0 m c t.val t.isLt).2.2.2.1 = k0_pay45 (View.canon (aL m c t (prev m c t).2.2.2.2.2.1 (prev m c t).2.2.2.2.2.2)) (iblk m c 4 t) := by
  rw [outsAt0_B m c t h]
  dsimp only
  frame_out
  simp only [keep_read, shift_keep, a_read, c_read]
  rfl

set_option maxHeartbeats 1600000 in
theorem x3_B : (outsAt0 m c t.val t.isLt).2.2.2.2.1 = k0_pay46 (iblk m c 0 t) (View.canon (aL m c t (prev m c t).2.2.2.2.2.1 (prev m c t).2.2.2.2.2.2)) (iblk m c 4 t) (iblk m c 5 t) := by
  rw [outsAt0_B m c t h]
  dsimp only
  frame_out
  simp only [keep_read, shift_keep, a_read, c_read]
  rfl

set_option maxHeartbeats 1600000 in
theorem keep_B : (outsAt0 m c t.val t.isLt).2.2.2.2.2.1 = View.canon (keepL m c t) := by
  rw [outsAt0_B m c t h]
  dsimp only
  frame_out
  rfl

theorem shift_B : (outsAt0 m c t.val t.isLt).2.2.2.2.2.2 = (prev m c t).2.2.2.2.2.2 := by
  rw [outsAt0_B m c t h]
  rfl

end Later

end Cert.Kernel6Ideal.Ffn

end
-- ==== Proof.GfPay.lean ====
/- What the payloads of the feed-forward's forward call compute, read at one lane over any blocks. -/
module

public import proofs.«01_k».proof.Proof.GfOut
public import Idealize.ShloMosaic.Lib.Pointwise
public import Idealize.ShloMosaic.Lib.WordCmp

@[expose] public section

set_option maxRecDepth 16384

noncomputable section

namespace Cert.Kernel6Ideal.Ffn

open Cert.Kernel6Ideal Cert.Kernel6Ideal.Gen Idealize.ShloMosaic Idealize.ShloMosaic.TcCoe Idealize.SL.Sem

/-- Choosing by whether two counts agree. -/
theorem pick {α : Type} (a b : ℕ) (ha : a < 2 ^ 32) (hb : b < 2 ^ 32) (x y : α) :
    Scalar.select (IntOp.cmpi .eq (BitVec.ofNat 32 a) (BitVec.ofNat 32 b)) x y = if a = b then x else y := by
  rw [Idealize.ShloMosaic.WordCmp.cmpi_eq_ofNat ha hb]
  by_cases h : a = b <;> simp [Scalar.select, h]

/-- Taking `d` away from a count, as words. -/
theorem word_back (r d : ℕ) : IntOp.addi (BitVec.ofNat 32 r) (BitVec.ofNat 32 (4294967296 - d)) = BitVec.ofNat 32 ((r + (4294967296 - d)) % 4294967296) := by
  refine BitVec.eq_of_toNat_eq ?_
  show (BitVec.ofNat 32 r + BitVec.ofNat 32 (4294967296 - d)).toNat = _
  rw [BitVec.toNat_add, BitVec.toNat_ofNat, BitVec.toNat_ofNat, BitVec.toNat_ofNat]
  omega

/-- The logistic function. -/
def sgm (x : EReal) : EReal := Ideal.div ((1 : ℝ) : EReal) (((1 : ℝ) : EReal) + Ideal.exp (-x))

/-- One over the root mean square of a row. -/
def rms {n : ℕ} (y : Fin n → EReal) : EReal :=
  Ideal.rsqrt (Ideal.div (∑ k, y k * y k) (Ideal.ofBits .f32 0x44800000#32) + Ideal.ofBits .f32 0x358637BD#32)

theorem down1_at (r p : Fin 256) : k0_pay2 (F := Ideal) (ix2 r p) = if (p : ℕ) + 1 = r then 1 else 0 := by
  pointwise [k0_pay2]
  refine (congrArg (fun w => Scalar.select (IntOp.cmpi .eq (BitVec.ofNat 32 (p : ℕ)) w) _ _) (word_back r 1)).trans ?_
  rw [pick _ _ (by omega) (by omega)]
  refine (if_congr (by omega) ?_ rfl).trans rfl
  first | rfl | exact EReal.coe_one

theorem down2_at (r p : Fin 256) : k0_pay3 (F := Ideal) (ix2 r p) = if (p : ℕ) + 2 = r then 1 else 0 := by
  pointwise [k0_pay3]
  refine (congrArg (fun w => Scalar.select (IntOp.cmpi .eq (BitVec.ofNat 32 (p : ℕ)) w) _ _) (word_back r 2)).trans ?_
  rw [pick _ _ (by omega) (by omega)]
  refine (if_congr (by omega) ?_ rfl).trans rfl
  first | rfl | exact EReal.coe_one

theorem none_at (k : Fin 8) (j : Fin 5632) : k0_pay1 (F := Ideal) (ix2 k j) = 0 := by
  pointwise [k0_pay1]

theorem hb_at (x : FVec Ideal S256x1024 .f32) (g : FVec Ideal S1x1024 .f32) (r : Fin 256) (k : Fin 1024) :
    k0_pay4 (F := Ideal) x g (ix2 r k) = x (ix2 r k) * rms (fun k : Fin 1024 => x (ix2 r k)) * g (ix2 0 k) := by
  unfold rms
  pointwise [k0_pay4]

theorem up_at (h : FVec Ideal S256x1024 .bf16) (w : FVec Ideal S1408x1024 .bf16) (r : Fin 256) (q : Fin 1408) :
    up h w (ix2 r q) = ∑ k : Fin 1024, h (ix2 r k) * w (ix2 q k) := by
  unfold up
  pointwise [k0_pay17, k0_pay16]

theorem up16_at (h : FVec Ideal S256x1024 .bf16) (w : FVec Ideal S1408x1024 .bf16) (r : Fin 256) (q : Fin 1408) :
    k0_pay16 h w (ix2 r q) = up h w (ix2 r q) := by
  unfold up
  generalize e : k0_pay16 h w = u
  pointwise [k0_pay17]
  rw [e]

theorem kept_at (h : FVec Ideal S256x1024 .bf16) (w : FVec Ideal S1408x1024 .bf16) (k : Fin 8) (q : Fin 1408) :
    kept h w (ix2 k q) = up h w (ix2 ⟨248 + k, by omega⟩ q) := by
  rw [← up16_at]
  unfold kept
  generalize k0_pay16 h w = u
  pointwise [k0_pay22]

theorem top18_at (h : FVec Ideal S256x1024 .bf16) (w0 w1 w2 : FVec Ideal S1x1408 .f32) (w : FVec Ideal S1408x1024 .bf16) (S : FVec Ideal S512x256 .bf16)
    (r : Fin 256) (q : Fin 1408) : k0_pay18 h w0 w1 w2 w S (ix2 r q)
    = w0 (ix2 0 q) * (∑ p : Fin 256, S (ix2 ⟨256 + r, by omega⟩ p) * up h w (ix2 p q))
      + w1 (ix2 0 q) * (∑ p : Fin 256, S (ix2 ⟨r, by omega⟩ p) * up h w (ix2 p q)) + w2 (ix2 0 q) * up h w (ix2 r q) := by
  rw [← up16_at]
  unfold up
  generalize e17 : k0_pay17 h w = u
  generalize e16 : k0_pay16 h w = v
  unfold k0_pay18
  rw [e17, e16]
  pointwise []

theorem top_at (h : FVec Ideal S256x1024 .bf16) (w0 w1 w2 : FVec Ideal S1x1408 .f32) (w : FVec Ideal S1408x1024 .bf16) (S : FVec Ideal S512x256 .bf16)
    (r : Fin 256) (q : Fin 1408) : top h w0 w1 w2 w S (ix2 r q) = k0_pay18 h w0 w1 w2 w S (ix2 r q) := by
  unfold top
  generalize e : k0_pay18 h w0 w1 w2 w S = u
  pointwise [k0_pay19]
  rw [e]

theorem edge_at (h : FVec Ideal S256x1024 .bf16) (w0 w1 w2 : FVec Ideal S1x1408 .f32) (w : FVec Ideal S1408x1024 .bf16) (S : FVec Ideal S512x256 .bf16)
    (a b : FVec Ideal S1x1408 .f32) (r : Fin 16) (q : Fin 1408) : edge h w0 w1 w2 w S a b (ix2 r q)
    = k0_pay18 h w0 w1 w2 w S (ix2 ⟨r, by omega⟩ q) + w1 (ix2 0 q) * (if (r : ℕ) = 0 then a (ix2 0 q) else 0)
      + w0 (ix2 0 q) * (if (r : ℕ) = 0 then b (ix2 0 q) else if (r : ℕ) = 1 then a (ix2 0 q) else 0) := by
  unfold edge
  generalize k0_pay18 h w0 w1 w2 w S = u
  pointwise [k0_pay21, k0_pay20]
  rw [pick _ 0 (by omega) (by norm_num), pick _ 0 (by omega) (by norm_num), pick _ 1 (by omega) (by norm_num)]
  simp only [mul_ite, mul_zero]

theorem gated_at (cg cv : FVec Ideal S256x1408 .bf16) (r : Fin 256) (q : Fin 1408) :
    gated cg cv (ix2 r q) = cg (ix2 r q) * sgm (cg (ix2 r q)) * cv (ix2 r q) := by
  unfold gated sgm
  pointwise [k0_pay23, k0_pay15]
  simp only [sub_eq_add_neg, zero_add, EReal.coe_one]

theorem y_at (a : FVec Ideal S256x2816 .bf16) (w : FVec Ideal S2816x1024 .bf16) (r : Fin 256) (j : Fin 1024) :
    k0_pay45 (F := Ideal) a w (ix2 r j) = ∑ k : Fin 2816, a (ix2 r k) * w (ix2 k j) := by
  pointwise [k0_pay45]

theorem x3_at (x : FVec Ideal S256x1024 .f32) (a : FVec Ideal S256x2816 .bf16) (w : FVec Ideal S2816x1024 .bf16) (g : FVec Ideal S1x1024 .f32)
    (r : Fin 256) (j : Fin 1024) : k0_pay46 (F := Ideal) x a w g (ix2 r j)
    = x (ix2 r j) + k0_pay45 (F := Ideal) a w (ix2 r j) * rms (fun k : Fin 1024 => k0_pay45 (F := Ideal) a w (ix2 r k)) * g (ix2 0 j) := by
  unfold rms
  generalize e : k0_pay45 (F := Ideal) a w = y
  unfold k0_pay46
  rw [e]
  pointwise []

end Cert.Kernel6Ideal.Ffn
-- ==== Proof.GfRef.lean ====
/- The reference of the feed-forward's forward call, read at a lane. -/
module

public import proofs.«01_k».proof.Proof.Gen.Reference6Ideal.Read
public import Idealize.ShloMosaic.Lib.Pipeline.ValueKit
public import Idealize.ShloMosaic.Lib.Pipeline.Value
public import Idealize.ShloMosaic.Lib.Pointwise

@[expose] public section

set_option maxRecDepth 16384

noncomputable section

namespace Cert.Reference6Ideal.Ffn

open Cert.Reference6Ideal Cert.Reference6Ideal.Gen Cert.Reference6Ideal.Read
open Idealize.ShloMosaic Idealize.ShloMosaic.TcCoe Idealize.SL.Sem

/-- An index with two coordinates is its coordinates. -/
theorem eq2 {n k : ℕ} (i : Shape.Idx ⟨2, ![n, k]⟩) (a : Fin n) (b : Fin k) (h0 : (i 0).val = a.val) (h1 : (i 1).val = b.val) : i = ix2 a b := by
  funext d; match d with
    | ⟨0, _⟩ => exact Fin.ext h0
    | ⟨1, _⟩ => exact Fin.ext h1

/-- The entry `d` places before the `i`-th one of a column, zero before the column's start. -/
def back (U : Fin 8192 → EReal) (i d : ℕ) : EReal := if h : d ≤ i ∧ i - d < 8192 then U ⟨i - d, h.2⟩ else 0

theorem back_of (U : Fin 8192 → EReal) (i d : ℕ) (k : Fin 8192) (h : (k : ℕ) + d = i) : back U i d = U k := by
  rw [back, dif_pos ⟨by omega, by omega⟩]
  exact congrArg U (Fin.ext (by show i - d = (k : ℕ); omega))

theorem back_zero (U : Fin 8192 → EReal) (i d : ℕ) (h : i < d) : back U i d = 0 := dif_neg (by omega)

/-- How far back an entry lies counts, not from where. -/
theorem back_shift (U : Fin 8192 → EReal) (i d e : ℕ) : back U (e + i) (e + d) = back U i d := by
  by_cases h : d ≤ i ∧ i - d < 8192
  · rw [back_of U i d ⟨i - d, h.2⟩ (by show i - d + d = i; omega)]
    exact back_of U _ _ _ (by show i - d + (e + d) = e + i; omega)
  · rw [back, back, dif_neg h, dif_neg (by omega)]

variable (x0 : FVec Ideal S8192x1024 .f32) (x1 : FVec Ideal S1024 .f32) (x2 : FVec Ideal S1024x5632 .f32) (x3 : FVec Ideal S3x5632 .f32)

theorem v15_at (i : Fin 8194) (q : Fin 5632) : val_main_v15 (F := Ideal) x0 x1 x2 (ix2 i q)
    = back (fun k => val_main_v13 (F := Ideal) x0 x1 x2 (ix2 k q)) i 2 := by
  unfold val_main_v15
  by_cases h : (i : ℕ) < 2
  · rw [back_zero _ _ _ h]
    refine (concatenate_pair_apply_left (t := S8194x5632) (s₁ := S2x5632) (s₂ := S8192x5632) 0 _ _ _ (ix2 i q) rfl (@ix2 2 5632 ⟨i, h⟩ q) ?_).trans ?_
    · intro b; match b with
        | ⟨0, _⟩ => rfl
        | ⟨1, _⟩ => rfl
    · pointwise [val_main_v14, val_main_cst_2]
  · rw [back_of _ i 2 ⟨i - 2, by omega⟩ (by show (i : ℕ) - 2 + 2 = i; omega)]
    refine (concatenate_pair_apply_right (t := S8194x5632) (s₁ := S2x5632) (s₂ := S8192x5632) 0 _ _ _ (ix2 i q) rfl rfl (@ix2 8192 5632 ⟨i - 2, by omega⟩ q) ?_ ?_)
    · intro b hb; match b with
        | ⟨0, _⟩ => exact absurd rfl hb
        | ⟨1, _⟩ => rfl
    · show (i : ℕ) - 2 + 2 = i
      omega

theorem v18_at (i : Fin 8192) (q : Fin 5632) : val_main_v18 (F := Ideal) x0 x1 x2 (ix2 i q)
    = back (fun k => val_main_v13 (F := Ideal) x0 x1 x2 (ix2 k q)) i 2 := by
  rw [val_main_v18_apply, ← v15_at x0 x1 x2 ⟨i, by omega⟩ q]
  exact congrArg _ (eq2 _ _ _ (by show (i : ℕ) = i; rfl) rfl)

theorem v26_at (i : Fin 8192) (q : Fin 5632) : val_main_v26 (F := Ideal) x0 x1 x2 (ix2 i q)
    = back (fun k => val_main_v13 (F := Ideal) x0 x1 x2 (ix2 k q)) i 1 := by
  rw [val_main_v26_apply, ← back_shift _ i 1 1]
  refine Eq.trans ?_ (v15_at x0 x1 x2 ⟨1 + i, by omega⟩ q)
  exact congrArg _ (eq2 _ _ _ rfl rfl)

theorem v33_at (i : Fin 8192) (q : Fin 5632) : val_main_v33 (F := Ideal) x0 x1 x2 (ix2 i q)
    = val_main_v13 (F := Ideal) x0 x1 x2 (ix2 i q) := by
  rw [val_main_v33_apply, ← back_of (fun k => val_main_v13 (F := Ideal) x0 x1 x2 (ix2 k q)) (2 + i) 2 i (by omega)]
  refine Eq.trans ?_ (v15_at x0 x1 x2 ⟨2 + i, by omega⟩ q)
  exact congrArg _ (eq2 _ _ _ rfl rfl)

/-- The convolution: each row, with the two before it. -/
theorem v37_at (i : Fin 8192) (q : Fin 5632) : val_main_v37 (F := Ideal) x0 x1 x2 x3 (ix2 i q)
    = x3 (ix2 0 q) * back (fun k => val_main_v13 (F := Ideal) x0 x1 x2 (ix2 k q)) i 2
      + x3 (ix2 1 q) * back (fun k => val_main_v13 (F := Ideal) x0 x1 x2 (ix2 k q)) i 1
      + x3 (ix2 2 q) * val_main_v13 (F := Ideal) x0 x1 x2 (ix2 i q) := by
  rw [← v18_at, ← v26_at, ← v33_at]
  generalize e18 : val_main_v18 (F := Ideal) x0 x1 x2 = a18
  generalize e26 : val_main_v26 (F := Ideal) x0 x1 x2 = a26
  generalize e33 : val_main_v33 (F := Ideal) x0 x1 x2 = a33
  unfold val_main_v37 val_main_v30 val_main_v23 val_main_v21 val_main_v29 val_main_v36
  rw [e18, e26, e33]
  pointwise [val_main_v22, val_main_cst_3, val_main_v20, val_main_v19, val_main_v17, val_main_v16, val_main_v28, val_main_v27, val_main_v25, val_main_v24,
    val_main_v35, val_main_v34, val_main_v32, val_main_v31]

end Cert.Reference6Ideal.Ffn
-- ==== Proof.GfBlock.lean ====
/- The feed-forward's forward call at one block of rows: its operands, the up projection, the convolution, the gate. -/
module

public import proofs.«01_k».proof.Proof.GfPay
public import proofs.«01_k».proof.Proof.GfRef
public import Idealize.ShloMosaic.Lib.Claim
public import Idealize.ShloMosaic.Lib.StableHlo.RunRead

@[expose] public section

set_option maxRecDepth 16384

noncomputable section

namespace Cert.Kernel6Ideal.Ffn

open Cert.Kernel6Ideal Cert.Kernel6Ideal.Gen Idealize.ShloMosaic Idealize.ShloMosaic.TcCoe Idealize.SL.Sem
open Cert.Reference6Ideal.Read
open Cert.Reference6Ideal.Ffn (eq2 back back_of back_zero v37_at)

variable (m : (ℓ : Loc nD τ sig) → Buf (Elt Ideal) ℓ) (c : Dev nD)

/-! ## The arguments and the reference's stages -/

abbrev x0 : FVec Ideal S8192x1024 .f32 := m ((c : Thread nD τ).loc main_arg0)
abbrev x1 : FVec Ideal S1024 .f32 := m ((c : Thread nD τ).loc main_arg1)
abbrev x2 : FVec Ideal S1024x5632 .f32 := m ((c : Thread nD τ).loc main_arg2)
abbrev x3 : FVec Ideal S3x5632 .f32 := m ((c : Thread nD τ).loc main_arg3)
abbrev x4 : FVec Ideal S2816x1024 .f32 := m ((c : Thread nD τ).loc main_arg4)
abbrev x5 : FVec Ideal S1024 .f32 := m ((c : Thread nD τ).loc main_arg5)
/-- The up projection. -/
def ru : FVec Ideal S8192x5632 .f32 := val_main_v13 (F := Ideal) (x0 m c) (x1 m c) (x2 m c)
/-- The convolution. -/
def rc : FVec Ideal S8192x5632 .f32 := val_main_v37 (F := Ideal) (x0 m c) (x1 m c) (x2 m c) (x3 m c)
/-- The gated values. -/
def ra : FVec Ideal S8192x2816 .f32 := val_main_v41 (F := Ideal) (x0 m c) (x1 m c) (x2 m c) (x3 m c)
/-- The down projection. -/
def ry : FVec Ideal S8192x1024 .f32 := val_main_v42 (F := Ideal) (x0 m c) (x1 m c) (x2 m c) (x3 m c) (x4 m c)
/-- A column of the up projection. -/
def col (j : Fin 5632) : Fin 8192 → EReal := fun i => ru m c (ix2 i j)

theorem rc_at (i : Fin 8192) (j : Fin 5632) : rc m c (ix2 i j)
    = x3 m c (ix2 0 j) * back (col m c j) i 2 + x3 m c (ix2 1 j) * back (col m c j) i 1 + x3 m c (ix2 2 j) * col m c j i :=
  v37_at (x0 m c) (x1 m c) (x2 m c) (x3 m c) i j

theorem ru_at (i : Fin 8192) (j : Fin 5632) : ru m c (ix2 i j)
    = ∑ k : Fin 1024, x0 m c (ix2 i k) * rms (fun k : Fin 1024 => x0 m c (ix2 i k)) * x1 m c (ix1 k) * x2 m c (ix2 k j) := by
  unfold ru rms
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem ra_at (i : Fin 8192) (j : Fin 2816) : ra m c (ix2 i j)
    = rc m c (ix2 i ⟨0 + j, by omega⟩) * sgm (rc m c (ix2 i ⟨0 + j, by omega⟩)) * rc m c (ix2 i ⟨2816 + j, by omega⟩) := by
  unfold ra rc sgm val_main_v41 val_main_v40 val_main_v39 val_main_call0_v5 val_main_call0_v4 val_main_call0_v3 val_main_call0_v2 val_main_call0_v1
    val_main_call0_v0 val_main_v38
  generalize val_main_v37 (F := Ideal) (x0 m c) (x1 m c) (x2 m c) (x3 m c) = v
  pointwise [val_main_call0_cst, val_main_call0_cst_0]
  simp only [EReal.coe_one]

theorem ry_at (i : Fin 8192) (j : Fin 1024) : ry m c (ix2 i j) = ∑ k : Fin 2816, ra m c (ix2 i k) * x4 m c (ix2 k j) := by
  unfold ry ra
  pointwise [val_main_v42]

theorem x3_ref (i : Fin 8192) (j : Fin 1024) : val_main_v60 (F := Ideal) (x0 m c) (x1 m c) (x2 m c) (x3 m c) (x4 m c) (x5 m c) (ix2 i j)
    = x0 m c (ix2 i j) + ry m c (ix2 i j) * rms (fun k : Fin 1024 => ry m c (ix2 i k)) * x5 m c (ix1 j) := by
  unfold ry rms
  pointwise [val_main_v60, val_main_v59, val_main_v58, val_main_v57, val_main_v56, val_main_v55, val_main_v54, val_main_v53, val_main_v52, val_main_v51,
    val_main_v50, val_main_v49, val_main_v48, val_main_v47, val_main_cst_4, val_main_cst_5, val_main_cst_6]

/-- The row of the whole array that row `r` of block `t` is. -/
def row (t : Fin cfg0.N) (r : Fin 256) : Fin 8192 :=
  ⟨t.val * 256 + r, by have h : t.val < 32 := lt_of_lt_of_eq t.isLt N_0; omega⟩

/-- Which block each window holds at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-! ## The blocks -/

theorem host_g5 : V m c main_v0 = shapeCast S1x1024 (x1 m c) shapeCasts_S1024_S1x1024 := by
  unfold V
  after_reads_simp
  rfl

theorem host_g6 : V m c main_v1 = shapeCast S1x1024 (x5 m c) shapeCasts_S1024_S1x1024 := by
  unfold V
  after_reads_simp
  rfl

theorem host_wup : V m c main_v3 = transpose S5632x1024 [1, 0] (truncf .bf16 (x2 m c) bitsLt_bf16_f32) transposes_S1024x5632_S5632x1024_1_0 := by
  unfold V
  after_reads_simp

theorem host_wd : V m c main_v4 = truncf .bf16 (x4 m c) bitsLt_bf16_f32 := by
  unfold V
  after_reads_simp

section Block
variable (t : Fin cfg0.N)

theorem x_blk (r : Fin 256) (k : Fin 1024) : iblk m c 0 t (ix2 r k) = x0 m c (ix2 (row t r) k) := by
  blk_point [iblk, V, idx t, row]

theorem g5_blk (k : Fin 1024) : iblk m c 1 t (ix2 0 k) = x1 m c (ix1 k) := by
  have e := host_g5 m c
  generalize hG : shapeCast S1x1024 (x1 m c) shapeCasts_S1024_S1x1024 = G at e
  refine Eq.trans (b := G (ix2 0 k)) ?_ (by subst hG; pointwise [])
  rw [← e]
  blk_point [iblk, idx t]

theorem g6_blk (k : Fin 1024) : iblk m c 5 t (ix2 0 k) = x5 m c (ix1 k) := by
  have e := host_g6 m c
  generalize hG : shapeCast S1x1024 (x5 m c) shapeCasts_S1024_S1x1024 = G at e
  refine Eq.trans (b := G (ix2 0 k)) ?_ (by subst hG; pointwise [])
  rw [← e]
  blk_point [iblk, idx t]

theorem wup_blk (q : Fin 5632) (j : Fin 1024) : iblk m c 2 t (ix2 q j) = x2 m c (ix2 j q) := by
  have e := host_wup m c
  generalize hG : transpose S5632x1024 [1, 0] (truncf .bf16 (x2 m c) bitsLt_bf16_f32) transposes_S1024x5632_S5632x1024_1_0 = G at e
  refine Eq.trans (b := G (ix2 q j)) ?_ (by subst hG; pointwise [])
  rw [← e]
  blk_point [iblk, idx t]

theorem wc_blk (k : Fin 3) (q : Fin 5632) : iblk m c 3 t (ix2 k q) = x3 m c (ix2 k q) := by
  blk_point [iblk, V, idx t]

theorem wd_blk (q : Fin 2816) (j : Fin 1024) : iblk m c 4 t (ix2 q j) = x4 m c (ix2 q j) := by
  have e := host_wd m c
  generalize hG : truncf .bf16 (x4 m c) bitsLt_bf16_f32 = G at e
  refine Eq.trans (b := G (ix2 q j)) ?_ (by subst hG; pointwise [])
  rw [← e]
  blk_point [iblk, idx t]

/-- Where a load through a rectangle reads. -/
theorem ix_at {a b n0 n1 o0 o1 : ℕ} (inb : ∀ k : Fin 2, (![o0, o1] : Fin 2 → ℕ) k + (![n0, n1] : Fin 2 → ℕ) k ≤ (![a, b] : Fin 2 → ℕ) k)
    (r : Fin n0) (q : Fin n1) (i : Fin a) (j : Fin b) (hi : (i : ℕ) = o0 + r) (hj : (j : ℕ) = o1 + q) :
    (Rect.unit (s := ⟨2, ![a, b]⟩) ![o0, o1] ![n0, n1] inb).idx (ix2 r q) = ix2 i j :=
  eq2 _ _ _ (by show o0 + 1 * (r : ℕ) = i; omega) (by show o1 + 1 * (q : ℕ) = j; omega)

/-- The up projection's block, from the filter's columns that a weight block holds. -/
theorem up_col {w : FVec Ideal S1408x1024 .bf16} {q : Fin 1408} {j : Fin 5632} (hw : ∀ k, w (ix2 q k) = x2 m c (ix2 k j)) (r : Fin 256) :
    up (hb m c t) w (ix2 r q) = col m c j (row t r) := by
  unfold col hb
  rw [up_at, ru_at]
  refine Finset.sum_congr rfl fun k _ => ?_
  rw [hb_at, hw]
  simp only [x_blk, g5_blk]

theorem wu0_at (q : Fin 1408) (k : Fin 1024) (j : Fin 5632) (hj : (j : ℕ) = 0 + q) : wu0 m c t (ix2 q k) = x2 m c (ix2 k j) :=
  (congrArg (iblk m c 2 t) (ix_at _ q k j k hj (by omega))).trans (wup_blk m c t _ k)

theorem cw00_at (q : Fin 1408) (j : Fin 5632) (hj : (j : ℕ) = 0 + q) : cw00 m c t (ix2 0 q) = x3 m c (ix2 0 j) :=
  (congrArg (iblk m c 3 t) (ix_at _ 0 q 0 j rfl hj)).trans (wc_blk m c t _ _)

theorem cw01_at (q : Fin 1408) (j : Fin 5632) (hj : (j : ℕ) = 0 + q) : cw01 m c t (ix2 0 q) = x3 m c (ix2 1 j) :=
  (congrArg (iblk m c 3 t) (ix_at _ 0 q 1 j rfl hj)).trans (wc_blk m c t _ _)

theorem cw02_at (q : Fin 1408) (j : Fin 5632) (hj : (j : ℕ) = 0 + q) : cw02 m c t (ix2 0 q) = x3 m c (ix2 2 j) :=
  (congrArg (iblk m c 3 t) (ix_at _ 0 q 2 j rfl hj)).trans (wc_blk m c t _ _)

theorem wu1_at (q : Fin 1408) (k : Fin 1024) (j : Fin 5632) (hj : (j : ℕ) = 1408 + q) : wu1 m c t (ix2 q k) = x2 m c (ix2 k j) :=
  (congrArg (iblk m c 2 t) (ix_at _ q k j k hj (by omega))).trans (wup_blk m c t _ k)

theorem cw10_at (q : Fin 1408) (j : Fin 5632) (hj : (j : ℕ) = 1408 + q) : cw10 m c t (ix2 0 q) = x3 m c (ix2 0 j) :=
  (congrArg (iblk m c 3 t) (ix_at _ 0 q 0 j rfl hj)).trans (wc_blk m c t _ _)

theorem cw11_at (q : Fin 1408) (j : Fin 5632) (hj : (j : ℕ) = 1408 + q) : cw11 m c t (ix2 0 q) = x3 m c (ix2 1 j) :=
  (congrArg (iblk m c 3 t) (ix_at _ 0 q 1 j rfl hj)).trans (wc_blk m c t _ _)

theorem cw12_at (q : Fin 1408) (j : Fin 5632) (hj : (j : ℕ) = 1408 + q) : cw12 m c t (ix2 0 q) = x3 m c (ix2 2 j) :=
  (congrArg (iblk m c 3 t) (ix_at _ 0 q 2 j rfl hj)).trans (wc_blk m c t _ _)

theorem wu2_at (q : Fin 1408) (k : Fin 1024) (j : Fin 5632) (hj : (j : ℕ) = 2816 + q) : wu2 m c t (ix2 q k) = x2 m c (ix2 k j) :=
  (congrArg (iblk m c 2 t) (ix_at _ q k j k hj (by omega))).trans (wup_blk m c t _ k)

theorem cw20_at (q : Fin 1408) (j : Fin 5632) (hj : (j : ℕ) = 2816 + q) : cw20 m c t (ix2 0 q) = x3 m c (ix2 0 j) :=
  (congrArg (iblk m c 3 t) (ix_at _ 0 q 0 j rfl hj)).trans (wc_blk m c t _ _)

theorem cw21_at (q : Fin 1408) (j : Fin 5632) (hj : (j : ℕ) = 2816 + q) : cw21 m c t (ix2 0 q) = x3 m c (ix2 1 j) :=
  (congrArg (iblk m c 3 t) (ix_at _ 0 q 1 j rfl hj)).trans (wc_blk m c t _ _)

theorem cw22_at (q : Fin 1408) (j : Fin 5632) (hj : (j : ℕ) = 2816 + q) : cw22 m c t (ix2 0 q) = x3 m c (ix2 2 j) :=
  (congrArg (iblk m c 3 t) (ix_at _ 0 q 2 j rfl hj)).trans (wc_blk m c t _ _)

theorem wu3_at (q : Fin 1408) (k : Fin 1024) (j : Fin 5632) (hj : (j : ℕ) = 4224 + q) : wu3 m c t (ix2 q k) = x2 m c (ix2 k j) :=
  (congrArg (iblk m c 2 t) (ix_at _ q k j k hj (by omega))).trans (wup_blk m c t _ k)

theorem cw30_at (q : Fin 1408) (j : Fin 5632) (hj : (j : ℕ) = 4224 + q) : cw30 m c t (ix2 0 q) = x3 m c (ix2 0 j) :=
  (congrArg (iblk m c 3 t) (ix_at _ 0 q 0 j rfl hj)).trans (wc_blk m c t _ _)

theorem cw31_at (q : Fin 1408) (j : Fin 5632) (hj : (j : ℕ) = 4224 + q) : cw31 m c t (ix2 0 q) = x3 m c (ix2 1 j) :=
  (congrArg (iblk m c 3 t) (ix_at _ 0 q 1 j rfl hj)).trans (wc_blk m c t _ _)

theorem cw32_at (q : Fin 1408) (j : Fin 5632) (hj : (j : ℕ) = 4224 + q) : cw32 m c t (ix2 0 q) = x3 m c (ix2 2 j) :=
  (congrArg (iblk m c 3 t) (ix_at _ 0 q 2 j rfl hj)).trans (wc_blk m c t _ _)

/-! ## Reading stores -/

/-- Inside the last store. -/
theorem canon_hit {A B o0 o1 n0 n1 : ℕ} {e : EltTy}
    {inb : ∀ k : Fin 2, (![o0, o1] : Fin 2 → ℕ) k + (![n0, n1] : Fin 2 → ℕ) k ≤ (![A, B] : Fin 2 → ℕ) k}
    (p : (⟨2, ![n0, n1]⟩ : Shape).Idx → Elt Ideal e) (L : List (View.Piece (Elt Ideal) ⟨2, ![A, B]⟩ e)) (i : Fin A) (j : Fin B) (a : Fin n0) (b : Fin n1)
    (hi : (i : ℕ) = o0 + a) (hj : (j : ℕ) = o1 + b) :
    View.canon ((⟨Rect.unit (s := ⟨2, ![A, B]⟩) ![o0, o1] ![n0, n1] inb, p⟩ : View.Piece (Elt Ideal) ⟨2, ![A, B]⟩ e) :: L) (ix2 i j) = p (ix2 a b) := by
  rw [← ix_at inb a b i j hi hj]
  exact View.canon_cons_emb _ _ _ _

/-- Outside of the last store. -/
theorem canon_skip {A B o0 o1 n0 n1 : ℕ} {e : EltTy}
    {inb : ∀ k : Fin 2, (![o0, o1] : Fin 2 → ℕ) k + (![n0, n1] : Fin 2 → ℕ) k ≤ (![A, B] : Fin 2 → ℕ) k}
    (p : (⟨2, ![n0, n1]⟩ : Shape).Idx → Elt Ideal e) (L : List (View.Piece (Elt Ideal) ⟨2, ![A, B]⟩ e)) (i : Fin A) (j : Fin B)
    (h : (i : ℕ) < o0 ∨ o0 + n0 ≤ (i : ℕ) ∨ (j : ℕ) < o1 ∨ o1 + n1 ≤ (j : ℕ)) :
    View.canon ((⟨Rect.unit (s := ⟨2, ![A, B]⟩) ![o0, o1] ![n0, n1] inb, p⟩ : View.Piece (Elt Ideal) ⟨2, ![A, B]⟩ e) :: L) (ix2 i j) = View.canon L (ix2 i j) := by
  refine View.canon_cons_of_not_mem _ _ fun hm => ?_
  have hm' := (Rect.mem_set_unit (inb := inb)).1 hm
  have h0 : o0 ≤ (i : ℕ) ∧ (i : ℕ) < o0 + n0 := hm' 0
  have h1 : o1 ≤ (j : ℕ) ∧ (j : ℕ) < o1 + n1 := hm' 1
  omega

/-! ## Moving rows down -/

theorem shift1_at (r p : Fin 256) : shift (ix2 ⟨r, by omega⟩ p) = if (p : ℕ) + 1 = r then 1 else 0 := by
  unfold shift
  refine (canon_skip _ _ _ _ (Or.inl ?_)).trans ((canon_hit _ _ _ _ r p ?_ ?_).trans (down1_at r p))
  · show (r : ℕ) < 256
    omega
  · show (r : ℕ) = 0 + r
    omega
  · omega

theorem shift2_at (r p : Fin 256) : shift (ix2 ⟨256 + r, by omega⟩ p) = if (p : ℕ) + 2 = r then 1 else 0 := by
  unfold shift
  refine (canon_hit _ _ _ _ r p ?_ ?_).trans (down2_at r p)
  · rfl
  · omega

/-- A block's rows moved down by `d`: what the block itself enters. -/
theorem sum_down (r : Fin 256) (d : ℕ) (f : Fin 256 → EReal) :
    ∑ p : Fin 256, (if (p : ℕ) + d = r then (1 : EReal) else 0) * f p = if h : d ≤ r then f ⟨r - d, by omega⟩ else 0 := by
  split
  · rename_i h
    rw [Finset.sum_eq_single ⟨r - d, by omega⟩ (fun b _ hb => by rw [if_neg (fun e => hb (Fin.ext (by simp only; omega))), zero_mul])
      (fun hn => absurd (Finset.mem_univ _) hn), if_pos (by simp only; omega), one_mul]
  · rename_i h
    exact Finset.sum_eq_zero fun p _ => by rw [if_neg (by omega), zero_mul]

theorem turn (a b c : EReal) : a + b + c = c + b + a := by
  rw [add_comm (a + b) c, add_comm a b, add_assoc]

/-! ## One block of columns of the convolution -/

section Column
variable {w : FVec Ideal S1408x1024 .bf16} {w0 w1 w2 a b : FVec Ideal S1x1408 .f32} {q : Fin 1408} {j : Fin 5632}
  (hw : ∀ k, w (ix2 q k) = x2 m c (ix2 k j)) (h0 : w0 (ix2 0 q) = x3 m c (ix2 0 j)) (h1 : w1 (ix2 0 q) = x3 m c (ix2 1 j))
  (h2 : w2 (ix2 0 q) = x3 m c (ix2 2 j)) (ha : a (ix2 0 q) = back (col m c j) (t.val * 256) 1) (hc : b (ix2 0 q) = back (col m c j) (t.val * 256) 2)
include hw h0 h1 h2

/-- The rows that the block itself enters. -/
theorem part_col (r : Fin 256) : k0_pay18 (hb m c t) w0 w1 w2 w shift (ix2 r q)
    = x3 m c (ix2 0 j) * (if 2 ≤ (r : ℕ) then back (col m c j) (row t r) 2 else 0)
      + x3 m c (ix2 1 j) * (if 1 ≤ (r : ℕ) then back (col m c j) (row t r) 1 else 0) + x3 m c (ix2 2 j) * col m c j (row t r) := by
  rw [top18_at, h0, h1, h2]
  simp only [up_col m c t hw, shift1_at, shift2_at]
  rw [sum_down r 2 (fun p => col m c j (row t p)), sum_down r 1 (fun p => col m c j (row t p))]
  congr 3
  · split
    · rename_i h
      exact (back_of _ _ _ _ (by show t.val * 256 + ((r : ℕ) - 2) + 2 = t.val * 256 + r; omega)).symm
    · rfl
  · split
    · rename_i h
      exact (back_of _ _ _ _ (by show t.val * 256 + ((r : ℕ) - 1) + 1 = t.val * 256 + r; omega)).symm
    · rfl

theorem top_col (r : Fin 256) (hr : 16 ≤ (r : ℕ)) : top (hb m c t) w0 w1 w2 w shift (ix2 r q) = rc m c (ix2 (row t r) j) := by
  rw [top_at, part_col m c t hw h0 h1 h2, rc_at, if_pos (by omega), if_pos (by omega)]

include ha hc in
theorem edge_col (r : Fin 16) : edge (hb m c t) w0 w1 w2 w shift a b (ix2 r q) = rc m c (ix2 (row t ⟨r, by omega⟩) j) := by
  rw [edge_at, part_col m c t hw h0 h1 h2, rc_at, h0, h1, ha, hc]
  by_cases e0 : (r : ℕ) = 0
  · have er : ((row t ⟨r, by omega⟩ : Fin 8192) : ℕ) = t.val * 256 := by show t.val * 256 + (r : ℕ) = _; omega
    rw [if_neg (by simp only; omega), if_neg (by simp only; omega), if_pos e0, if_pos e0, mul_zero, mul_zero, zero_add, zero_add, er]
    exact turn _ _ _
  · by_cases e1 : (r : ℕ) = 1
    · have er : back (col m c j) ((row t ⟨r, by omega⟩ : Fin 8192) : ℕ) 2 = back (col m c j) (t.val * 256) 1 := by
        rw [← Cert.Reference6Ideal.Ffn.back_shift (col m c j) (t.val * 256) 1 1]
        congr 1
        show t.val * 256 + (r : ℕ) = _
        omega
      rw [if_neg (by simp only; omega), if_pos (by simp only; omega), if_neg e0, if_neg e0, if_pos e1, mul_zero, mul_zero, zero_add, add_zero, er]
      exact (add_comm _ _).trans (add_assoc _ _ _).symm
    · rw [if_pos (by simp only; omega), if_pos (by simp only; omega), if_neg e0, if_neg e0, if_neg e1, mul_zero, mul_zero, add_zero, add_zero]

end Column

/-! ## The stores -/

section Stores
variable (K : FVec Ideal S8x5632 .f32) (hK : ∀ (k : Fin 8) (j : Fin 5632), K (ix2 k j) = back (col m c j) (t.val * 256) (8 - k))
include hK

theorem near_at {o : ℕ} (inb : ∀ k : Fin 2, (![7, o] : Fin 2 → ℕ) k + (![1, 1408] : Fin 2 → ℕ) k ≤ (![8, 5632] : Fin 2 → ℕ) k) (q : Fin 1408) (j : Fin 5632)
    (hj : (j : ℕ) = o + q) : View.ld (Val := Elt Ideal) (e' := .f32) K (Rect.unit (s := S8x5632) ![7, o] ![1, 1408] inb) (ix2 0 q)
    = back (col m c j) (t.val * 256) 1 :=
  (congrArg K (ix_at inb 0 q 7 j rfl hj)).trans (hK 7 j)

theorem far_at {o : ℕ} (inb : ∀ k : Fin 2, (![6, o] : Fin 2 → ℕ) k + (![1, 1408] : Fin 2 → ℕ) k ≤ (![8, 5632] : Fin 2 → ℕ) k) (q : Fin 1408) (j : Fin 5632)
    (hj : (j : ℕ) = o + q) : View.ld (Val := Elt Ideal) (e' := .f32) K (Rect.unit (s := S8x5632) ![6, o] ![1, 1408] inb) (ix2 0 q)
    = back (col m c j) (t.val * 256) 2 :=
  (congrArg K (ix_at inb 0 q 6 j rfl hj)).trans (hK 6 j)

omit hK in
/-- A block of columns stored, its first rows stored again. -/
theorem two_hit {o : ℕ} {i1 : ∀ k : Fin 2, (![0, o] : Fin 2 → ℕ) k + (![16, 1408] : Fin 2 → ℕ) k ≤ (![256, 5632] : Fin 2 → ℕ) k}
    {i2 : ∀ k : Fin 2, (![0, o] : Fin 2 → ℕ) k + (![256, 1408] : Fin 2 → ℕ) k ≤ (![256, 5632] : Fin 2 → ℕ) k}
    (E : FVec Ideal S16x1408 .bf16) (T : FVec Ideal S256x1408 .bf16) (L : List (View.Piece (Elt Ideal) S256x5632 .bf16)) (r : Fin 256) (q : Fin 1408) (j : Fin 5632)
    (hj : (j : ℕ) = o + q) (v : EReal) (hE : ∀ h : (r : ℕ) < 16, E (ix2 ⟨r, h⟩ q) = v) (hT : 16 ≤ (r : ℕ) → T (ix2 r q) = v) :
    View.canon ((⟨Rect.unit (s := S256x5632) ![0, o] ![16, 1408] i1, E⟩ : View.Piece (Elt Ideal) S256x5632 .bf16)
      :: (⟨Rect.unit (s := S256x5632) ![0, o] ![256, 1408] i2, T⟩ : View.Piece (Elt Ideal) S256x5632 .bf16) :: L) (ix2 r j) = v := by
  by_cases h : (r : ℕ) < 16
  · exact (canon_hit _ _ r j ⟨r, h⟩ q (by show (r : ℕ) = 0 + r; omega) hj).trans (hE h)
  · exact (canon_skip _ _ r j (Or.inr (Or.inl (by omega)))).trans ((canon_hit _ _ r j r q (by omega) hj).trans (hT (by omega)))

omit hK in
/-- Columns beside those stored last. -/
theorem two_skip {o : ℕ} {i1 : ∀ k : Fin 2, (![0, o] : Fin 2 → ℕ) k + (![16, 1408] : Fin 2 → ℕ) k ≤ (![256, 5632] : Fin 2 → ℕ) k}
    {i2 : ∀ k : Fin 2, (![0, o] : Fin 2 → ℕ) k + (![256, 1408] : Fin 2 → ℕ) k ≤ (![256, 5632] : Fin 2 → ℕ) k}
    (E : FVec Ideal S16x1408 .bf16) (T : FVec Ideal S256x1408 .bf16) (L : List (View.Piece (Elt Ideal) S256x5632 .bf16)) (r : Fin 256) (j : Fin 5632)
    (h : (j : ℕ) < o ∨ o + 1408 ≤ (j : ℕ)) (v : EReal) (hL : View.canon L (ix2 r j) = v) :
    View.canon ((⟨Rect.unit (s := S256x5632) ![0, o] ![16, 1408] i1, E⟩ : View.Piece (Elt Ideal) S256x5632 .bf16)
      :: (⟨Rect.unit (s := S256x5632) ![0, o] ![256, 1408] i2, T⟩ : View.Piece (Elt Ideal) S256x5632 .bf16) :: L) (ix2 r j) = v :=
  (canon_skip _ _ r j (Or.inr (Or.inr h))).trans ((canon_skip _ _ r j (Or.inr (Or.inr h))).trans hL)

theorem hit0 (r : Fin 256) (q : Fin 1408) (j : Fin 5632) (hj : (j : ℕ) = 0 + q) :
    View.canon (cL0 m c t K shift) (ix2 r j) = rc m c (ix2 (row t r) j) := by
  unfold cL0
  exact two_hit _ _ _ r q j hj _
    (fun h => edge_col m c t (fun k => wu0_at m c t q k j hj) (cw00_at m c t q j hj) (cw01_at m c t q j hj) (cw02_at m c t q j hj) (near_at m c t K hK _ q j hj)
      (far_at m c t K hK _ q j hj) ⟨r, h⟩)
    (fun h => top_col m c t (fun k => wu0_at m c t q k j hj) (cw00_at m c t q j hj) (cw01_at m c t q j hj) (cw02_at m c t q j hj) r h)

theorem cv0_at (r : Fin 256) (q : Fin 1408) (j : Fin 5632) (hj : (j : ℕ) = 0 + q) : cv0 m c t K shift (ix2 r q) = rc m c (ix2 (row t r) j) :=
  (congrArg (View.canon (cL0 m c t K shift)) (ix_at _ r q r j (by omega) hj)).trans (hit0 m c t K hK r q j hj)

theorem hit2 (r : Fin 256) (q : Fin 1408) (j : Fin 5632) (hj : (j : ℕ) = 2816 + q) :
    View.canon (cL1 m c t K shift) (ix2 r j) = rc m c (ix2 (row t r) j) := by
  unfold cL1
  exact two_hit _ _ _ r q j hj _
    (fun h => edge_col m c t (fun k => wu2_at m c t q k j hj) (cw20_at m c t q j hj) (cw21_at m c t q j hj) (cw22_at m c t q j hj) (near_at m c t K hK _ q j hj)
      (far_at m c t K hK _ q j hj) ⟨r, h⟩)
    (fun h => top_col m c t (fun k => wu2_at m c t q k j hj) (cw20_at m c t q j hj) (cw21_at m c t q j hj) (cw22_at m c t q j hj) r h)

theorem cv2_at (r : Fin 256) (q : Fin 1408) (j : Fin 5632) (hj : (j : ℕ) = 2816 + q) : cv2 m c t K shift (ix2 r q) = rc m c (ix2 (row t r) j) :=
  (congrArg (View.canon (cL1 m c t K shift)) (ix_at _ r q r j (by omega) hj)).trans (hit2 m c t K hK r q j hj)

theorem hit1 (r : Fin 256) (q : Fin 1408) (j : Fin 5632) (hj : (j : ℕ) = 1408 + q) :
    View.canon (cL2 m c t K shift) (ix2 r j) = rc m c (ix2 (row t r) j) := by
  unfold cL2
  exact two_hit _ _ _ r q j hj _
    (fun h => edge_col m c t (fun k => wu1_at m c t q k j hj) (cw10_at m c t q j hj) (cw11_at m c t q j hj) (cw12_at m c t q j hj) (near_at m c t K hK _ q j hj)
      (far_at m c t K hK _ q j hj) ⟨r, h⟩)
    (fun h => top_col m c t (fun k => wu1_at m c t q k j hj) (cw10_at m c t q j hj) (cw11_at m c t q j hj) (cw12_at m c t q j hj) r h)

theorem cv1_at (r : Fin 256) (q : Fin 1408) (j : Fin 5632) (hj : (j : ℕ) = 1408 + q) : cv1 m c t K shift (ix2 r q) = rc m c (ix2 (row t r) j) :=
  (congrArg (View.canon (cL2 m c t K shift)) (ix_at _ r q r j (by omega) hj)).trans (hit1 m c t K hK r q j hj)

theorem hit3 (r : Fin 256) (q : Fin 1408) (j : Fin 5632) (hj : (j : ℕ) = 4224 + q) :
    View.canon (cL3 m c t K shift) (ix2 r j) = rc m c (ix2 (row t r) j) := by
  unfold cL3
  exact two_hit _ _ _ r q j hj _
    (fun h => edge_col m c t (fun k => wu3_at m c t q k j hj) (cw30_at m c t q j hj) (cw31_at m c t q j hj) (cw32_at m c t q j hj) (near_at m c t K hK _ q j hj)
      (far_at m c t K hK _ q j hj) ⟨r, h⟩)
    (fun h => top_col m c t (fun k => wu3_at m c t q k j hj) (cw30_at m c t q j hj) (cw31_at m c t q j hj) (cw32_at m c t q j hj) r h)

theorem cv3_at (r : Fin 256) (q : Fin 1408) (j : Fin 5632) (hj : (j : ℕ) = 4224 + q) : cv3 m c t K shift (ix2 r q) = rc m c (ix2 (row t r) j) :=
  (congrArg (View.canon (cL3 m c t K shift)) (ix_at _ r q r j (by omega) hj)).trans (hit3 m c t K hK r q j hj)

/-- The convolution's block. -/
theorem c_at (r : Fin 256) (j : Fin 5632) : View.canon (cL3 m c t K shift) (ix2 r j) = rc m c (ix2 (row t r) j) := by
  by_cases h3 : 4224 ≤ (j : ℕ)
  · exact hit3 m c t K hK r ⟨j - 4224, by omega⟩ j (by simp only; omega)
  · refine two_skip _ _ _ r j (by omega) _ ?_
    by_cases h1 : 1408 ≤ (j : ℕ) ∧ (j : ℕ) < 2816
    · exact hit1 m c t K hK r ⟨j - 1408, by omega⟩ j (by simp only; omega)
    · refine two_skip _ _ _ r j (by omega) _ ?_
      by_cases h2 : 2816 ≤ (j : ℕ)
      · exact hit2 m c t K hK r ⟨j - 2816, by omega⟩ j (by simp only; omega)
      · exact two_skip _ _ _ r j (by omega) _ (hit0 m c t K hK r ⟨j, by omega⟩ j (by simp only; omega))

/-- The gated values' block. -/
theorem a_at (r : Fin 256) (j : Fin 2816) : View.canon (aL m c t K shift) (ix2 r j) = ra m c (ix2 (row t r) j) := by
  unfold aL
  rw [ra_at]
  by_cases h : 1408 ≤ (j : ℕ)
  · refine (canon_hit _ _ r j r ⟨j - 1408, by omega⟩ (by omega) (by simp only; omega)).trans ?_
    rw [gated_at, cv1_at m c t K hK r _ ⟨0 + j, by omega⟩ (by show 0 + (j : ℕ) = 1408 + (j - 1408); omega),
      cv3_at m c t K hK r _ ⟨2816 + j, by omega⟩ (by show 2816 + (j : ℕ) = 4224 + (j - 1408); omega)]
  · refine (canon_skip _ _ r j (Or.inr (Or.inr (by omega)))).trans ((canon_hit _ _ r j r ⟨j, by omega⟩ (by omega) (by simp only; omega)).trans ?_)
    rw [gated_at, cv0_at m c t K hK r _ ⟨0 + j, by omega⟩ rfl, cv2_at m c t K hK r _ ⟨2816 + j, by omega⟩ rfl]

end Stores

/-- The up projection's block. -/
theorem u_at (r : Fin 256) (j : Fin 5632) : View.canon (uL m c t) (ix2 r j) = col m c j (row t r) := by
  unfold uL
  by_cases h3 : 4224 ≤ (j : ℕ)
  · exact (canon_hit _ _ r j r ⟨j - 4224, by omega⟩ (by omega) (by simp only; omega)).trans (up_col m c t (fun k => wu3_at m c t _ k j (by show (j : ℕ) = 4224 + (j - 4224); omega)) r)
  · refine (canon_skip _ _ r j (by omega)).trans ?_
    by_cases h1 : 1408 ≤ (j : ℕ) ∧ (j : ℕ) < 2816
    · exact (canon_hit _ _ r j r ⟨j - 1408, by omega⟩ (by omega) (by simp only; omega)).trans (up_col m c t (fun k => wu1_at m c t _ k j (by show (j : ℕ) = 1408 + (j - 1408); omega)) r)
    · refine (canon_skip _ _ r j (by omega)).trans ?_
      by_cases h2 : 2816 ≤ (j : ℕ)
      · exact (canon_hit _ _ r j r ⟨j - 2816, by omega⟩ (by omega) (by simp only; omega)).trans (up_col m c t (fun k => wu2_at m c t _ k j (by show (j : ℕ) = 2816 + (j - 2816); omega)) r)
      · exact (canon_skip _ _ r j (by omega)).trans ((canon_hit _ _ r j r ⟨j, by omega⟩ (by omega) (by simp only; omega)).trans (up_col m c t (fun k => wu0_at m c t _ k j (by show (j : ℕ) = 0 + j; omega)) r))

/-- The rows kept. -/
theorem keep_at (L : List (View.Piece (Elt Ideal) S8x5632 .f32)) (k : Fin 8) (j : Fin 5632) :
    View.canon (keepL m c t ++ L) (ix2 k j) = col m c j (row t ⟨248 + k, by omega⟩) := by
  unfold keepL
  by_cases h3 : 4224 ≤ (j : ℕ)
  · exact (canon_hit _ _ k j k ⟨j - 4224, by omega⟩ (by omega) (by simp only; omega)).trans ((kept_at _ _ _ _).trans (up_col m c t (fun k => wu3_at m c t _ k j (by show (j : ℕ) = 4224 + (j - 4224); omega)) _))
  · refine (canon_skip _ _ k j (by omega)).trans ?_
    by_cases h1 : 1408 ≤ (j : ℕ) ∧ (j : ℕ) < 2816
    · exact (canon_hit _ _ k j k ⟨j - 1408, by omega⟩ (by omega) (by simp only; omega)).trans ((kept_at _ _ _ _).trans (up_col m c t (fun k => wu1_at m c t _ k j (by show (j : ℕ) = 1408 + (j - 1408); omega)) _))
    · refine (canon_skip _ _ k j (by omega)).trans ?_
      by_cases h2 : 2816 ≤ (j : ℕ)
      · exact (canon_hit _ _ k j k ⟨j - 2816, by omega⟩ (by omega) (by simp only; omega)).trans ((kept_at _ _ _ _).trans (up_col m c t (fun k => wu2_at m c t _ k j (by show (j : ℕ) = 2816 + (j - 2816); omega)) _))
      · exact (canon_skip _ _ k j (by omega)).trans ((canon_hit _ _ k j k ⟨j, by omega⟩ (by omega) (by simp only; omega)).trans ((kept_at _ _ _ _).trans (up_col m c t (fun k => wu0_at m c t _ k j (by show (j : ℕ) = 0 + j; omega)) _)))

end Block

end Cert.Kernel6Ideal.Ffn
-- ==== Proof.GfValue.lean ====
/- The feed-forward's forward call, point after point, and its results: the claims of the pair. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.GfBlock
public import Idealize.ShloMosaic.Lib.Claim

@[expose] public section

set_option maxRecDepth 16384

noncomputable section

namespace Cert.Kernel6Ideal.Ffn

open Cert.Kernel6Ideal Cert.Kernel6Ideal.Gen Idealize.ShloMosaic Idealize.ShloMosaic.TcCoe Idealize.SL.Sem
open Cert.Reference6Ideal.Read
open Cert.Reference6Ideal.Ffn (eq2 back back_of back_zero)

variable (m : (ℓ : Loc nD τ sig) → Buf (Elt Ideal) ℓ) (c : Dev nD)

/-! ## What is carried from block to block -/

theorem lt32 (t : Fin cfg0.N) : t.val < 32 := lt_of_lt_of_eq t.isLt N_0

theorem shift_all : ∀ (n : ℕ) (h : n < cfg0.N), (outsAt0 m c n h).2.2.2.2.2.2 = shift
  | 0, h => shift_A m c ⟨0, h⟩ rfl
  | n + 1, h => (shift_B m c ⟨n + 1, h⟩ (by have := lt32 ⟨n + 1, h⟩; show ¬(n + 1) % 32 = 0; dsimp only at this; omega)).trans (shift_all n _)

theorem keep_all (t : Fin cfg0.N) (k : Fin 8) (j : Fin 5632) :
    (outsAt0 m c t.val t.isLt).2.2.2.2.2.1 (ix2 k j) = col m c j (row t ⟨248 + k, by omega⟩) := by
  by_cases h : t.val % 32 = 0
  · rw [keep_A m c t h]
    exact keep_at m c t _ k j
  · rw [keep_B m c t h, ← List.append_nil (keepL m c t)]
    exact keep_at m c t _ k j

section Point
variable (t : Fin cfg0.N)

theorem keep_before (h : ¬t.val % 32 = 0) (k : Fin 8) (j : Fin 5632) :
    (prev m c t).2.2.2.2.2.1 (ix2 k j) = back (col m c j) (t.val * 256) (8 - k) := by
  have ht := lt32 t
  refine (keep_all m c ⟨t.val - 1, Nat.lt_of_le_of_lt (Nat.sub_le t.val 1) t.isLt⟩ k j).trans (back_of _ _ _ _ ?_).symm
  show (t.val - 1) * 256 + (248 + (k : ℕ)) + (8 - k) = t.val * 256
  omega

theorem keep_none (h : t.val % 32 = 0) (k : Fin 8) (j : Fin 5632) :
    k0_pay1 (F := Ideal) (ix2 k j) = back (col m c j) (t.val * 256) (8 - k) := by
  have ht := lt32 t
  rw [none_at, back_zero _ _ _ (by omega)]

theorem u_pt (r : Fin 256) (j : Fin 5632) : (outsAt0 m c t.val t.isLt).1 (ix2 r j) = ru m c (ix2 (row t r) j) := by
  refine Eq.trans ?_ (u_at m c t r j)
  by_cases h : t.val % 32 = 0
  · rw [u_A m c t h]
  · rw [u_B m c t h]

theorem c_pt (r : Fin 256) (j : Fin 5632) : (outsAt0 m c t.val t.isLt).2.1 (ix2 r j) = rc m c (ix2 (row t r) j) := by
  by_cases h : t.val % 32 = 0
  · rw [c_A m c t h]
    exact c_at m c t _ (keep_none m c t h) r j
  · rw [c_B m c t h, shift_all m c]
    exact c_at m c t _ (keep_before m c t h) r j

theorem a_pt (r : Fin 256) (j : Fin 2816) : (outsAt0 m c t.val t.isLt).2.2.1 (ix2 r j) = ra m c (ix2 (row t r) j) := by
  by_cases h : t.val % 32 = 0
  · rw [a_A m c t h]
    exact a_at m c t _ (keep_none m c t h) r j
  · rw [a_B m c t h, shift_all m c]
    exact a_at m c t _ (keep_before m c t h) r j

theorem y_a : (outsAt0 m c t.val t.isLt).2.2.2.1 = k0_pay45 (outsAt0 m c t.val t.isLt).2.2.1 (iblk m c 4 t) := by
  by_cases h : t.val % 32 = 0
  · rw [y_A m c t h, a_A m c t h]
  · rw [y_B m c t h, a_B m c t h]

theorem x3_a : (outsAt0 m c t.val t.isLt).2.2.2.2.1
    = k0_pay46 (iblk m c 0 t) (outsAt0 m c t.val t.isLt).2.2.1 (iblk m c 4 t) (iblk m c 5 t) := by
  by_cases h : t.val % 32 = 0
  · rw [x3_A m c t h, a_A m c t h]
  · rw [x3_B m c t h, a_B m c t h]

theorem y_row (r : Fin 256) (j : Fin 1024) :
    k0_pay45 (F := Ideal) (outsAt0 m c t.val t.isLt).2.2.1 (iblk m c 4 t) (ix2 r j) = ry m c (ix2 (row t r) j) := by
  rw [y_at, ry_at]
  exact Finset.sum_congr rfl fun q _ => congrArg₂ (· * ·) (a_pt m c t r q) (wd_blk m c t q j)

theorem y_pt (r : Fin 256) (j : Fin 1024) : (outsAt0 m c t.val t.isLt).2.2.2.1 (ix2 r j) = ry m c (ix2 (row t r) j) := by
  rw [y_a m c t]
  exact y_row m c t r j

theorem x3_pt (r : Fin 256) (j : Fin 1024) : (outsAt0 m c t.val t.isLt).2.2.2.2.1 (ix2 r j)
    = val_main_v60 (F := Ideal) (x0 m c) (x1 m c) (x2 m c) (x3 m c) (x4 m c) (x5 m c) (ix2 (row t r) j) := by
  rw [x3_a m c t, x3_at, x3_ref]
  simp only [y_row m c t, x_blk, g6_blk]

end Point

/-! ## The results -/

theorem final6 : (dats m 0 c).arrAt 6 (cfgs 0).N = val_main_v43 (F := Ideal) (x0 m c) (x1 m c) (x2 m c) := by
  refine (dats m 0 c).arrAt_eq_of_covers 6 _ (by decide +kernel) fun t hf y => ?_
  blk_simp
  rw [after0_6]
  refine (congrArg _ (eq2 y (y 0) (y 1) rfl rfl)).trans ((u_pt m c t (y 0) (y 1)).trans ?_)
  unfold ru val_main_v43
  generalize val_main_v13 (F := Ideal) (x0 m c) (x1 m c) (x2 m c) = v
  blk_point [idx t, row]

theorem final7 : (dats m 0 c).arrAt 7 (cfgs 0).N = val_main_v44 (F := Ideal) (x0 m c) (x1 m c) (x2 m c) (x3 m c) := by
  refine (dats m 0 c).arrAt_eq_of_covers 7 _ (by decide +kernel) fun t hf y => ?_
  blk_simp
  rw [after0_7]
  refine (congrArg _ (eq2 y (y 0) (y 1) rfl rfl)).trans ((c_pt m c t (y 0) (y 1)).trans ?_)
  unfold rc val_main_v44
  generalize val_main_v37 (F := Ideal) (x0 m c) (x1 m c) (x2 m c) (x3 m c) = v
  blk_point [idx t, row]

theorem final8 : (dats m 0 c).arrAt 8 (cfgs 0).N = val_main_v45 (F := Ideal) (x0 m c) (x1 m c) (x2 m c) (x3 m c) := by
  refine (dats m 0 c).arrAt_eq_of_covers 8 _ (by decide +kernel) fun t hf y => ?_
  blk_simp
  rw [after0_8]
  refine (congrArg _ (eq2 y (y 0) (y 1) rfl rfl)).trans ((a_pt m c t (y 0) (y 1)).trans ?_)
  unfold ra val_main_v45
  generalize val_main_v41 (F := Ideal) (x0 m c) (x1 m c) (x2 m c) (x3 m c) = v
  blk_point [idx t, row]

theorem final9 : (dats m 0 c).arrAt 9 (cfgs 0).N = val_main_v46 (F := Ideal) (x0 m c) (x1 m c) (x2 m c) (x3 m c) (x4 m c) := by
  refine (dats m 0 c).arrAt_eq_of_covers 9 _ (by decide +kernel) fun t hf y => ?_
  blk_simp
  rw [after0_9]
  refine (congrArg _ (eq2 y (y 0) (y 1) rfl rfl)).trans ((y_pt m c t (y 0) (y 1)).trans ?_)
  unfold ry val_main_v46
  generalize val_main_v42 (F := Ideal) (x0 m c) (x1 m c) (x2 m c) (x3 m c) (x4 m c) = v
  blk_point [idx t, row]

theorem final10 : (dats m 0 c).arrAt 10 (cfgs 0).N = val_main_v60 (F := Ideal) (x0 m c) (x1 m c) (x2 m c) (x3 m c) (x4 m c) (x5 m c) := by
  refine (dats m 0 c).arrAt_eq_of_covers 10 _ (by decide +kernel) fun t hf y => ?_
  blk_simp
  rw [after0_10]
  refine (congrArg _ (eq2 y (y 0) (y 1) rfl rfl)).trans ((x3_pt m c t (y 0) (y 1)).trans ?_)
  generalize val_main_v60 (F := Ideal) (x0 m c) (x1 m c) (x2 m c) (x3 m c) (x4 m c) (x5 m c) = v
  blk_point [idx t, row]

end Cert.Kernel6Ideal.Ffn

namespace Cert.Proof

open Idealize.ShloMosaic Idealize.ShloMosaic.TcCoe Idealize.SL.Sem
open Cert.Kernel6Ideal.Gen Cert.Reference6Ideal.Read

set_option maxHeartbeats 1600000 in
theorem gf_algebraic : Cert.algebraic_Kernel6Ideal_Reference6Ideal := by
  pair_intro
  · run_from Cert.Kernel6Ideal.Gen.run_main m g
  · run_from Cert.Reference6Ideal.Value.run m' g'
    · exact (Cert.Kernel6Ideal.Ffn.final6 m c).symm
    · simp only [val_main_v44_eq m' c, hagree c]
      exact (Cert.Kernel6Ideal.Ffn.final7 m c).symm
    · simp only [val_main_v45_eq m' c, hagree c]
      exact (Cert.Kernel6Ideal.Ffn.final8 m c).symm
    · simp only [val_main_v46_eq m' c, hagree c]
      exact (Cert.Kernel6Ideal.Ffn.final9 m c).symm
    · simp only [val_main_v60_eq m' c, hagree c]
      exact (Cert.Kernel6Ideal.Ffn.final10 m c).symm

/-- The reference of the feed-forward's forward call runs and leaves its arguments and its counters alone. -/
theorem gf_reference_frame : Cert.quiescent_Reference6Ideal := fun m ρ _ =>
  (θ_run Cert.Reference6Ideal.defs _ _).mono (fun r h => ⟨fun c => (h c).2.2.2.2.2,
      Idealize.ShloMosaic.sem_eq_zero_of_no_sems (by decide) r.2⟩)
    (Cert.Reference6Ideal.Value.run (F := Ideal) m ρ)

end Cert.Proof

end
-- ==== Proof.GlOut.lean ====
/- The feed-forward's forward call with the loss at one block of rows: what each output and scratch holds, in terms of the blocks read. -/
module

public import proofs.«01_k».proof.Proof.Gen.Kernel7Ideal.Value
public import Idealize.ShloMosaic.Lib.Pipeline.ReadBack
public import Idealize.ShloMosaic.Lib.Pipeline.ValueKit

@[expose] public section

set_option maxRecDepth 16384

noncomputable section

namespace Cert.Kernel7Ideal.Ffn

open Cert.Kernel7Ideal Cert.Kernel7Ideal.Gen Idealize.ShloMosaic Idealize.ShloMosaic.TcCoe Idealize.SL.Sem

/-- The up projection over a block of columns. -/
def up (hb : FVec Ideal S256x1024 .bf16) (w : FVec Ideal S1408x1024 .bf16) : FVec Ideal S256x1408 .bf16 := k0_pay21 hb w

/-- The convolution's rows, of what the block itself enters. -/
def top (hb : FVec Ideal S256x1024 .bf16) (w0 w1 w2 : FVec Ideal S1x1408 .f32) (w : FVec Ideal S1408x1024 .bf16) (S : FVec Ideal S512x256 .bf16) :
    FVec Ideal S256x1408 .bf16 := k0_pay23 hb w0 w1 w2 w S

/-- The convolution's first rows, what the rows before enter added: `a` the last one, `b` the one before. -/
def edge (hb : FVec Ideal S256x1024 .bf16) (w0 w1 w2 : FVec Ideal S1x1408 .f32) (w : FVec Ideal S1408x1024 .bf16) (S : FVec Ideal S512x256 .bf16)
    (a b : FVec Ideal S1x1408 .f32) : FVec Ideal S16x1408 .bf16 :=
  k0_pay25 w0 w1 (k0_pay22 hb w0 w1 w2 w S) a b (iota .tc S16x1408 32 [0] iota_S16x1408_d0_w32) (k0_pay24 a)

/-- The rows kept for the next block. -/
def kept (hb : FVec Ideal S256x1024 .bf16) (w : FVec Ideal S1408x1024 .bf16) : FVec Ideal S8x1408 .f32 := k0_pay26 (k0_pay20 hb w)

/-- The gated values. -/
def gated (cg cv : FVec Ideal S256x1408 .bf16) : FVec Ideal S256x1408 .bf16 := k0_pay27 (k0_pay19 cg) cv

/-- The matrix whose product with a block moves its rows down by one, and by two. -/
def shift : FVec Ideal S512x256 .bf16 :=
  View.canon [(⟨Rect.unit (s := S512x256) ![256, 0] ![256, 256] inb_S512x256_S256x256_256_0, k0_pay6 (F := Ideal)⟩ : View.Piece (Elt Ideal) S512x256 .bf16), (⟨Rect.unit (s := S512x256) ![0, 0] ![256, 256] inb_S512x256_S256x256_0_0, k0_pay5 (F := Ideal)⟩ : View.Piece (Elt Ideal) S512x256 .bf16)]

theorem shift_read (v : View sig .tc .vmem S512x256 .bf16) (L : List (View.Piece (Elt Ideal) S512x256 .bf16)) :
    v.readCov L (Rect.unit (s := S512x256) ![0, 0] ![512, 256] inb_S512x256_S512x256_0_0).toLoadRect = View.canon L := by
  rw [View.readCov_eq_canon']
  funext j
  refine congrArg _ (funext fun k => match k with
    | ⟨0, _⟩ => Fin.ext (by show 0 + 1 * (j 0 : ℕ) = j 0; omega)
    | ⟨1, _⟩ => Fin.ext (by show 0 + 1 * (j 1 : ℕ) = j 1; omega))

theorem a_read (v : View sig .tc .vmem S256x2816 .bf16) (L : List (View.Piece (Elt Ideal) S256x2816 .bf16)) :
    v.readCov L (Rect.unit (s := S256x2816) ![0, 0] ![256, 2816] inb_S256x2816_S256x2816_0_0).toLoadRect = View.canon L := by
  rw [View.readCov_eq_canon']
  funext j
  refine congrArg _ (funext fun k => match k with
    | ⟨0, _⟩ => Fin.ext (by show 0 + 1 * (j 0 : ℕ) = j 0; omega)
    | ⟨1, _⟩ => Fin.ext (by show 0 + 1 * (j 1 : ℕ) = j 1; omega))

/-- Columns of what was stored. -/
theorem c_read (v : View sig .tc .vmem S256x5632 .bf16) (L : List (View.Piece (Elt Ideal) S256x5632 .bf16)) (r : Rect S256x5632) :
    v.readCov L r.toLoadRect = View.ld (Val := Elt Ideal) (e' := .bf16) (View.canon L) r := by
  rw [View.readCov_eq_canon']

theorem keep_read (A : FVec Ideal S8x5632 .f32) : View.read (Elt Ideal) (View.whole cc0_scratch0) ((Memref.isWhole_whole cc0_scratch0).unread A) = A :=
  Memref.IsWhole.read_unread (Val := Elt Ideal) (Memref.isWhole_whole cc0_scratch0) A

theorem shift_keep (A : FVec Ideal S512x256 .bf16) : View.read (Elt Ideal) (View.whole cc0_scratch1) ((Memref.isWhole_whole cc0_scratch1).unread A) = A :=
  Memref.IsWhole.read_unread (Val := Elt Ideal) (Memref.isWhole_whole cc0_scratch1) A

variable (m : (ℓ : Loc nD τ sig) → Buf (Elt Ideal) ℓ) (c : Dev nD) (t : Fin cfg0.N)

/-- The normalized rows. -/
def hb : FVec Ideal S256x1024 .bf16 := k0_pay8 (iblk m c 0 t) (iblk m c 1 t)

/-- The up projection's columns from 0 on. -/
def wu0 : FVec Ideal S1408x1024 .bf16 := View.ld (Val := Elt Ideal) (e' := .bf16) (iblk m c 2 t) (Rect.unit (s := S5632x1024) ![0, 0] ![1408, 1024] inb_S5632x1024_S1408x1024_0_0)

/-- The filter's columns from 0 on. -/
def cw00 : FVec Ideal S1x1408 .f32 := View.ld (Val := Elt Ideal) (e' := .f32) (iblk m c 3 t) (Rect.unit (s := S3x5632) ![0, 0] ![1, 1408] inb_S3x5632_S1x1408_0_0)
def cw01 : FVec Ideal S1x1408 .f32 := View.ld (Val := Elt Ideal) (e' := .f32) (iblk m c 3 t) (Rect.unit (s := S3x5632) ![1, 0] ![1, 1408] inb_S3x5632_S1x1408_1_0)
def cw02 : FVec Ideal S1x1408 .f32 := View.ld (Val := Elt Ideal) (e' := .f32) (iblk m c 3 t) (Rect.unit (s := S3x5632) ![2, 0] ![1, 1408] inb_S3x5632_S1x1408_2_0)

/-- The up projection's columns from 1408 on. -/
def wu1 : FVec Ideal S1408x1024 .bf16 := View.ld (Val := Elt Ideal) (e' := .bf16) (iblk m c 2 t) (Rect.unit (s := S5632x1024) ![1408, 0] ![1408, 1024] inb_S5632x1024_S1408x1024_1408_0)

/-- The filter's columns from 1408 on. -/
def cw10 : FVec Ideal S1x1408 .f32 := View.ld (Val := Elt Ideal) (e' := .f32) (iblk m c 3 t) (Rect.unit (s := S3x5632) ![0, 1408] ![1, 1408] inb_S3x5632_S1x1408_0_1408)
def cw11 : FVec Ideal S1x1408 .f32 := View.ld (Val := Elt Ideal) (e' := .f32) (iblk m c 3 t) (Rect.unit (s := S3x5632) ![1, 1408] ![1, 1408] inb_S3x5632_S1x1408_1_1408)
def cw12 : FVec Ideal S1x1408 .f32 := View.ld (Val := Elt Ideal) (e' := .f32) (iblk m c 3 t) (Rect.unit (s := S3x5632) ![2, 1408] ![1, 1408] inb_S3x5632_S1x1408_2_1408)

/-- The up projection's columns from 2816 on. -/
def wu2 : FVec Ideal S1408x1024 .bf16 := View.ld (Val := Elt Ideal) (e' := .bf16) (iblk m c 2 t) (Rect.unit (s := S5632x1024) ![2816, 0] ![1408, 1024] inb_S5632x1024_S1408x1024_2816_0)

/-- The filter's columns from 2816 on. -/
def cw20 : FVec Ideal S1x1408 .f32 := View.ld (Val := Elt Ideal) (e' := .f32) (iblk m c 3 t) (Rect.unit (s := S3x5632) ![0, 2816] ![1, 1408] inb_S3x5632_S1x1408_0_2816)
def cw21 : FVec Ideal S1x1408 .f32 := View.ld (Val := Elt Ideal) (e' := .f32) (iblk m c 3 t) (Rect.unit (s := S3x5632) ![1, 2816] ![1, 1408] inb_S3x5632_S1x1408_1_2816)
def cw22 : FVec Ideal S1x1408 .f32 := View.ld (Val := Elt Ideal) (e' := .f32) (iblk m c 3 t) (Rect.unit (s := S3x5632) ![2, 2816] ![1, 1408] inb_S3x5632_S1x1408_2_2816)

/-- The up projection's columns from 4224 on. -/
def wu3 : FVec Ideal S1408x1024 .bf16 := View.ld (Val := Elt Ideal) (e' := .bf16) (iblk m c 2 t) (Rect.unit (s := S5632x1024) ![4224, 0] ![1408, 1024] inb_S5632x1024_S1408x1024_4224_0)

/-- The filter's columns from 4224 on. -/
def cw30 : FVec Ideal S1x1408 .f32 := View.ld (Val := Elt Ideal) (e' := .f32) (iblk m c 3 t) (Rect.unit (s := S3x5632) ![0, 4224] ![1, 1408] inb_S3x5632_S1x1408_0_4224)
def cw31 : FVec Ideal S1x1408 .f32 := View.ld (Val := Elt Ideal) (e' := .f32) (iblk m c 3 t) (Rect.unit (s := S3x5632) ![1, 4224] ![1, 1408] inb_S3x5632_S1x1408_1_4224)
def cw32 : FVec Ideal S1x1408 .f32 := View.ld (Val := Elt Ideal) (e' := .f32) (iblk m c 3 t) (Rect.unit (s := S3x5632) ![2, 4224] ![1, 1408] inb_S3x5632_S1x1408_2_4224)

/-- The stores into u. -/
def uL : List (View.Piece (Elt Ideal) S256x5632 .bf16) :=
  [(⟨Rect.unit (s := S256x5632) ![0, 4224] ![256, 1408] inb_S256x5632_S256x1408_0_4224, up (hb m c t) (wu3 m c t)⟩ : View.Piece (Elt Ideal) S256x5632 .bf16),
    (⟨Rect.unit (s := S256x5632) ![0, 1408] ![256, 1408] inb_S256x5632_S256x1408_0_1408, up (hb m c t) (wu1 m c t)⟩ : View.Piece (Elt Ideal) S256x5632 .bf16),
    (⟨Rect.unit (s := S256x5632) ![0, 2816] ![256, 1408] inb_S256x5632_S256x1408_0_2816, up (hb m c t) (wu2 m c t)⟩ : View.Piece (Elt Ideal) S256x5632 .bf16),
    (⟨Rect.unit (s := S256x5632) ![0, 0] ![256, 1408] inb_S256x5632_S256x1408_0_0, up (hb m c t) (wu0 m c t)⟩ : View.Piece (Elt Ideal) S256x5632 .bf16)]

/-- The stores into the rows kept. -/
def keepL : List (View.Piece (Elt Ideal) S8x5632 .f32) :=
  [(⟨Rect.unit (s := S8x5632) ![0, 4224] ![8, 1408] inb_S8x5632_S8x1408_0_4224, kept (hb m c t) (wu3 m c t)⟩ : View.Piece (Elt Ideal) S8x5632 .f32),
    (⟨Rect.unit (s := S8x5632) ![0, 1408] ![8, 1408] inb_S8x5632_S8x1408_0_1408, kept (hb m c t) (wu1 m c t)⟩ : View.Piece (Elt Ideal) S8x5632 .f32),
    (⟨Rect.unit (s := S8x5632) ![0, 2816] ![8, 1408] inb_S8x5632_S8x1408_0_2816, kept (hb m c t) (wu2 m c t)⟩ : View.Piece (Elt Ideal) S8x5632 .f32),
    (⟨Rect.unit (s := S8x5632) ![0, 0] ![8, 1408] inb_S8x5632_S8x1408_0_0, kept (hb m c t) (wu0 m c t)⟩ : View.Piece (Elt Ideal) S8x5632 .f32)]

section Stores
variable (K : FVec Ideal S8x5632 .f32) (S : FVec Ideal S512x256 .bf16)

/-- The stores into c: `K` the rows kept of the block before, `S` the matrix that moves rows; columns from 0 on. -/
def cL0 : List (View.Piece (Elt Ideal) S256x5632 .bf16) :=
  (⟨Rect.unit (s := S256x5632) ![0, 0] ![16, 1408] inb_S256x5632_S16x1408_0_0, edge (hb m c t) (cw00 m c t) (cw01 m c t) (cw02 m c t) (wu0 m c t) S (View.ld (Val := Elt Ideal) (e' := .f32) K (Rect.unit (s := S8x5632) ![7, 0] ![1, 1408] inb_S8x5632_S1x1408_7_0)) (View.ld (Val := Elt Ideal) (e' := .f32) K (Rect.unit (s := S8x5632) ![6, 0] ![1, 1408] inb_S8x5632_S1x1408_6_0))⟩ : View.Piece (Elt Ideal) S256x5632 .bf16)
    :: (⟨Rect.unit (s := S256x5632) ![0, 0] ![256, 1408] inb_S256x5632_S256x1408_0_0, top (hb m c t) (cw00 m c t) (cw01 m c t) (cw02 m c t) (wu0 m c t) S⟩ : View.Piece (Elt Ideal) S256x5632 .bf16) :: []

/-- The same, columns from 2816 on added. -/
def cL1 : List (View.Piece (Elt Ideal) S256x5632 .bf16) :=
  (⟨Rect.unit (s := S256x5632) ![0, 2816] ![16, 1408] inb_S256x5632_S16x1408_0_2816, edge (hb m c t) (cw20 m c t) (cw21 m c t) (cw22 m c t) (wu2 m c t) S (View.ld (Val := Elt Ideal) (e' := .f32) K (Rect.unit (s := S8x5632) ![7, 2816] ![1, 1408] inb_S8x5632_S1x1408_7_2816)) (View.ld (Val := Elt Ideal) (e' := .f32) K (Rect.unit (s := S8x5632) ![6, 2816] ![1, 1408] inb_S8x5632_S1x1408_6_2816))⟩ : View.Piece (Elt Ideal) S256x5632 .bf16)
    :: (⟨Rect.unit (s := S256x5632) ![0, 2816] ![256, 1408] inb_S256x5632_S256x1408_0_2816, top (hb m c t) (cw20 m c t) (cw21 m c t) (cw22 m c t) (wu2 m c t) S⟩ : View.Piece (Elt Ideal) S256x5632 .bf16) :: cL0 m c t K S

/-- The same, columns from 1408 on added. -/
def cL2 : List (View.Piece (Elt Ideal) S256x5632 .bf16) :=
  (⟨Rect.unit (s := S256x5632) ![0, 1408] ![16, 1408] inb_S256x5632_S16x1408_0_1408, edge (hb m c t) (cw10 m c t) (cw11 m c t) (cw12 m c t) (wu1 m c t) S (View.ld (Val := Elt Ideal) (e' := .f32) K (Rect.unit (s := S8x5632) ![7, 1408] ![1, 1408] inb_S8x5632_S1x1408_7_1408)) (View.ld (Val := Elt Ideal) (e' := .f32) K (Rect.unit (s := S8x5632) ![6, 1408] ![1, 1408] inb_S8x5632_S1x1408_6_1408))⟩ : View.Piece (Elt Ideal) S256x5632 .bf16)
    :: (⟨Rect.unit (s := S256x5632) ![0, 1408] ![256, 1408] inb_S256x5632_S256x1408_0_1408, top (hb m c t) (cw10 m c t) (cw11 m c t) (cw12 m c t) (wu1 m c t) S⟩ : View.Piece (Elt Ideal) S256x5632 .bf16) :: cL1 m c t K S

/-- The same, columns from 4224 on added. -/
def cL3 : List (View.Piece (Elt Ideal) S256x5632 .bf16) :=
  (⟨Rect.unit (s := S256x5632) ![0, 4224] ![16, 1408] inb_S256x5632_S16x1408_0_4224, edge (hb m c t) (cw30 m c t) (cw31 m c t) (cw32 m c t) (wu3 m c t) S (View.ld (Val := Elt Ideal) (e' := .f32) K (Rect.unit (s := S8x5632) ![7, 4224] ![1, 1408] inb_S8x5632_S1x1408_7_4224)) (View.ld (Val := Elt Ideal) (e' := .f32) K (Rect.unit (s := S8x5632) ![6, 4224] ![1, 1408] inb_S8x5632_S1x1408_6_4224))⟩ : View.Piece (Elt Ideal) S256x5632 .bf16)
    :: (⟨Rect.unit (s := S256x5632) ![0, 4224] ![256, 1408] inb_S256x5632_S256x1408_0_4224, top (hb m c t) (cw30 m c t) (cw31 m c t) (cw32 m c t) (wu3 m c t) S⟩ : View.Piece (Elt Ideal) S256x5632 .bf16) :: cL2 m c t K S

def cv0 : FVec Ideal S256x1408 .bf16 := View.ld (Val := Elt Ideal) (e' := .bf16) (View.canon (cL0 m c t K S)) (Rect.unit (s := S256x5632) ![0, 0] ![256, 1408] inb_S256x5632_S256x1408_0_0)

def cv2 : FVec Ideal S256x1408 .bf16 := View.ld (Val := Elt Ideal) (e' := .bf16) (View.canon (cL1 m c t K S)) (Rect.unit (s := S256x5632) ![0, 2816] ![256, 1408] inb_S256x5632_S256x1408_0_2816)

def cv1 : FVec Ideal S256x1408 .bf16 := View.ld (Val := Elt Ideal) (e' := .bf16) (View.canon (cL2 m c t K S)) (Rect.unit (s := S256x5632) ![0, 1408] ![256, 1408] inb_S256x5632_S256x1408_0_1408)

def cv3 : FVec Ideal S256x1408 .bf16 := View.ld (Val := Elt Ideal) (e' := .bf16) (View.canon (cL3 m c t K S)) (Rect.unit (s := S256x5632) ![0, 4224] ![256, 1408] inb_S256x5632_S256x1408_0_4224)

/-- The stores into a. -/
def aL : List (View.Piece (Elt Ideal) S256x2816 .bf16) :=
  [(⟨Rect.unit (s := S256x2816) ![0, 1408] ![256, 1408] inb_S256x2816_S256x1408_0_1408, gated (cv1 m c t K S) (cv3 m c t K S)⟩ : View.Piece (Elt Ideal) S256x2816 .bf16),
    (⟨Rect.unit (s := S256x2816) ![0, 0] ![256, 1408] inb_S256x2816_S256x1408_0_0, gated (cv0 m c t K S) (cv2 m c t K S)⟩ : View.Piece (Elt Ideal) S256x2816 .bf16)]

end Stores

/-- The block of rows before. -/
abbrev prev := outsAt0 m c (t.val - 1) (Nat.lt_of_le_of_lt (Nat.sub_le t.val 1) t.isLt)

section First
variable (h : t.val % 32 = 0)
include h

set_option maxHeartbeats 1600000 in
theorem u_A : (outsAt0 m c t.val t.isLt).1 = View.canon (uL m c t) := by
  rw [outsAt0_A m c t h]
  dsimp only
  frame_out
  rfl

set_option maxHeartbeats 1600000 in
theorem c_A : (outsAt0 m c t.val t.isLt).2.1 = View.canon (cL3 m c t k0_pay4 shift) := by
  rw [outsAt0_A m c t h]
  dsimp only
  frame_out
  simp (disch := decide) only [View.readCov_skip, View.readCov_fill]
  simp only [shift_read, a_read, c_read]
  rfl

set_option maxHeartbeats 1600000 in
theorem a_A : (outsAt0 m c t.val t.isLt).2.2.1 = View.canon (aL m c t k0_pay4 shift) := by
  rw [outsAt0_A m c t h]
  dsimp only
  frame_out
  simp (disch := decide) only [View.readCov_skip, View.readCov_fill]
  simp only [shift_read, a_read, c_read]
  rfl

set_option maxHeartbeats 1600000 in
theorem y_A : (outsAt0 m c t.val t.isLt).2.2.2.1 = k0_pay49 (View.canon (aL m c t k0_pay4 shift)) (iblk m c 4 t) := by
  rw [outsAt0_A m c t h]
  dsimp only
  frame_out
  simp (disch := decide) only [View.readCov_skip, View.readCov_fill]
  simp only [shift_read, a_read, c_read]
  rfl

set_option maxHeartbeats 1600000 in
theorem err_A : (outsAt0 m c t.val t.isLt).2.2.2.2.1 = k0_pay2 (k0_pay50 (iblk m c 0 t) (View.canon (aL m c t k0_pay4 shift)) (iblk m c 4 t) (iblk m c 5 t)) (iblk m c 6 t) := by
  rw [outsAt0_A m c t h]
  dsimp only
  frame_out
  simp (disch := decide) only [View.readCov_skip, View.readCov_fill]
  simp only [shift_read, a_read, c_read]
  rfl

set_option maxHeartbeats 1600000 in
theorem loss_A : (outsAt0 m c t.val t.isLt).2.2.2.2.2.1 = k0_pay3 (k0_pay50 (iblk m c 0 t) (View.canon (aL m c t k0_pay4 shift)) (iblk m c 4 t) (iblk m c 5 t)) (iblk m c 6 t) (k0_pay7 (F := Ideal)) := by
  rw [outsAt0_A m c t h]
  dsimp only
  frame_out
  simp (disch := decide) only [View.readCov_skip, View.readCov_fill]
  simp only [shift_read, a_read, c_read]
  rfl

set_option maxHeartbeats 1600000 in
theorem keep_A : (outsAt0 m c t.val t.isLt).2.2.2.2.2.2.1 = View.canon (keepL m c t ++ [(⟨Rect.unit (s := S8x5632) ![0, 0] ![8, 5632] inb_S8x5632_S8x5632_0_0, (k0_pay4 (F := Ideal))⟩ : View.Piece (Elt Ideal) S8x5632 .f32)]) := by
  rw [outsAt0_A m c t h]
  dsimp only
  frame_out
  rfl

set_option maxHeartbeats 1600000 in
theorem shift_A : (outsAt0 m c t.val t.isLt).2.2.2.2.2.2.2 = shift := by
  rw [outsAt0_A m c t h]
  dsimp only
  frame_out

end First

section Later
variable (h : ¬t.val % 32 = 0)
include h

set_option maxHeartbeats 1600000 in
theorem u_B : (outsAt0 m c t.val t.isLt).1 = View.canon (uL m c t) := by
  rw [outsAt0_B m c t h]
  dsimp only
  frame_out
  rfl

set_option maxHeartbeats 1600000 in
theorem c_B : (outsAt0 m c t.val t.isLt).2.1 = View.canon (cL3 m c t (prev m c t).2.2.2.2.2.2.1 (prev m c t).2.2.2.2.2.2.2) := by
  rw [outsAt0_B m c t h]
  dsimp only
  frame_out
  simp only [keep_read, shift_keep, a_read, c_read]
  rfl

set_option maxHeartbeats 1600000 in
theorem a_B : (outsAt0 m c t.val t.isLt).2.2.1 = View.canon (aL m c t (prev m c t).2.2.2.2.2.2.1 (prev m c t).2.2.2.2.2.2.2) := by
  rw [outsAt0_B m c t h]
  dsimp only
  frame_out
  simp only [keep_read, shift_keep, a_read, c_read]
  rfl

set_option maxHeartbeats 1600000 in
theorem y_B : (outsAt0 m c t.val t.isLt).2.2.2.1 = k0_pay49 (View.canon (aL m c t (prev m c t).2.2.2.2.2.2.1 (prev m c t).2.2.2.2.2.2.2)) (iblk m c 4 t) := by
  rw [outsAt0_B m c t h]
  dsimp only
  frame_out
  simp only [keep_read, shift_keep, a_read, c_read]
  rfl

set_option maxHeartbeats 1600000 in
theorem err_B : (outsAt0 m c t.val t.isLt).2.2.2.2.1 = k0_pay2 (k0_pay50 (iblk m c 0 t) (View.canon (aL m c t (prev m c t).2.2.2.2.2.2.1 (prev m c t).2.2.2.2.2.2.2)) (iblk m c 4 t) (iblk m c 5 t)) (iblk m c 6 t) := by
  rw [outsAt0_B m c t h]
  dsimp only
  frame_out
  simp only [keep_read, shift_keep, a_read, c_read]
  rfl

set_option maxHeartbeats 1600000 in
theorem loss_B : (outsAt0 m c t.val t.isLt).2.2.2.2.2.1 = k0_pay3 (k0_pay50 (iblk m c 0 t) (View.canon (aL m c t (prev m c t).2.2.2.2.2.2.1 (prev m c t).2.2.2.2.2.2.2)) (iblk m c 4 t) (iblk m c 5 t)) (iblk m c 6 t) (prev m c t).2.2.2.2.2.1 := by
  rw [outsAt0_B m c t h]
  dsimp only
  frame_out
  simp only [keep_read, shift_keep, a_read, c_read]
  rfl

set_option maxHeartbeats 1600000 in
theorem keep_B : (outsAt0 m c t.val t.isLt).2.2.2.2.2.2.1 = View.canon (keepL m c t) := by
  rw [outsAt0_B m c t h]
  dsimp only
  frame_out
  rfl

theorem shift_B : (outsAt0 m c t.val t.isLt).2.2.2.2.2.2.2 = (prev m c t).2.2.2.2.2.2.2 := by
  rw [outsAt0_B m c t h]
  rfl

end Later

end Cert.Kernel7Ideal.Ffn

end
-- ==== Proof.GlPay.lean ====
/- What the payloads of the feed-forward's forward call with the loss compute, read at one lane over any blocks. -/
module

public import proofs.«01_k».proof.Proof.GlOut
public import proofs.«01_k».proof.Proof.GfPay
public import Idealize.ShloMosaic.Lib.Pointwise
public import Idealize.ShloMosaic.Lib.WordCmp

@[expose] public section

set_option maxRecDepth 16384

noncomputable section

namespace Cert.Kernel7Ideal.Ffn

open Cert.Kernel6Ideal.Ffn (pick word_back sgm rms)
open Cert.Kernel7Ideal Cert.Kernel7Ideal.Gen Idealize.ShloMosaic Idealize.ShloMosaic.TcCoe Idealize.SL.Sem

theorem down1_at (r p : Fin 256) : k0_pay5 (F := Ideal) (ix2 r p) = if (p : ℕ) + 1 = r then 1 else 0 := by
  pointwise [k0_pay5]
  refine (congrArg (fun w => Scalar.select (IntOp.cmpi .eq (BitVec.ofNat 32 (p : ℕ)) w) _ _) (word_back r 1)).trans ?_
  rw [pick _ _ (by omega) (by omega)]
  refine (if_congr (by omega) ?_ rfl).trans rfl
  first | rfl | exact EReal.coe_one

theorem down2_at (r p : Fin 256) : k0_pay6 (F := Ideal) (ix2 r p) = if (p : ℕ) + 2 = r then 1 else 0 := by
  pointwise [k0_pay6]
  refine (congrArg (fun w => Scalar.select (IntOp.cmpi .eq (BitVec.ofNat 32 (p : ℕ)) w) _ _) (word_back r 2)).trans ?_
  rw [pick _ _ (by omega) (by omega)]
  refine (if_congr (by omega) ?_ rfl).trans rfl
  first | rfl | exact EReal.coe_one

theorem none_at (k : Fin 8) (j : Fin 5632) : k0_pay4 (F := Ideal) (ix2 k j) = 0 := by
  pointwise [k0_pay4]

theorem hb_at (x : FVec Ideal S256x1024 .f32) (g : FVec Ideal S1x1024 .f32) (r : Fin 256) (k : Fin 1024) :
    k0_pay8 (F := Ideal) x g (ix2 r k) = x (ix2 r k) * rms (fun k : Fin 1024 => x (ix2 r k)) * g (ix2 0 k) := by
  unfold rms
  pointwise [k0_pay8]

theorem up_at (h : FVec Ideal S256x1024 .bf16) (w : FVec Ideal S1408x1024 .bf16) (r : Fin 256) (q : Fin 1408) :
    up h w (ix2 r q) = ∑ k : Fin 1024, h (ix2 r k) * w (ix2 q k) := by
  unfold up
  pointwise [k0_pay21, k0_pay20]

theorem up16_at (h : FVec Ideal S256x1024 .bf16) (w : FVec Ideal S1408x1024 .bf16) (r : Fin 256) (q : Fin 1408) :
    k0_pay20 h w (ix2 r q) = up h w (ix2 r q) := by
  unfold up
  generalize e : k0_pay20 h w = u
  pointwise [k0_pay21]
  rw [e]

theorem kept_at (h : FVec Ideal S256x1024 .bf16) (w : FVec Ideal S1408x1024 .bf16) (k : Fin 8) (q : Fin 1408) :
    kept h w (ix2 k q) = up h w (ix2 ⟨248 + k, by omega⟩ q) := by
  rw [← up16_at]
  unfold kept
  generalize k0_pay20 h w = u
  pointwise [k0_pay26]

theorem top18_at (h : FVec Ideal S256x1024 .bf16) (w0 w1 w2 : FVec Ideal S1x1408 .f32) (w : FVec Ideal S1408x1024 .bf16) (S : FVec Ideal S512x256 .bf16)
    (r : Fin 256) (q : Fin 1408) : k0_pay22 h w0 w1 w2 w S (ix2 r q)
    = w0 (ix2 0 q) * (∑ p : Fin 256, S (ix2 ⟨256 + r, by omega⟩ p) * up h w (ix2 p q))
      + w1 (ix2 0 q) * (∑ p : Fin 256, S (ix2 ⟨r, by omega⟩ p) * up h w (ix2 p q)) + w2 (ix2 0 q) * up h w (ix2 r q) := by
  rw [← up16_at]
  unfold up
  generalize e17 : k0_pay21 h w = u
  generalize e16 : k0_pay20 h w = v
  unfold k0_pay22
  rw [e17, e16]
  pointwise []

theorem top_at (h : FVec Ideal S256x1024 .bf16) (w0 w1 w2 : FVec Ideal S1x1408 .f32) (w : FVec Ideal S1408x1024 .bf16) (S : FVec Ideal S512x256 .bf16)
    (r : Fin 256) (q : Fin 1408) : top h w0 w1 w2 w S (ix2 r q) = k0_pay22 h w0 w1 w2 w S (ix2 r q) := by
  unfold top
  generalize e : k0_pay22 h w0 w1 w2 w S = u
  pointwise [k0_pay23]
  rw [e]

theorem edge_at (h : FVec Ideal S256x1024 .bf16) (w0 w1 w2 : FVec Ideal S1x1408 .f32) (w : FVec Ideal S1408x1024 .bf16) (S : FVec Ideal S512x256 .bf16)
    (a b : FVec Ideal S1x1408 .f32) (r : Fin 16) (q : Fin 1408) : edge h w0 w1 w2 w S a b (ix2 r q)
    = k0_pay22 h w0 w1 w2 w S (ix2 ⟨r, by omega⟩ q) + w1 (ix2 0 q) * (if (r : ℕ) = 0 then a (ix2 0 q) else 0)
      + w0 (ix2 0 q) * (if (r : ℕ) = 0 then b (ix2 0 q) else if (r : ℕ) = 1 then a (ix2 0 q) else 0) := by
  unfold edge
  generalize k0_pay22 h w0 w1 w2 w S = u
  pointwise [k0_pay25, k0_pay24]
  rw [pick _ 0 (by omega) (by norm_num), pick _ 0 (by omega) (by norm_num), pick _ 1 (by omega) (by norm_num)]
  simp only [mul_ite, mul_zero]

theorem gated_at (cg cv : FVec Ideal S256x1408 .bf16) (r : Fin 256) (q : Fin 1408) :
    gated cg cv (ix2 r q) = cg (ix2 r q) * sgm (cg (ix2 r q)) * cv (ix2 r q) := by
  unfold gated sgm
  pointwise [k0_pay27, k0_pay19]
  simp only [sub_eq_add_neg, zero_add, EReal.coe_one]

theorem y_at (a : FVec Ideal S256x2816 .bf16) (w : FVec Ideal S2816x1024 .bf16) (r : Fin 256) (j : Fin 1024) :
    k0_pay49 (F := Ideal) a w (ix2 r j) = ∑ k : Fin 2816, a (ix2 r k) * w (ix2 k j) := by
  pointwise [k0_pay49]

theorem x3_at (x : FVec Ideal S256x1024 .f32) (a : FVec Ideal S256x2816 .bf16) (w : FVec Ideal S2816x1024 .bf16) (g : FVec Ideal S1x1024 .f32)
    (r : Fin 256) (j : Fin 1024) : k0_pay50 (F := Ideal) x a w g (ix2 r j)
    = x (ix2 r j) + k0_pay49 (F := Ideal) a w (ix2 r j) * rms (fun k : Fin 1024 => k0_pay49 (F := Ideal) a w (ix2 r k)) * g (ix2 0 j) := by
  unfold rms
  generalize e : k0_pay49 (F := Ideal) a w = y
  unfold k0_pay50
  rw [e]
  pointwise []

/-- One half. -/
def half : EReal := Ideal.ofBits .f32 0x3F000000#32

/-- The mean of the squares of a row. -/
def msq {n : ℕ} (e : Fin n → EReal) : EReal := Ideal.div (∑ k, e k * e k) (Ideal.ofBits .f32 0x44800000#32)

theorem err_at (x w : FVec Ideal S256x1024 .f32) (r : Fin 256) (j : Fin 1024) :
    k0_pay2 (F := Ideal) x w (ix2 r j) = (x (ix2 r j) - w (ix2 r j)) * Ideal.ofBits .f32 0x3A800000#32 := by
  pointwise [k0_pay2, k0_pay1]

theorem loss_at (x w : FVec Ideal S256x1024 .f32) (L : FVec Ideal S8x128 .f32) (k : Fin 8) (j : Fin 128) : k0_pay3 (F := Ideal) x w L (ix2 k j)
    = L (ix2 k j) + half * ∑ r : Fin 256, msq (fun q : Fin 1024 => x (ix2 r q) - w (ix2 r q)) := by
  unfold half msq
  pointwise [k0_pay3, k0_pay1]

theorem zero_at (k : Fin 8) (j : Fin 128) : k0_pay7 (F := Ideal) (ix2 k j) = 0 := by
  pointwise [k0_pay7]

end Cert.Kernel7Ideal.Ffn
-- ==== Proof.GlRef.lean ====
/- The reference of the feed-forward's forward call with the loss, read at a lane. -/
module

public import proofs.«01_k».proof.Proof.Gen.Reference7Ideal.Read
public import proofs.«01_k».proof.Proof.GfRef
public import Idealize.ShloMosaic.Lib.Pipeline.ValueKit
public import Idealize.ShloMosaic.Lib.Pipeline.Value
public import Idealize.ShloMosaic.Lib.Pointwise

@[expose] public section

set_option maxRecDepth 16384

noncomputable section

namespace Cert.Reference7Ideal.Ffn

open Cert.Reference6Ideal.Ffn (eq2 back back_of back_zero back_shift)
open Cert.Reference7Ideal Cert.Reference7Ideal.Gen Cert.Reference7Ideal.Read
open Idealize.ShloMosaic Idealize.ShloMosaic.TcCoe Idealize.SL.Sem

variable (x0 : FVec Ideal S8192x1024 .f32) (x1 : FVec Ideal S1024 .f32) (x2 : FVec Ideal S1024x5632 .f32) (x3 : FVec Ideal S3x5632 .f32)

theorem v15_at (i : Fin 8194) (q : Fin 5632) : val_main_v15 (F := Ideal) x0 x1 x2 (ix2 i q)
    = back (fun k => val_main_v13 (F := Ideal) x0 x1 x2 (ix2 k q)) i 2 := by
  unfold val_main_v15
  by_cases h : (i : ℕ) < 2
  · rw [back_zero _ _ _ h]
    refine (concatenate_pair_apply_left (t := S8194x5632) (s₁ := S2x5632) (s₂ := S8192x5632) 0 _ _ _ (ix2 i q) rfl (@ix2 2 5632 ⟨i, h⟩ q) ?_).trans ?_
    · intro b; match b with
        | ⟨0, _⟩ => rfl
        | ⟨1, _⟩ => rfl
    · pointwise [val_main_v14, val_main_cst_2]
  · rw [back_of _ i 2 ⟨i - 2, by omega⟩ (by show (i : ℕ) - 2 + 2 = i; omega)]
    refine (concatenate_pair_apply_right (t := S8194x5632) (s₁ := S2x5632) (s₂ := S8192x5632) 0 _ _ _ (ix2 i q) rfl rfl (@ix2 8192 5632 ⟨i - 2, by omega⟩ q) ?_ ?_)
    · intro b hb; match b with
        | ⟨0, _⟩ => exact absurd rfl hb
        | ⟨1, _⟩ => rfl
    · show (i : ℕ) - 2 + 2 = i
      omega

theorem v18_at (i : Fin 8192) (q : Fin 5632) : val_main_v18 (F := Ideal) x0 x1 x2 (ix2 i q)
    = back (fun k => val_main_v13 (F := Ideal) x0 x1 x2 (ix2 k q)) i 2 := by
  rw [val_main_v18_apply, ← v15_at x0 x1 x2 ⟨i, by omega⟩ q]
  exact congrArg _ (eq2 _ _ _ (by show (i : ℕ) = i; rfl) rfl)

theorem v26_at (i : Fin 8192) (q : Fin 5632) : val_main_v26 (F := Ideal) x0 x1 x2 (ix2 i q)
    = back (fun k => val_main_v13 (F := Ideal) x0 x1 x2 (ix2 k q)) i 1 := by
  rw [val_main_v26_apply, ← back_shift _ i 1 1]
  refine Eq.trans ?_ (v15_at x0 x1 x2 ⟨1 + i, by omega⟩ q)
  exact congrArg _ (eq2 _ _ _ rfl rfl)

theorem v33_at (i : Fin 8192) (q : Fin 5632) : val_main_v33 (F := Ideal) x0 x1 x2 (ix2 i q)
    = val_main_v13 (F := Ideal) x0 x1 x2 (ix2 i q) := by
  rw [val_main_v33_apply, ← back_of (fun k => val_main_v13 (F := Ideal) x0 x1 x2 (ix2 k q)) (2 + i) 2 i (by omega)]
  refine Eq.trans ?_ (v15_at x0 x1 x2 ⟨2 + i, by omega⟩ q)
  exact congrArg _ (eq2 _ _ _ rfl rfl)

/-- The convolution: each row, with the two before it. -/
theorem v37_at (i : Fin 8192) (q : Fin 5632) : val_main_v37 (F := Ideal) x0 x1 x2 x3 (ix2 i q)
    = x3 (ix2 0 q) * back (fun k => val_main_v13 (F := Ideal) x0 x1 x2 (ix2 k q)) i 2
      + x3 (ix2 1 q) * back (fun k => val_main_v13 (F := Ideal) x0 x1 x2 (ix2 k q)) i 1
      + x3 (ix2 2 q) * val_main_v13 (F := Ideal) x0 x1 x2 (ix2 i q) := by
  rw [← v18_at, ← v26_at, ← v33_at]
  generalize e18 : val_main_v18 (F := Ideal) x0 x1 x2 = a18
  generalize e26 : val_main_v26 (F := Ideal) x0 x1 x2 = a26
  generalize e33 : val_main_v33 (F := Ideal) x0 x1 x2 = a33
  unfold val_main_v37 val_main_v30 val_main_v23 val_main_v21 val_main_v29 val_main_v36
  rw [e18, e26, e33]
  pointwise [val_main_v22, val_main_cst_3, val_main_v20, val_main_v19, val_main_v17, val_main_v16, val_main_v28, val_main_v27, val_main_v25, val_main_v24,
    val_main_v35, val_main_v34, val_main_v32, val_main_v31]

end Cert.Reference7Ideal.Ffn
-- ==== Proof.GlBlock.lean ====
/- The feed-forward's forward call with the loss at one block of rows: its operands, the up projection, the convolution, the gate. -/
module

public import proofs.«01_k».proof.Proof.GlPay
public import proofs.«01_k».proof.Proof.GlRef
public import proofs.«01_k».proof.Proof.GfBlock
public import proofs.«01_k».proof.Proof.Reals
public import Idealize.ShloMosaic.Lib.Claim
public import Idealize.ShloMosaic.Lib.StableHlo.RunRead

@[expose] public section

set_option maxRecDepth 16384

noncomputable section

namespace Cert.Kernel7Ideal.Ffn

open Cert.Kernel7Ideal Cert.Kernel7Ideal.Gen Idealize.ShloMosaic Idealize.ShloMosaic.TcCoe Idealize.SL.Sem
open Cert.Reference7Ideal.Read
open Cert.Reference7Ideal.Ffn (v37_at)
open Cert.Reference6Ideal.Ffn (eq2 back back_of back_zero)
open Cert.Kernel6Ideal.Ffn (sgm rms ix_at canon_hit canon_skip sum_down turn two_hit two_skip)

variable (m : (ℓ : Loc nD τ sig) → Buf (Elt Ideal) ℓ) (c : Dev nD)

/-! ## The arguments and the reference's stages -/

abbrev x0 : FVec Ideal S8192x1024 .f32 := m ((c : Thread nD τ).loc main_arg0)
abbrev x1 : FVec Ideal S1024 .f32 := m ((c : Thread nD τ).loc main_arg1)
abbrev x2 : FVec Ideal S1024x5632 .f32 := m ((c : Thread nD τ).loc main_arg2)
abbrev x3 : FVec Ideal S3x5632 .f32 := m ((c : Thread nD τ).loc main_arg3)
abbrev x4 : FVec Ideal S2816x1024 .f32 := m ((c : Thread nD τ).loc main_arg4)
abbrev x6 : FVec Ideal S8192x1024 .f32 := m ((c : Thread nD τ).loc main_arg6)
abbrev x5 : FVec Ideal S1024 .f32 := m ((c : Thread nD τ).loc main_arg5)
/-- The up projection. -/
def ru : FVec Ideal S8192x5632 .f32 := val_main_v13 (F := Ideal) (x0 m c) (x1 m c) (x2 m c)
/-- The convolution. -/
def rc : FVec Ideal S8192x5632 .f32 := val_main_v37 (F := Ideal) (x0 m c) (x1 m c) (x2 m c) (x3 m c)
/-- The gated values. -/
def ra : FVec Ideal S8192x2816 .f32 := val_main_v41 (F := Ideal) (x0 m c) (x1 m c) (x2 m c) (x3 m c)
/-- The down projection. -/
def ry : FVec Ideal S8192x1024 .f32 := val_main_v42 (F := Ideal) (x0 m c) (x1 m c) (x2 m c) (x3 m c) (x4 m c)
/-- The layer's output. -/
def rx : FVec Ideal S8192x1024 .f32 := val_main_v56 (F := Ideal) (x0 m c) (x1 m c) (x2 m c) (x3 m c) (x4 m c) (x5 m c)
/-- How far a row's output is from its target. -/
def re (i : Fin 8192) (k : Fin 1024) : EReal := rx m c (ix2 i k) - x6 m c (ix2 i k)
/-- A column of the up projection. -/
def col (j : Fin 5632) : Fin 8192 → EReal := fun i => ru m c (ix2 i j)

theorem rc_at (i : Fin 8192) (j : Fin 5632) : rc m c (ix2 i j)
    = x3 m c (ix2 0 j) * back (col m c j) i 2 + x3 m c (ix2 1 j) * back (col m c j) i 1 + x3 m c (ix2 2 j) * col m c j i :=
  v37_at (x0 m c) (x1 m c) (x2 m c) (x3 m c) i j

theorem ru_at (i : Fin 8192) (j : Fin 5632) : ru m c (ix2 i j)
    = ∑ k : Fin 1024, x0 m c (ix2 i k) * rms (fun k : Fin 1024 => x0 m c (ix2 i k)) * x1 m c (ix1 k) * x2 m c (ix2 k j) := by
  unfold ru rms
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem ra_at (i : Fin 8192) (j : Fin 2816) : ra m c (ix2 i j)
    = rc m c (ix2 i ⟨0 + j, by omega⟩) * sgm (rc m c (ix2 i ⟨0 + j, by omega⟩)) * rc m c (ix2 i ⟨2816 + j, by omega⟩) := by
  unfold ra rc sgm val_main_v41 val_main_v40 val_main_v39 val_main_call0_v5 val_main_call0_v4 val_main_call0_v3 val_main_call0_v2 val_main_call0_v1
    val_main_call0_v0 val_main_v38
  generalize val_main_v37 (F := Ideal) (x0 m c) (x1 m c) (x2 m c) (x3 m c) = v
  pointwise [val_main_call0_cst, val_main_call0_cst_0]
  simp only [EReal.coe_one]

theorem ry_at (i : Fin 8192) (j : Fin 1024) : ry m c (ix2 i j) = ∑ k : Fin 2816, ra m c (ix2 i k) * x4 m c (ix2 k j) := by
  unfold ry ra
  pointwise [val_main_v42]

theorem x3_ref (i : Fin 8192) (j : Fin 1024) : rx m c (ix2 i j)
    = x0 m c (ix2 i j) + ry m c (ix2 i j) * rms (fun k : Fin 1024 => ry m c (ix2 i k)) * x5 m c (ix1 j) := by
  unfold rx ry rms
  pointwise [val_main_v56, val_main_v55, val_main_v54, val_main_v53, val_main_v52, val_main_v51, val_main_v50, val_main_v49, val_main_v48, val_main_v47,
    val_main_v46, val_main_v45, val_main_v44, val_main_v43, val_main_cst_4, val_main_cst_5, val_main_cst_6]

/-- Half of two 1024ths is one. -/
theorem half_two (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  have hh : Ideal.ofBits .f32 0x3F000000#32 = ((1 / 2 : ℝ) : EReal) := by
    simp [Ideal.ofBits, Ideal.ieee, -EReal.coe_mul]; norm_num
  have hk : Ideal.ofBits .f32 0x3A800000#32 = ((1 / 1024 : ℝ) : EReal) := by
    simp [Ideal.ofBits, Ideal.ieee, -EReal.coe_mul]; norm_num
  rw [hh, hk, Cert.Reals.word_1, Cert.Reals.word_2, Cert.Reals.word_1024, ← EReal.coe_mul, Cert.Reals.div_coe _ _ (by norm_num), ← mul_assoc, ← EReal.coe_mul, mul_comm e]
  norm_num

theorem err_ref (i : Fin 8192) (j : Fin 1024) : val_main_v75 (F := Ideal) (x0 m c) (x1 m c) (x2 m c) (x3 m c) (x4 m c) (x5 m c) (x6 m c) (ix2 i j) = re m c i j * Ideal.ofBits .f32 0x3A800000#32 := by
  rw [← half_two]
  unfold re rx val_main_v75 val_main_v60 val_main_v57
  generalize val_main_v56 (F := Ideal) (x0 m c) (x1 m c) (x2 m c) (x3 m c) (x4 m c) (x5 m c) = v
  pointwise [val_main_v74, val_main_v73, val_main_v72, val_main_v71, val_main_v70, val_main_v59, val_main_cst_7, val_main_cst_12, val_main_cst_13,
    val_main_cst_14]

theorem loss_ref (k : Fin 8) (j : Fin 128) : val_main_v76 (F := Ideal) (x0 m c) (x1 m c) (x2 m c) (x3 m c) (x4 m c) (x5 m c) (x6 m c) (ix2 k j) = half * ∑ i : Fin 8192, msq (re m c i) := by
  unfold half msq re rx val_main_v76 val_main_v65 val_main_v64 val_main_v63 val_main_v61 val_main_v58 val_main_v57
  generalize val_main_v56 (F := Ideal) (x0 m c) (x1 m c) (x2 m c) (x3 m c) (x4 m c) (x5 m c) = v
  pointwise [val_main_v62, val_main_cst_8, val_main_cst_9, val_main_cst_10, val_main_cst_11]

/-- Half of a sum. -/
theorem half_sum {ι : Type} (s : Finset ι) (f : ι → EReal) : ∑ i ∈ s, half * f i = half * ∑ i ∈ s, f i := by
  have hh : half = ((1 / 2 : ℝ) : EReal) := by
    unfold half
    simp [Ideal.ofBits, Ideal.ieee, -EReal.coe_mul]; norm_num
  classical
  induction s using Finset.induction_on with
  | empty => simp
  | insert a s h ih => rw [Finset.sum_insert h, Finset.sum_insert h, ih, hh,
      EReal.left_distrib_of_nonneg_of_ne_top (EReal.coe_nonneg.2 (by norm_num)) (EReal.coe_ne_top _)]

/-- The row of the whole array that row `r` of block `t` is. -/
def row (t : Fin cfg0.N) (r : Fin 256) : Fin 8192 :=
  ⟨t.val * 256 + r, by have h : t.val < 32 := lt_of_lt_of_eq t.isLt N_0; omega⟩

/-- Which block each window holds at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

/-! ## The blocks -/

theorem host_g5 : V m c main_v0 = shapeCast S1x1024 (x1 m c) shapeCasts_S1024_S1x1024 := by
  unfold V
  after_reads_simp
  rfl

theorem host_g6 : V m c main_v1 = shapeCast S1x1024 (x5 m c) shapeCasts_S1024_S1x1024 := by
  unfold V
  after_reads_simp
  rfl

theorem host_wup : V m c main_v3 = transpose S5632x1024 [1, 0] (truncf .bf16 (x2 m c) bitsLt_bf16_f32) transposes_S1024x5632_S5632x1024_1_0 := by
  unfold V
  after_reads_simp

theorem host_wd : V m c main_v4 = truncf .bf16 (x4 m c) bitsLt_bf16_f32 := by
  unfold V
  after_reads_simp

section Block
variable (t : Fin cfg0.N)

theorem x_blk (r : Fin 256) (k : Fin 1024) : iblk m c 0 t (ix2 r k) = x0 m c (ix2 (row t r) k) := by
  blk_point [iblk, V, idx t, row]

theorem t_blk (r : Fin 256) (k : Fin 1024) : iblk m c 6 t (ix2 r k) = x6 m c (ix2 (row t r) k) := by
  blk_point [iblk, V, idx t, row]

theorem g5_blk (k : Fin 1024) : iblk m c 1 t (ix2 0 k) = x1 m c (ix1 k) := by
  have e := host_g5 m c
  generalize hG : shapeCast S1x1024 (x1 m c) shapeCasts_S1024_S1x1024 = G at e
  refine Eq.trans (b := G (ix2 0 k)) ?_ (by subst hG; pointwise [])
  rw [← e]
  blk_point [iblk, idx t]

theorem g6_blk (k : Fin 1024) : iblk m c 5 t (ix2 0 k) = x5 m c (ix1 k) := by
  have e := host_g6 m c
  generalize hG : shapeCast S1x1024 (x5 m c) shapeCasts_S1024_S1x1024 = G at e
  refine Eq.trans (b := G (ix2 0 k)) ?_ (by subst hG; pointwise [])
  rw [← e]
  blk_point [iblk, idx t]

theorem wup_blk (q : Fin 5632) (j : Fin 1024) : iblk m c 2 t (ix2 q j) = x2 m c (ix2 j q) := by
  have e := host_wup m c
  generalize hG : transpose S5632x1024 [1, 0] (truncf .bf16 (x2 m c) bitsLt_bf16_f32) transposes_S1024x5632_S5632x1024_1_0 = G at e
  refine Eq.trans (b := G (ix2 q j)) ?_ (by subst hG; pointwise [])
  rw [← e]
  blk_point [iblk, idx t]

theorem wc_blk (k : Fin 3) (q : Fin 5632) : iblk m c 3 t (ix2 k q) = x3 m c (ix2 k q) := by
  blk_point [iblk, V, idx t]

theorem wd_blk (q : Fin 2816) (j : Fin 1024) : iblk m c 4 t (ix2 q j) = x4 m c (ix2 q j) := by
  have e := host_wd m c
  generalize hG : truncf .bf16 (x4 m c) bitsLt_bf16_f32 = G at e
  refine Eq.trans (b := G (ix2 q j)) ?_ (by subst hG; pointwise [])
  rw [← e]
  blk_point [iblk, idx t]

/-- The up projection's block, from the filter's columns that a weight block holds. -/
theorem up_col {w : FVec Ideal S1408x1024 .bf16} {q : Fin 1408} {j : Fin 5632} (hw : ∀ k, w (ix2 q k) = x2 m c (ix2 k j)) (r : Fin 256) :
    up (hb m c t) w (ix2 r q) = col m c j (row t r) := by
  unfold col hb
  rw [up_at, ru_at]
  refine Finset.sum_congr rfl fun k _ => ?_
  rw [hb_at, hw]
  simp only [x_blk, g5_blk]

theorem wu0_at (q : Fin 1408) (k : Fin 1024) (j : Fin 5632) (hj : (j : ℕ) = 0 + q) : wu0 m c t (ix2 q k) = x2 m c (ix2 k j) :=
  (congrArg (iblk m c 2 t) (ix_at _ q k j k hj (by omega))).trans (wup_blk m c t _ k)

theorem cw00_at (q : Fin 1408) (j : Fin 5632) (hj : (j : ℕ) = 0 + q) : cw00 m c t (ix2 0 q) = x3 m c (ix2 0 j) :=
  (congrArg (iblk m c 3 t) (ix_at _ 0 q 0 j rfl hj)).trans (wc_blk m c t _ _)

theorem cw01_at (q : Fin 1408) (j : Fin 5632) (hj : (j : ℕ) = 0 + q) : cw01 m c t (ix2 0 q) = x3 m c (ix2 1 j) :=
  (congrArg (iblk m c 3 t) (ix_at _ 0 q 1 j rfl hj)).trans (wc_blk m c t _ _)

theorem cw02_at (q : Fin 1408) (j : Fin 5632) (hj : (j : ℕ) = 0 + q) : cw02 m c t (ix2 0 q) = x3 m c (ix2 2 j) :=
  (congrArg (iblk m c 3 t) (ix_at _ 0 q 2 j rfl hj)).trans (wc_blk m c t _ _)

theorem wu1_at (q : Fin 1408) (k : Fin 1024) (j : Fin 5632) (hj : (j : ℕ) = 1408 + q) : wu1 m c t (ix2 q k) = x2 m c (ix2 k j) :=
  (congrArg (iblk m c 2 t) (ix_at _ q k j k hj (by omega))).trans (wup_blk m c t _ k)

theorem cw10_at (q : Fin 1408) (j : Fin 5632) (hj : (j : ℕ) = 1408 + q) : cw10 m c t (ix2 0 q) = x3 m c (ix2 0 j) :=
  (congrArg (iblk m c 3 t) (ix_at _ 0 q 0 j rfl hj)).trans (wc_blk m c t _ _)

theorem cw11_at (q : Fin 1408) (j : Fin 5632) (hj : (j : ℕ) = 1408 + q) : cw11 m c t (ix2 0 q) = x3 m c (ix2 1 j) :=
  (congrArg (iblk m c 3 t) (ix_at _ 0 q 1 j rfl hj)).trans (wc_blk m c t _ _)

theorem cw12_at (q : Fin 1408) (j : Fin 5632) (hj : (j : ℕ) = 1408 + q) : cw12 m c t (ix2 0 q) = x3 m c (ix2 2 j) :=
  (congrArg (iblk m c 3 t) (ix_at _ 0 q 2 j rfl hj)).trans (wc_blk m c t _ _)

theorem wu2_at (q : Fin 1408) (k : Fin 1024) (j : Fin 5632) (hj : (j : ℕ) = 2816 + q) : wu2 m c t (ix2 q k) = x2 m c (ix2 k j) :=
  (congrArg (iblk m c 2 t) (ix_at _ q k j k hj (by omega))).trans (wup_blk m c t _ k)

theorem cw20_at (q : Fin 1408) (j : Fin 5632) (hj : (j : ℕ) = 2816 + q) : cw20 m c t (ix2 0 q) = x3 m c (ix2 0 j) :=
  (congrArg (iblk m c 3 t) (ix_at _ 0 q 0 j rfl hj)).trans (wc_blk m c t _ _)

theorem cw21_at (q : Fin 1408) (j : Fin 5632) (hj : (j : ℕ) = 2816 + q) : cw21 m c t (ix2 0 q) = x3 m c (ix2 1 j) :=
  (congrArg (iblk m c 3 t) (ix_at _ 0 q 1 j rfl hj)).trans (wc_blk m c t _ _)

theorem cw22_at (q : Fin 1408) (j : Fin 5632) (hj : (j : ℕ) = 2816 + q) : cw22 m c t (ix2 0 q) = x3 m c (ix2 2 j) :=
  (congrArg (iblk m c 3 t) (ix_at _ 0 q 2 j rfl hj)).trans (wc_blk m c t _ _)

theorem wu3_at (q : Fin 1408) (k : Fin 1024) (j : Fin 5632) (hj : (j : ℕ) = 4224 + q) : wu3 m c t (ix2 q k) = x2 m c (ix2 k j) :=
  (congrArg (iblk m c 2 t) (ix_at _ q k j k hj (by omega))).trans (wup_blk m c t _ k)

theorem cw30_at (q : Fin 1408) (j : Fin 5632) (hj : (j : ℕ) = 4224 + q) : cw30 m c t (ix2 0 q) = x3 m c (ix2 0 j) :=
  (congrArg (iblk m c 3 t) (ix_at _ 0 q 0 j rfl hj)).trans (wc_blk m c t _ _)

theorem cw31_at (q : Fin 1408) (j : Fin 5632) (hj : (j : ℕ) = 4224 + q) : cw31 m c t (ix2 0 q) = x3 m c (ix2 1 j) :=
  (congrArg (iblk m c 3 t) (ix_at _ 0 q 1 j rfl hj)).trans (wc_blk m c t _ _)

theorem cw32_at (q : Fin 1408) (j : Fin 5632) (hj : (j : ℕ) = 4224 + q) : cw32 m c t (ix2 0 q) = x3 m c (ix2 2 j) :=
  (congrArg (iblk m c 3 t) (ix_at _ 0 q 2 j rfl hj)).trans (wc_blk m c t _ _)

/-! ## Moving rows down -/

theorem shift1_at (r p : Fin 256) : shift (ix2 ⟨r, by omega⟩ p) = if (p : ℕ) + 1 = r then 1 else 0 := by
  unfold shift
  refine (canon_skip _ _ _ _ (Or.inl ?_)).trans ((canon_hit _ _ _ _ r p ?_ ?_).trans (down1_at r p))
  · show (r : ℕ) < 256
    omega
  · show (r : ℕ) = 0 + r
    omega
  · omega

theorem shift2_at (r p : Fin 256) : shift (ix2 ⟨256 + r, by omega⟩ p) = if (p : ℕ) + 2 = r then 1 else 0 := by
  unfold shift
  refine (canon_hit _ _ _ _ r p ?_ ?_).trans (down2_at r p)
  · rfl
  · omega

/-! ## One block of columns of the convolution -/

section Column
variable {w : FVec Ideal S1408x1024 .bf16} {w0 w1 w2 a b : FVec Ideal S1x1408 .f32} {q : Fin 1408} {j : Fin 5632}
  (hw : ∀ k, w (ix2 q k) = x2 m c (ix2 k j)) (h0 : w0 (ix2 0 q) = x3 m c (ix2 0 j)) (h1 : w1 (ix2 0 q) = x3 m c (ix2 1 j))
  (h2 : w2 (ix2 0 q) = x3 m c (ix2 2 j)) (ha : a (ix2 0 q) = back (col m c j) (t.val * 256) 1) (hc : b (ix2 0 q) = back (col m c j) (t.val * 256) 2)
include hw h0 h1 h2

/-- The rows that the block itself enters. -/
theorem part_col (r : Fin 256) : k0_pay22 (hb m c t) w0 w1 w2 w shift (ix2 r q)
    = x3 m c (ix2 0 j) * (if 2 ≤ (r : ℕ) then back (col m c j) (row t r) 2 else 0)
      + x3 m c (ix2 1 j) * (if 1 ≤ (r : ℕ) then back (col m c j) (row t r) 1 else 0) + x3 m c (ix2 2 j) * col m c j (row t r) := by
  rw [top18_at, h0, h1, h2]
  simp only [up_col m c t hw, shift1_at, shift2_at]
  rw [sum_down r 2 (fun p => col m c j (row t p)), sum_down r 1 (fun p => col m c j (row t p))]
  congr 3
  · split
    · rename_i h
      exact (back_of _ _ _ _ (by show t.val * 256 + ((r : ℕ) - 2) + 2 = t.val * 256 + r; omega)).symm
    · rfl
  · split
    · rename_i h
      exact (back_of _ _ _ _ (by show t.val * 256 + ((r : ℕ) - 1) + 1 = t.val * 256 + r; omega)).symm
    · rfl

theorem top_col (r : Fin 256) (hr : 16 ≤ (r : ℕ)) : top (hb m c t) w0 w1 w2 w shift (ix2 r q) = rc m c (ix2 (row t r) j) := by
  rw [top_at, part_col m c t hw h0 h1 h2, rc_at, if_pos (by omega), if_pos (by omega)]

include ha hc in
theorem edge_col (r : Fin 16) : edge (hb m c t) w0 w1 w2 w shift a b (ix2 r q) = rc m c (ix2 (row t ⟨r, by omega⟩) j) := by
  rw [edge_at, part_col m c t hw h0 h1 h2, rc_at, h0, h1, ha, hc]
  by_cases e0 : (r : ℕ) = 0
  · have er : ((row t ⟨r, by omega⟩ : Fin 8192) : ℕ) = t.val * 256 := by show t.val * 256 + (r : ℕ) = _; omega
    rw [if_neg (by simp only; omega), if_neg (by simp only; omega), if_pos e0, if_pos e0, mul_zero, mul_zero, zero_add, zero_add, er]
    exact turn _ _ _
  · by_cases e1 : (r : ℕ) = 1
    · have er : back (col m c j) ((row t ⟨r, by omega⟩ : Fin 8192) : ℕ) 2 = back (col m c j) (t.val * 256) 1 := by
        rw [← Cert.Reference6Ideal.Ffn.back_shift (col m c j) (t.val * 256) 1 1]
        congr 1
        show t.val * 256 + (r : ℕ) = _
        omega
      rw [if_neg (by simp only; omega), if_pos (by simp only; omega), if_neg e0, if_neg e0, if_pos e1, mul_zero, mul_zero, zero_add, add_zero, er]
      exact (add_comm _ _).trans (add_assoc _ _ _).symm
    · rw [if_pos (by simp only; omega), if_pos (by simp only; omega), if_neg e0, if_neg e0, if_neg e1, mul_zero, mul_zero, add_zero, add_zero]

end Column

/-! ## The stores -/

section Stores
variable (K : FVec Ideal S8x5632 .f32) (hK : ∀ (k : Fin 8) (j : Fin 5632), K (ix2 k j) = back (col m c j) (t.val * 256) (8 - k))
include hK

theorem near_at {o : ℕ} (inb : ∀ k : Fin 2, (![7, o] : Fin 2 → ℕ) k + (![1, 1408] : Fin 2 → ℕ) k ≤ (![8, 5632] : Fin 2 → ℕ) k) (q : Fin 1408) (j : Fin 5632)
    (hj : (j : ℕ) = o + q) : View.ld (Val := Elt Ideal) (e' := .f32) K (Rect.unit (s := S8x5632) ![7, o] ![1, 1408] inb) (ix2 0 q)
    = back (col m c j) (t.val * 256) 1 :=
  (congrArg K (ix_at inb 0 q 7 j rfl hj)).trans (hK 7 j)

theorem far_at {o : ℕ} (inb : ∀ k : Fin 2, (![6, o] : Fin 2 → ℕ) k + (![1, 1408] : Fin 2 → ℕ) k ≤ (![8, 5632] : Fin 2 → ℕ) k) (q : Fin 1408) (j : Fin 5632)
    (hj : (j : ℕ) = o + q) : View.ld (Val := Elt Ideal) (e' := .f32) K (Rect.unit (s := S8x5632) ![6, o] ![1, 1408] inb) (ix2 0 q)
    = back (col m c j) (t.val * 256) 2 :=
  (congrArg K (ix_at inb 0 q 6 j rfl hj)).trans (hK 6 j)

theorem hit0 (r : Fin 256) (q : Fin 1408) (j : Fin 5632) (hj : (j : ℕ) = 0 + q) :
    View.canon (cL0 m c t K shift) (ix2 r j) = rc m c (ix2 (row t r) j) := by
  unfold cL0
  exact two_hit _ _ _ r q j hj _
    (fun h => edge_col m c t (fun k => wu0_at m c t q k j hj) (cw00_at m c t q j hj) (cw01_at m c t q j hj) (cw02_at m c t q j hj) (near_at m c t K hK _ q j hj)
      (far_at m c t K hK _ q j hj) ⟨r, h⟩)
    (fun h => top_col m c t (fun k => wu0_at m c t q k j hj) (cw00_at m c t q j hj) (cw01_at m c t q j hj) (cw02_at m c t q j hj) r h)

theorem cv0_at (r : Fin 256) (q : Fin 1408) (j : Fin 5632) (hj : (j : ℕ) = 0 + q) : cv0 m c t K shift (ix2 r q) = rc m c (ix2 (row t r) j) :=
  (congrArg (View.canon (cL0 m c t K shift)) (ix_at _ r q r j (by omega) hj)).trans (hit0 m c t K hK r q j hj)

theorem hit2 (r : Fin 256) (q : Fin 1408) (j : Fin 5632) (hj : (j : ℕ) = 2816 + q) :
    View.canon (cL1 m c t K shift) (ix2 r j) = rc m c (ix2 (row t r) j) := by
  unfold cL1
  exact two_hit _ _ _ r q j hj _
    (fun h => edge_col m c t (fun k => wu2_at m c t q k j hj) (cw20_at m c t q j hj) (cw21_at m c t q j hj) (cw22_at m c t q j hj) (near_at m c t K hK _ q j hj)
      (far_at m c t K hK _ q j hj) ⟨r, h⟩)
    (fun h => top_col m c t (fun k => wu2_at m c t q k j hj) (cw20_at m c t q j hj) (cw21_at m c t q j hj) (cw22_at m c t q j hj) r h)

theorem cv2_at (r : Fin 256) (q : Fin 1408) (j : Fin 5632) (hj : (j : ℕ) = 2816 + q) : cv2 m c t K shift (ix2 r q) = rc m c (ix2 (row t r) j) :=
  (congrArg (View.canon (cL1 m c t K shift)) (ix_at _ r q r j (by omega) hj)).trans (hit2 m c t K hK r q j hj)

theorem hit1 (r : Fin 256) (q : Fin 1408) (j : Fin 5632) (hj : (j : ℕ) = 1408 + q) :
    View.canon (cL2 m c t K shift) (ix2 r j) = rc m c (ix2 (row t r) j) := by
  unfold cL2
  exact two_hit _ _ _ r q j hj _
    (fun h => edge_col m c t (fun k => wu1_at m c t q k j hj) (cw10_at m c t q j hj) (cw11_at m c t q j hj) (cw12_at m c t q j hj) (near_at m c t K hK _ q j hj)
      (far_at m c t K hK _ q j hj) ⟨r, h⟩)
    (fun h => top_col m c t (fun k => wu1_at m c t q k j hj) (cw10_at m c t q j hj) (cw11_at m c t q j hj) (cw12_at m c t q j hj) r h)

theorem cv1_at (r : Fin 256) (q : Fin 1408) (j : Fin 5632) (hj : (j : ℕ) = 1408 + q) : cv1 m c t K shift (ix2 r q) = rc m c (ix2 (row t r) j) :=
  (congrArg (View.canon (cL2 m c t K shift)) (ix_at _ r q r j (by omega) hj)).trans (hit1 m c t K hK r q j hj)

theorem hit3 (r : Fin 256) (q : Fin 1408) (j : Fin 5632) (hj : (j : ℕ) = 4224 + q) :
    View.canon (cL3 m c t K shift) (ix2 r j) = rc m c (ix2 (row t r) j) := by
  unfold cL3
  exact two_hit _ _ _ r q j hj _
    (fun h => edge_col m c t (fun k => wu3_at m c t q k j hj) (cw30_at m c t q j hj) (cw31_at m c t q j hj) (cw32_at m c t q j hj) (near_at m c t K hK _ q j hj)
      (far_at m c t K hK _ q j hj) ⟨r, h⟩)
    (fun h => top_col m c t (fun k => wu3_at m c t q k j hj) (cw30_at m c t q j hj) (cw31_at m c t q j hj) (cw32_at m c t q j hj) r h)

theorem cv3_at (r : Fin 256) (q : Fin 1408) (j : Fin 5632) (hj : (j : ℕ) = 4224 + q) : cv3 m c t K shift (ix2 r q) = rc m c (ix2 (row t r) j) :=
  (congrArg (View.canon (cL3 m c t K shift)) (ix_at _ r q r j (by omega) hj)).trans (hit3 m c t K hK r q j hj)

/-- The convolution's block. -/
theorem c_at (r : Fin 256) (j : Fin 5632) : View.canon (cL3 m c t K shift) (ix2 r j) = rc m c (ix2 (row t r) j) := by
  by_cases h3 : 4224 ≤ (j : ℕ)
  · exact hit3 m c t K hK r ⟨j - 4224, by omega⟩ j (by simp only; omega)
  · refine two_skip _ _ _ r j (by omega) _ ?_
    by_cases h1 : 1408 ≤ (j : ℕ) ∧ (j : ℕ) < 2816
    · exact hit1 m c t K hK r ⟨j - 1408, by omega⟩ j (by simp only; omega)
    · refine two_skip _ _ _ r j (by omega) _ ?_
      by_cases h2 : 2816 ≤ (j : ℕ)
      · exact hit2 m c t K hK r ⟨j - 2816, by omega⟩ j (by simp only; omega)
      · exact two_skip _ _ _ r j (by omega) _ (hit0 m c t K hK r ⟨j, by omega⟩ j (by simp only; omega))

/-- The gated values' block. -/
theorem a_at (r : Fin 256) (j : Fin 2816) : View.canon (aL m c t K shift) (ix2 r j) = ra m c (ix2 (row t r) j) := by
  unfold aL
  rw [ra_at]
  by_cases h : 1408 ≤ (j : ℕ)
  · refine (canon_hit _ _ r j r ⟨j - 1408, by omega⟩ (by omega) (by simp only; omega)).trans ?_
    rw [gated_at, cv1_at m c t K hK r _ ⟨0 + j, by omega⟩ (by show 0 + (j : ℕ) = 1408 + (j - 1408); omega),
      cv3_at m c t K hK r _ ⟨2816 + j, by omega⟩ (by show 2816 + (j : ℕ) = 4224 + (j - 1408); omega)]
  · refine (canon_skip _ _ r j (Or.inr (Or.inr (by omega)))).trans ((canon_hit _ _ r j r ⟨j, by omega⟩ (by omega) (by simp only; omega)).trans ?_)
    rw [gated_at, cv0_at m c t K hK r _ ⟨0 + j, by omega⟩ rfl, cv2_at m c t K hK r _ ⟨2816 + j, by omega⟩ rfl]

end Stores

/-- The up projection's block. -/
theorem u_at (r : Fin 256) (j : Fin 5632) : View.canon (uL m c t) (ix2 r j) = col m c j (row t r) := by
  unfold uL
  by_cases h3 : 4224 ≤ (j : ℕ)
  · exact (canon_hit _ _ r j r ⟨j - 4224, by omega⟩ (by omega) (by simp only; omega)).trans (up_col m c t (fun k => wu3_at m c t _ k j (by show (j : ℕ) = 4224 + (j - 4224); omega)) r)
  · refine (canon_skip _ _ r j (by omega)).trans ?_
    by_cases h1 : 1408 ≤ (j : ℕ) ∧ (j : ℕ) < 2816
    · exact (canon_hit _ _ r j r ⟨j - 1408, by omega⟩ (by omega) (by simp only; omega)).trans (up_col m c t (fun k => wu1_at m c t _ k j (by show (j : ℕ) = 1408 + (j - 1408); omega)) r)
    · refine (canon_skip _ _ r j (by omega)).trans ?_
      by_cases h2 : 2816 ≤ (j : ℕ)
      · exact (canon_hit _ _ r j r ⟨j - 2816, by omega⟩ (by omega) (by simp only; omega)).trans (up_col m c t (fun k => wu2_at m c t _ k j (by show (j : ℕ) = 2816 + (j - 2816); omega)) r)
      · exact (canon_skip _ _ r j (by omega)).trans ((canon_hit _ _ r j r ⟨j, by omega⟩ (by omega) (by simp only; omega)).trans (up_col m c t (fun k => wu0_at m c t _ k j (by show (j : ℕ) = 0 + j; omega)) r))

/-- The rows kept. -/
theorem keep_at (L : List (View.Piece (Elt Ideal) S8x5632 .f32)) (k : Fin 8) (j : Fin 5632) :
    View.canon (keepL m c t ++ L) (ix2 k j) = col m c j (row t ⟨248 + k, by omega⟩) := by
  unfold keepL
  by_cases h3 : 4224 ≤ (j : ℕ)
  · exact (canon_hit _ _ k j k ⟨j - 4224, by omega⟩ (by omega) (by simp only; omega)).trans ((kept_at _ _ _ _).trans (up_col m c t (fun k => wu3_at m c t _ k j (by show (j : ℕ) = 4224 + (j - 4224); omega)) _))
  · refine (canon_skip _ _ k j (by omega)).trans ?_
    by_cases h1 : 1408 ≤ (j : ℕ) ∧ (j : ℕ) < 2816
    · exact (canon_hit _ _ k j k ⟨j - 1408, by omega⟩ (by omega) (by simp only; omega)).trans ((kept_at _ _ _ _).trans (up_col m c t (fun k => wu1_at m c t _ k j (by show (j : ℕ) = 1408 + (j - 1408); omega)) _))
    · refine (canon_skip _ _ k j (by omega)).trans ?_
      by_cases h2 : 2816 ≤ (j : ℕ)
      · exact (canon_hit _ _ k j k ⟨j - 2816, by omega⟩ (by omega) (by simp only; omega)).trans ((kept_at _ _ _ _).trans (up_col m c t (fun k => wu2_at m c t _ k j (by show (j : ℕ) = 2816 + (j - 2816); omega)) _))
      · exact (canon_skip _ _ k j (by omega)).trans ((canon_hit _ _ k j k ⟨j, by omega⟩ (by omega) (by simp only; omega)).trans ((kept_at _ _ _ _).trans (up_col m c t (fun k => wu0_at m c t _ k j (by show (j : ℕ) = 0 + j; omega)) _)))

end Block

end Cert.Kernel7Ideal.Ffn
-- ==== Proof.GlValue.lean ====
/- The feed-forward's forward call with the loss, point after point, and its results: the claims of the pair. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.GlBlock
public import Idealize.ShloMosaic.Lib.Claim

@[expose] public section

set_option maxRecDepth 16384

noncomputable section

namespace Cert.Kernel7Ideal.Ffn

open Cert.Kernel7Ideal Cert.Kernel7Ideal.Gen Idealize.ShloMosaic Idealize.ShloMosaic.TcCoe Idealize.SL.Sem
open Cert.Reference7Ideal.Read
open Cert.Reference6Ideal.Ffn (eq2 back back_of back_zero)
open Cert.Kernel6Ideal.Ffn (rms)

variable (m : (ℓ : Loc nD τ sig) → Buf (Elt Ideal) ℓ) (c : Dev nD)

/-! ## What is carried from block to block -/

theorem lt32 (t : Fin cfg0.N) : t.val < 32 := lt_of_lt_of_eq t.isLt N_0

theorem shift_all : ∀ (n : ℕ) (h : n < cfg0.N), (outsAt0 m c n h).2.2.2.2.2.2.2 = shift
  | 0, h => shift_A m c ⟨0, h⟩ rfl
  | n + 1, h => (shift_B m c ⟨n + 1, h⟩ (by have := lt32 ⟨n + 1, h⟩; show ¬(n + 1) % 32 = 0; dsimp only at this; omega)).trans (shift_all n _)

theorem keep_all (t : Fin cfg0.N) (k : Fin 8) (j : Fin 5632) :
    (outsAt0 m c t.val t.isLt).2.2.2.2.2.2.1 (ix2 k j) = col m c j (row t ⟨248 + k, by omega⟩) := by
  by_cases h : t.val % 32 = 0
  · rw [keep_A m c t h]
    exact keep_at m c t _ k j
  · rw [keep_B m c t h, ← List.append_nil (keepL m c t)]
    exact keep_at m c t _ k j

section Point
variable (t : Fin cfg0.N)

theorem keep_before (h : ¬t.val % 32 = 0) (k : Fin 8) (j : Fin 5632) :
    (prev m c t).2.2.2.2.2.2.1 (ix2 k j) = back (col m c j) (t.val * 256) (8 - k) := by
  have ht := lt32 t
  refine (keep_all m c ⟨t.val - 1, Nat.lt_of_le_of_lt (Nat.sub_le t.val 1) t.isLt⟩ k j).trans (back_of _ _ _ _ ?_).symm
  show (t.val - 1) * 256 + (248 + (k : ℕ)) + (8 - k) = t.val * 256
  omega

theorem keep_none (h : t.val % 32 = 0) (k : Fin 8) (j : Fin 5632) :
    k0_pay4 (F := Ideal) (ix2 k j) = back (col m c j) (t.val * 256) (8 - k) := by
  have ht := lt32 t
  rw [none_at, back_zero _ _ _ (by omega)]

theorem u_pt (r : Fin 256) (j : Fin 5632) : (outsAt0 m c t.val t.isLt).1 (ix2 r j) = ru m c (ix2 (row t r) j) := by
  refine Eq.trans ?_ (u_at m c t r j)
  by_cases h : t.val % 32 = 0
  · rw [u_A m c t h]
  · rw [u_B m c t h]

theorem c_pt (r : Fin 256) (j : Fin 5632) : (outsAt0 m c t.val t.isLt).2.1 (ix2 r j) = rc m c (ix2 (row t r) j) := by
  by_cases h : t.val % 32 = 0
  · rw [c_A m c t h]
    exact c_at m c t _ (keep_none m c t h) r j
  · rw [c_B m c t h, shift_all m c]
    exact c_at m c t _ (keep_before m c t h) r j

theorem a_pt (r : Fin 256) (j : Fin 2816) : (outsAt0 m c t.val t.isLt).2.2.1 (ix2 r j) = ra m c (ix2 (row t r) j) := by
  by_cases h : t.val % 32 = 0
  · rw [a_A m c t h]
    exact a_at m c t _ (keep_none m c t h) r j
  · rw [a_B m c t h, shift_all m c]
    exact a_at m c t _ (keep_before m c t h) r j

theorem y_a : (outsAt0 m c t.val t.isLt).2.2.2.1 = k0_pay49 (outsAt0 m c t.val t.isLt).2.2.1 (iblk m c 4 t) := by
  by_cases h : t.val % 32 = 0
  · rw [y_A m c t h, a_A m c t h]
  · rw [y_B m c t h, a_B m c t h]

theorem err_a : (outsAt0 m c t.val t.isLt).2.2.2.2.1 = k0_pay2 (k0_pay50 (iblk m c 0 t) (outsAt0 m c t.val t.isLt).2.2.1 (iblk m c 4 t) (iblk m c 5 t)) (iblk m c 6 t) := by
  by_cases h : t.val % 32 = 0
  · rw [err_A m c t h, a_A m c t h]
  · rw [err_B m c t h, a_B m c t h]

theorem y_row (r : Fin 256) (j : Fin 1024) :
    k0_pay49 (F := Ideal) (outsAt0 m c t.val t.isLt).2.2.1 (iblk m c 4 t) (ix2 r j) = ry m c (ix2 (row t r) j) := by
  rw [y_at, ry_at]
  exact Finset.sum_congr rfl fun q _ => congrArg₂ (· * ·) (a_pt m c t r q) (wd_blk m c t q j)

theorem y_pt (r : Fin 256) (j : Fin 1024) : (outsAt0 m c t.val t.isLt).2.2.2.1 (ix2 r j) = ry m c (ix2 (row t r) j) := by
  rw [y_a m c t]
  exact y_row m c t r j

theorem x3_row (r : Fin 256) (j : Fin 1024) : k0_pay50 (F := Ideal) (iblk m c 0 t) (outsAt0 m c t.val t.isLt).2.2.1 (iblk m c 4 t) (iblk m c 5 t) (ix2 r j)
    = rx m c (ix2 (row t r) j) := by
  rw [x3_at, x3_ref]
  simp only [y_row m c t, x_blk, g6_blk]

theorem err_pt (r : Fin 256) (j : Fin 1024) : (outsAt0 m c t.val t.isLt).2.2.2.2.1 (ix2 r j)
    = val_main_v75 (F := Ideal) (x0 m c) (x1 m c) (x2 m c) (x3 m c) (x4 m c) (x5 m c) (x6 m c) (ix2 (row t r) j) := by
  rw [err_a m c t, err_at, err_ref, x3_row m c t, t_blk]
  rfl

/-- What a block of rows adds to the loss. -/
def lossT (t : Fin cfg0.N) : EReal := half * ∑ r : Fin 256, msq (re m c (row t r))

theorem loss_term (L : FVec Ideal S8x128 .f32) (k : Fin 8) (j : Fin 128) :
    k0_pay3 (F := Ideal) (k0_pay50 (iblk m c 0 t) (outsAt0 m c t.val t.isLt).2.2.1 (iblk m c 4 t) (iblk m c 5 t)) (iblk m c 6 t) L (ix2 k j) = L (ix2 k j) + lossT m c t := by
  rw [loss_at]
  simp only [x3_row m c t, t_blk]
  rfl

theorem loss_first (h : t.val % 32 = 0) (k : Fin 8) (j : Fin 128) : (outsAt0 m c t.val t.isLt).2.2.2.2.2.1 (ix2 k j) = lossT m c t := by
  have e := loss_term m c t (k0_pay7 (F := Ideal)) k j
  rw [a_A m c t h, zero_at, zero_add] at e
  rw [loss_A m c t h]
  exact e

theorem loss_next (h : ¬t.val % 32 = 0) (k : Fin 8) (j : Fin 128) :
    (outsAt0 m c t.val t.isLt).2.2.2.2.2.1 (ix2 k j) = (prev m c t).2.2.2.2.2.1 (ix2 k j) + lossT m c t := by
  have e := loss_term m c t (prev m c t).2.2.2.2.2.1 k j
  rw [a_B m c t h] at e
  rw [loss_B m c t h]
  exact e

end Point

/-- The rows of the blocks are the rows of the array, each once. -/
theorem rows_sum (f : Fin 8192 → EReal) : ∑ t : Fin cfg0.N, ∑ r : Fin 256, f (row t r) = ∑ i, f i := by
  refine (Fin.sum_points_lanes_congr (A := 1) (L := 8192) 32 (g := fun _ l => f l) (fun t k ha hl => congrArg f (Fin.ext ?_)) N_0 rfl).trans (Fin.sum_univ_one _)
  have h : t.val < 32 := lt32 t
  show t.val * 256 + k.val = t.val % 32 * 256 + k.val
  omega

theorem loss_sum (t : Fin cfg0.N) (ht : t.val = 31) (k : Fin 8) (j : Fin 128) : (outsAt0 m c t.val t.isLt).2.2.2.2.2.1 (ix2 k j)
    = val_main_v76 (F := Ideal) (x0 m c) (x1 m c) (x2 m c) (x3 m c) (x4 m c) (x5 m c) (x6 m c) (ix2 k j) := by
  refine (Pipeline.eq_sum_fin_of_reset_step_apply_last (fun n h (i : Fin 8 × Fin 128) => (outsAt0 m c n h).2.2.2.2.2.1 (ix2 i.1 i.2)) 32 (fun _ => 0)
    (fun t _ => lossT m c t) (fun t h i => ?_) (fun t h i => ?_) (le_of_eq N_0) t (by rw [ht]; exact N_0.symm) (k, j)).trans ?_
  · rw [zero_add]
    exact loss_first m c t h i.1 i.2
  · exact loss_next m c t h i.1 i.2
  · rw [zero_add, loss_ref]
    unfold lossT
    rw [half_sum, rows_sum fun i => msq (re m c i)]

/-! ## The results -/

/-- The last point. -/
def last : Fin grid0.N := ⟨31, by rw [N_0]; decide⟩

theorem final7 : (dats m 0 c).arrAt 7 (cfgs 0).N = val_main_v66 (F := Ideal) (x0 m c) (x1 m c) (x2 m c) := by
  refine (dats m 0 c).arrAt_eq_of_covers 7 _ (by decide +kernel) fun t hf y => ?_
  blk_simp
  rw [after0_7]
  refine (congrArg _ (eq2 y (y 0) (y 1) rfl rfl)).trans ((u_pt m c t (y 0) (y 1)).trans ?_)
  unfold ru val_main_v66
  generalize val_main_v13 (F := Ideal) (x0 m c) (x1 m c) (x2 m c) = v
  blk_point [idx t, row]

theorem final8 : (dats m 0 c).arrAt 8 (cfgs 0).N = val_main_v67 (F := Ideal) (x0 m c) (x1 m c) (x2 m c) (x3 m c) := by
  refine (dats m 0 c).arrAt_eq_of_covers 8 _ (by decide +kernel) fun t hf y => ?_
  blk_simp
  rw [after0_8]
  refine (congrArg _ (eq2 y (y 0) (y 1) rfl rfl)).trans ((c_pt m c t (y 0) (y 1)).trans ?_)
  unfold rc val_main_v67
  generalize val_main_v37 (F := Ideal) (x0 m c) (x1 m c) (x2 m c) (x3 m c) = v
  blk_point [idx t, row]

theorem final9 : (dats m 0 c).arrAt 9 (cfgs 0).N = val_main_v68 (F := Ideal) (x0 m c) (x1 m c) (x2 m c) (x3 m c) := by
  refine (dats m 0 c).arrAt_eq_of_covers 9 _ (by decide +kernel) fun t hf y => ?_
  blk_simp
  rw [after0_9]
  refine (congrArg _ (eq2 y (y 0) (y 1) rfl rfl)).trans ((a_pt m c t (y 0) (y 1)).trans ?_)
  unfold ra val_main_v68
  generalize val_main_v41 (F := Ideal) (x0 m c) (x1 m c) (x2 m c) (x3 m c) = v
  blk_point [idx t, row]

theorem final10 : (dats m 0 c).arrAt 10 (cfgs 0).N = val_main_v69 (F := Ideal) (x0 m c) (x1 m c) (x2 m c) (x3 m c) (x4 m c) := by
  refine (dats m 0 c).arrAt_eq_of_covers 10 _ (by decide +kernel) fun t hf y => ?_
  blk_simp
  rw [after0_10]
  refine (congrArg _ (eq2 y (y 0) (y 1) rfl rfl)).trans ((y_pt m c t (y 0) (y 1)).trans ?_)
  unfold ry val_main_v69
  generalize val_main_v42 (F := Ideal) (x0 m c) (x1 m c) (x2 m c) (x3 m c) (x4 m c) = v
  blk_point [idx t, row]

theorem final11 : (dats m 0 c).arrAt 11 (cfgs 0).N = val_main_v75 (F := Ideal) (x0 m c) (x1 m c) (x2 m c) (x3 m c) (x4 m c) (x5 m c) (x6 m c) := by
  refine (dats m 0 c).arrAt_eq_of_covers 11 _ (by decide +kernel) fun t hf y => ?_
  blk_simp
  rw [after0_11]
  refine (congrArg _ (eq2 y (y 0) (y 1) rfl rfl)).trans ((err_pt m c t (y 0) (y 1)).trans ?_)
  generalize val_main_v75 (F := Ideal) (x0 m c) (x1 m c) (x2 m c) (x3 m c) (x4 m c) (x5 m c) (x6 m c) = v
  blk_point [idx t, row]

theorem final12 : (dats m 0 c).arrAt 12 (cfgs 0).N = val_main_v76 (F := Ideal) (x0 m c) (x1 m c) (x2 m c) (x3 m c) (x4 m c) (x5 m c) (x6 m c) := by
  refine (dats m 0 c).arrAt_eq_of_after_last 12 last (by decide +kernel) _ fun j => ?_
  blk_simp
  rw [after0_12]
  refine (congrArg _ (eq2 j (j 0) (j 1) rfl rfl)).trans ((loss_sum m c last rfl (j 0) (j 1)).trans ?_)
  generalize val_main_v76 (F := Ideal) (x0 m c) (x1 m c) (x2 m c) (x3 m c) (x4 m c) (x5 m c) (x6 m c) = v
  blk_point [idx last]

end Cert.Kernel7Ideal.Ffn

namespace Cert.Proof

open Idealize.ShloMosaic Idealize.ShloMosaic.TcCoe Idealize.SL.Sem
open Cert.Kernel7Ideal.Gen Cert.Reference7Ideal.Read

set_option maxHeartbeats 1600000 in
theorem gl_algebraic : Cert.algebraic_Kernel7Ideal_Reference7Ideal := by
  pair_intro
  · run_from Cert.Kernel7Ideal.Gen.run_main m g
  · run_from Cert.Reference7Ideal.Value.run m' g'
    · exact (Cert.Kernel7Ideal.Ffn.final7 m c).symm
    · simp only [val_main_v67_eq m' c, hagree c]
      exact (Cert.Kernel7Ideal.Ffn.final8 m c).symm
    · simp only [val_main_v68_eq m' c, hagree c]
      exact (Cert.Kernel7Ideal.Ffn.final9 m c).symm
    · simp only [val_main_v69_eq m' c, hagree c]
      exact (Cert.Kernel7Ideal.Ffn.final10 m c).symm
    · simp only [val_main_v75_eq m' c, hagree c]
      exact (Cert.Kernel7Ideal.Ffn.final11 m c).symm
    · simp only [val_main_v76_eq m' c, hagree c]
      exact (Cert.Kernel7Ideal.Ffn.final12 m c).symm

/-- The reference of the feed-forward's forward call with the loss runs and leaves its arguments and its counters alone. -/
theorem gl_reference_frame : Cert.quiescent_Reference7Ideal := fun m ρ _ =>
  (θ_run Cert.Reference7Ideal.defs _ _).mono (fun r h => ⟨fun c => (h c).2.2.2.2.2.2,
      Idealize.ShloMosaic.sem_eq_zero_of_no_sems (by decide) r.2⟩)
    (Cert.Reference7Ideal.Value.run (F := Ideal) m ρ)

end Cert.Proof

end
-- ==== Proof.MsOut.lean ====
/- The mixer's forward call at one block of rows: what z, cv and the scratch behind cv hold, in terms of the blocks read. -/
module

public import proofs.«01_k».proof.Proof.Gen.Kernel8Ideal.Value
public import Idealize.ShloMosaic.Lib.Pipeline.ReadBack
public import Idealize.ShloMosaic.Lib.Pipeline.ValueKit

@[expose] public section

set_option maxRecDepth 16384

noncomputable section

namespace Cert.Kernel8Ideal.Mix

open Cert.Kernel8Ideal Cert.Kernel8Ideal.Gen Idealize.ShloMosaic Idealize.ShloMosaic.TcCoe Idealize.SL.Sem

variable (m : (ℓ : Loc nD τ sig) → Buf (Elt Ideal) ℓ) (c : Dev nD) (t : Fin cfg0.N)

/-- The projection of the block's rows. -/
def pz : FVec Ideal S512x2176 .f32 := k0_pay18 (iblk m c 0 t) (iblk m c 1 t) (iblk m c 2 t)

/-- The stores into the convolution's rows: `K` the rows kept of the block before. -/
def sL (K : FVec Ideal S32x384 .f32) : List (View.Piece (Elt Ideal) S544x384 .f32) :=
  [(⟨Rect.unit (s := S544x384) ![32, 0] ![512, 384] inb_S544x384_S512x384_32_0, k0_pay25 (pz m c t)⟩ : View.Piece (Elt Ideal) S544x384 .f32),
    (⟨Rect.unit (s := S544x384) ![0, 0] ![32, 384] inb_S544x384_S32x384_0_0, K⟩ : View.Piece (Elt Ideal) S544x384 .f32)]

/-- A row of the filter. -/
def tap0 : FVec Ideal S1x384 .f32 := View.ld (Val := Elt Ideal) (e' := .f32) (iblk m c 9 t) (Rect.unit (s := S3x384) ![0, 0] ![1, 384] inb_S3x384_S1x384_0_0)
def tap1 : FVec Ideal S1x384 .f32 := View.ld (Val := Elt Ideal) (e' := .f32) (iblk m c 9 t) (Rect.unit (s := S3x384) ![1, 0] ![1, 384] inb_S3x384_S1x384_1_0)
def tap2 : FVec Ideal S1x384 .f32 := View.ld (Val := Elt Ideal) (e' := .f32) (iblk m c 9 t) (Rect.unit (s := S3x384) ![2, 0] ![1, 384] inb_S3x384_S1x384_2_0)

/-- The convolution over the rows `A`. -/
def conv (A : FVec Ideal S544x384 .f32) : FVec Ideal S512x384 .f32 :=
  k0_pay1 (k0_pay131 (tap0 m c t) (View.ld (Val := Elt Ideal) (e' := .f32) A (Rect.unit (s := S544x384) ![30, 0] ![512, 384] inb_S544x384_S512x384_30_0))
    (tap1 m c t) (View.ld (Val := Elt Ideal) (e' := .f32) A (Rect.unit (s := S544x384) ![31, 0] ![512, 384] inb_S544x384_S512x384_31_0)))
    (tap2 m c t) (View.ld (Val := Elt Ideal) (e' := .f32) A (Rect.unit (s := S544x384) ![32, 0] ![512, 384] inb_S544x384_S512x384_32_0))

/-- What was stored, read back through a rectangle. -/
theorem s_read (v : View sig .tc .vmem S544x384 .f32) (L : List (View.Piece (Elt Ideal) S544x384 .f32)) (r : Rect S544x384) :
    v.readCov L r.toLoadRect = View.ld (Val := Elt Ideal) (e' := .f32) (View.canon L) r := by
  rw [View.readCov_eq_canon']

theorem s_keep (A : FVec Ideal S544x384 .f32) : View.read (Elt Ideal) (View.whole cc0_scratch2) ((Memref.isWhole_whole cc0_scratch2).unread A) = A :=
  Memref.IsWhole.read_unread (Val := Elt Ideal) (Memref.isWhole_whole cc0_scratch2) A

/-- The block of rows before. -/
abbrev prev := outsAt0 m c (t.val - 1) (Nat.lt_of_le_of_lt (Nat.sub_le t.val 1) t.isLt)

/-- The last rows of the block before. -/
def tail : FVec Ideal S32x384 .f32 := k0_pay17 (View.ld (Val := Elt Ideal) (e' := .f32) (prev m c t).2.2.2.2.2.2.2.2.2.1 (Rect.unit (s := S544x384) ![512, 0] ![32, 384] inb_S544x384_S32x384_512_0))

section First
variable (h0 : t.val % 16 = 0) (h1 : ¬1 ≤ t.val)
include h0 h1

set_option maxHeartbeats 1600000 in
theorem z_A : (outsAt0 m c t.val t.isLt).1 = k0_pay19 (iblk m c 0 t) (iblk m c 1 t) (iblk m c 2 t) := by
  rw [outsAt0_A m c t h0 h1]
  dsimp only
  frame_out

set_option maxHeartbeats 1600000 in
theorem s_A : (outsAt0 m c t.val t.isLt).2.2.2.2.2.2.2.2.2.1 = View.canon (sL m c t k0_pay7) := by
  rw [outsAt0_A m c t h0 h1]
  dsimp only
  frame_out
  rfl

set_option maxHeartbeats 1600000 in
theorem cv_A : (outsAt0 m c t.val t.isLt).2.2.2.2.2.1 = conv m c t (View.canon (sL m c t k0_pay7)) := by
  rw [outsAt0_A m c t h0 h1]
  dsimp only
  frame_out
  simp only [s_read]
  rfl

end First

section Later
variable (h0 : ¬t.val % 16 = 0) (h1 : 1 ≤ t.val)
include h0 h1

set_option maxHeartbeats 1600000 in
theorem z_B : (outsAt0 m c t.val t.isLt).1 = k0_pay19 (iblk m c 0 t) (iblk m c 1 t) (iblk m c 2 t) := by
  rw [outsAt0_B m c t h0 h1]
  dsimp only
  frame_out

set_option maxHeartbeats 1600000 in
theorem s_B : (outsAt0 m c t.val t.isLt).2.2.2.2.2.2.2.2.2.1 = View.canon (sL m c t (tail m c t)) := by
  rw [outsAt0_B m c t h0 h1]
  dsimp only
  frame_out
  simp only [s_keep]
  rfl

set_option maxHeartbeats 1600000 in
theorem cv_B : (outsAt0 m c t.val t.isLt).2.2.2.2.2.1 = conv m c t (View.canon (sL m c t (tail m c t))) := by
  rw [outsAt0_B m c t h0 h1]
  dsimp only
  frame_out
  simp only [s_keep, s_read]
  rfl

end Later

end Cert.Kernel8Ideal.Mix

end
-- ==== Proof.MsPay.lean ====
/- What the payloads of the mixer's forward call compute, read at one lane over any blocks. -/
module

public import proofs.«01_k».proof.Proof.MsOut
public import Idealize.ShloMosaic.Lib.Pointwise

@[expose] public section

set_option maxRecDepth 16384

noncomputable section

namespace Cert.Kernel8Ideal.Mix

open Cert.Kernel8Ideal Cert.Kernel8Ideal.Gen Idealize.ShloMosaic Idealize.ShloMosaic.TcCoe Idealize.SL.Sem

/-- One over the root mean square of a row. -/
def rms {n : ℕ} (y : Fin n → EReal) : EReal :=
  Ideal.rsqrt (Ideal.div (∑ k, y k * y k) (Ideal.ofBits .f32 0x44800000#32) + Ideal.ofBits .f32 0x358637BD#32)

theorem none_at (k : Fin 32) (q : Fin 384) : k0_pay7 (F := Ideal) (ix2 k q) = 0 := by
  pointwise [k0_pay7]

theorem kept_at (v : FVec Ideal S32x384 .f32) (k : Fin 32) (q : Fin 384) : k0_pay17 (F := Ideal) v (ix2 k q) = v (ix2 k q) := by
  pointwise [k0_pay17]

theorem z18_at (x : FVec Ideal S512x1024 .f32) (g : FVec Ideal S1x1024 .f32) (w : FVec Ideal S2176x1024 .bf16) (r : Fin 512) (j : Fin 2176) :
    k0_pay18 (F := Ideal) x g w (ix2 r j)
      = ∑ k : Fin 1024, x (ix2 r k) * rms (fun k : Fin 1024 => x (ix2 r k)) * g (ix2 0 k) * w (ix2 j k) := by
  unfold rms
  pointwise [k0_pay18]

theorem z19_at (x : FVec Ideal S512x1024 .f32) (g : FVec Ideal S1x1024 .f32) (w : FVec Ideal S2176x1024 .bf16) (r : Fin 512) (j : Fin 2176) :
    k0_pay19 (F := Ideal) x g w (ix2 r j) = k0_pay18 (F := Ideal) x g w (ix2 r j) := by
  generalize e : k0_pay18 (F := Ideal) x g w = u
  unfold k0_pay19
  rw [e]
  pointwise []

theorem prod_at (u : FVec Ideal S512x2176 .f32) (r : Fin 512) (q : Fin 384) :
    k0_pay25 (F := Ideal) u (ix2 r q) = u (ix2 r ⟨1408 + q, by omega⟩) * u (ix2 r ⟨1792 + q, by omega⟩) := by
  pointwise [k0_pay25]

theorem taps_at (w0 w1 w2 : FVec Ideal S1x384 .f32) (a b d : FVec Ideal S512x384 .f32) (r : Fin 512) (q : Fin 384) :
    k0_pay1 (F := Ideal) (k0_pay131 w0 a w1 b) w2 d (ix2 r q)
      = w0 (ix2 0 q) * a (ix2 r q) + w1 (ix2 0 q) * b (ix2 r q) + w2 (ix2 0 q) * d (ix2 r q) := by
  pointwise [k0_pay1, k0_pay131]

end Cert.Kernel8Ideal.Mix

end
-- ==== Proof.MsRef.lean ====
/- The reference of the mixer's forward call, read at a lane. -/
module

public import proofs.«01_k».proof.Proof.Gen.Reference8Ideal.Read
public import Idealize.ShloMosaic.Lib.Pipeline.ValueKit
public import Idealize.ShloMosaic.Lib.Pipeline.Value
public import Idealize.ShloMosaic.Lib.Pointwise

@[expose] public section

set_option maxRecDepth 16384

noncomputable section

namespace Cert.Reference8Ideal.Mix

open Cert.Reference8Ideal Cert.Reference8Ideal.Gen Cert.Reference8Ideal.Read
open Idealize.ShloMosaic Idealize.ShloMosaic.TcCoe Idealize.SL.Sem

/-- An index with two coordinates is its coordinates. -/
theorem eq2 {n k : ℕ} (i : Shape.Idx ⟨2, ![n, k]⟩) (a : Fin n) (b : Fin k) (h0 : (i 0).val = a.val) (h1 : (i 1).val = b.val) : i = ix2 a b := by
  funext d; match d with
    | ⟨0, _⟩ => exact Fin.ext h0
    | ⟨1, _⟩ => exact Fin.ext h1

/-- The entry `d` places before the `i`-th one of a column, zero before the column's start. -/
def back (U : Fin 8192 → EReal) (i d : ℕ) : EReal := if h : d ≤ i ∧ i - d < 8192 then U ⟨i - d, h.2⟩ else 0

theorem back_of (U : Fin 8192 → EReal) (i d : ℕ) (k : Fin 8192) (h : (k : ℕ) + d = i) : back U i d = U k := by
  rw [back, dif_pos ⟨by omega, by omega⟩]
  exact congrArg U (Fin.ext (by show i - d = (k : ℕ); omega))

theorem back_zero (U : Fin 8192 → EReal) (i d : ℕ) (h : i < d) : back U i d = 0 := dif_neg (by omega)

/-- How far back an entry lies counts, not from where. -/
theorem back_shift (U : Fin 8192 → EReal) (i d e : ℕ) : back U (e + i) (e + d) = back U i d := by
  by_cases h : d ≤ i ∧ i - d < 8192
  · rw [back_of U i d ⟨i - d, h.2⟩ (by show i - d + d = i; omega)]
    exact back_of U _ _ _ (by show i - d + (e + d) = e + i; omega)
  · rw [back, back, dif_neg h, dif_neg (by omega)]

variable (x0 : FVec Ideal S8192x1024 .f32) (x1 : FVec Ideal S1024 .f32) (x2 : FVec Ideal S1024x2176 .f32) (x9 : FVec Ideal S3x384 .f32)

theorem v19_at (i : Fin 8194) (q : Fin 384) : val_main_v19 (F := Ideal) x0 x1 x2 (ix2 i q)
    = back (fun k => val_main_v17 (F := Ideal) x0 x1 x2 (ix2 k q)) i 2 := by
  unfold val_main_v19
  by_cases h : (i : ℕ) < 2
  · rw [back_zero _ _ _ h]
    refine (concatenate_pair_apply_left (t := S8194x384) (s₁ := S2x384) (s₂ := S8192x384) 0 _ _ _ (ix2 i q) rfl (@ix2 2 384 ⟨i, h⟩ q) ?_).trans ?_
    · intro b; match b with
        | ⟨0, _⟩ => rfl
        | ⟨1, _⟩ => rfl
    · pointwise [val_main_v18, val_main_cst_2]
  · rw [back_of _ i 2 ⟨i - 2, by omega⟩ (by show (i : ℕ) - 2 + 2 = i; omega)]
    refine (concatenate_pair_apply_right (t := S8194x384) (s₁ := S2x384) (s₂ := S8192x384) 0 _ _ _ (ix2 i q) rfl rfl (@ix2 8192 384 ⟨i - 2, by omega⟩ q) ?_ ?_)
    · intro b hb; match b with
        | ⟨0, _⟩ => exact absurd rfl hb
        | ⟨1, _⟩ => rfl
    · show (i : ℕ) - 2 + 2 = i
      omega

theorem v22_at (i : Fin 8192) (q : Fin 384) : val_main_v22 (F := Ideal) x0 x1 x2 (ix2 i q)
    = back (fun k => val_main_v17 (F := Ideal) x0 x1 x2 (ix2 k q)) i 2 := by
  rw [val_main_v22_apply, ← v19_at x0 x1 x2 ⟨i, by omega⟩ q]
  exact congrArg _ (eq2 _ _ _ (by show (i : ℕ) = i; rfl) rfl)

theorem v30_at (i : Fin 8192) (q : Fin 384) : val_main_v30 (F := Ideal) x0 x1 x2 (ix2 i q)
    = back (fun k => val_main_v17 (F := Ideal) x0 x1 x2 (ix2 k q)) i 1 := by
  rw [val_main_v30_apply, ← back_shift _ i 1 1]
  refine Eq.trans ?_ (v19_at x0 x1 x2 ⟨1 + i, by omega⟩ q)
  exact congrArg _ (eq2 _ _ _ rfl rfl)

theorem v37_at (i : Fin 8192) (q : Fin 384) : val_main_v37 (F := Ideal) x0 x1 x2 (ix2 i q)
    = back (fun k => val_main_v17 (F := Ideal) x0 x1 x2 (ix2 k q)) i 0 := by
  rw [val_main_v37_apply, ← back_shift _ i 0 2]
  refine Eq.trans ?_ (v19_at x0 x1 x2 ⟨2 + i, by omega⟩ q)
  exact congrArg _ (eq2 _ _ _ rfl rfl)

/-- The convolution: each row, with the two before it. -/
theorem v41_at (i : Fin 8192) (q : Fin 384) : val_main_v41 (F := Ideal) x0 x1 x2 x9 (ix2 i q)
    = x9 (ix2 0 q) * back (fun k => val_main_v17 (F := Ideal) x0 x1 x2 (ix2 k q)) i 2
      + x9 (ix2 1 q) * back (fun k => val_main_v17 (F := Ideal) x0 x1 x2 (ix2 k q)) i 1
      + x9 (ix2 2 q) * back (fun k => val_main_v17 (F := Ideal) x0 x1 x2 (ix2 k q)) i 0 := by
  rw [← v22_at, ← v30_at, ← v37_at]
  generalize e18 : val_main_v22 (F := Ideal) x0 x1 x2 = a18
  generalize e26 : val_main_v30 (F := Ideal) x0 x1 x2 = a26
  generalize e33 : val_main_v37 (F := Ideal) x0 x1 x2 = a33
  unfold val_main_v41 val_main_v34 val_main_v27 val_main_v25 val_main_v33 val_main_v40
  rw [e18, e26, e33]
  pointwise [val_main_v26, val_main_cst_3, val_main_v24, val_main_v23, val_main_v21, val_main_v20, val_main_v32, val_main_v31, val_main_v29, val_main_v28,
    val_main_v39, val_main_v38, val_main_v36, val_main_v35]

/-- What the convolution runs over. -/
theorem v17_at (i : Fin 8192) (q : Fin 384) : val_main_v17 (F := Ideal) x0 x1 x2 (ix2 i q)
    = val_main_v13 (F := Ideal) x0 x1 x2 (ix2 i ⟨1408 + q, by omega⟩) * val_main_v13 (F := Ideal) x0 x1 x2 (ix2 i ⟨1792 + q, by omega⟩) := by
  unfold val_main_v17 val_main_v14 val_main_v15
  generalize val_main_v13 (F := Ideal) x0 x1 x2 = v
  pointwise []

end Cert.Reference8Ideal.Mix

end
-- ==== Proof.MsBlock.lean ====
/- The mixer's forward call at one block of rows: its operands, the projection, the short convolution. -/
module

public import proofs.«01_k».proof.Proof.MsPay
public import proofs.«01_k».proof.Proof.MsRef
public import Idealize.ShloMosaic.Lib.Claim
public import Idealize.ShloMosaic.Lib.StableHlo.RunRead

@[expose] public section

set_option maxRecDepth 16384

noncomputable section

namespace Cert.Kernel8Ideal.Mix

open Cert.Kernel8Ideal Cert.Kernel8Ideal.Gen Idealize.ShloMosaic Idealize.ShloMosaic.TcCoe Idealize.SL.Sem
open Cert.Reference8Ideal.Read
open Cert.Reference8Ideal.Mix (eq2 back back_of back_zero v41_at v17_at)

variable (m : (ℓ : Loc nD τ sig) → Buf (Elt Ideal) ℓ) (c : Dev nD)

/-! ## The arguments and the reference's stages -/

abbrev x0 : FVec Ideal S8192x1024 .f32 := m ((c : Thread nD τ).loc main_arg0)
abbrev x1 : FVec Ideal S1024 .f32 := m ((c : Thread nD τ).loc main_arg1)
abbrev x2 : FVec Ideal S1024x2176 .f32 := m ((c : Thread nD τ).loc main_arg2)
abbrev x9 : FVec Ideal S3x384 .f32 := m ((c : Thread nD τ).loc main_arg9)
/-- The projection. -/
def rz : FVec Ideal S8192x2176 .f32 := val_main_v13 (F := Ideal) (x0 m c) (x1 m c) (x2 m c)
/-- The convolution. -/
def rcv : FVec Ideal S8192x384 .f32 := val_main_v41 (F := Ideal) (x0 m c) (x1 m c) (x2 m c) (x9 m c)
/-- A column of what the convolution runs over. -/
def col (q : Fin 384) : Fin 8192 → EReal := fun i => val_main_v17 (F := Ideal) (x0 m c) (x1 m c) (x2 m c) (ix2 i q)

theorem rcv_at (i : Fin 8192) (q : Fin 384) : rcv m c (ix2 i q)
    = x9 m c (ix2 0 q) * back (col m c q) i 2 + x9 m c (ix2 1 q) * back (col m c q) i 1 + x9 m c (ix2 2 q) * back (col m c q) i 0 :=
  v41_at (x0 m c) (x1 m c) (x2 m c) (x9 m c) i q

theorem rz_at (i : Fin 8192) (j : Fin 2176) : rz m c (ix2 i j)
    = ∑ k : Fin 1024, x0 m c (ix2 i k) * rms (fun k : Fin 1024 => x0 m c (ix2 i k)) * x1 m c (ix1 k) * x2 m c (ix2 k j) := by
  unfold rz rms
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem col_at (i : Fin 8192) (q : Fin 384) : col m c q i = rz m c (ix2 i ⟨1408 + q, by omega⟩) * rz m c (ix2 i ⟨1792 + q, by omega⟩) :=
  v17_at (x0 m c) (x1 m c) (x2 m c) i q

theorem lt16 (t : Fin cfg0.N) : t.val < 16 := lt_of_lt_of_eq t.isLt N_0

/-- The row of the whole array that row `r` of block `t` is. -/
def row (t : Fin cfg0.N) (r : Fin 512) : Fin 8192 :=
  ⟨t.val * 512 + r, by have h : t.val < 16 := lt_of_lt_of_eq t.isLt N_0; omega⟩

/-- Which block each window holds at a point. -/
theorem idx : ∀ t : Fin cfg0.N, win0_0.index t = ![t.val, 0] ∧ win0_1.index t = ![0, 0] ∧ win0_2.index t = ![0, 0]
    ∧ win0_9.index t = ![0, 0] ∧ win0_12.index t = ![t.val, 0] ∧ win0_17.index t = ![t.val, 0] :=
  (by decide +kernel : ∀ t : Fin grid0.N, _)

/-! ## The blocks -/

theorem host_g : V m c main_v0 = shapeCast S1x1024 (x1 m c) shapeCasts_S1024_S1x1024 := by
  unfold V
  after_reads_simp
  rfl

theorem host_w : V m c main_v2 = transpose S2176x1024 [1, 0] (truncf .bf16 (x2 m c) bitsLt_bf16_f32) transposes_S1024x2176_S2176x1024_1_0 := by
  unfold V
  after_reads_simp

section Block
variable (t : Fin cfg0.N)

theorem x_blk (r : Fin 512) (k : Fin 1024) : iblk m c 0 t (ix2 r k) = x0 m c (ix2 (row t r) k) := by
  blk_point [iblk, V, idx t, row]

theorem g_blk (k : Fin 1024) : iblk m c 1 t (ix2 0 k) = x1 m c (ix1 k) := by
  have e := host_g m c
  generalize hG : shapeCast S1x1024 (x1 m c) shapeCasts_S1024_S1x1024 = G at e
  refine Eq.trans (b := G (ix2 0 k)) ?_ (by subst hG; pointwise [])
  rw [← e]
  blk_point [iblk, idx t]

theorem w_blk (q : Fin 2176) (j : Fin 1024) : iblk m c 2 t (ix2 q j) = x2 m c (ix2 j q) := by
  have e := host_w m c
  generalize hG : transpose S2176x1024 [1, 0] (truncf .bf16 (x2 m c) bitsLt_bf16_f32) transposes_S1024x2176_S2176x1024_1_0 = G at e
  refine Eq.trans (b := G (ix2 q j)) ?_ (by subst hG; pointwise [])
  rw [← e]
  blk_point [iblk, idx t]

theorem f_blk (k : Fin 3) (q : Fin 384) : iblk m c 9 t (ix2 k q) = x9 m c (ix2 k q) := by
  blk_point [iblk, V, idx t]

/-- Where a load through a rectangle reads. -/
theorem ix_at {a b n0 n1 o0 o1 : ℕ} (inb : ∀ k : Fin 2, (![o0, o1] : Fin 2 → ℕ) k + (![n0, n1] : Fin 2 → ℕ) k ≤ (![a, b] : Fin 2 → ℕ) k)
    (r : Fin n0) (q : Fin n1) (i : Fin a) (j : Fin b) (hi : (i : ℕ) = o0 + r) (hj : (j : ℕ) = o1 + q) :
    (Rect.unit (s := ⟨2, ![a, b]⟩) ![o0, o1] ![n0, n1] inb).idx (ix2 r q) = ix2 i j :=
  eq2 _ _ _ (by show o0 + 1 * (r : ℕ) = i; omega) (by show o1 + 1 * (q : ℕ) = j; omega)

/-- The projection's block. -/
theorem pz_at (r : Fin 512) (j : Fin 2176) : pz m c t (ix2 r j) = rz m c (ix2 (row t r) j) := by
  unfold pz
  rw [z18_at, rz_at]
  refine Finset.sum_congr rfl fun k _ => ?_
  rw [w_blk, g_blk]
  simp only [x_blk]

theorem z_at (r : Fin 512) (j : Fin 2176) :
    k0_pay19 (F := Ideal) (iblk m c 0 t) (iblk m c 1 t) (iblk m c 2 t) (ix2 r j) = rz m c (ix2 (row t r) j) :=
  (z19_at _ _ _ r j).trans (pz_at m c t r j)

theorem tap0_at (q : Fin 384) : tap0 m c t (ix2 0 q) = x9 m c (ix2 0 q) :=
  (congrArg (iblk m c 9 t) (ix_at _ 0 q 0 q rfl (by omega))).trans (f_blk m c t _ _)

theorem tap1_at (q : Fin 384) : tap1 m c t (ix2 0 q) = x9 m c (ix2 1 q) :=
  (congrArg (iblk m c 9 t) (ix_at _ 0 q 1 q rfl (by omega))).trans (f_blk m c t _ _)

theorem tap2_at (q : Fin 384) : tap2 m c t (ix2 0 q) = x9 m c (ix2 2 q) :=
  (congrArg (iblk m c 9 t) (ix_at _ 0 q 2 q rfl (by omega))).trans (f_blk m c t _ _)

theorem canon_hit {A B o0 o1 n0 n1 : ℕ} {e : EltTy}
    {inb : ∀ k : Fin 2, (![o0, o1] : Fin 2 → ℕ) k + (![n0, n1] : Fin 2 → ℕ) k ≤ (![A, B] : Fin 2 → ℕ) k}
    (p : (⟨2, ![n0, n1]⟩ : Shape).Idx → Elt Ideal e) (L : List (View.Piece (Elt Ideal) ⟨2, ![A, B]⟩ e)) (i : Fin A) (j : Fin B) (a : Fin n0) (b : Fin n1)
    (hi : (i : ℕ) = o0 + a) (hj : (j : ℕ) = o1 + b) :
    View.canon ((⟨Rect.unit (s := ⟨2, ![A, B]⟩) ![o0, o1] ![n0, n1] inb, p⟩ : View.Piece (Elt Ideal) ⟨2, ![A, B]⟩ e) :: L) (ix2 i j) = p (ix2 a b) := by
  rw [← ix_at inb a b i j hi hj]
  exact View.canon_cons_emb _ _ _ _

theorem canon_skip {A B o0 o1 n0 n1 : ℕ} {e : EltTy}
    {inb : ∀ k : Fin 2, (![o0, o1] : Fin 2 → ℕ) k + (![n0, n1] : Fin 2 → ℕ) k ≤ (![A, B] : Fin 2 → ℕ) k}
    (p : (⟨2, ![n0, n1]⟩ : Shape).Idx → Elt Ideal e) (L : List (View.Piece (Elt Ideal) ⟨2, ![A, B]⟩ e)) (i : Fin A) (j : Fin B)
    (h : (i : ℕ) < o0 ∨ o0 + n0 ≤ (i : ℕ) ∨ (j : ℕ) < o1 ∨ o1 + n1 ≤ (j : ℕ)) :
    View.canon ((⟨Rect.unit (s := ⟨2, ![A, B]⟩) ![o0, o1] ![n0, n1] inb, p⟩ : View.Piece (Elt Ideal) ⟨2, ![A, B]⟩ e) :: L) (ix2 i j) = View.canon L (ix2 i j) := by
  refine View.canon_cons_of_not_mem _ _ fun hm => ?_
  have hm' := (Rect.mem_set_unit (inb := inb)).1 hm
  have h0 : o0 ≤ (i : ℕ) ∧ (i : ℕ) < o0 + n0 := hm' 0
  have h1 : o1 ≤ (j : ℕ) ∧ (j : ℕ) < o1 + n1 := hm' 1
  omega

/-- The rows from 32 on are the block's own. -/
theorem own_at (K : FVec Ideal S32x384 .f32) (i : Fin 544) (q : Fin 384) (r : Fin 512) (h : (i : ℕ) = 32 + r) :
    View.canon (sL m c t K) (ix2 i q) = col m c q (row t r) := by
  unfold sL
  refine (canon_hit _ _ i q r q h (by omega)).trans ?_
  rw [prod_at, pz_at, pz_at, col_at]

section Stores
variable (K : FVec Ideal S32x384 .f32) (hK : ∀ (k : Fin 32) (q : Fin 384), K (ix2 k q) = back (col m c q) (t.val * 512) (32 - k))
include hK

/-- Each row is one of the whole column. -/
theorem s_at (i : Fin 544) (q : Fin 384) (r d : ℕ) (h : (i : ℕ) + d = 32 + r) (hd : d ≤ 32) (hr : r < 512) :
    View.canon (sL m c t K) (ix2 i q) = back (col m c q) (t.val * 512 + r) d := by
  have ht := lt16 t
  by_cases h32 : 32 ≤ (i : ℕ)
  · rw [own_at m c t K i q ⟨i - 32, by omega⟩ (by simp only; omega)]
    exact (back_of _ _ _ _ (by show t.val * 512 + ((i : ℕ) - 32) + d = _; omega)).symm
  · unfold sL
    refine (canon_skip _ _ i q (Or.inl (by omega))).trans ((canon_hit _ _ i q ⟨i, by omega⟩ q (by simp only; omega) (by omega)).trans ?_)
    rw [hK]
    by_cases h0 : t.val = 0
    · rw [back_zero _ _ _ (by simp only; omega), back_zero _ _ _ (by omega)]
    · rw [back_of _ _ _ ⟨t.val * 512 + i - 32, by omega⟩ (by simp only; omega), back_of _ _ _ ⟨t.val * 512 + i - 32, by omega⟩ (by simp only; omega)]

/-- The convolution's block. -/
theorem cv_at (r : Fin 512) (q : Fin 384) : conv m c t (View.canon (sL m c t K)) (ix2 r q) = rcv m c (ix2 (row t r) q) := by
  unfold conv
  rw [taps_at, rcv_at, tap0_at, tap1_at, tap2_at]
  refine congrArg₂ (· + ·) (congrArg₂ (· + ·) (congrArg (_ * ·) ?_) (congrArg (_ * ·) ?_)) (congrArg (_ * ·) ?_)
  · exact (congrArg (View.canon (sL m c t K)) (ix_at _ r q ⟨30 + r, by omega⟩ q rfl (by omega))).trans (s_at m c t K hK _ q r 2 (by simp only; omega) (by omega) r.isLt)
  · exact (congrArg (View.canon (sL m c t K)) (ix_at _ r q ⟨31 + r, by omega⟩ q rfl (by omega))).trans (s_at m c t K hK _ q r 1 (by simp only; omega) (by omega) r.isLt)
  · exact (congrArg (View.canon (sL m c t K)) (ix_at _ r q ⟨32 + r, by omega⟩ q rfl (by omega))).trans (s_at m c t K hK _ q r 0 (by simp only; omega) (by omega) r.isLt)

end Stores

end Block

end Cert.Kernel8Ideal.Mix

end
-- ==== Proof.MsValue.lean ====
/- The mixer's forward call, point after point, and two of its results: the claims of the pair. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.MsBlock
public import Idealize.ShloMosaic.Lib.Claim

@[expose] public section

set_option maxRecDepth 16384

noncomputable section

namespace Cert.Kernel8Ideal.Mix

open Cert.Kernel8Ideal Cert.Kernel8Ideal.Gen Idealize.ShloMosaic Idealize.ShloMosaic.TcCoe Idealize.SL.Sem
open Cert.Reference8Ideal.Read
open Cert.Reference8Ideal.Mix (eq2 back back_of back_zero)

variable (m : (ℓ : Loc nD τ sig) → Buf (Elt Ideal) ℓ) (c : Dev nD)

/-! ## What is carried from block to block -/

theorem carried (t : Fin cfg0.N) : ∃ K : FVec Ideal S32x384 .f32, (outsAt0 m c t.val t.isLt).2.2.2.2.2.2.2.2.2.1 = View.canon (sL m c t K) := by
  have ht := lt16 t
  by_cases h : t.val = 0
  · exact ⟨_, s_A m c t (by omega) (by omega)⟩
  · exact ⟨_, s_B m c t (by omega) (by omega)⟩

section Point
variable (t : Fin cfg0.N)

theorem tail_at (h : ¬t.val = 0) (k : Fin 32) (q : Fin 384) : tail m c t (ix2 k q) = back (col m c q) (t.val * 512) (32 - k) := by
  have ht := lt16 t
  obtain ⟨K, e⟩ := carried m c ⟨t.val - 1, Nat.lt_of_le_of_lt (Nat.sub_le t.val 1) t.isLt⟩
  unfold tail
  rw [kept_at, back_of _ _ _ (row ⟨t.val - 1, Nat.lt_of_le_of_lt (Nat.sub_le t.val 1) t.isLt⟩ ⟨480 + k, by omega⟩)
    (by show (t.val - 1) * 512 + (480 + (k : ℕ)) + (32 - k) = t.val * 512; omega)]
  refine Eq.trans ?_ (own_at m c _ K ⟨512 + k, by omega⟩ q ⟨480 + k, by omega⟩ (by simp only; omega))
  exact (congrArg _ (ix_at _ k q ⟨512 + k, by omega⟩ q rfl (by omega))).trans (congrFun e _)

theorem none_before (h : t.val = 0) (k : Fin 32) (q : Fin 384) : k0_pay7 (F := Ideal) (ix2 k q) = back (col m c q) (t.val * 512) (32 - k) := by
  rw [none_at, back_zero _ _ _ (by omega)]

theorem z_pt (r : Fin 512) (j : Fin 2176) : (outsAt0 m c t.val t.isLt).1 (ix2 r j) = rz m c (ix2 (row t r) j) := by
  have ht := lt16 t
  refine Eq.trans ?_ (z_at m c t r j)
  by_cases h : t.val = 0
  · rw [z_A m c t (by omega) (by omega)]
  · rw [z_B m c t (by omega) (by omega)]

theorem cv_pt (r : Fin 512) (q : Fin 384) : (outsAt0 m c t.val t.isLt).2.2.2.2.2.1 (ix2 r q) = rcv m c (ix2 (row t r) q) := by
  have ht := lt16 t
  by_cases h : t.val = 0
  · rw [cv_A m c t (by omega) (by omega)]
    exact cv_at m c t _ (none_before m c t h) r q
  · rw [cv_B m c t (by omega) (by omega)]
    exact cv_at m c t _ (tail_at m c t h) r q

end Point

/-! ## The results -/

theorem final12 : (dats m 0 c).arrAt 12 (cfgs 0).N = val_main_v16 (F := Ideal) (x0 m c) (x1 m c) (x2 m c) := by
  refine (dats m 0 c).arrAt_eq_of_covers 12 _ (by decide +kernel) fun t hf y => ?_
  blk_simp
  rw [after0_12]
  refine (congrArg _ (eq2 y (y 0) (y 1) rfl rfl)).trans ((z_pt m c t (y 0) (y 1)).trans ?_)
  unfold rz val_main_v16
  generalize val_main_v13 (F := Ideal) (x0 m c) (x1 m c) (x2 m c) = v
  blk_point [idx t, row]

theorem final17 : (dats m 0 c).arrAt 17 (cfgs 0).N = val_main_v41 (F := Ideal) (x0 m c) (x1 m c) (x2 m c) (x9 m c) := by
  refine (dats m 0 c).arrAt_eq_of_covers 17 _ (by decide +kernel) fun t hf y => ?_
  blk_simp
  rw [after0_17]
  refine (congrArg _ (eq2 y (y 0) (y 1) rfl rfl)).trans ((cv_pt m c t (y 0) (y 1)).trans ?_)
  unfold rcv
  generalize val_main_v41 (F := Ideal) (x0 m c) (x1 m c) (x2 m c) (x9 m c) = v
  blk_point [idx t, row]

end Cert.Kernel8Ideal.Mix

namespace Cert.Proof

open Idealize.ShloMosaic Idealize.ShloMosaic.TcCoe Idealize.SL.Sem
open Cert.Kernel8Ideal.Gen Cert.Reference8Ideal.Read

set_option maxHeartbeats 1600000 in
theorem ms_algebraic : Cert.algebraic_Kernel8Ideal_Reference8Ideal := by
  pair_intro
  · run_from Cert.Kernel8Ideal.Gen.run_main m g
    exact hc.1 17
  · run_from Cert.Reference8Ideal.Value.run m' g'
    · exact (Cert.Kernel8Ideal.Mix.final12 m c).symm
    · simp only [val_main_v41_eq m' c, hagree c]
      exact (Cert.Kernel8Ideal.Mix.final17 m c).symm

/-- The reference of the mixer's forward call runs and leaves its arguments and its counters alone. -/
theorem ms_reference_frame : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

end Cert.Proof

end
-- ==== Proof.lean ====
/- The certificate: every conjunct of `Cert.Claim`. -/
module

public import proofs.«01_k».proof.Defs
public import proofs.«01_k».proof.Proof.Gen.Kernel
public import proofs.«01_k».proof.Proof.Gen.KernelIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KvValue
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_xattn_finite
public import proofs.«01_k».proof.Proof.XaWordFrame
public import proofs.«01_k».proof.Proof.XaClaim
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.XfValue
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_ffn_finite
public import proofs.«01_k».proof.Proof.FfClaim
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.KfValue
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.GfValue
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.GlValue
public import proofs.«01_k».proof.Proof.Gen.Kernel8
public import proofs.«01_k».proof.Proof.Gen.Kernel8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MsValue
public import Idealize.ShloMosaic.Adequacy
public import Idealize.ShloMosaic.Init

@[expose] public section

noncomputable section

namespace Cert.Proof

open Idealize.ShloMosaic Idealize.ShloMosaic.TcCoe Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Pre_xattn_finite.Gen.facts,
  Cert.Pre_ffn_finite.Gen.facts,
  fun m ρ _ => Cert.Kernel.Gen.frame m ρ,
  fun m ρ _ => Cert.KernelIdeal.Gen.frame m ρ,
  kv_reference_frame,
  fun m ρ _ => Cert.Kernel2.Xa.frame m ρ,
  fun m ρ _ => Cert.Kernel2Ideal.Xa.frame m ρ,
  fun m ρ _ => Cert.Kernel2Ideal.Xa.frame m ρ,
  xa_reference_frame,
  fun m ρ _ => xa_reference_frame m ρ trivial,
  fun m ρ _ => Cert.Kernel3.Gen.frame m ρ,
  fun m ρ _ => Cert.Kernel3Ideal.Gen.frame m ρ,
  xf_reference_frame,
  fun m ρ _ => Cert.Kernel4.Gen.frame m ρ,
  fun m ρ _ => Cert.Kernel4Ideal.Gen.frame m ρ,
  fun m ρ _ => Cert.Kernel4Ideal.Gen.frame m ρ,
  ff_reference_frame,
  fun m ρ _ => ff_reference_frame m ρ trivial,
  fun m ρ _ => Cert.Kernel5.Gen.frame m ρ,
  fun m ρ _ => Cert.Kernel5Ideal.Gen.frame m ρ,
  kf_reference_frame,
  fun m ρ _ => Cert.Kernel6.Gen.frame m ρ,
  fun m ρ _ => Cert.Kernel6Ideal.Gen.frame m ρ,
  gf_reference_frame,
  fun m ρ _ => Cert.Kernel7.Gen.frame m ρ,
  fun m ρ _ => Cert.Kernel7Ideal.Gen.frame m ρ,
  gl_reference_frame,
  fun m ρ _ => Cert.Kernel8.Gen.frame m ρ,
  fun m ρ _ => Cert.Kernel8Ideal.Gen.frame m ρ,
  ms_reference_frame,
  trivial,
  kv_algebraic,
  trivial,
  xa_algebraic,
  trivial,
  xf_algebraic,
  trivial,
  ff_algebraic,
  trivial,
  kf_algebraic,
  trivial,
  gf_algebraic,
  trivial,
  gl_algebraic,
  trivial,
  ms_algebraic⟩

end Cert.Proof

end
